-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)) (v3 : (c : Dev Cert.KernelIdeal.nD) → Buf (Elt Ideal) ((c.tc : Thread Cert.KernelIdeal.nD Cert.KernelIdeal.τ).loc Cert.KernelIdeal.main_v50_3)) (v4 : (c : Dev Cert.KernelIdeal.nD) → Buf (Elt Ideal) ((c.tc : Thread Cert.KernelIdeal.nD Cert.KernelIdeal.τ).loc Cert.KernelIdeal.main_v50_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_v50_3) = v3 c
          ∧ r.2.mem ((c.tc : Thread Cert.KernelIdeal.nD Cert.KernelIdeal.τ).loc Cert.KernelIdeal.main_v50_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_v96) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v24_0)) (v1 : (c : Dev Cert.Kernel2Ideal.nD) → Buf (Elt Ideal) ((c.tc : Thread Cert.Kernel2Ideal.nD Cert.Kernel2Ideal.τ).loc Cert.Kernel2Ideal.main_v24_1)) (v2 : (c : Dev Cert.Kernel2Ideal.nD) → Buf (Elt Ideal) ((c.tc : Thread Cert.Kernel2Ideal.nD Cert.Kernel2Ideal.τ).loc Cert.Kernel2Ideal.main_v24_2)) (v3 : (c : Dev Cert.Kernel2Ideal.nD) → Buf (Elt Ideal) ((c.tc : Thread Cert.Kernel2Ideal.nD Cert.Kernel2Ideal.τ).loc Cert.Kernel2Ideal.main_v24_3)) (v4 : (c : Dev Cert.Kernel2Ideal.nD) → Buf (Elt Ideal) ((c.tc : Thread Cert.Kernel2Ideal.nD Cert.Kernel2Ideal.τ).loc Cert.Kernel2Ideal.main_v24_4)) (v5 : (c : Dev Cert.Kernel2Ideal.nD) → Buf (Elt Ideal) ((c.tc : Thread Cert.Kernel2Ideal.nD Cert.Kernel2Ideal.τ).loc Cert.Kernel2Ideal.main_v24_5)) (v6 : (c : Dev Cert.Kernel2Ideal.nD) → Buf (Elt Ideal) ((c.tc : Thread Cert.Kernel2Ideal.nD Cert.Kernel2Ideal.τ).loc Cert.Kernel2Ideal.main_v24_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24_0) = v0 c
          ∧ r.2.mem ((c.tc : Thread Cert.Kernel2Ideal.nD Cert.Kernel2Ideal.τ).loc Cert.Kernel2Ideal.main_v24_1) = v1 c
          ∧ r.2.mem ((c.tc : Thread Cert.Kernel2Ideal.nD Cert.Kernel2Ideal.τ).loc Cert.Kernel2Ideal.main_v24_2) = v2 c
          ∧ r.2.mem ((c.tc : Thread Cert.Kernel2Ideal.nD Cert.Kernel2Ideal.τ).loc Cert.Kernel2Ideal.main_v24_3) = v3 c
          ∧ r.2.mem ((c.tc : Thread Cert.Kernel2Ideal.nD Cert.Kernel2Ideal.τ).loc Cert.Kernel2Ideal.main_v24_4) = v4 c
          ∧ r.2.mem ((c.tc : Thread Cert.Kernel2Ideal.nD Cert.Kernel2Ideal.τ).loc Cert.Kernel2Ideal.main_v24_5) = v5 c
          ∧ r.2.mem ((c.tc : Thread Cert.Kernel2Ideal.nD Cert.Kernel2Ideal.τ).loc Cert.Kernel2Ideal.main_v24_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_v98) = v1 c
          ∧ r.2.mem ((c.tc : Thread Cert.Reference2Ideal.nD Cert.Reference2Ideal.τ).loc Cert.Reference2Ideal.main_v47) = v2 c
          ∧ r.2.mem ((c.tc : Thread Cert.Reference2Ideal.nD Cert.Reference2Ideal.τ).loc Cert.Reference2Ideal.main_v50) = v3 c
          ∧ r.2.mem ((c.tc : Thread Cert.Reference2Ideal.nD Cert.Reference2Ideal.τ).loc Cert.Reference2Ideal.main_v55) = v4 c
          ∧ r.2.mem ((c.tc : Thread Cert.Reference2Ideal.nD Cert.Reference2Ideal.τ).loc Cert.Reference2Ideal.main_v78) = v5 c
          ∧ r.2.mem ((c.tc : Thread Cert.Reference2Ideal.nD Cert.Reference2Ideal.τ).loc Cert.Reference2Ideal.main_v81) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v6_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v6_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_v37) = v2 c
          ∧ r.2.mem ((c.tc : Thread Cert.Reference3Ideal.nD Cert.Reference3Ideal.τ).loc Cert.Reference3Ideal.main_v39) = v3 c
          ∧ r.2.mem ((c.tc : Thread Cert.Reference3Ideal.nD Cert.Reference3Ideal.τ).loc Cert.Reference3Ideal.main_v44) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)) (v4 : (c : Dev Cert.Kernel4Ideal.nD) → Buf (Elt Ideal) ((c.tc : Thread Cert.Kernel4Ideal.nD Cert.Kernel4Ideal.τ).loc Cert.Kernel4Ideal.main_v4_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_v4_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_v61) = v1 c
          ∧ r.2.mem ((c.tc : Thread Cert.Reference4Ideal.nD Cert.Reference4Ideal.τ).loc Cert.Reference4Ideal.main_v62) = v2 c
          ∧ r.2.mem ((c.tc : Thread Cert.Reference4Ideal.nD Cert.Reference4Ideal.τ).loc Cert.Reference4Ideal.main_v41) = v3 c
          ∧ r.2.mem ((c.tc : Thread Cert.Reference4Ideal.nD Cert.Reference4Ideal.τ).loc Cert.Reference4Ideal.main_v44) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_v44) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)) (v2 : (c : Dev Cert.Kernel7Ideal.nD) → Buf (Elt Ideal) ((c.tc : Thread Cert.Kernel7Ideal.nD Cert.Kernel7Ideal.τ).loc Cert.Kernel7Ideal.main_v7_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_v7_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_v3) = v1 c
          ∧ r.2.mem ((c.tc : Thread Cert.Reference7Ideal.nD Cert.Reference7Ideal.τ).loc Cert.Reference7Ideal.main_v14) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_v11) = v1 c
          ∧ r.2.mem ((c.tc : Thread Cert.Reference8Ideal.nD Cert.Reference8Ideal.τ).loc Cert.Reference8Ideal.main_v17) = v2 c
          ∧ r.2.mem ((c.tc : Thread Cert.Reference8Ideal.nD Cert.Reference8Ideal.τ).loc Cert.Reference8Ideal.main_v22) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S5632 : S_.BroadcastsInDim S5632 (![] : Fin 0 → Fin S5632.rank)
  bcast_S_S2816x1024 : S_.BroadcastsInDim S2816x1024 (![] : Fin 0 → Fin S2816x1024.rank)

variable [Facts]

def fn {F : FTy → Type} [FloatOps F] (main_arg0 : FVec F S4096x1024 .bf16) (main_arg1 : FVec F S1024x5632 .f32) (main_arg2 : FVec F S3x5632 .f32) (main_arg3 : FVec F S5632 .f32) (main_arg4 : FVec F S2816x1024 .f32) (main_arg5 : FVec F S4096x1024 .bf16) : IVec S4096x1024 1 × IVec S1024x5632 1 × IVec S3x5632 1 × IVec S5632 1 × IVec S2816x1024 1 × IVec S4096x1024 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S3x5632 .f32 := Host.absf main_arg2
  let main_cst_1 : FVec F S_ .f32 := constant S_ .f32 0x7F800000#32
  let main_v7 : FVec F S3x5632 .f32 := broadcastInDim S3x5632 ![] bcast_S_S3x5632 main_cst_1
  let main_v8 : IVec S3x5632 1 := cmpf .olt main_v6 main_v7
  let main_v9 : FVec F S5632 .f32 := Host.absf main_arg3
  let main_cst_2 : FVec F S_ .f32 := constant S_ .f32 0x7F800000#32
  let main_v10 : FVec F S5632 .f32 := broadcastInDim S5632 ![] bcast_S_S5632 main_cst_2
  let main_v11 : IVec S5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S4096x1024 .bf16 := Host.absf main_arg5
  let main_cst_4 : FVec F S_ .bf16 := constant S_ .bf16 0x7F80#16
  let main_v16 : FVec F S4096x1024 .bf16 := broadcastInDim S4096x1024 ![] bcast_S_S4096x1024 main_cst_4
  let main_v17 : IVec S4096x1024 1 := cmpf .olt main_v15 main_v16
  (main_v2, main_v5, main_v8, main_v11, main_v14, main_v17)
-- ==== Pre_finite2.lean ====
abbrev S4096x5632 : Shape := ⟨2, ![4096, 5632]⟩
abbrev S1024x5632 : Shape := ⟨2, ![1024, 5632]⟩
abbrev S4096x1024 : Shape := ⟨2, ![4096, 1024]⟩
abbrev S6x1024 : Shape := ⟨2, ![6, 1024]⟩
abbrev S1x1024 : Shape := ⟨2, ![1, 1024]⟩
abbrev S_ : Shape := ⟨0, ![]⟩

class Facts : Prop where
  bcast_S_S4096x5632 : S_.BroadcastsInDim S4096x5632 (![] : Fin 0 → Fin S4096x5632.rank)
  bcast_S_S1024x5632 : S_.BroadcastsInDim S1024x5632 (![] : Fin 0 → Fin S1024x5632.rank)
  bcast_S_S4096x1024 : S_.BroadcastsInDim S4096x1024 (![] : Fin 0 → Fin S4096x1024.rank)
  bcast_S_S6x1024 : S_.BroadcastsInDim S6x1024 (![] : Fin 0 → Fin S6x1024.rank)
  bcast_S_S1x1024 : S_.BroadcastsInDim S1x1024 (![] : Fin 0 → Fin S1x1024.rank)

variable [Facts]

def fn_part1 {F : FTy → Type} [FloatOps F] (main_arg6 : FVec F S6x1024 .f32) (main_arg7 : FVec F S1x1024 .f32) (main_arg8 : FVec F S1x1024 .f32) (main_v2 : IVec S4096x5632 1) (main_v5 : IVec S1024x5632 1) (main_v8 : IVec S4096x1024 1) (main_v11 : IVec S4096x1024 1) (main_v14 : IVec S4096x1024 1) (main_v17 : IVec S6x1024 1) : IVec S4096x5632 1 × IVec S1024x5632 1 × IVec S4096x1024 1 × IVec S4096x1024 1 × IVec S4096x1024 1 × IVec S6x1024 1 × IVec S6x1024 1 × IVec S1x1024 1 × IVec S1x1024 1 :=
  let main_v18 : FVec F S6x1024 .f32 := Host.absf main_arg6
  let main_cst_5 : FVec F S_ .f32 := constant S_ .f32 0x7F800000#32
  let main_v19 : FVec F S6x1024 .f32 := broadcastInDim S6x1024 ![] bcast_S_S6x1024 main_cst_5
  let main_v20 : IVec S6x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  (main_v2, main_v5, main_v8, main_v11, main_v14, main_v17, main_v20, main_v23, main_v26)

def fn {F : FTy → Type} [FloatOps F] (main_arg0 : FVec F S4096x5632 .bf16) (main_arg1 : FVec F S1024x5632 .f32) (main_arg2 : FVec F S4096x1024 .f32) (main_arg3 : FVec F S4096x1024 .f32) (main_arg4 : FVec F S4096x1024 .f32) (main_arg5 : FVec F S6x1024 .f32) (main_arg6 : FVec F S6x1024 .f32) (main_arg7 : FVec F S1x1024 .f32) (main_arg8 : FVec F S1x1024 .f32) : IVec S4096x5632 1 × IVec S1024x5632 1 × IVec S4096x1024 1 × IVec S4096x1024 1 × IVec S4096x1024 1 × IVec S6x1024 1 × IVec S6x1024 1 × IVec S1x1024 1 × IVec S1x1024 1 :=
  let main_v0 : FVec F S4096x5632 .bf16 := Host.absf main_arg0
  let main_cst : FVec F S_ .bf16 := constant S_ .bf16 0x7F80#16
  let main_v1 : FVec F S4096x5632 .bf16 := broadcastInDim S4096x5632 ![] bcast_S_S4096x5632 main_cst
  let main_v2 : IVec S4096x5632 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S6x1024 .f32 := Host.absf main_arg5
  let main_cst_4 : FVec F S_ .f32 := constant S_ .f32 0x7F800000#32
  let main_v16 : FVec F S6x1024 .f32 := broadcastInDim S6x1024 ![] bcast_S_S6x1024 main_cst_4
  let main_v17 : IVec S6x1024 1 := cmpf .olt main_v15 main_v16
  fn_part1 (F := F) main_arg6 main_arg7 main_arg8 main_v2 main_v5 main_v8 main_v11 main_v14 main_v17
-- ==== Pre_finite4.lean ====
abbrev S4096x2816 : Shape := ⟨2, ![4096, 2816]⟩
abbrev S2816x1024 : Shape := ⟨2, ![2816, 1024]⟩
abbrev S4096x1024 : Shape := ⟨2, ![4096, 1024]⟩
abbrev S6x1024 : Shape := ⟨2, ![6, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S6x1024 : S_.BroadcastsInDim S6x1024 (![] : Fin 0 → Fin S6x1024.rank)
  bcast_S_S1x1024 : S_.BroadcastsInDim S1x1024 (![] : Fin 0 → Fin S1x1024.rank)

variable [Facts]

def fn_part1 {F : FTy → Type} [FloatOps F] (main_arg6 : FVec F S1x1024 .f32) (main_v2 : IVec S4096x2816 1) (main_v5 : IVec S2816x1024 1) (main_v8 : IVec S4096x1024 1) (main_v11 : IVec S4096x1024 1) (main_v14 : IVec S6x1024 1) (main_v17 : IVec S6x1024 1) : IVec S4096x2816 1 × IVec S2816x1024 1 × IVec S4096x1024 1 × IVec S4096x1024 1 × IVec S6x1024 1 × IVec S6x1024 1 × IVec S1x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  (main_v2, main_v5, main_v8, main_v11, main_v14, main_v17, main_v20)

def fn {F : FTy → Type} [FloatOps F] (main_arg0 : FVec F S4096x2816 .bf16) (main_arg1 : FVec F S2816x1024 .f32) (main_arg2 : FVec F S4096x1024 .f32) (main_arg3 : FVec F S4096x1024 .f32) (main_arg4 : FVec F S6x1024 .f32) (main_arg5 : FVec F S6x1024 .f32) (main_arg6 : FVec F S1x1024 .f32) : IVec S4096x2816 1 × IVec S2816x1024 1 × IVec S4096x1024 1 × IVec S4096x1024 1 × IVec S6x1024 1 × IVec S6x1024 1 × IVec S1x1024 1 :=
  let main_v0 : FVec F S4096x2816 .bf16 := Host.absf main_arg0
  let main_cst : FVec F S_ .bf16 := constant S_ .bf16 0x7F80#16
  let main_v1 : FVec F S4096x2816 .bf16 := broadcastInDim S4096x2816 ![] bcast_S_S4096x2816 main_cst
  let main_v2 : IVec S4096x2816 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S6x1024 .f32 := Host.absf main_arg4
  let main_cst_3 : FVec F S_ .f32 := constant S_ .f32 0x7F800000#32
  let main_v13 : FVec F S6x1024 .f32 := broadcastInDim S6x1024 ![] bcast_S_S6x1024 main_cst_3
  let main_v14 : IVec S6x1024 1 := cmpf .olt main_v12 main_v13
  let main_v15 : FVec F S6x1024 .f32 := Host.absf main_arg5
  let main_cst_4 : FVec F S_ .f32 := constant S_ .f32 0x7F800000#32
  let main_v16 : FVec F S6x1024 .f32 := broadcastInDim S6x1024 ![] bcast_S_S6x1024 main_cst_4
  let main_v17 : IVec S6x1024 1 := cmpf .olt main_v15 main_v16
  fn_part1 (F := F) main_arg6 main_v2 main_v5 main_v8 main_v11 main_v14 main_v17
-- ==== Kernel.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S3x8x704 : Shape := ⟨3, ![3, 8, 704]⟩
abbrev S8x3x704 : Shape := ⟨3, ![8, 3, 704]⟩
abbrev S4x704x1024 : Shape := ⟨3, ![4, 704, 1024]⟩
abbrev S4096x5632 : Shape := ⟨2, ![4096, 5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S4096x2816 : Shape := ⟨2, ![4096, 2816]⟩
abbrev S4096x4x704 : Shape := ⟨3, ![4096, 4, 704]⟩
abbrev S4x4096x704 : Shape := ⟨3, ![4, 4096, 704]⟩
abbrev S4x2x4096x704 : Shape := ⟨4, ![4, 2, 4096, 704]⟩
abbrev S4x2x3x704 : Shape := ⟨4, ![4, 2, 3, 704]⟩
abbrev S4x2x1x704 : Shape := ⟨4, ![4, 2, 1, 704]⟩
abbrev S4x2x704x1024 : Shape := ⟨4, ![4, 2, 704, 1024]⟩
abbrev S512x1024 : Shape := ⟨2, ![512, 1024]⟩
abbrev S1x704x1024 : Shape := ⟨3, ![1, 704, 1024]⟩
abbrev S1x512x704 : Shape := ⟨3, ![1, 512, 704]⟩
abbrev S1x3x704 : Shape := ⟨3, ![1, 3, 704]⟩
abbrev S1x2x512x704 : Shape := ⟨4, ![1, 2, 512, 704]⟩
abbrev S1x2x3x704 : Shape := ⟨4, ![1, 2, 3, 704]⟩
abbrev S1x2x1x704 : Shape := ⟨4, ![1, 2, 1, 704]⟩
abbrev S1x2x704x1024 : Shape := ⟨4, ![1, 2, 704, 1024]⟩
abbrev S8x704 : Shape := ⟨2, ![8, 704]⟩
abbrev S704x1024 : Shape := ⟨2, ![704, 1024]⟩
abbrev S1024x704 : Shape := ⟨2, ![1024, 704]⟩
abbrev S256x1024 : Shape := ⟨2, ![256, 1024]⟩
abbrev S256x704 : Shape := ⟨2, ![256, 704]⟩
abbrev S1x256x704 : Shape := ⟨3, ![1, 256, 704]⟩
abbrev S264x704 : Shape := ⟨2, ![264, 704]⟩
abbrev S1x1x704 : Shape := ⟨3, ![1, 1, 704]⟩
abbrev S1x704 : Shape := ⟨2, ![1, 704]⟩
abbrev S1x1x256x704 : Shape := ⟨4, ![1, 1, 256, 704]⟩
abbrev S1x1x1x704 : Shape := ⟨4, ![1, 1, 1, 704]⟩
abbrev S704 : Shape := ⟨1, ![704]⟩
abbrev S512x704 : Shape := ⟨2, ![512, 704]⟩
abbrev S1x1x512x704 : Shape := ⟨4, ![1, 1, 512, 704]⟩
abbrev S1x1x704x1024 : Shape := ⟨4, ![1, 1, 704, 1024]⟩

abbrev nBuf : Space → Nat
  | .hbm => 71
  | .vmem => 36
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S4096x1024, .bf16⟩
  | .hbm, ⟨6, _⟩ => ⟨S3x8x704, .f32⟩
  | .hbm, ⟨7, _⟩ => ⟨S8x3x704, .f32⟩
  | .hbm, ⟨8, _⟩ => ⟨S2816x1024, .bf16⟩
  | .hbm, ⟨9, _⟩ => ⟨S4x704x1024, .bf16⟩
  | .hbm, ⟨10, _⟩ => ⟨S4096x1024, .f32⟩
  | .hbm, ⟨11, _⟩ => ⟨S4096x5632, .f32⟩
  | .hbm, ⟨12, _⟩ => ⟨S_, .f32⟩
  | .hbm, ⟨13, _⟩ => ⟨S2x5632, .f32⟩
  | .hbm, ⟨14, _⟩ => ⟨S4098x5632, .f32⟩
  | .hbm, ⟨15, _⟩ => ⟨S4096x5632, .f32⟩
  | .hbm, ⟨16, _⟩ => ⟨S1x5632, .f32⟩
  | .hbm, ⟨17, _⟩ => ⟨S5632, .f32⟩
  | .hbm, ⟨18, _⟩ => ⟨S1x5632, .f32⟩
  | .hbm, ⟨19, _⟩ => ⟨S4096x5632, .f32⟩
  | .hbm, ⟨20, _⟩ => ⟨S4096x5632, .f32⟩
  | .hbm, ⟨21, _⟩ => ⟨S_, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S1x5632, .f32⟩
  | .hbm, ⟨26, _⟩ => ⟨S5632, .f32⟩
  | .hbm, ⟨27, _⟩ => ⟨S1x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S1x5632, .f32⟩
  | .hbm, ⟨33, _⟩ => ⟨S5632, .f32⟩
  | .hbm, ⟨34, _⟩ => ⟨S1x5632, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S1x5632, .f32⟩
  | .hbm, ⟨39, _⟩ => ⟨S4096x5632, .f32⟩
  | .hbm, ⟨40, _⟩ => ⟨S4096x5632, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S_, .f32⟩
  | .hbm, ⟨46, _⟩ => ⟨S4096x2816, .f32⟩
  | .hbm, ⟨47, _⟩ => ⟨S4096x2816, .f32⟩
  | .hbm, ⟨48, _⟩ => ⟨S_, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .bf16⟩
  | .hbm, ⟨54, _⟩ => ⟨S4096x2816, .f32⟩
  | .hbm, ⟨55, _⟩ => ⟨S4096x4x704, .f32⟩
  | .hbm, ⟨56, _⟩ => ⟨S4x4096x704, .f32⟩
  | .hbm, ⟨57, _⟩ => ⟨S4096x2816, .f32⟩
  | .hbm, ⟨58, _⟩ => ⟨S4096x4x704, .f32⟩
  | .hbm, ⟨59, _⟩ => ⟨S4x4096x704, .f32⟩
  | .hbm, ⟨60, _⟩ => ⟨S4096x4x704, .f32⟩
  | .hbm, ⟨61, _⟩ => ⟨S4x4096x704, .f32⟩
  | .hbm, ⟨62, _⟩ => ⟨S4096x4x704, .f32⟩
  | .hbm, ⟨63, _⟩ => ⟨S4x4096x704, .f32⟩
  | .hbm, ⟨64, _⟩ => ⟨S4096x4x704, .bf16⟩
  | .hbm, ⟨65, _⟩ => ⟨S4x4096x704, .bf16⟩
  | .hbm, ⟨66, _⟩ => ⟨S4x2x4096x704, .bf16⟩
  | .hbm, ⟨67, _⟩ => ⟨S4x2x3x704, .f32⟩
  | .hbm, ⟨68, _⟩ => ⟨S4x2x1x704, .f32⟩
  | .hbm, ⟨69, _⟩ => ⟨S4x704x1024, .bf16⟩
  | .hbm, ⟨70, _⟩ => ⟨S4x2x704x1024, .bf16⟩
  | .local _ .vmem, ⟨0, _⟩ => ⟨S512x1024, .bf16⟩
  | .local _ .vmem, ⟨1, _⟩ => ⟨S512x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x512x704, .f32⟩
  | .local _ .vmem, ⟨5, _⟩ => ⟨S1x512x704, .f32⟩
  | .local _ .vmem, ⟨6, _⟩ => ⟨S1x512x704, .f32⟩
  | .local _ .vmem, ⟨7, _⟩ => ⟨S1x512x704, .f32⟩
  | .local _ .vmem, ⟨8, _⟩ => ⟨S1x512x704, .f32⟩
  | .local _ .vmem, ⟨9, _⟩ => ⟨S1x512x704, .f32⟩
  | .local _ .vmem, ⟨10, _⟩ => ⟨S1x512x704, .f32⟩
  | .local _ .vmem, ⟨11, _⟩ => ⟨S1x512x704, .f32⟩
  | .local _ .vmem, ⟨12, _⟩ => ⟨S1x3x704, .f32⟩
  | .local _ .vmem, ⟨13, _⟩ => ⟨S1x3x704, .f32⟩
  | .local _ .vmem, ⟨14, _⟩ => ⟨S1x3x704, .f32⟩
  | .local _ .vmem, ⟨15, _⟩ => ⟨S1x3x704, .f32⟩
  | .local _ .vmem, ⟨16, _⟩ => ⟨S1x512x704, .bf16⟩
  | .local _ .vmem, ⟨17, _⟩ => ⟨S1x512x704, .bf16⟩
  | .local _ .vmem, ⟨18, _⟩ => ⟨S512x1024, .bf16⟩
  | .local _ .vmem, ⟨19, _⟩ => ⟨S512x1024, .bf16⟩
  | .local _ .vmem, ⟨20, _⟩ => ⟨S1x2x512x704, .bf16⟩
  | .local _ .vmem, ⟨21, _⟩ => ⟨S1x2x512x704, .bf16⟩
  | .local _ .vmem, ⟨22, _⟩ => ⟨S1x2x3x704, .f32⟩
  | .local _ .vmem, ⟨23, _⟩ => ⟨S1x2x3x704, .f32⟩
  | .local _ .vmem, ⟨24, _⟩ => ⟨S1x2x1x704, .f32⟩
  | .local _ .vmem, ⟨25, _⟩ => ⟨S1x2x1x704, .f32⟩
  | .local _ .vmem, ⟨26, _⟩ => ⟨S1x704x1024, .bf16⟩
  | .local _ .vmem, ⟨27, _⟩ => ⟨S1x704x1024, .bf16⟩
  | .local _ .vmem, ⟨28, _⟩ => ⟨S1x2x704x1024, .bf16⟩
  | .local _ .vmem, ⟨29, _⟩ => ⟨S1x2x704x1024, .bf16⟩
  | .local _ .vmem, ⟨30, _⟩ => ⟨S8x704, .f32⟩
  | .local _ .vmem, ⟨31, _⟩ => ⟨S8x704, .f32⟩
  | .local _ .vmem, ⟨32, _⟩ => ⟨S704x1024, .f32⟩
  | .local _ .vmem, ⟨33, _⟩ => ⟨S704x1024, .f32⟩
  | .local _ .vmem, ⟨34, _⟩ => ⟨S704x1024, .f32⟩
  | .local _ .vmem, ⟨35, _⟩ => ⟨S1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50_0 : Ref sig .tc := ⟨.hbm, 66, rfl⟩
abbrev main_v50_1 : Ref sig .tc := ⟨.hbm, 67, rfl⟩
abbrev main_v50_2 : Ref sig .tc := ⟨.hbm, 68, rfl⟩
abbrev main_v50_3 : Ref sig .tc := ⟨.hbm, 69, rfl⟩
abbrev main_v50_4 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v318 : BitVec 1 := Scalar.cmpi .eq arg1 c7_i32
  let v319 : BitVec 32 := Scalar.extui v318
  let c0_i32_276 : BitVec 32 := 0#32
  let v320 : BitVec 1 := Scalar.cmpi .ne v319 c0_i32_276
  v320

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_10 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x3x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x2x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x3x704 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x2x1x704 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x704x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x2x704x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S4096x5632 : Shape := ⟨2, ![4096, 5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S4096x2816 : Shape := ⟨2, ![4096, 2816]⟩
abbrev S1024x2816 : Shape := ⟨2, ![1024, 2816]⟩
abbrev S5632x1024 : Shape := ⟨2, ![5632, 1024]⟩
abbrev S4096x2x4x704 : Shape := ⟨4, ![4096, 2, 4, 704]⟩
abbrev S4x2x4096x704 : Shape := ⟨4, ![4, 2, 4096, 704]⟩
abbrev S3x2x4x704 : Shape := ⟨4, ![3, 2, 4, 704]⟩
abbrev S4x2x3x704 : Shape := ⟨4, ![4, 2, 3, 704]⟩
abbrev S1x2x4x704 : Shape := ⟨4, ![1, 2, 4, 704]⟩
abbrev S4x2x1x704 : Shape := ⟨4, ![4, 2, 1, 704]⟩
abbrev S4x704x1024 : Shape := ⟨3, ![4, 704, 1024]⟩
abbrev S2x4x704x1024 : Shape := ⟨4, ![2, 4, 704, 1024]⟩
abbrev S4x2x704x1024 : Shape := ⟨4, ![4, 2, 704, 1024]⟩

abbrev nBuf : Space → Nat
  | .hbm => 137
  | .vmem => 0
  | .smem => 0
  | _ => 0

abbrev hbmTy0_0 (i : Nat) : BufTy := match i % 128 with
  | 0 => ⟨S4096x1024, .bf16⟩
  | 1 => ⟨S1024x5632, .f32⟩
  | 2 => ⟨S3x5632, .f32⟩
  | 3 => ⟨S5632, .f32⟩
  | 4 => ⟨S2816x1024, .f32⟩
  | 5 => ⟨S4096x1024, .bf16⟩
  | 6 => ⟨S4096x1024, .f32⟩
  | 7 => ⟨S4096x1024, .f32⟩
  | 8 => ⟨S4096x5632, .f32⟩
  | 9 => ⟨S_, .f32⟩
  | 10 => ⟨S2x5632, .f32⟩
  | 11 => ⟨S4098x5632, .f32⟩
  | 12 => ⟨S_, .f32⟩
  | 13 => ⟨S2x5632, .f32⟩
  | 14 => ⟨S4096x5632, .f32⟩
  | 15 => ⟨S1x5632, .f32⟩
  | 16 => ⟨S5632, .f32⟩
  | 17 => ⟨S1x5632, .f32⟩
  | 18 => ⟨S4096x5632, .f32⟩
  | 19 => ⟨S4096x5632, .f32⟩
  | 20 => ⟨S_, .f32⟩
  | 21 => ⟨S4096x5632, .f32⟩
  | 22 => ⟨S4096x5632, .f32⟩
  | 23 => ⟨S4096x5632, .f32⟩
  | 24 => ⟨S1x5632, .f32⟩
  | 25 => ⟨S5632, .f32⟩
  | 26 => ⟨S1x5632, .f32⟩
  | 27 => ⟨S4096x5632, .f32⟩
  | 28 => ⟨S4096x5632, .f32⟩
  | 29 => ⟨S4096x5632, .f32⟩
  | 30 => ⟨S4096x5632, .f32⟩
  | 31 => ⟨S1x5632, .f32⟩
  | 32 => ⟨S5632, .f32⟩
  | 33 => ⟨S1x5632, .f32⟩
  | 34 => ⟨S4096x5632, .f32⟩
  | 35 => ⟨S4096x5632, .f32⟩
  | 36 => ⟨S4096x5632, .f32⟩
  | 37 => ⟨S1x5632, .f32⟩
  | 38 => ⟨S4096x5632, .f32⟩
  | 39 => ⟨S4096x5632, .f32⟩
  | 40 => ⟨S4096x2816, .f32⟩
  | 41 => ⟨S4096x2816, .f32⟩
  | 42 => ⟨S4096x2816, .f32⟩
  | 43 => ⟨S4096x2816, .f32⟩
  | 44 => ⟨S_, .f32⟩
  | 45 => ⟨S4096x2816, .f32⟩
  | 46 => ⟨S4096x2816, .f32⟩
  | 47 => ⟨S_, .f32⟩
  | 48 => ⟨S4096x2816, .f32⟩
  | 49 => ⟨S4096x2816, .f32⟩
  | 50 => ⟨S_, .f32⟩
  | 51 => ⟨S4096x2816, .f32⟩
  | 52 => ⟨S4096x2816, .f32⟩
  | 53 => ⟨S4096x2816, .f32⟩
  | 54 => ⟨S4096x2816, .f32⟩
  | 55 => ⟨S4096x2816, .f32⟩
  | 56 => ⟨S4096x1024, .f32⟩
  | 57 => ⟨S1024x2816, .f32⟩
  | 58 => ⟨S2816x1024, .f32⟩
  | 59 => ⟨S4096x2816, .f32⟩
  | 60 => ⟨S4096x2816, .f32⟩
  | 61 => ⟨S4096x2816, .f32⟩
  | 62 => ⟨S4096x2816, .f32⟩
  | 63 => ⟨S4096x2816, .f32⟩
  | 64 => ⟨S4096x2816, .f32⟩
  | 65 => ⟨S4096x2816, .f32⟩
  | 66 => ⟨S_, .f32⟩
  | 67 => ⟨S4096x5632, .f32⟩
  | 68 => ⟨S_, .f32⟩
  | 69 => ⟨S4096x5632, .f32⟩
  | 70 => ⟨S4096x5632, .f32⟩
  | 71 => ⟨S_, .f32⟩
  | 72 => ⟨S5632, .f32⟩
  | 73 => ⟨S1x5632, .f32⟩
  | 74 => ⟨S_, .f32⟩
  | 75 => ⟨S5632, .f32⟩
  | 76 => ⟨S4096x5632, .f32⟩
  | 77 => ⟨S_, .f32⟩
  | 78 => ⟨S5632, .f32⟩
  | 79 => ⟨S1x5632, .f32⟩
  | 80 => ⟨S4096x5632, .f32⟩
  | 81 => ⟨S4096x5632, .f32⟩
  | 82 => ⟨S_, .f32⟩
  | 83 => ⟨S5632, .f32⟩
  | 84 => ⟨S1x5632, .f32⟩
  | 85 => ⟨S_, .f32⟩
  | 86 => ⟨S3x5632, .f32⟩
  | 87 => ⟨S_, .f32⟩
  | 88 => ⟨S4098x5632, .f32⟩
  | 89 => ⟨S4096x5632, .f32⟩
  | 90 => ⟨S_, .f32⟩
  | 91 => ⟨S5632, .f32⟩
  | 92 => ⟨S1x5632, .f32⟩
  | 93 => ⟨S4096x5632, .f32⟩
  | 94 => ⟨S4096x5632, .f32⟩
  | 95 => ⟨S_, .f32⟩
  | 96 => ⟨S5632, .f32⟩
  | 97 => ⟨S1x5632, .f32⟩
  | 98 => ⟨S_, .f32⟩
  | 99 => ⟨S3x5632, .f32⟩
  | 100 => ⟨S3x5632, .f32⟩
  | 101 => ⟨S_, .f32⟩
  | 102 => ⟨S4098x5632, .f32⟩
  | 103 => ⟨S4098x5632, .f32⟩
  | 104 => ⟨S4096x5632, .f32⟩
  | 105 => ⟨S_, .f32⟩
  | 106 => ⟨S5632, .f32⟩
  | 107 => ⟨S1x5632, .f32⟩
  | 108 => ⟨S4096x5632, .f32⟩
  | 109 => ⟨S4096x5632, .f32⟩
  | 110 => ⟨S_, .f32⟩
  | 111 => ⟨S5632, .f32⟩
  | 112 => ⟨S1x5632, .f32⟩
  | 113 => ⟨S_, .f32⟩
  | 114 => ⟨S3x5632, .f32⟩
  | 115 => ⟨S3x5632, .f32⟩
  | 116 => ⟨S_, .f32⟩
  | 117 => ⟨S4098x5632, .f32⟩
  | 118 => ⟨S4098x5632, .f32⟩
  | 119 => ⟨S2x5632, .f32⟩
  | 120 => ⟨S4096x5632, .f32⟩
  | 121 => ⟨S5632x1024, .f32⟩
  | 122 => ⟨S1024x5632, .f32⟩
  | 123 => ⟨S4096x2x4x704, .f32⟩
  | 124 => ⟨S4x2x4096x704, .f32⟩
  | 125 => ⟨S4x2x4096x704, .bf16⟩
  | 126 => ⟨S3x2x4x704, .f32⟩
  | 127 => ⟨S4x2x3x704, .f32⟩
  | _ => ⟨S4096x1024, .bf16⟩

abbrev hbmTy0_1 (i : Nat) : BufTy := match i % 128 with
  | 0 => ⟨S1x5632, .f32⟩
  | 1 => ⟨S1x2x4x704, .f32⟩
  | 2 => ⟨S4x2x1x704, .f32⟩
  | 3 => ⟨S4x704x1024, .f32⟩
  | 4 => ⟨S4x704x1024, .bf16⟩
  | 5 => ⟨S5632x1024, .f32⟩
  | 6 => ⟨S2x4x704x1024, .f32⟩
  | 7 => ⟨S4x2x704x1024, .f32⟩
  | 8 => ⟨S4x2x704x1024, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v33_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v33_1 : Ref sig .tc := ⟨.hbm, 53, rfl⟩
abbrev main_v33_0 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v41 : Ref sig .tc := ⟨.hbm, 65, rfl⟩
abbrev main_cst_2 : Ref sig .tc := ⟨.hbm, 66, rfl⟩
abbrev main_v42 : Ref sig .tc := ⟨.hbm, 67, rfl⟩
abbrev main_cst_3 : Ref sig .tc := ⟨.hbm, 68, rfl⟩
abbrev main_v43 : Ref sig .tc := ⟨.hbm, 69, rfl⟩
abbrev main_v44 : Ref sig .tc := ⟨.hbm, 70, rfl⟩
abbrev main_cst_4 : Ref sig .tc := ⟨.hbm, 71, rfl⟩
abbrev main_v45 : Ref sig .tc := ⟨.hbm, 72, rfl⟩
abbrev main_v46 : Ref sig .tc := ⟨.hbm, 73, rfl⟩
abbrev main_cst_5 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_11 : Ref sig .tc := ⟨.hbm, 95, rfl⟩
abbrev main_v62 : Ref sig .tc := ⟨.hbm, 96, rfl⟩
abbrev main_v63 : Ref sig .tc := ⟨.hbm, 97, rfl⟩
abbrev main_cst_12 : Ref sig .tc := ⟨.hbm, 98, rfl⟩
abbrev main_v64 : Ref sig .tc := ⟨.hbm, 99, rfl⟩
abbrev main_v65 : Ref sig .tc := ⟨.hbm, 100, rfl⟩
abbrev main_cst_13 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_14 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_15 : Ref sig .tc := ⟨.hbm, 110, rfl⟩
abbrev main_v73 : Ref sig .tc := ⟨.hbm, 111, rfl⟩
abbrev main_v74 : Ref sig .tc := ⟨.hbm, 112, rfl⟩
abbrev main_cst_16 : Ref sig .tc := ⟨.hbm, 113, rfl⟩
abbrev main_v75 : Ref sig .tc := ⟨.hbm, 114, rfl⟩
abbrev main_v76 : Ref sig .tc := ⟨.hbm, 115, rfl⟩
abbrev main_cst_17 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩

abbrev nD : Nat := 1
abbrev τ : Topo := Topo.v7x

variable {F : FTy → Type} [FloatOps F]
-- ==== Kernel2.lean ====
abbrev S4096x5632 : Shape := ⟨2, ![4096, 5632]⟩
abbrev S1024x5632 : Shape := ⟨2, ![1024, 5632]⟩
abbrev S4096x1024 : Shape := ⟨2, ![4096, 1024]⟩
abbrev S6x1024 : Shape := ⟨2, ![6, 1024]⟩
abbrev S1x1024 : Shape := ⟨2, ![1, 1024]⟩
abbrev S4096x2x4x704 : Shape := ⟨4, ![4096, 2, 4, 704]⟩
abbrev S4x2x4096x704 : Shape := ⟨4, ![4, 2, 4096, 704]⟩
abbrev S5632x1024 : Shape := ⟨2, ![5632, 1024]⟩
abbrev S8x704x1024 : Shape := ⟨3, ![8, 704, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4x2x512x704 : Shape := ⟨4, ![4, 2, 512, 704]⟩
abbrev S512x1024 : Shape := ⟨2, ![512, 1024]⟩
abbrev S1x1x512x704 : Shape := ⟨4, ![1, 1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 43
  | .vmem => 22
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S6x1024, .f32⟩
  | .hbm, ⟨6, _⟩ => ⟨S6x1024, .f32⟩
  | .hbm, ⟨7, _⟩ => ⟨S1x1024, .f32⟩
  | .hbm, ⟨8, _⟩ => ⟨S1x1024, .f32⟩
  | .hbm, ⟨9, _⟩ => ⟨S4096x2x4x704, .bf16⟩
  | .hbm, ⟨10, _⟩ => ⟨S4x2x4096x704, .bf16⟩
  | .hbm, ⟨11, _⟩ => ⟨S5632x1024, .f32⟩
  | .hbm, ⟨12, _⟩ => ⟨S5632x1024, .bf16⟩
  | .hbm, ⟨13, _⟩ => ⟨S8x704x1024, .bf16⟩
  | .hbm, ⟨14, _⟩ => ⟨S6x1024, .f32⟩
  | .hbm, ⟨15, _⟩ => ⟨S1x1024, .f32⟩
  | .hbm, ⟨16, _⟩ => ⟨S1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .local _ .vmem, ⟨0, _⟩ => ⟨S4x2x512x704, .bf16⟩
  | .local _ .vmem, ⟨1, _⟩ => ⟨S4x2x512x704, .bf16⟩
  | .local _ .vmem, ⟨2, _⟩ => ⟨S8x704x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S6x1024, .f32⟩
  | .local _ .vmem, ⟨10, _⟩ => ⟨S6x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_v24_2 : Ref sig .tc := ⟨.hbm, 38, rfl⟩
abbrev main_v24_3 : Ref sig .tc := ⟨.hbm, 39, rfl⟩
abbrev main_v24_4 : Ref sig .tc := ⟨.hbm, 40, rfl⟩
abbrev main_v24_5 : Ref sig .tc := ⟨.hbm, 41, rfl⟩
abbrev main_v24_6 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x2x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference2Ideal.lean ====
abbrev S4096x5632 : Shape := ⟨2, ![4096, 5632]⟩
abbrev S1024x5632 : Shape := ⟨2, ![1024, 5632]⟩
abbrev S4096x1024 : Shape := ⟨2, ![4096, 1024]⟩
abbrev S6x1024 : Shape := ⟨2, ![6, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 128
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S6x1024, .f32⟩
  | .hbm, ⟨6, _⟩ => ⟨S6x1024, .f32⟩
  | .hbm, ⟨7, _⟩ => ⟨S1x1024, .f32⟩
  | .hbm, ⟨8, _⟩ => ⟨S1x1024, .f32⟩
  | .hbm, ⟨9, _⟩ => ⟨S6x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1x1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x5632, .f32⟩
  | .hbm, ⟨62, _⟩ => ⟨S4096x5632, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S_, .f32⟩
  | .hbm, ⟨102, _⟩ => ⟨S1024, .f32⟩
  | .hbm, ⟨103, _⟩ => ⟨S1x1024, .f32⟩
  | .hbm, ⟨104, _⟩ => ⟨S4096x1024, .f32⟩
  | .hbm, ⟨105, _⟩ => ⟨S_, .f32⟩
  | .hbm, ⟨106, _⟩ => ⟨S1024, .f32⟩
  | .hbm, ⟨107, _⟩ => ⟨S1x1024, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S_, .f32⟩
  | .hbm, ⟨112, _⟩ => ⟨S4096, .f32⟩
  | .hbm, ⟨113, _⟩ => ⟨S4096x1, .f32⟩
  | .hbm, ⟨114, _⟩ => ⟨S4096x1024, .f32⟩
  | .hbm, ⟨115, _⟩ => ⟨S4096x1024, .f32⟩
  | .hbm, ⟨116, _⟩ => ⟨S4096x1, .f32⟩
  | .hbm, ⟨117, _⟩ => ⟨S_, .f32⟩
  | .hbm, ⟨118, _⟩ => ⟨S4096x1, .f32⟩
  | .hbm, ⟨119, _⟩ => ⟨S4096x1, .f32⟩
  | .hbm, ⟨120, _⟩ => ⟨S_, .f32⟩
  | .hbm, ⟨121, _⟩ => ⟨S4096, .f32⟩
  | .hbm, ⟨122, _⟩ => ⟨S4096x1024, .f32⟩
  | .hbm, ⟨123, _⟩ => ⟨S4096x1024, .f32⟩
  | .hbm, ⟨124, _⟩ => ⟨S4096x1024, .f32⟩
  | .hbm, ⟨125, _⟩ => ⟨S4096x1024, .f32⟩
  | .hbm, ⟨126, _⟩ => ⟨S4096x1024, .f32⟩
  | .hbm, ⟨127, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_14 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_15 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_16 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_17 : Ref sig .tc := ⟨.hbm, 117, rfl⟩
abbrev main_v90 : Ref sig .tc := ⟨.hbm, 118, rfl⟩
abbrev main_v91 : Ref sig .tc := ⟨.hbm, 119, rfl⟩
abbrev main_cst_18 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩

abbrev nD : Nat := 1
abbrev τ : Topo := Topo.v7x

variable {F : FTy → Type} [FloatOps F]
-- ==== Kernel3.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S5632x1024 : Shape := ⟨2, ![5632, 1024]⟩
abbrev S8x704x1024 : Shape := ⟨3, ![8, 704, 1024]⟩
abbrev S3x8x704 : Shape := ⟨3, ![3, 8, 704]⟩
abbrev S8x3x704 : Shape := ⟨3, ![8, 3, 704]⟩
abbrev S8x1x704 : Shape := ⟨3, ![8, 1, 704]⟩
abbrev S4x4096x704 : Shape := ⟨3, ![4, 4096, 704]⟩
abbrev S512x1024 : Shape := ⟨2, ![512, 1024]⟩
abbrev S1x704x1024 : Shape := ⟨3, ![1, 704, 1024]⟩
abbrev S1x3x704 : Shape := ⟨3, ![1, 3, 704]⟩
abbrev S1x1x704 : Shape := ⟨3, ![1, 1, 704]⟩
abbrev S1x512x704 : Shape := ⟨3, ![1, 512, 704]⟩
abbrev S8x704 : Shape := ⟨2, ![8, 704]⟩
abbrev S1024x704 : Shape := ⟨2, ![1024, 704]⟩
abbrev S704x1024 : Shape := ⟨2, ![704, 1024]⟩
abbrev S256x1024 : Shape := ⟨2, ![256, 1024]⟩
abbrev S256x704 : Shape := ⟨2, ![256, 704]⟩
abbrev S1x256x704 : Shape := ⟨3, ![1, 256, 704]⟩
abbrev S264x704 : Shape := ⟨2, ![264, 704]⟩
abbrev S1x704 : Shape := ⟨2, ![1, 704]⟩

abbrev nBuf : Space → Nat
  | .hbm => 15
  | .vmem => 28
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S5632x1024, .f32⟩
  | .hbm, ⟨5, _⟩ => ⟨S5632x1024, .bf16⟩
  | .hbm, ⟨6, _⟩ => ⟨S8x704x1024, .bf16⟩
  | .hbm, ⟨7, _⟩ => ⟨S3x8x704, .f32⟩
  | .hbm, ⟨8, _⟩ => ⟨S8x3x704, .f32⟩
  | .hbm, ⟨9, _⟩ => ⟨S8x1x704, .f32⟩
  | .hbm, ⟨10, _⟩ => ⟨S4x4096x704, .f32⟩
  | .hbm, ⟨11, _⟩ => ⟨S4x4096x704, .f32⟩
  | .hbm, ⟨12, _⟩ => ⟨S4x4096x704, .f32⟩
  | .hbm, ⟨13, _⟩ => ⟨S4x4096x704, .f32⟩
  | .hbm, ⟨14, _⟩ => ⟨S4x4096x704, .bf16⟩
  | .local _ .vmem, ⟨0, _⟩ => ⟨S512x1024, .bf16⟩
  | .local _ .vmem, ⟨1, _⟩ => ⟨S512x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x3x704, .f32⟩
  | .local _ .vmem, ⟨7, _⟩ => ⟨S1x3x704, .f32⟩
  | .local _ .vmem, ⟨8, _⟩ => ⟨S1x3x704, .f32⟩
  | .local _ .vmem, ⟨9, _⟩ => ⟨S1x3x704, .f32⟩
  | .local _ .vmem, ⟨10, _⟩ => ⟨S1x1x704, .f32⟩
  | .local _ .vmem, ⟨11, _⟩ => ⟨S1x1x704, .f32⟩
  | .local _ .vmem, ⟨12, _⟩ => ⟨S1x1x704, .f32⟩
  | .local _ .vmem, ⟨13, _⟩ => ⟨S1x1x704, .f32⟩
  | .local _ .vmem, ⟨14, _⟩ => ⟨S1x512x704, .f32⟩
  | .local _ .vmem, ⟨15, _⟩ => ⟨S1x512x704, .f32⟩
  | .local _ .vmem, ⟨16, _⟩ => ⟨S1x512x704, .f32⟩
  | .local _ .vmem, ⟨17, _⟩ => ⟨S1x512x704, .f32⟩
  | .local _ .vmem, ⟨18, _⟩ => ⟨S1x512x704, .f32⟩
  | .local _ .vmem, ⟨19, _⟩ => ⟨S1x512x704, .f32⟩
  | .local _ .vmem, ⟨20, _⟩ => ⟨S1x512x704, .f32⟩
  | .local _ .vmem, ⟨21, _⟩ => ⟨S1x512x704, .f32⟩
  | .local _ .vmem, ⟨22, _⟩ => ⟨S1x512x704, .bf16⟩
  | .local _ .vmem, ⟨23, _⟩ => ⟨S1x512x704, .bf16⟩
  | .local _ .vmem, ⟨24, _⟩ => ⟨S8x704, .f32⟩
  | .local _ .vmem, ⟨25, _⟩ => ⟨S8x704, .f32⟩
  | .local _ .vmem, ⟨26, _⟩ => ⟨S1024x704, .bf16⟩
  | .local _ .vmem, ⟨27, _⟩ => ⟨S1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v6_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S4096x5632 : Shape := ⟨2, ![4096, 5632]⟩
abbrev S_ : Shape := ⟨0, ![]⟩
abbrev S4098x5632 : Shape := ⟨2, ![4098, 5632]⟩
abbrev S1x5632 : Shape := ⟨2, ![1, 5632]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S4096x1024, .f32⟩
  | .hbm, ⟨5, _⟩ => ⟨S4096x5632, .f32⟩
  | .hbm, ⟨6, _⟩ => ⟨S_, .i32⟩
  | .hbm, ⟨7, _⟩ => ⟨S_, .f32⟩
  | .hbm, ⟨8, _⟩ => ⟨S4098x5632, .f32⟩
  | .hbm, ⟨9, _⟩ => ⟨S4096x5632, .f32⟩
  | .hbm, ⟨10, _⟩ => ⟨S1x5632, .f32⟩
  | .hbm, ⟨11, _⟩ => ⟨S5632, .f32⟩
  | .hbm, ⟨12, _⟩ => ⟨S1x5632, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S1x5632, .f32⟩
  | .hbm, ⟨20, _⟩ => ⟨S5632, .f32⟩
  | .hbm, ⟨21, _⟩ => ⟨S1x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S1x5632, .f32⟩
  | .hbm, ⟨27, _⟩ => ⟨S5632, .f32⟩
  | .hbm, ⟨28, _⟩ => ⟨S1x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S1x5632, .f32⟩
  | .hbm, ⟨33, _⟩ => ⟨S4096x5632, .f32⟩
  | .hbm, ⟨34, _⟩ => ⟨S4096x5632, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x4x704, .f32⟩
  | .hbm, ⟨39, _⟩ => ⟨S4x4096x704, .f32⟩
  | .hbm, ⟨40, _⟩ => ⟨S4096x2816, .f32⟩
  | .hbm, ⟨41, _⟩ => ⟨S4096x4x704, .f32⟩
  | .hbm, ⟨42, _⟩ => ⟨S4x4096x704, .f32⟩
  | .hbm, ⟨43, _⟩ => ⟨S4096x4x704, .f32⟩
  | .hbm, ⟨44, _⟩ => ⟨S4x4096x704, .f32⟩
  | .hbm, ⟨45, _⟩ => ⟨S4096x4x704, .f32⟩
  | .hbm, ⟨46, _⟩ => ⟨S4x4096x704, .f32⟩
  | .hbm, ⟨47, _⟩ => ⟨S4096x2816, .f32⟩
  | .hbm, ⟨48, _⟩ => ⟨S4096x2816, .f32⟩
  | .hbm, ⟨49, _⟩ => ⟨S_, .f32⟩
  | .hbm, ⟨50, _⟩ => ⟨S4096x2816, .f32⟩
  | .hbm, ⟨51, _⟩ => ⟨S4096x2816, .f32⟩
  | .hbm, ⟨52, _⟩ => ⟨S_, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .bf16⟩
  | .hbm, ⟨58, _⟩ => ⟨S4096x4x704, .bf16⟩
  | .hbm, ⟨59, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel4.lean ====
abbrev S4096x2816 : Shape := ⟨2, ![4096, 2816]⟩
abbrev S2816x1024 : Shape := ⟨2, ![2816, 1024]⟩
abbrev S4096x1024 : Shape := ⟨2, ![4096, 1024]⟩
abbrev S6x1024 : Shape := ⟨2, ![6, 1024]⟩
abbrev S1x1024 : Shape := ⟨2, ![1, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x128 : Shape := ⟨2, ![1, 128]⟩
abbrev S4x512x704 : Shape := ⟨3, ![4, 512, 704]⟩
abbrev S512x1024 : Shape := ⟨2, ![512, 1024]⟩
abbrev S1x256x704 : Shape := ⟨3, ![1, 256, 704]⟩
abbrev S256x704 : Shape := ⟨2, ![256, 704]⟩
abbrev S1x704x1024 : Shape := ⟨3, ![1, 704, 1024]⟩
abbrev S704x1024 : Shape := ⟨2, ![704, 1024]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩

abbrev nBuf : Space → Nat
  | .hbm => 16
  | .vmem => 17
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S6x1024, .f32⟩
  | .hbm, ⟨5, _⟩ => ⟨S6x1024, .f32⟩
  | .hbm, ⟨6, _⟩ => ⟨S1x1024, .f32⟩
  | .hbm, ⟨7, _⟩ => ⟨S4096x4x704, .bf16⟩
  | .hbm, ⟨8, _⟩ => ⟨S4x4096x704, .bf16⟩
  | .hbm, ⟨9, _⟩ => ⟨S2816x1024, .bf16⟩
  | .hbm, ⟨10, _⟩ => ⟨S4x704x1024, .bf16⟩
  | .hbm, ⟨11, _⟩ => ⟨S4096x1024, .f32⟩
  | .hbm, ⟨12, _⟩ => ⟨S4096x1024, .bf16⟩
  | .hbm, ⟨13, _⟩ => ⟨S1x128, .f32⟩
  | .hbm, ⟨14, _⟩ => ⟨S1x1024, .f32⟩
  | .hbm, ⟨15, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S6x1024, .f32⟩
  | .local _ .vmem, ⟨8, _⟩ => ⟨S6x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x128, .f32⟩
  | .local _ .vmem, ⟨15, _⟩ => ⟨S1x1024, .f32⟩
  | .local _ .vmem, ⟨16, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference4Ideal.lean ====
abbrev S4096x2816 : Shape := ⟨2, ![4096, 2816]⟩
abbrev S2816x1024 : Shape := ⟨2, ![2816, 1024]⟩
abbrev S4096x1024 : Shape := ⟨2, ![4096, 1024]⟩
abbrev S6x1024 : Shape := ⟨2, ![6, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S6x1024, .f32⟩
  | .hbm, ⟨5, _⟩ => ⟨S6x1024, .f32⟩
  | .hbm, ⟨6, _⟩ => ⟨S1x1024, .f32⟩
  | .hbm, ⟨7, _⟩ => ⟨S6x1024, .f32⟩
  | .hbm, ⟨8, _⟩ => ⟨S1x1024, .f32⟩
  | .hbm, ⟨9, _⟩ => ⟨S4096x2816, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S4096, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .bf16⟩
  | .hbm, ⟨86, _⟩ => ⟨S1x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_cst_8 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩
abbrev main_cst_10 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_13 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_14 : Ref sig .tc := ⟨.hbm, 75, rfl⟩
abbrev main_v53 : Ref sig .tc := ⟨.hbm, 76, rfl⟩
abbrev main_v54 : Ref sig .tc := ⟨.hbm, 77, rfl⟩
abbrev main_cst_15 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== Kernel5.lean ====
abbrev S4096x1024 : Shape := ⟨2, ![4096, 1024]⟩
abbrev S4096x512 : Shape := ⟨2, ![4096, 512]⟩
abbrev S1024x1024 : Shape := ⟨2, ![1024, 1024]⟩
abbrev S6x1024 : Shape := ⟨2, ![6, 1024]⟩
abbrev S1x1024 : Shape := ⟨2, ![1, 1024]⟩
abbrev S512x1024 : Shape := ⟨2, ![512, 1024]⟩
abbrev S8x64x1024 : Shape := ⟨3, ![8, 64, 1024]⟩
abbrev S_ : Shape := ⟨0, ![]⟩
abbrev S8x128x1024 : Shape := ⟨3, ![8, 128, 1024]⟩
abbrev S1536x1024 : Shape := ⟨2, ![1536, 1024]⟩
abbrev S512x512 : Shape := ⟨2, ![512, 512]⟩
abbrev S512 : Shape := ⟨1, ![512]⟩
abbrev S512x1 : Shape := ⟨2, ![512, 1]⟩

abbrev nBuf : Space → Nat
  | .hbm => 20
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x1024, .f32⟩
  | .hbm, ⟨3, _⟩ => ⟨S4096x1024, .f32⟩
  | .hbm, ⟨4, _⟩ => ⟨S6x1024, .f32⟩
  | .hbm, ⟨5, _⟩ => ⟨S6x1024, .f32⟩
  | .hbm, ⟨6, _⟩ => ⟨S1x1024, .f32⟩
  | .hbm, ⟨7, _⟩ => ⟨S1x1024, .f32⟩
  | .hbm, ⟨8, _⟩ => ⟨S1024x1024, .bf16⟩
  | .hbm, ⟨9, _⟩ => ⟨S512x1024, .bf16⟩
  | .hbm, ⟨10, _⟩ => ⟨S8x64x1024, .bf16⟩
  | .hbm, ⟨11, _⟩ => ⟨S_, .i32⟩
  | .hbm, ⟨12, _⟩ => ⟨S_, .bf16⟩
  | .hbm, ⟨13, _⟩ => ⟨S8x128x1024, .bf16⟩
  | .hbm, ⟨14, _⟩ => ⟨S1024x1024, .bf16⟩
  | .hbm, ⟨15, _⟩ => ⟨S512x1024, .bf16⟩
  | .hbm, ⟨16, _⟩ => ⟨S1536x1024, .bf16⟩
  | .hbm, ⟨17, _⟩ => ⟨S4096x1024, .f32⟩
  | .hbm, ⟨18, _⟩ => ⟨S4096x1024, .f32⟩
  | .hbm, ⟨19, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1536x1024, .bf16⟩
  | .local _ .vmem, ⟨5, _⟩ => ⟨S512x1024, .f32⟩
  | .local _ .vmem, ⟨6, _⟩ => ⟨S512x1024, .f32⟩
  | .local _ .vmem, ⟨7, _⟩ => ⟨S6x1024, .f32⟩
  | .local _ .vmem, ⟨8, _⟩ => ⟨S6x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S4096x1024 : Shape := ⟨2, ![4096, 1024]⟩
abbrev S4096x512 : Shape := ⟨2, ![4096, 512]⟩
abbrev S1024x1024 : Shape := ⟨2, ![1024, 1024]⟩
abbrev S6x1024 : Shape := ⟨2, ![6, 1024]⟩
abbrev S1x1024 : Shape := ⟨2, ![1, 1024]⟩
abbrev S4096x8x128 : Shape := ⟨3, ![4096, 8, 128]⟩
abbrev S4096x8x64 : Shape := ⟨3, ![4096, 8, 64]⟩
abbrev S_ : Shape := ⟨0, ![]⟩
abbrev S4096 : Shape := ⟨1, ![4096]⟩
abbrev S4096x1 : Shape := ⟨2, ![4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x1024, .f32⟩
  | .hbm, ⟨3, _⟩ => ⟨S4096x1024, .f32⟩
  | .hbm, ⟨4, _⟩ => ⟨S6x1024, .f32⟩
  | .hbm, ⟨5, _⟩ => ⟨S6x1024, .f32⟩
  | .hbm, ⟨6, _⟩ => ⟨S1x1024, .f32⟩
  | .hbm, ⟨7, _⟩ => ⟨S1x1024, .f32⟩
  | .hbm, ⟨8, _⟩ => ⟨S6x1024, .f32⟩
  | .hbm, ⟨9, _⟩ => ⟨S4096x1024, .f32⟩
  | .hbm, ⟨10, _⟩ => ⟨S4096x8x128, .f32⟩
  | .hbm, ⟨11, _⟩ => ⟨S4096x8x64, .f32⟩
  | .hbm, ⟨12, _⟩ => ⟨S4096x512, .f32⟩
  | .hbm, ⟨13, _⟩ => ⟨S4096x512, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel6.lean ====
abbrev S4096x1024 : Shape := ⟨2, ![4096, 1024]⟩
abbrev S4096x512 : Shape := ⟨2, ![4096, 512]⟩
abbrev S1024x1024 : Shape := ⟨2, ![1024, 1024]⟩
abbrev S512x1024 : Shape := ⟨2, ![512, 1024]⟩
abbrev S2048x1024 : Shape := ⟨2, ![2048, 1024]⟩
abbrev S2048x512 : Shape := ⟨2, ![2048, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x1024, .bf16⟩
  | .hbm, ⟨3, _⟩ => ⟨S1024x1024, .bf16⟩
  | .hbm, ⟨4, _⟩ => ⟨S512x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S512x1024, .bf16⟩
  | .local _ .vmem, ⟨8, _⟩ => ⟨S1024x1024, .f32⟩
  | .local _ .vmem, ⟨9, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v19 : BitVec 1 := Scalar.cmpi .eq arg0 c1_i32
  let v20 : BitVec 32 := Scalar.extui v19
  let c0_i32_17 : BitVec 32 := 0#32
  let v21 : BitVec 1 := Scalar.cmpi .ne v20 c0_i32_17
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference6Ideal.lean ====
abbrev S4096x1024 : Shape := ⟨2, ![4096, 1024]⟩
abbrev S4096x512 : Shape := ⟨2, ![4096, 512]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x1024, .bf16⟩
  | .hbm, ⟨3, _⟩ => ⟨S4096x1024, .f32⟩
  | .hbm, ⟨4, _⟩ => ⟨S4096x512, .f32⟩
  | .hbm, ⟨5, _⟩ => ⟨S4096x1024, .f32⟩
  | .hbm, ⟨6, _⟩ => ⟨S1024x512, .f32⟩
  | .hbm, ⟨7, _⟩ => ⟨S512x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S512x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S512x1024 : Shape := ⟨2, ![512, 1024]⟩
abbrev S8x64x1024 : Shape := ⟨3, ![8, 64, 1024]⟩
abbrev S_ : Shape := ⟨0, ![]⟩
abbrev S8x128x1024 : Shape := ⟨3, ![8, 128, 1024]⟩
abbrev S1536x1024 : Shape := ⟨2, ![1536, 1024]⟩
abbrev S4096x512 : Shape := ⟨2, ![4096, 512]⟩
abbrev S8x4096x1 : Shape := ⟨3, ![8, 4096, 1]⟩
abbrev S512x512 : Shape := ⟨2, ![512, 512]⟩
abbrev S8x512x1 : Shape := ⟨3, ![8, 512, 1]⟩
abbrev S1024x1536 : Shape := ⟨2, ![1024, 1536]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩
abbrev S1x512x1 : Shape := ⟨3, ![1, 512, 1]⟩

abbrev nBuf : Space → Nat
  | .hbm => 15
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S512x1024, .bf16⟩
  | .hbm, ⟨5, _⟩ => ⟨S8x64x1024, .bf16⟩
  | .hbm, ⟨6, _⟩ => ⟨S_, .i32⟩
  | .hbm, ⟨7, _⟩ => ⟨S_, .bf16⟩
  | .hbm, ⟨8, _⟩ => ⟨S8x128x1024, .bf16⟩
  | .hbm, ⟨9, _⟩ => ⟨S1024x1024, .bf16⟩
  | .hbm, ⟨10, _⟩ => ⟨S512x1024, .bf16⟩
  | .hbm, ⟨11, _⟩ => ⟨S1536x1024, .bf16⟩
  | .hbm, ⟨12, _⟩ => ⟨S4096x1024, .bf16⟩
  | .hbm, ⟨13, _⟩ => ⟨S4096x512, .f32⟩
  | .hbm, ⟨14, _⟩ => ⟨S8x4096x1, .f32⟩
  | .local _ .vmem, ⟨0, _⟩ => ⟨S512x1024, .bf16⟩
  | .local _ .vmem, ⟨1, _⟩ => ⟨S512x1024, .bf16⟩
  | .local _ .vmem, ⟨2, _⟩ => ⟨S1536x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x512, .f32⟩
  | .local _ .vmem, ⟨8, _⟩ => ⟨S512x512, .f32⟩
  | .local _ .vmem, ⟨9, _⟩ => ⟨S8x512x1, .f32⟩
  | .local _ .vmem, ⟨10, _⟩ => ⟨S8x512x1, .f32⟩
  | .local _ .vmem, ⟨11, _⟩ => ⟨S1024x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4096x1024 : Shape := ⟨2, ![4096, 1024]⟩
abbrev S1024x1024 : Shape := ⟨2, ![1024, 1024]⟩
abbrev S4096x512 : Shape := ⟨2, ![4096, 512]⟩
abbrev S4096x8x64 : Shape := ⟨3, ![4096, 8, 64]⟩
abbrev S4096x8x128 : Shape := ⟨3, ![4096, 8, 128]⟩
abbrev S_ : Shape := ⟨0, ![]⟩
abbrev S4096x8 : Shape := ⟨2, ![4096, 8]⟩
abbrev S8x4096 : Shape := ⟨2, ![8, 4096]⟩
abbrev S8x4096x1 : Shape := ⟨3, ![8, 4096, 1]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x512, .f32⟩
  | .hbm, ⟨6, _⟩ => ⟨S4096x512, .f32⟩
  | .hbm, ⟨7, _⟩ => ⟨S4096x8x64, .f32⟩
  | .hbm, ⟨8, _⟩ => ⟨S4096x1024, .f32⟩
  | .hbm, ⟨9, _⟩ => ⟨S4096x8x128, .f32⟩
  | .hbm, ⟨10, _⟩ => ⟨S4096x8x64, .f32⟩
  | .hbm, ⟨11, _⟩ => ⟨S4096x8x64, .f32⟩
  | .hbm, ⟨12, _⟩ => ⟨S_, .f32⟩
  | .hbm, ⟨13, _⟩ => ⟨S4096x8, .f32⟩
  | .hbm, ⟨14, _⟩ => ⟨S_, .i32⟩
  | .hbm, ⟨15, _⟩ => ⟨S_, .f32⟩
  | .hbm, ⟨16, _⟩ => ⟨S4096x8x128, .f32⟩
  | .hbm, ⟨17, _⟩ => ⟨S4096x1024, .f32⟩
  | .hbm, ⟨18, _⟩ => ⟨S4096x1024, .bf16⟩
  | .hbm, ⟨19, _⟩ => ⟨S8x4096, .f32⟩
  | .hbm, ⟨20, _⟩ => ⟨S8x4096x1, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel8.lean ====
abbrev S4096x512 : Shape := ⟨2, ![4096, 512]⟩
abbrev S4096x1024 : Shape := ⟨2, ![4096, 1024]⟩
abbrev S4096x256 : Shape := ⟨2, ![4096, 256]⟩
abbrev S4096x128 : Shape := ⟨2, ![4096, 128]⟩
abbrev S4096x2048 : Shape := ⟨2, ![4096, 2048]⟩
abbrev S512x1024 : Shape := ⟨2, ![512, 1024]⟩
abbrev S1024x1024 : Shape := ⟨2, ![1024, 1024]⟩
abbrev S1024x256 : Shape := ⟨2, ![1024, 256]⟩
abbrev S128x2048 : Shape := ⟨2, ![128, 2048]⟩
abbrev S1024x512 : Shape := ⟨2, ![1024, 512]⟩
abbrev S1024x128 : Shape := ⟨2, ![1024, 128]⟩
abbrev S1024x2048 : Shape := ⟨2, ![1024, 2048]⟩

abbrev nBuf : Space → Nat
  | .hbm => 11
  | .vmem => 22
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x256, .bf16⟩
  | .hbm, ⟨5, _⟩ => ⟨S4096x128, .bf16⟩
  | .hbm, ⟨6, _⟩ => ⟨S4096x2048, .bf16⟩
  | .hbm, ⟨7, _⟩ => ⟨S512x1024, .bf16⟩
  | .hbm, ⟨8, _⟩ => ⟨S1024x1024, .bf16⟩
  | .hbm, ⟨9, _⟩ => ⟨S1024x256, .bf16⟩
  | .hbm, ⟨10, _⟩ => ⟨S128x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x256, .bf16⟩
  | .local _ .vmem, ⟨9, _⟩ => ⟨S1024x256, .bf16⟩
  | .local _ .vmem, ⟨10, _⟩ => ⟨S1024x128, .bf16⟩
  | .local _ .vmem, ⟨11, _⟩ => ⟨S1024x128, .bf16⟩
  | .local _ .vmem, ⟨12, _⟩ => ⟨S1024x2048, .bf16⟩
  | .local _ .vmem, ⟨13, _⟩ => ⟨S1024x2048, .bf16⟩
  | .local _ .vmem, ⟨14, _⟩ => ⟨S512x1024, .bf16⟩
  | .local _ .vmem, ⟨15, _⟩ => ⟨S1024x1024, .bf16⟩
  | .local _ .vmem, ⟨16, _⟩ => ⟨S1024x256, .bf16⟩
  | .local _ .vmem, ⟨17, _⟩ => ⟨S128x2048, .bf16⟩
  | .local _ .vmem, ⟨18, _⟩ => ⟨S512x1024, .f32⟩
  | .local _ .vmem, ⟨19, _⟩ => ⟨S1024x1024, .f32⟩
  | .local _ .vmem, ⟨20, _⟩ => ⟨S1024x256, .f32⟩
  | .local _ .vmem, ⟨21, _⟩ => ⟨S128x2048, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v35 : BitVec 1 := Scalar.cmpi .eq arg0 c3_i32
  let v36 : BitVec 32 := Scalar.extui v35
  let c0_i32_35 : BitVec 32 := 0#32
  let v37 : BitVec 1 := Scalar.cmpi .ne v36 c0_i32_35
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference8Ideal.lean ====
abbrev S4096x512 : Shape := ⟨2, ![4096, 512]⟩
abbrev S4096x1024 : Shape := ⟨2, ![4096, 1024]⟩
abbrev S4096x256 : Shape := ⟨2, ![4096, 256]⟩
abbrev S4096x128 : Shape := ⟨2, ![4096, 128]⟩
abbrev S4096x2048 : Shape := ⟨2, ![4096, 2048]⟩
abbrev S512x1024 : Shape := ⟨2, ![512, 1024]⟩
abbrev S1024x512 : Shape := ⟨2, ![1024, 512]⟩
abbrev S1024x1024 : Shape := ⟨2, ![1024, 1024]⟩
abbrev S1024x256 : Shape := ⟨2, ![1024, 256]⟩
abbrev S256x1024 : Shape := ⟨2, ![256, 1024]⟩
abbrev S2048x128 : Shape := ⟨2, ![2048, 128]⟩
abbrev S128x2048 : Shape := ⟨2, ![128, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x256, .bf16⟩
  | .hbm, ⟨5, _⟩ => ⟨S4096x128, .bf16⟩
  | .hbm, ⟨6, _⟩ => ⟨S4096x2048, .bf16⟩
  | .hbm, ⟨7, _⟩ => ⟨S4096x1024, .f32⟩
  | .hbm, ⟨8, _⟩ => ⟨S4096x512, .f32⟩
  | .hbm, ⟨9, _⟩ => ⟨S512x1024, .f32⟩
  | .hbm, ⟨10, _⟩ => ⟨S1024x512, .f32⟩
  | .hbm, ⟨11, _⟩ => ⟨S1024x512, .bf16⟩
  | .hbm, ⟨12, _⟩ => ⟨S512x1024, .bf16⟩
  | .hbm, ⟨13, _⟩ => ⟨S4096x1024, .f32⟩
  | .hbm, ⟨14, _⟩ => ⟨S4096x1024, .f32⟩
  | .hbm, ⟨15, _⟩ => ⟨S1024x1024, .f32⟩
  | .hbm, ⟨16, _⟩ => ⟨S1024x1024, .f32⟩
  | .hbm, ⟨17, _⟩ => ⟨S1024x1024, .bf16⟩
  | .hbm, ⟨18, _⟩ => ⟨S1024x1024, .bf16⟩
  | .hbm, ⟨19, _⟩ => ⟨S4096x256, .f32⟩
  | .hbm, ⟨20, _⟩ => ⟨S4096x1024, .f32⟩
  | .hbm, ⟨21, _⟩ => ⟨S1024x256, .f32⟩
  | .hbm, ⟨22, _⟩ => ⟨S256x1024, .f32⟩
  | .hbm, ⟨23, _⟩ => ⟨S256x1024, .bf16⟩
  | .hbm, ⟨24, _⟩ => ⟨S1024x256, .bf16⟩
  | .hbm, ⟨25, _⟩ => ⟨S4096x128, .f32⟩
  | .hbm, ⟨26, _⟩ => ⟨S4096x2048, .f32⟩
  | .hbm, ⟨27, _⟩ => ⟨S2048x128, .f32⟩
  | .hbm, ⟨28, _⟩ => ⟨S128x2048, .f32⟩
  | .hbm, ⟨29, _⟩ => ⟨S128x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Proof.RefTerms.lean ====
/-
  The reference's five results, layer by layer: the up-projection, the causal convolution, the gate, the gradients of
  the gate's two halves, the gradient through the convolution. Each layer is the reference's own lines as a function of
  the six arguments, so the composed terms of its run are short.
-/
module

public import proofs.«01_k».proof.Proof.Gen.ReferenceIdeal.Run
public import Idealize.ShloMosaic.PureOps.Ideal

@[expose] public section

set_option maxRecDepth 16384

noncomputable section

namespace Cert.ReferenceIdeal.Terms

open Idealize.ShloMosaic Idealize.ShloMosaic.TcCoe Idealize.SL.Sem
open Cert.ReferenceIdeal Cert.ReferenceIdeal.Gen Cert.ReferenceIdeal.Facts

section Layers

variable (h : FVec Ideal S4096x1024 .bf16) (wu : FVec Ideal S1024x5632 .f32) (cw : FVec Ideal S3x5632 .f32)
  (cb : FVec Ideal S5632 .f32) (wd : FVec Ideal S2816x1024 .f32) (df : FVec Ideal S4096x1024 .bf16)

/-- The up-projection. -/
def up : FVec Ideal S4096x5632 .f32 :=
  Host.dotGeneral dot_S4096x1024_S1024x5632_S4096x5632_1_0_0_1_n_n none (extf .f32 h bitsLt_bf16_f32) wu

/-- The up-projection with two zero rows before it. -/
def upp : FVec Ideal S4098x5632 .f32 :=
  concatenate S4098x5632 0 [⟨S2x5632, (broadcastInDim S2x5632 ![] bcast_S_S2x5632 (constant S_ .f32 0x00000000#32))⟩, ⟨S4096x5632, up h wu⟩] concatenates_S2x5632_S4096x5632_S4098x5632_d0

/-- One tap's row of weights, repeated over the rows. -/
def tap (o : Fin 2 → Nat) (ho : S3x5632.Slices o S1x5632) : FVec Ideal S4096x5632 .f32 :=
  broadcastInDim S4096x5632 ![0, 1] bcast_S1x5632_S4096x5632_0_1 (broadcastInDim S1x5632 ![1] bcast_S5632_S1x5632_1 (shapeCast _ (extractStridedSlice S1x5632 o cw ho) shapeCasts_S1x5632_S5632))

/-- The causal convolution of the up-projection. -/
def y : FVec Ideal S4096x5632 .f32 :=
  addf (broadcastInDim S4096x5632 ![0, 1] bcast_S1x5632_S4096x5632_0_1 (broadcastInDim S1x5632 ![1] bcast_S5632_S1x5632_1 cb)) (addf (addf (addf (broadcastInDim S4096x5632 ![] bcast_S_S4096x5632 (constant S_ .f32 0x00000000#32)) (mulf (extractStridedSlice S4096x5632 ![0, 0] (upp h wu) slices_S4098x5632_S4096x5632_0_0) (tap cw ![0, 0] slices_S3x5632_S1x5632_0_0))) (mulf (extractStridedSlice S4096x5632 ![1, 0] (upp h wu) slices_S4098x5632_S4096x5632_1_0) (tap cw ![1, 0] slices_S3x5632_S1x5632_1_0))) (mulf (extractStridedSlice S4096x5632 ![2, 0] (upp h wu) slices_S4098x5632_S4096x5632_2_0) (tap cw ![2, 0] slices_S3x5632_S1x5632_2_0)))

/-- The gate's argument. -/
def ya : FVec Ideal S4096x2816 .f32 := extractStridedSlice S4096x2816 ![0, 0] (y h wu cw cb) slices_S4096x5632_S4096x2816_0_0

/-- The half the gate multiplies. -/
def yb : FVec Ideal S4096x2816 .f32 := extractStridedSlice S4096x2816 ![0, 2816] (y h wu cw cb) slices_S4096x5632_S4096x2816_0_2816

/-- The sigmoid of the gate's argument. -/
def sg : FVec Ideal S4096x2816 .f32 :=
  Host.divf (broadcastInDim S4096x2816 ![] bcast_S_S4096x2816 (constant S_ .f32 0x3F800000#32)) (addf (broadcastInDim S4096x2816 ![] bcast_S_S4096x2816 (constant S_ .f32 0x3F800000#32)) (Host.exp (Host.negf (ya h wu cw cb))))

/-- The activation the down-projection multiplies. -/
def act : FVec Ideal S4096x2816 .f32 := mulf (mulf (ya h wu cw cb) (sg h wu cw cb)) (yb h wu cw cb)

/-- The gradient at the activation. -/
def dact : FVec Ideal S4096x2816 .f32 :=
  Host.dotGeneral dot_S4096x1024_S2816x1024_S4096x2816_1_1_0_0_n_n none (extf .f32 df bitsLt_bf16_f32) wd

/-- The gradient at the convolution's result: the two halves side by side. -/
def dy : FVec Ideal S4096x5632 .f32 :=
  addf (pad S4096x5632 ![0, 2816] ![0, 0] ![0, 0] (mulf (mulf (ya h wu cw cb) (sg h wu cw cb)) (dact wd df)) (constant S_ .f32 0x00000000#32) pads_S4096x2816_S4096x5632_000_281600 h_S_) (pad S4096x5632 ![0, 0] ![0, 2816] ![0, 0] (addf (mulf (mulf (dact wd df) (yb h wu cw cb)) (sg h wu cw cb)) (mulf (mulf (ya h wu cw cb) (mulf (dact wd df) (yb h wu cw cb))) (mulf (sg h wu cw cb) (subf (broadcastInDim S4096x2816 ![] bcast_S_S4096x2816 (constant S_ .f32 0x3F800000#32)) (sg h wu cw cb))))) (constant S_ .f32 0x00000000#32) pads_S4096x2816_S4096x5632_000_028160 h_S_)

/-- The gradient at the up-projection. -/
def dup : FVec Ideal S4096x5632 .f32 :=
  extractStridedSlice S4096x5632 ![2, 0] (addf (addf (pad S4098x5632 ![2, 0] ![0, 0] ![0, 0] (mulf (dy h wu cw cb wd df) (tap cw ![2, 0] slices_S3x5632_S1x5632_2_0)) (constant S_ .f32 0x00000000#32) pads_S4096x5632_S4098x5632_200_000 h_S_) (pad S4098x5632 ![1, 0] ![1, 0] ![0, 0] (mulf (dy h wu cw cb wd df) (tap cw ![1, 0] slices_S3x5632_S1x5632_1_0)) (constant S_ .f32 0x00000000#32) pads_S4096x5632_S4098x5632_110_000 h_S_)) (pad S4098x5632 ![0, 0] ![2, 0] ![0, 0] (mulf (dy h wu cw cb wd df) (tap cw ![0, 0] slices_S3x5632_S1x5632_0_0)) (constant S_ .f32 0x00000000#32) pads_S4096x5632_S4098x5632_020_000 h_S_)) slices_S4098x5632_S4096x5632_2_0

/-- A sum over the rows, as the reference takes it: over the rows, then over one row. -/
def rowSum (v : FVec Ideal S4096x5632 .f32) : FVec Ideal S1x5632 .f32 :=
  broadcastInDim S1x5632 ![1] bcast_S5632_S1x5632_1 (Host.reduceAdd (shapeCast _ (Host.reduceAdd v (constant S_ .f32 0x00000000#32) reducesTo_S4096x5632_S5632_d0 h_S_) shapeCasts_S5632_S1x5632) (constant S_ .f32 0x00000000#32) reducesTo_S1x5632_S5632_d0 h_S_)

/-- The gradient at the taps. -/
def dcw : FVec Ideal S3x5632 .f32 :=
  addf (addf (pad S3x5632 ![2, 0] ![0, 0] ![0, 0] (rowSum (mulf (extractStridedSlice S4096x5632 ![2, 0] (upp h wu) slices_S4098x5632_S4096x5632_2_0) (dy h wu cw cb wd df))) (constant S_ .f32 0x00000000#32) pads_S1x5632_S3x5632_200_000 h_S_) (pad S3x5632 ![1, 0] ![1, 0] ![0, 0] (rowSum (mulf (extractStridedSlice S4096x5632 ![1, 0] (upp h wu) slices_S4098x5632_S4096x5632_1_0) (dy h wu cw cb wd df))) (constant S_ .f32 0x00000000#32) pads_S1x5632_S3x5632_110_000 h_S_)) (pad S3x5632 ![0, 0] ![2, 0] ![0, 0] (rowSum (mulf (extractStridedSlice S4096x5632 ![0, 0] (upp h wu) slices_S4098x5632_S4096x5632_0_0) (dy h wu cw cb wd df))) (constant S_ .f32 0x00000000#32) pads_S1x5632_S3x5632_020_000 h_S_)

/-- Result 0. -/
def out0 : FVec Ideal S4x2x4096x704 .bf16 :=
  truncf .bf16 (transpose S4x2x4096x704 [2, 1, 0, 3] (shapeCast _ (dup h wu cw cb wd df) shapeCasts_S4096x5632_S4096x2x4x704) transposes_S4096x2x4x704_S4x2x4096x704_2_1_0_3) bitsLt_bf16_f32

/-- Result 1. -/
def out1 : FVec Ideal S4x2x3x704 .f32 :=
  transpose S4x2x3x704 [2, 1, 0, 3] (shapeCast _ (dcw h wu cw cb wd df) shapeCasts_S3x5632_S3x2x4x704) transposes_S3x2x4x704_S4x2x3x704_2_1_0_3

/-- Result 2. -/
def out2 : FVec Ideal S4x2x1x704 .f32 :=
  transpose S4x2x1x704 [2, 1, 0, 3] (shapeCast _ (rowSum (dy h wu cw cb wd df)) shapeCasts_S1x5632_S1x2x4x704) transposes_S1x2x4x704_S4x2x1x704_2_1_0_3

/-- Result 3. -/
def out3 : FVec Ideal S4x704x1024 .bf16 :=
  truncf .bf16 (shapeCast _ (transpose S2816x1024 [1, 0] (Host.dotGeneral dot_S4096x1024_S4096x2816_S1024x2816_0_0_1_1_n_n none (extf .f32 df bitsLt_bf16_f32) (act h wu cw cb)) transposes_S1024x2816_S2816x1024_1_0) shapeCasts_S2816x1024_S4x704x1024) bitsLt_bf16_f32

/-- Result 4. -/
def out4 : FVec Ideal S4x2x704x1024 .bf16 :=
  truncf .bf16 (transpose S4x2x704x1024 [1, 0, 2, 3] (shapeCast _ (transpose S5632x1024 [1, 0] (transpose S1024x5632 [1, 0] (Host.dotGeneral dot_S4096x5632_S4096x1024_S5632x1024_0_0_1_1_n_n none (dup h wu cw cb wd df) (extf .f32 h bitsLt_bf16_f32)) transposes_S5632x1024_S1024x5632_1_0) transposes_S1024x5632_S5632x1024_1_0) shapeCasts_S5632x1024_S2x4x704x1024) transposes_S2x4x704x1024_S4x2x704x1024_1_0_2_3) bitsLt_bf16_f32

end Layers

variable (m : (ℓ : Loc nD τ sig) → Buf (Elt Ideal) ℓ) (c : Dev nD)

/-- Argument `0` of the reference on a device. -/
abbrev a0 : FVec Ideal S4096x1024 .bf16 := m ((c.tc : Thread nD τ).loc main_arg0)
/-- Argument `1` of the reference on a device. -/
abbrev a1 : FVec Ideal S1024x5632 .f32 := m ((c.tc : Thread nD τ).loc main_arg1)
/-- Argument `2` of the reference on a device. -/
abbrev a2 : FVec Ideal S3x5632 .f32 := m ((c.tc : Thread nD τ).loc main_arg2)
/-- Argument `3` of the reference on a device. -/
abbrev a3 : FVec Ideal S5632 .f32 := m ((c.tc : Thread nD τ).loc main_arg3)
/-- Argument `4` of the reference on a device. -/
abbrev a4 : FVec Ideal S2816x1024 .f32 := m ((c.tc : Thread nD τ).loc main_arg4)
/-- Argument `5` of the reference on a device. -/
abbrev a5 : FVec Ideal S4096x1024 .bf16 := m ((c.tc : Thread nD τ).loc main_arg5)

theorem res0 : Value.res_out0 m c = out0 (a0 m c) (a1 m c) (a2 m c) (a3 m c) (a4 m c) (a5 m c) := rfl
theorem res1 : Value.res_out1 m c = out1 (a0 m c) (a1 m c) (a2 m c) (a3 m c) (a4 m c) (a5 m c) := rfl
theorem res2 : Value.res_out2 m c = out2 (a0 m c) (a1 m c) (a2 m c) (a3 m c) (a4 m c) (a5 m c) := rfl
theorem res3 : Value.res_out3 m c = out3 (a0 m c) (a1 m c) (a2 m c) (a3 m c) (a5 m c) := rfl
theorem res4 : Value.res_out4 m c = out4 (a0 m c) (a1 m c) (a2 m c) (a3 m c) (a4 m c) (a5 m c) := rfl

end Cert.ReferenceIdeal.Terms

end
-- ==== Proof.Numbers.lean ====
/-
  Extended reals that are numbers. The gate's derivative is the one place where the kernel and the reference disagree
  as formulas (a product of a sum against a sum of products); on numbers the two agree.
-/
module

public import Idealize.ShloMosaic.Lib.Pointwise

@[expose] public section

noncomputable section

namespace Cert.Ffn

open Idealize.ShloMosaic

/-- `x` is a number: neither infinity. -/
def IsNum (x : EReal) : Prop := ∃ r : ℝ, x = (r : EReal)

/-- A number from its absolute value being below infinity. -/
theorem IsNum.of_abs_lt {x : EReal} (h : max x (-x) < ⊤) : IsNum x := by
  induction x with
  | bot => simp at h
  | top => simp at h
  | coe r => exact ⟨r, rfl⟩

theorem IsNum.zero : IsNum 0 := ⟨0, rfl⟩

theorem IsNum.add {x y : EReal} (hx : IsNum x) (hy : IsNum y) : IsNum (x + y) := by
  obtain ⟨a, rfl⟩ := hx; obtain ⟨b, rfl⟩ := hy
  exact ⟨a + b, (EReal.coe_add a b).symm⟩

theorem IsNum.mul {x y : EReal} (hx : IsNum x) (hy : IsNum y) : IsNum (x * y) := by
  obtain ⟨a, rfl⟩ := hx; obtain ⟨b, rfl⟩ := hy
  exact ⟨a * b, (EReal.coe_mul a b).symm⟩

/-- A finite sum of numbers is a number. -/
theorem IsNum.sum {n : ℕ} {f : Fin n → EReal} (h : ∀ k, IsNum (f k)) : IsNum (∑ k, f k) := by
  choose g hg using h
  refine ⟨∑ k, g k, ?_⟩
  rw [Finset.sum_congr rfl fun k _ => hg k]
  exact (map_sum (⟨⟨fun r : ℝ => (r : EReal), EReal.coe_zero⟩, EReal.coe_add⟩ : ℝ →+ EReal) g Finset.univ).symm

/-- The sigmoid of a number is a number. -/
theorem IsNum.logistic {x : EReal} (hx : IsNum x) : IsNum (Ideal.logistic x) := by
  obtain ⟨a, rfl⟩ := hx
  exact ⟨_, Ideal.logistic_coe a⟩

/-- The gate's derivative in its two forms: `σ·(1 + y·(1 − σ))` against the two products added. -/
theorem gate_forms {d b s y : EReal} (hd : IsNum d) (hb : IsNum b) (hs : IsNum s) (hy : IsNum y) :
    d * b * (s * (1 + y * (1 - s))) = d * b * s + y * (d * b) * (s * (1 - s)) := by
  obtain ⟨d, rfl⟩ := hd; obtain ⟨b, rfl⟩ := hb; obtain ⟨s, rfl⟩ := hs; obtain ⟨y, rfl⟩ := hy
  have h1 : (1 : EReal) - (s : EReal) = ((1 - s : ℝ) : EReal) := (EReal.coe_sub 1 s).symm
  rw [h1, ← EReal.coe_one]
  simp only [← EReal.coe_mul, ← EReal.coe_add]
  congr 1
  ring

end Cert.Ffn

end
-- ==== Proof.Spec.lean ====
/-
  What the backward call computes, as formulas on coordinates: a row `r` of the 4096, a half `p` of the gate, a block `j`
  of 704 columns and a column `q` in it. Both programs are read into these formulas.
-/
module

public import proofs.«01_k».proof.Proof.Numbers

@[expose] public section

noncomputable section

namespace Cert.Ffn

open Idealize.ShloMosaic

/-- Column `q` of block `j` of half `p`, among all 5632 columns. -/
def col (p : Fin 2) (j : Fin 4) (q : Fin 704) : Fin 5632 := ⟨p.val * 2816 + j.val * 704 + q.val, by omega⟩

/-- Column `q` of block `j`, among the 2816 columns of one half. -/
def mid (j : Fin 4) (q : Fin 704) : Fin 2816 := ⟨j.val * 704 + q.val, by omega⟩

/-- The arrays the backward pass reads: the up-projection `U` and its convolution `Y`, the taps `W`, the
    down-projection's weights `D`, the gradient `G` at the layer's result, and the layer's input `H`. -/
structure Arrays where
  U : Fin 4096 → Fin 5632 → EReal
  Y : Fin 4096 → Fin 5632 → EReal
  W : Fin 3 → Fin 5632 → EReal
  D : Fin 2816 → Fin 1024 → EReal
  G : Fin 4096 → Fin 1024 → EReal
  H : Fin 4096 → Fin 1024 → EReal

namespace Arrays

variable (A : Arrays)

/-- The gradient at the activation. -/
def dact (r : Fin 4096) (j : Fin 4) (q : Fin 704) : EReal := ∑ d, A.G r d * A.D (mid j q) d

/-- The gate's sigmoid. -/
def sg (r : Fin 4096) (j : Fin 4) (q : Fin 704) : EReal := Ideal.logistic (A.Y r (col 0 j q))

/-- The gradient at the gate's argument. -/
def dya (r : Fin 4096) (j : Fin 4) (q : Fin 704) : EReal :=
  A.dact r j q * A.Y r (col 1 j q) * (A.sg r j q * (1 + A.Y r (col 0 j q) * (1 - A.sg r j q)))

/-- The gradient at the half the gate multiplies. -/
def dyb (r : Fin 4096) (j : Fin 4) (q : Fin 704) : EReal := A.dact r j q * (A.Y r (col 0 j q) * A.sg r j q)

/-- The gradient at the convolution's result, by half. -/
def dy (p : Fin 2) (r : Fin 4096) (j : Fin 4) (q : Fin 704) : EReal := if p = 0 then A.dya r j q else A.dyb r j q

/-- The same, with zero rows after the last. -/
def dz (p : Fin 2) (r : ℕ) (j : Fin 4) (q : Fin 704) : EReal := if h : r < 4096 then A.dy p ⟨r, h⟩ j q else 0

/-- The gradient at the up-projection: each row hears from itself and the two rows after it. -/
def du (p : Fin 2) (r : ℕ) (j : Fin 4) (q : Fin 704) : EReal :=
  A.dz p r j q * A.W 2 (col p j q) + A.dz p (r + 1) j q * A.W 1 (col p j q) + A.dz p (r + 2) j q * A.W 0 (col p j q)

/-- A function of the rows, with zeros after the last. -/
def ext (f : Fin 4096 → EReal) (r : ℕ) : EReal := if h : r < 4096 then f ⟨r, h⟩ else 0

theorem ext_of_lt (f : Fin 4096 → EReal) {r : ℕ} (h : r < 4096) : ext f r = f ⟨r, h⟩ := dif_pos h

/-- The gradient at the bias. -/
def dcb (p : Fin 2) (j : Fin 4) (q : Fin 704) : EReal := ∑ r : Fin 4096, A.dy p r j q

/-- The gradient at tap `k`, which looks `s = 2 - k` rows back. -/
def dcw (p : Fin 2) (s : ℕ) (j : Fin 4) (q : Fin 704) : EReal :=
  ∑ r : Fin 4096, A.dz p (r.val + s) j q * A.U r (col p j q)

/-- The activation. -/
def act (r : Fin 4096) (j : Fin 4) (q : Fin 704) : EReal := A.Y r (col 0 j q) * A.sg r j q * A.Y r (col 1 j q)

/-- The gradient at the down-projection's weights. -/
def dwd (j : Fin 4) (q : Fin 704) (d : Fin 1024) : EReal := ∑ r : Fin 4096, A.act r j q * A.G r d

/-- The gradient at the up-projection's weights, transposed. -/
def dwu (p : Fin 2) (j : Fin 4) (q : Fin 704) (d : Fin 1024) : EReal := ∑ r : Fin 4096, A.du p r.val j q * A.H r d

/-- Every entry the gate reads is a number. -/
structure Num : Prop where
  Y : ∀ r C, IsNum (A.Y r C)
  D : ∀ n d, IsNum (A.D n d)
  G : ∀ r d, IsNum (A.G r d)

theorem dz_of_lt {p : Fin 2} {r : ℕ} {j : Fin 4} {q : Fin 704} (h : r < 4096) : A.dz p r j q = A.dy p ⟨r, h⟩ j q := dif_pos h
theorem dz_of_le {p : Fin 2} {r : ℕ} {j : Fin 4} {q : Fin 704} (h : 4096 ≤ r) : A.dz p r j q = 0 := dif_neg (by omega)
theorem dy_zero {r : Fin 4096} {j : Fin 4} {q : Fin 704} : A.dy 0 r j q = A.dya r j q := if_pos rfl
theorem dy_one {r : Fin 4096} {j : Fin 4} {q : Fin 704} : A.dy 1 r j q = A.dyb r j q := if_neg (by decide)

/-- On numbers, the gate's argument's gradient as two products added. -/
theorem dya_eq (hA : A.Num) (r : Fin 4096) (j : Fin 4) (q : Fin 704) :
    A.dya r j q = A.dact r j q * A.Y r (col 1 j q) * A.sg r j q
      + A.Y r (col 0 j q) * (A.dact r j q * A.Y r (col 1 j q)) * (A.sg r j q * (1 - A.sg r j q)) :=
  gate_forms (IsNum.sum fun _ => (hA.G _ _).mul (hA.D _ _)) (hA.Y _ _) (IsNum.logistic (hA.Y _ _)) (hA.Y _ _)

/-- A sum over the rows with a zero row past the end: shifting the other factor is shifting this one. Row `r` of the
    left sum has `u` `s` rows earlier, nothing when there is no such row. -/
theorem shift_sum (f g : ℕ → EReal) (s : ℕ) (hs : s ≤ 4096) (hf : ∀ r, 4096 ≤ r → f r = 0) :
    ∑ r : Fin 4096, (if s ≤ r.val then g (r.val - s) else 0) * f r.val = ∑ r : Fin 4096, f (r.val + s) * g r.val := by
  rw [Fin.sum_univ_eq_sum_range (fun r => (if s ≤ r then g (r - s) else 0) * f r) 4096,
    Fin.sum_univ_eq_sum_range (fun r => f (r + s) * g r) 4096]
  have h1 : ∑ r ∈ Finset.range (s + 4096), (if s ≤ r then g (r - s) else 0) * f r
      = ∑ r ∈ Finset.range 4096, (if s ≤ r then g (r - s) else 0) * f r := by
    rw [add_comm s 4096, Finset.sum_range_add]
    rw [Finset.sum_eq_zero (s := Finset.range s) fun r _ => by rw [hf _ (Nat.le_add_right _ _), mul_zero], add_zero]
  rw [← h1, Finset.sum_range_add]
  rw [Finset.sum_eq_zero (s := Finset.range s) fun r hr => by
    rw [if_neg (by have := Finset.mem_range.mp hr; omega), zero_mul], zero_add]
  refine Finset.sum_congr rfl fun r _ => ?_
  rw [if_pos (Nat.le_add_right _ _), Nat.add_sub_cancel_left, mul_comm, add_comm s r]

end Arrays

end Cert.Ffn

end
-- ==== Proof.RefValue.lean ====
/-
  The reference's five results read at an index: they are the formulas of `Cert.Ffn.Arrays`.
-/
module

public import proofs.«01_k».proof.Proof.RefTerms
public import proofs.«01_k».proof.Proof.Spec

@[expose] public section

set_option maxRecDepth 16384

noncomputable section

namespace Cert.ReferenceIdeal.Terms

open Idealize.ShloMosaic Idealize.ShloMosaic.TcCoe Idealize.SL.Sem
open Cert.ReferenceIdeal Cert.ReferenceIdeal.Gen Cert.ReferenceIdeal.Facts
open Cert.Ffn (col mid)

variable (h : FVec Ideal S4096x1024 .bf16) (wu : FVec Ideal S1024x5632 .f32) (cw : FVec Ideal S3x5632 .f32)
  (cb : FVec Ideal S5632 .f32) (wd : FVec Ideal S2816x1024 .f32) (df : FVec Ideal S4096x1024 .bf16)

/-- The arrays the backward pass reads, from the reference's forward lines. -/
def arrays : Cert.Ffn.Arrays where
  U r C := up h wu (ix2 r C)
  Y r C := y h wu cw cb (ix2 r C)
  W k C := cw (ix2 k C)
  D n d := wd (ix2 n d)
  G r d := df (ix2 r d)
  H r d := h (ix2 r d)

/-- A column of the first half, among all. -/
abbrev lo (n : Fin 2816) : Fin 5632 := ⟨n.val, by omega⟩
/-- A column of the second half, among all. -/
abbrev hi (n : Fin 2816) : Fin 5632 := ⟨2816 + n.val, by omega⟩

theorem col_zero (j : Fin 4) (q : Fin 704) : col 0 j q = lo (mid j q) := Fin.ext (by simp [col, mid])
theorem col_one (j : Fin 4) (q : Fin 704) : col 1 j q = hi (mid j q) := Fin.ext (by simp [col, mid]; omega)

/-- The gate's argument's columns. -/
theorem dy_lo (hA : (arrays h wu cw cb wd df).Num) (r : Fin 4096) (j : Fin 4) (q : Fin 704) :
    dy h wu cw cb wd df (ix2 r (col 0 j q)) = (arrays h wu cw cb wd df).dya r j q := by
  rw [Cert.Ffn.Arrays.dya_eq _ hA]
  unfold Cert.Ffn.Arrays.dact Cert.Ffn.Arrays.sg
  rw [col_zero, col_one]
  generalize mid j q = n
  dsimp only [lo, hi]
  pointwise [dy, dact, sg, ya, yb]
  rw [dif_neg fun hh => hh.1]
  exact zero_add _

/-- The other half's columns. -/
theorem dy_hi (r : Fin 4096) (j : Fin 4) (q : Fin 704) :
    dy h wu cw cb wd df (ix2 r (col 1 j q)) = (arrays h wu cw cb wd df).dyb r j q := by
  unfold Cert.Ffn.Arrays.dyb Cert.Ffn.Arrays.dact Cert.Ffn.Arrays.sg
  rw [col_zero, col_one]
  generalize mid j q = n
  dsimp only [lo, hi]
  pointwise [dy, dact, sg, ya, yb]
  exact mul_comm _ _

theorem dy_eq (hA : (arrays h wu cw cb wd df).Num) (p : Fin 2) (r : Fin 4096) (j : Fin 4) (q : Fin 704) :
    dy h wu cw cb wd df (ix2 r (col p j q)) = (arrays h wu cw cb wd df).dy p r j q := by
  match p with
  | ⟨0, _⟩ => exact (dy_lo h wu cw cb wd df hA r j q).trans (Cert.Ffn.Arrays.dy_zero _).symm
  | ⟨1, _⟩ => exact (dy_hi h wu cw cb wd df r j q).trans (Cert.Ffn.Arrays.dy_one _).symm

theorem dup_eq (hA : (arrays h wu cw cb wd df).Num) (p : Fin 2) (r : Fin 4096) (j : Fin 4) (q : Fin 704) :
    dup h wu cw cb wd df (ix2 r (col p j q)) = (arrays h wu cw cb wd df).du p r.val j q := by
  unfold Cert.Ffn.Arrays.du
  pointwise [dup, tap]
  refine congrArg₂ (· + ·) (congrArg₂ (· + ·) ?_ ?_) ?_
  · rw [dy_eq h wu cw cb wd df hA, Cert.Ffn.Arrays.dz_of_lt _ r.isLt]; rfl
  · by_cases hr : r.val + 1 < 4096
    · rw [dif_pos ⟨by omega, by omega⟩, Cert.Ffn.Arrays.dz_of_lt _ hr, ← dy_eq h wu cw cb wd df hA]
      have e : (⟨2 + r.val - 1, by omega⟩ : Fin 4096) = ⟨r.val + 1, hr⟩ := Fin.ext (by simp; omega)
      rw [e]; rfl
    · rw [dif_neg (by omega), Cert.Ffn.Arrays.dz_of_le _ (by omega), zero_mul]
  · by_cases hr : r.val + 2 < 4096
    · rw [dif_pos (by omega), Cert.Ffn.Arrays.dz_of_lt _ hr, ← dy_eq h wu cw cb wd df hA]
      have e : (⟨2 + r.val, by omega⟩ : Fin 4096) = ⟨r.val + 2, hr⟩ := Fin.ext (by simp; omega)
      rw [e]; rfl
    · rw [dif_neg (by omega), Cert.Ffn.Arrays.dz_of_le _ (by omega), zero_mul]

/-- The sum over the rows. -/
theorem rowSum_eq (v : FVec Ideal S4096x5632 .f32) (C : Fin 5632) :
    rowSum v (ix2 0 C) = ∑ r : Fin 4096, v (ix2 r C) := by
  pointwise [rowSum]
  exact Fin.sum_univ_one _

theorem out0_eq (hA : (arrays h wu cw cb wd df).Num) (j : Fin 4) (p : Fin 2) (r : Fin 4096) (q : Fin 704) :
    out0 h wu cw cb wd df (ix4 j p r q) = (arrays h wu cw cb wd df).du p r.val j q := by
  pointwise [out0]
  exact dup_eq h wu cw cb wd df hA p r j q

/-- The gradient at tap `2 - s`, its sum shifted to the convolution's result's rows. -/
theorem tap_shift (p : Fin 2) (s : Fin 3) (j : Fin 4) (q : Fin 704) :
    (arrays h wu cw cb wd df).dcw p s.val j q
      = ∑ r : Fin 4096, (if s.val ≤ r.val then
          (if hr : r.val - s.val < 4096 then up h wu (ix2 ⟨r.val - s.val, hr⟩ (col p j q)) else 0) else 0)
        * (arrays h wu cw cb wd df).dz p r.val j q := by
  refine Eq.trans (Finset.sum_congr rfl fun r _ => ?_) (Cert.Ffn.Arrays.shift_sum
    (fun r => (arrays h wu cw cb wd df).dz p r j q)
    (fun r => if hr : r < 4096 then up h wu (ix2 ⟨r, hr⟩ (col p j q)) else 0) s.val (by omega)
    fun r hr => Cert.Ffn.Arrays.dz_of_le _ hr).symm
  beta_reduce
  rw [dif_pos r.isLt]
  rfl

theorem dz_eq (hA : (arrays h wu cw cb wd df).Num) (p : Fin 2) (r : Fin 4096) (j : Fin 4) (q : Fin 704) :
    (arrays h wu cw cb wd df).dz p r.val j q = dy h wu cw cb wd df (ix2 r (col p j q)) :=
  (Cert.Ffn.Arrays.dz_of_lt _ r.isLt).trans (dy_eq h wu cw cb wd df hA p r j q).symm

/-- Tap 2's sum. -/
theorem tapSum_two (hA : (arrays h wu cw cb wd df).Num) (p : Fin 2) (j : Fin 4) (q : Fin 704) :
    rowSum (mulf (extractStridedSlice S4096x5632 ![2, 0] (upp h wu) slices_S4098x5632_S4096x5632_2_0)
      (dy h wu cw cb wd df)) (ix2 0 (col p j q)) = (arrays h wu cw cb wd df).dcw p 0 j q := by
  rw [rowSum_eq]
  refine Finset.sum_congr rfl fun r _ => ?_
  rw [Nat.add_zero, dz_eq h wu cw cb wd df hA]
  pointwise [upp]
  exact mul_comm _ _

/-- Tap 1's sum: the up-projection one row down. -/
theorem tapSum_one (hA : (arrays h wu cw cb wd df).Num) (p : Fin 2) (j : Fin 4) (q : Fin 704) :
    rowSum (mulf (extractStridedSlice S4096x5632 ![1, 0] (upp h wu) slices_S4098x5632_S4096x5632_1_0)
      (dy h wu cw cb wd df)) (ix2 0 (col p j q)) = (arrays h wu cw cb wd df).dcw p 1 j q := by
  refine ((rowSum_eq _ _).trans (Finset.sum_congr rfl fun r _ => ?_)).trans (tap_shift h wu cw cb wd df p 1 j q).symm
  rw [dz_eq h wu cw cb wd df hA]
  pointwise [upp]
  refine congrArg (· * _) ?_
  by_cases hr : 1 ≤ r.val
  · rw [dif_neg (by omega), if_pos hr, dif_pos (by omega)]
    have e : (⟨1 + r.val - 2, by omega⟩ : Fin 4096) = ⟨r.val - 1, by omega⟩ := Fin.ext (by simp; omega)
    exact congrArg (fun a => up h wu (ix2 a (col p j q))) e
  · rw [dif_pos (by omega), if_neg hr]

/-- Tap 0's sum: the up-projection two rows down. -/
theorem tapSum_zero (hA : (arrays h wu cw cb wd df).Num) (p : Fin 2) (j : Fin 4) (q : Fin 704) :
    rowSum (mulf (extractStridedSlice S4096x5632 ![0, 0] (upp h wu) slices_S4098x5632_S4096x5632_0_0)
      (dy h wu cw cb wd df)) (ix2 0 (col p j q)) = (arrays h wu cw cb wd df).dcw p 2 j q := by
  refine ((rowSum_eq _ _).trans (Finset.sum_congr rfl fun r _ => ?_)).trans (tap_shift h wu cw cb wd df p 2 j q).symm
  rw [dz_eq h wu cw cb wd df hA]
  pointwise [upp]
  refine congrArg (· * _) ?_
  by_cases hr : 2 ≤ r.val
  · rw [dif_neg (by omega), if_pos hr, dif_pos (by omega)]
  · rw [dif_pos (by omega), if_neg hr]

/-- The taps' gradient read at a tap and a column: the other two taps' padded sums are zero there. -/
theorem dcw_eq (hA : (arrays h wu cw cb wd df).Num) (p : Fin 2) (k : Fin 3) (j : Fin 4) (q : Fin 704) :
    dcw h wu cw cb wd df (ix2 k (col p j q)) = (arrays h wu cw cb wd df).dcw p (2 - k.val) j q := by
  have hk : k.val = 0 ∨ k.val = 1 ∨ k.val = 2 := by omega
  pointwise [dcw]
  rcases hk with hk | hk | hk
  · have e : (⟨k.val, by omega⟩ : Fin 1) = 0 := Fin.ext hk
    rw [dif_neg (by omega), dif_neg (by omega), dif_pos (by omega), e, zero_add, zero_add, hk]
    exact tapSum_zero h wu cw cb wd df hA p j q
  · have e : (⟨k.val - 1, by omega⟩ : Fin 1) = 0 := Fin.ext (by simp [hk])
    rw [dif_neg (by omega), dif_pos (by omega), dif_neg (by omega), e, zero_add, add_zero, hk]
    exact tapSum_one h wu cw cb wd df hA p j q
  · have e : (⟨k.val - 2, by omega⟩ : Fin 1) = 0 := Fin.ext (by simp [hk])
    rw [dif_pos (by omega), dif_neg (by omega), dif_neg (by omega), e, add_zero, add_zero, hk]
    exact tapSum_two h wu cw cb wd df hA p j q

theorem out1_eq (hA : (arrays h wu cw cb wd df).Num) (j : Fin 4) (p : Fin 2) (k : Fin 3) (q : Fin 704) :
    out1 h wu cw cb wd df (ix4 j p k q) = (arrays h wu cw cb wd df).dcw p (2 - k.val) j q := by
  pointwise [out1]
  exact dcw_eq h wu cw cb wd df hA p k j q

theorem out2_eq (hA : (arrays h wu cw cb wd df).Num) (j : Fin 4) (p : Fin 2) (q : Fin 704) :
    out2 h wu cw cb wd df (ix4 j p 0 q) = (arrays h wu cw cb wd df).dcb p j q := by
  pointwise [out2]
  exact (rowSum_eq _ (col p j q)).trans (Finset.sum_congr rfl fun r _ => dy_eq h wu cw cb wd df hA p r j q)

theorem out3_eq (j : Fin 4) (q : Fin 704) (d : Fin 1024) :
    out3 h wu cw cb df (ix3 j q d) = (arrays h wu cw cb wd df).dwd j q d := by
  have e1 : col 0 j q = ⟨j.val * 704 + q.val, by omega⟩ := Fin.ext (by simp [col])
  have e2 : col 1 j q = ⟨2816 + (j.val * 704 + q.val), by omega⟩ := Fin.ext (by simp [col]; omega)
  unfold Cert.Ffn.Arrays.dwd Cert.Ffn.Arrays.act Cert.Ffn.Arrays.sg
  rw [e1, e2]
  pointwise [out3, act, ya, yb, sg]
  exact Finset.sum_congr rfl fun r _ => mul_comm _ _

theorem out4_eq (hA : (arrays h wu cw cb wd df).Num) (j : Fin 4) (p : Fin 2) (q : Fin 704) (d : Fin 1024) :
    out4 h wu cw cb wd df (ix4 j p q d) = (arrays h wu cw cb wd df).dwu p j q d := by
  pointwise [out4]
  exact Finset.sum_congr rfl fun r _ => congrArg (· * _) (dup_eq h wu cw cb wd df hA p r j q)

end Cert.ReferenceIdeal.Terms

end
-- ==== Proof.Blocks.lean ====
/-
  The blocks the kernel reads at a grid point, as the arrays of `Cert.Ffn.Arrays`: point `t` works on the 704 columns
  of block `t / 8` and the 512 rows of row block `7 - t % 8`, so it goes from the last rows to the first.
-/
module

public import proofs.«01_k».proof.Proof.Gen.KernelIdeal.Value
public import proofs.«01_k».proof.Proof.RefValue
public import Idealize.ShloMosaic.Lib.Pointwise
public import Idealize.ShloMosaic.Lib.Claim
public import Idealize.ShloMosaic.Lib.StableHlo.RunRead
public import Idealize.ShloMosaic.Lib.Pipeline.ValueKit

@[expose] public section

set_option maxRecDepth 16384

noncomputable section

namespace Cert.KernelIdeal.Body

open Idealize.ShloMosaic Idealize.ShloMosaic.TcCoe Idealize.SL.Sem
open Cert.KernelIdeal Cert.KernelIdeal.Gen
open Cert.Ffn (col mid)

variable (m : (ℓ : Loc nD τ sig) → Buf (Elt Ideal) ℓ) (c : Dev nD)

/-- Argument `0` of the kernel on a device. -/
abbrev b0 : FVec Ideal S4096x1024 .bf16 := m ((c.tc : Thread nD τ).loc main_arg0)
/-- Argument `1` of the kernel on a device. -/
abbrev b1 : FVec Ideal S1024x5632 .f32 := m ((c.tc : Thread nD τ).loc main_arg1)
/-- Argument `2` of the kernel on a device. -/
abbrev b2 : FVec Ideal S3x5632 .f32 := m ((c.tc : Thread nD τ).loc main_arg2)
/-- Argument `3` of the kernel on a device. -/
abbrev b3 : FVec Ideal S5632 .f32 := m ((c.tc : Thread nD τ).loc main_arg3)
/-- Argument `4` of the kernel on a device. -/
abbrev b4 : FVec Ideal S2816x1024 .f32 := m ((c.tc : Thread nD τ).loc main_arg4)
/-- Argument `5` of the kernel on a device. -/
abbrev b5 : FVec Ideal S4096x1024 .bf16 := m ((c.tc : Thread nD τ).loc main_arg5)

/-- The arrays the backward pass reads, of the kernel's arguments. -/
abbrev A : Cert.Ffn.Arrays :=
  Cert.ReferenceIdeal.Terms.arrays (b0 m c) (b1 m c) (b2 m c) (b3 m c) (b4 m c) (b5 m c)

/-! ## The saved arrays -/

theorem V5 : V m c main_v5 = Cert.ReferenceIdeal.Terms.up (b0 m c) (b1 m c) := rfl

theorem V32 : V m c main_v32 = Cert.ReferenceIdeal.Terms.y (b0 m c) (b1 m c) (b2 m c) (b3 m c) := rfl

/-- The columns of one half, in blocks. -/
def halfBlocks (v : FVec Ideal S4096x2816 .f32) : FVec Ideal S4x4096x704 .f32 :=
  transpose S4x4096x704 [1, 0, 2] (shapeCast S4096x4x704 v shapeCasts_S4096x2816_S4096x4x704) transposes_S4096x4x704_S4x4096x704_1_0_2

theorem halfBlocks_apply (v : FVec Ideal S4096x2816 .f32) (j : Fin 4) (r : Fin 4096) (q : Fin 704) :
    halfBlocks v (ix3 j r q) = v (ix2 r (mid j q)) := by
  pointwise [halfBlocks]
  rfl

theorem V40 : V m c main_v40 = halfBlocks (extractStridedSlice S4096x2816 ![0, 0] (V m c main_v5) slices_S4096x5632_S4096x2816_0_0) := rfl
theorem V43 : V m c main_v43 = halfBlocks (extractStridedSlice S4096x2816 ![0, 2816] (V m c main_v5) slices_S4096x5632_S4096x2816_0_2816) := rfl
theorem V45 : V m c main_v45 = halfBlocks (Cert.ReferenceIdeal.Terms.ya (b0 m c) (b1 m c) (b2 m c) (b3 m c)) := rfl
theorem V47 : V m c main_v47 = halfBlocks (Cert.ReferenceIdeal.Terms.yb (b0 m c) (b1 m c) (b2 m c) (b3 m c)) := rfl
theorem V33 : V m c main_v33 = Cert.ReferenceIdeal.Terms.ya (b0 m c) (b1 m c) (b2 m c) (b3 m c) := rfl
theorem V34 : V m c main_v34 = Cert.ReferenceIdeal.Terms.yb (b0 m c) (b1 m c) (b2 m c) (b3 m c) := rfl

/-- The activation's blocks: the gate of the saved halves. -/
theorem V49 : V m c main_v49 = halfBlocks (Cert.ReferenceIdeal.Terms.act (b0 m c) (b1 m c) (b2 m c) (b3 m c)) := by
  unfold V hostOps0 hostOps0_1 hostOps0_2
  simp only [List.flatten_cons, List.flatten_nil, List.append_nil, List.cons_append, List.nil_append]
  after_reads_simp
  rfl

theorem up_a_at (j : Fin 4) (r : Fin 4096) (q : Fin 704) :
    (V m c main_v40 : FVec Ideal S4x4096x704 .f32) (ix3 j r q) = (A m c).U r (col 0 j q) := by
  rw [V40, V5, halfBlocks_apply, Cert.ReferenceIdeal.Terms.col_zero]
  generalize mid j q = n
  pointwise
  rfl

theorem up_b_at (j : Fin 4) (r : Fin 4096) (q : Fin 704) :
    (V m c main_v43 : FVec Ideal S4x4096x704 .f32) (ix3 j r q) = (A m c).U r (col 1 j q) := by
  rw [V43, V5, halfBlocks_apply, Cert.ReferenceIdeal.Terms.col_one]
  generalize mid j q = n
  pointwise
  rfl

theorem y_a_at (j : Fin 4) (r : Fin 4096) (q : Fin 704) :
    (V m c main_v45 : FVec Ideal S4x4096x704 .f32) (ix3 j r q) = (A m c).Y r (col 0 j q) := by
  rw [V45, halfBlocks_apply, Cert.ReferenceIdeal.Terms.col_zero]
  generalize mid j q = n
  pointwise [Cert.ReferenceIdeal.Terms.ya]
  rfl

theorem y_b_at (j : Fin 4) (r : Fin 4096) (q : Fin 704) :
    (V m c main_v47 : FVec Ideal S4x4096x704 .f32) (ix3 j r q) = (A m c).Y r (col 1 j q) := by
  rw [V47, halfBlocks_apply, Cert.ReferenceIdeal.Terms.col_one]
  generalize mid j q = n
  pointwise [Cert.ReferenceIdeal.Terms.yb]
  rfl

theorem act_at (j : Fin 4) (r : Fin 4096) (q : Fin 704) :
    (V m c main_v49 : FVec Ideal S4x4096x704 .bf16) (ix3 j r q) = (A m c).act r j q := by
  unfold Cert.Ffn.Arrays.act Cert.Ffn.Arrays.sg
  rw [V49, halfBlocks_apply, Cert.ReferenceIdeal.Terms.col_zero, Cert.ReferenceIdeal.Terms.col_one]
  generalize mid j q = n
  pointwise [Cert.ReferenceIdeal.Terms.act, Cert.ReferenceIdeal.Terms.sg, Cert.ReferenceIdeal.Terms.ya, Cert.ReferenceIdeal.Terms.yb]
  rfl

theorem V1 : V m c main_v1 = transpose S8x3x704 [1, 0, 2] (shapeCast S3x8x704 (b2 m c) shapeCasts_S3x5632_S3x8x704) transposes_S3x8x704_S8x3x704_1_0_2 := rfl

theorem taps_at (p : Fin 2) (j : Fin 4) (k : Fin 3) (q : Fin 704) :
    (V m c main_v1 : FVec Ideal S8x3x704 .f32) (ix3 ⟨p.val * 4 + j.val, by omega⟩ k q) = (A m c).W k (col p j q) := by
  have e : ∀ n : Fin 8, n.val = p.val * 4 + j.val →
      (V m c main_v1 : FVec Ideal S8x3x704 .f32) (ix3 n k q) = (A m c).W k (col p j q) := by
    intro n hn
    rw [V1]
    have e1 : col p j q = ⟨n.val * 704 + q.val, by omega⟩ := Fin.ext (by simp [col]; omega)
    rw [e1]
    pointwise
    rfl
  exact e _ rfl

theorem V3 : V m c main_v3 = shapeCast S4x704x1024 (truncf .bf16 (b4 m c) bitsLt_bf16_f32) shapeCasts_S2816x1024_S4x704x1024 := rfl

theorem wd_at (j : Fin 4) (q : Fin 704) (d : Fin 1024) :
    (V m c main_v3 : FVec Ideal S4x704x1024 .bf16) (ix3 j q d) = (A m c).D (mid j q) d := by
  rw [V3]
  pointwise
  rfl

/-! ## The blocks -/

/-- Where each window's block stands. -/
theorem idx : ∀ t : Fin cfg0.N,
    win0_0.index t = ![7 - t.val % 8, 0] ∧ win0_1.index t = ![t.val / 8, 0, 0] ∧ win0_2.index t = ![t.val / 8, 7 - t.val % 8, 0] ∧
    win0_3.index t = ![t.val / 8, 7 - t.val % 8, 0] ∧ win0_4.index t = ![t.val / 8, 7 - t.val % 8, 0] ∧
    win0_5.index t = ![t.val / 8, 7 - t.val % 8, 0] ∧ win0_6.index t = ![t.val / 8, 0, 0] ∧
    win0_7.index t = ![t.val / 8 + 4, 0, 0] ∧ win0_8.index t = ![t.val / 8, 7 - t.val % 8, 0] ∧
    win0_9.index t = ![7 - t.val % 8, 0] ∧ win0_10.index t = ![t.val / 8, 0, 7 - t.val % 8, 0] ∧
    win0_11.index t = ![t.val / 8, 0, 0, 0] ∧ win0_12.index t = ![t.val / 8, 0, 0, 0] ∧
    win0_13.index t = ![t.val / 8, 0, 0] ∧ win0_14.index t = ![t.val / 8, 0, 0, 0] :=
  (by decide +kernel : ∀ t : Fin grid0.N, _)

theorem lt32 (t : Fin cfg0.N) : t.val < 32 := lt_of_lt_of_eq t.isLt Gen.N_0

/-- The block of columns a point works on. -/
def cb (t : Fin cfg0.N) : Fin 4 := ⟨t.val / 8, by have := lt32 t; omega⟩

/-- The first row a point works on. -/
def row0 (t : Fin cfg0.N) : ℕ := 512 * (7 - t.val % 8)

theorem row0_le (t : Fin cfg0.N) : row0 t ≤ 3584 := by unfold row0; omega

/-- Row `x` of a point's 512. -/
def row (t : Fin cfg0.N) (x : Fin 512) : Fin 4096 := ⟨row0 t + x.val, by have := row0_le t; omega⟩

theorem blk0 (t : Fin cfg0.N) (x : Fin 512) (d : Fin 1024) : iblk m c 0 t (ix2 x d) = (A m c).G (row t x) d := by
  have ht := lt32 t
  refine Eq.trans (b := (b5 m c) (ix2 (row t x) d)) ?_ rfl
  unfold row row0
  blk_ext [iblk, V, idx t]

theorem blk9 (t : Fin cfg0.N) (x : Fin 512) (d : Fin 1024) : iblk m c 9 t (ix2 x d) = (A m c).H (row t x) d := by
  have ht := lt32 t
  refine Eq.trans (b := (b0 m c) (ix2 (row t x) d)) ?_ rfl
  unfold row row0
  blk_ext [iblk, V, idx t]

theorem blk1 (t : Fin cfg0.N) (q : Fin 704) (d : Fin 1024) : iblk m c 1 t (ix3 0 q d) = (A m c).D (mid (cb t) q) d := by
  have ht := lt32 t
  rw [← wd_at]
  unfold cb
  blk_ext [iblk, idx t]

theorem blk2 (t : Fin cfg0.N) (x : Fin 512) (q : Fin 704) : iblk m c 2 t (ix3 0 x q) = (A m c).U (row t x) (col 0 (cb t) q) := by
  have ht := lt32 t
  rw [← up_a_at]
  unfold cb row row0
  blk_ext [iblk, idx t]

theorem blk3 (t : Fin cfg0.N) (x : Fin 512) (q : Fin 704) : iblk m c 3 t (ix3 0 x q) = (A m c).U (row t x) (col 1 (cb t) q) := by
  have ht := lt32 t
  rw [← up_b_at]
  unfold cb row row0
  blk_ext [iblk, idx t]

theorem blk4 (t : Fin cfg0.N) (x : Fin 512) (q : Fin 704) : iblk m c 4 t (ix3 0 x q) = (A m c).Y (row t x) (col 0 (cb t) q) := by
  have ht := lt32 t
  rw [← y_a_at]
  unfold cb row row0
  blk_ext [iblk, idx t]

theorem blk5 (t : Fin cfg0.N) (x : Fin 512) (q : Fin 704) : iblk m c 5 t (ix3 0 x q) = (A m c).Y (row t x) (col 1 (cb t) q) := by
  have ht := lt32 t
  rw [← y_b_at]
  unfold cb row row0
  blk_ext [iblk, idx t]

theorem blk8 (t : Fin cfg0.N) (x : Fin 512) (q : Fin 704) : iblk m c 8 t (ix3 0 x q) = (A m c).act (row t x) (cb t) q := by
  have ht := lt32 t
  rw [← act_at]
  unfold cb row row0
  blk_ext [iblk, idx t]

theorem blk6 (t : Fin cfg0.N) (k : Fin 3) (q : Fin 704) : iblk m c 6 t (ix3 0 k q) = (A m c).W k (col 0 (cb t) q) := by
  have ht := lt32 t
  rw [← taps_at]
  unfold cb
  blk_ext [iblk, idx t]

theorem blk7 (t : Fin cfg0.N) (k : Fin 3) (q : Fin 704) : iblk m c 7 t (ix3 0 k q) = (A m c).W k (col 1 (cb t) q) := by
  have ht := lt32 t
  rw [← taps_at]
  unfold cb
  blk_ext [iblk, idx t]

end Cert.KernelIdeal.Body

end
-- ==== Proof.Pay.lean ====
/-
  What the kernel computes from one sub-block of 256 rows, at an index: the gradients of the gate's two halves, the two
  shifted copies, the gradient through the convolution and the partial sums over the rows. The two halves and the two
  sub-blocks run the same operations, so each is read once.
-/
module

public import proofs.«01_k».proof.Proof.Gen.KernelIdeal.Skeleton
public import proofs.«01_k».proof.Proof.Spec
public import Idealize.ShloMosaic.PureOps.Ideal
public import Idealize.ShloMosaic.Lib.Pointwise

@[expose] public section

set_option maxRecDepth 16384

noncomputable section

namespace Cert.KernelIdeal.Body

open Idealize.ShloMosaic Idealize.ShloMosaic.TcCoe Idealize.SL.Sem
open Cert.KernelIdeal Cert.KernelIdeal.Gen
open Cert.Ffn (col mid)

/-! ## The same operations under several names -/

section Names

variable (g : Vec Ideal S256x1024 .bf16) (wt : Vec Ideal S1024x704 .bf16) (ya yb u : Vec Ideal S1x256x704 .f32)
  (n : Vec Ideal S8x704 .f32) (dy p1 p2 uu : FVec Ideal S256x704 .f32) (w0 w1 w2 : Vec Ideal S1x1x704 .f32) (o : Vec Ideal S1x1x1x704 .f32)

theorem dya_name : k0_pay44 (k0_pay41 g wt) (k0_pay42 ya) yb = k0_pay17 g wt ya yb := rfl
theorem dyb_name : k0_pay45 (k0_pay41 g wt) (k0_pay42 ya) = k0_pay18 g wt ya := rfl
theorem u_name30 : k0_pay30 u = k0_pay19 u := rfl
theorem u_name46 : k0_pay46 u = k0_pay19 u := rfl
theorem u_name56 : k0_pay56 u = k0_pay19 u := rfl
theorem p1_name21 : k0_pay21 n g wt ya yb = k0_pay32 n (k0_pay17 g wt ya yb) := rfl
theorem p1_name48 : k0_pay48 n (k0_pay41 g wt) (k0_pay42 ya) yb = k0_pay32 n (k0_pay17 g wt ya yb) := rfl
theorem p1_name58 : k0_pay58 n dy = k0_pay32 n dy := rfl
theorem p2_name22 : k0_pay22 n g wt ya yb = k0_pay33 n (k0_pay17 g wt ya yb) := rfl
theorem p2_name49 : k0_pay49 n (k0_pay41 g wt) (k0_pay42 ya) yb = k0_pay33 n (k0_pay17 g wt ya yb) := rfl
theorem p2_name59 : k0_pay59 n dy = k0_pay33 n dy := rfl
theorem du_name23 : k0_pay23 dy p1 p2 w2 w1 w0 = k0_pay34 dy p1 p2 w2 w1 w0 := rfl
theorem du_name50 : k0_pay50 n (k0_pay41 g wt) (k0_pay42 ya) yb w2 w1 w0
    = k0_pay34 (k0_pay17 g wt ya yb) (k0_pay32 n (k0_pay17 g wt ya yb)) (k0_pay33 n (k0_pay17 g wt ya yb)) w2 w1 w0 := rfl
theorem du_name60 : k0_pay60 n dy w2 w1 w0 = k0_pay34 dy (k0_pay32 n dy) (k0_pay33 n dy) w2 w1 w0 := rfl
theorem cb_name24 : k0_pay24 dy o = k0_pay35 dy o := rfl
theorem cb_name51 : k0_pay51 dy o = k0_pay35 dy o := rfl
theorem cb_name61 : k0_pay61 dy o = k0_pay35 dy o := rfl
theorem t0_name25 : k0_pay26 (k0_pay25 uu p2 o) = k0_pay52 uu p2 o := rfl
theorem t0_name36 : k0_pay37 (k0_pay36 uu p2 o) = k0_pay52 uu p2 o := rfl
theorem t0_name62 : k0_pay62 uu p2 o = k0_pay52 uu p2 o := rfl
theorem t1_name27 : k0_pay27 uu p1 o = k0_pay38 uu p1 o := rfl
theorem t1_name53 : k0_pay53 uu p1 o = k0_pay38 uu p1 o := rfl
theorem t1_name63 : k0_pay63 uu p1 o = k0_pay38 uu p1 o := rfl
theorem t2_name28 : k0_pay28 dy uu o = k0_pay39 dy uu o := rfl
theorem t2_name54 : k0_pay54 dy uu o = k0_pay39 dy uu o := rfl
theorem t2_name64 : k0_pay64 dy uu o = k0_pay39 dy uu o := rfl
theorem top_name29 : k0_pay29 dy = k0_pay40 dy := rfl
theorem top_name55 : k0_pay55 dy = k0_pay40 dy := rfl
theorem top_name66 : k0_pay66 dy = k0_pay65 (k0_pay40 dy) := rfl

end Names

/-! ## At an index -/

section At

variable (A : Cert.Ffn.Arrays) (p : Fin 2) (j : Fin 4) (R : ℕ)

/-- The 256 rows from row `R` of the gradient at the convolution's result. -/
def IsDz (dy : FVec Ideal S256x704 .f32) : Prop := ∀ (x : Fin 256) (q : Fin 704), dy (ix2 x q) = A.dz p (R + x.val) j q

/-- The eight rows from row `R` of it. -/
def IsTop (n : Vec Ideal S8x704 .f32) : Prop := ∀ (x : Fin 8) (q : Fin 704), n (ix2 x q) = A.dz p (R + x.val) j q

/-- The blocks one sub-block of 256 rows from row `R` is computed from. -/
structure Sub (hR : R + 256 ≤ 4096) (g : Vec Ideal S256x1024 .bf16) (wt : Vec Ideal S1024x704 .bf16) (ya yb : Vec Ideal S1x256x704 .f32) : Prop where
  g : ∀ (x : Fin 256) (d : Fin 1024), g (ix2 x d) = A.G ⟨R + x.val, by omega⟩ d
  wt : ∀ (d : Fin 1024) (q : Fin 704), wt (ix2 d q) = A.D (mid j q) d
  ya : ∀ (x : Fin 256) (q : Fin 704), ya (ix3 0 x q) = A.Y ⟨R + x.val, by omega⟩ (col 0 j q)
  yb : ∀ (x : Fin 256) (q : Fin 704), yb (ix3 0 x q) = A.Y ⟨R + x.val, by omega⟩ (col 1 j q)

variable {A p j R}

theorem dya_at {hR : R + 256 ≤ 4096} {g wt ya yb} (h : Sub A j R hR g wt ya yb) : IsDz A 0 j R (k0_pay17 g wt ya yb) := by
  intro x q
  rw [A.dz_of_lt (show R + x.val < 4096 by omega), A.dy_zero]
  unfold Cert.Ffn.Arrays.dya Cert.Ffn.Arrays.dact Cert.Ffn.Arrays.sg
  simp only [← h.g, ← h.wt, ← h.ya, ← h.yb]
  pointwise [k0_pay14, k0_pay15, k0_pay16, k0_pay17]

theorem dyb_at {hR : R + 256 ≤ 4096} {g wt ya yb} (h : Sub A j R hR g wt ya yb) : IsDz A 1 j R (k0_pay18 g wt ya) := by
  intro x q
  rw [A.dz_of_lt (show R + x.val < 4096 by omega), A.dy_one]
  unfold Cert.Ffn.Arrays.dyb Cert.Ffn.Arrays.dact Cert.Ffn.Arrays.sg
  simp only [← h.g, ← h.wt, ← h.ya]
  pointwise [k0_pay14, k0_pay15, k0_pay16, k0_pay18]

/-- The copy one row up: the last row is the first of the rows after. -/
theorem p1_at {dy n} (hd : IsDz A p j R dy) (hn : IsTop A p j (R + 256) n) (x : Fin 256) (q : Fin 704) :
    k0_pay32 n dy (ix2 x q) = A.dz p (R + x.val + 1) j q := by
  pointwise [k0_pay31, k0_pay32]
  have hx := x.isLt
  split
  · exact (hd _ _).trans (congrArg (A.dz p · j q) (by show R + (x.val + 264 - 263) % 264 = _; omega))
  · exact (hn _ _).trans (congrArg (A.dz p · j q) (by show R + 256 + ((x.val + 264 - 263) % 264 - 256) = _; omega))

/-- The copy two rows up. -/
theorem p2_at {dy n} (hd : IsDz A p j R dy) (hn : IsTop A p j (R + 256) n) (x : Fin 256) (q : Fin 704) :
    k0_pay33 n dy (ix2 x q) = A.dz p (R + x.val + 2) j q := by
  pointwise [k0_pay31, k0_pay33]
  have hx := x.isLt
  split
  · exact (hd _ _).trans (congrArg (A.dz p · j q) (by show R + (x.val + 264 - 262) % 264 = _; omega))
  · exact (hn _ _).trans (congrArg (A.dz p · j q) (by show R + 256 + ((x.val + 264 - 262) % 264 - 256) = _; omega))

theorem top_at {dy} (hd : IsDz A p j R dy) : IsTop A p j R (k0_pay40 dy) := by
  intro x q
  pointwise [k0_pay40]
  exact hd _ _

theorem du_at {dy n w0 w1 w2} (hd : IsDz A p j R dy) (hn : IsTop A p j (R + 256) n)
    (h0 : ∀ q, w0 (ix3 0 0 q) = A.W 0 (col p j q)) (h1 : ∀ q, w1 (ix3 0 0 q) = A.W 1 (col p j q))
    (h2 : ∀ q, w2 (ix3 0 0 q) = A.W 2 (col p j q)) (x : Fin 256) (q : Fin 704) :
    k0_pay34 dy (k0_pay32 n dy) (k0_pay33 n dy) w2 w1 w0 (ix4 0 0 x q) = A.du p (R + x.val) j q := by
  unfold Cert.Ffn.Arrays.du
  rw [← h0, ← h1, ← h2, ← hd x q, ← p1_at hd hn x q, ← p2_at hd hn x q]
  pointwise [k0_pay34]

theorem dcb_at {dy} (hd : IsDz A p j R dy) (o : Vec Ideal S1x1x1x704 .f32) (q : Fin 704) :
    k0_pay35 dy o (ix4 0 0 0 q) = o (ix4 0 0 0 q) + ∑ x : Fin 256, A.dz p (R + x.val) j q := by
  simp only [← hd _ _]
  pointwise [k0_pay35]

/-- The saved up-projection's 256 rows from row `R`. -/
def IsU (A : Cert.Ffn.Arrays) (p : Fin 2) (j : Fin 4) (R : ℕ) (u : Vec Ideal S1x256x704 .f32) : Prop :=
  ∀ (x : Fin 256) (q : Fin 704), u (ix3 0 x q) = Cert.Ffn.Arrays.ext (fun r => A.U r (col p j q)) (R + x.val)

theorem t0_at {dy n u} (hd : IsDz A p j R dy) (hn : IsTop A p j (R + 256) n) (hu : IsU A p j R u)
    (o : Vec Ideal S1x1x1x704 .f32) (q : Fin 704) :
    k0_pay52 (k0_pay19 u) (k0_pay33 n dy) o (ix4 0 0 0 q)
      = o (ix4 0 0 0 q) + ∑ x : Fin 256, A.dz p (R + x.val + 2) j q * Cert.Ffn.Arrays.ext (fun r => A.U r (col p j q)) (R + x.val) := by
  simp only [← hu _ _, ← p2_at hd hn]
  pointwise [k0_pay52, k0_pay19]

theorem t1_at {dy n u} (hd : IsDz A p j R dy) (hn : IsTop A p j (R + 256) n) (hu : IsU A p j R u)
    (o : Vec Ideal S1x1x1x704 .f32) (q : Fin 704) :
    k0_pay38 (k0_pay19 u) (k0_pay32 n dy) o (ix4 0 0 0 q)
      = o (ix4 0 0 0 q) + ∑ x : Fin 256, A.dz p (R + x.val + 1) j q * Cert.Ffn.Arrays.ext (fun r => A.U r (col p j q)) (R + x.val) := by
  simp only [← hu _ _, ← p1_at hd hn]
  pointwise [k0_pay38, k0_pay19]

theorem t2_at {dy u} (hd : IsDz A p j R dy) (hu : IsU A p j R u)
    (o : Vec Ideal S1x1x1x704 .f32) (q : Fin 704) :
    k0_pay39 dy (k0_pay19 u) o (ix4 0 0 0 q)
      = o (ix4 0 0 0 q) + ∑ x : Fin 256, A.dz p (R + x.val) j q * Cert.Ffn.Arrays.ext (fun r => A.U r (col p j q)) (R + x.val) := by
  simp only [← hu _ _, ← hd _ _]
  pointwise [k0_pay39, k0_pay19]

end At

end Cert.KernelIdeal.Body

end
-- ==== Proof.Body.lean ====
/-
  What one grid point leaves in the kernel's buffers: the transposed weights it carries, the eight rows it hands to the
  point before it in the rows, and the block of the gradient at the up-projection.
-/
module

public import proofs.«01_k».proof.Proof.Blocks
public import proofs.«01_k».proof.Proof.Pay
public import Idealize.ShloMosaic.Lib.Pipeline.ReadBack

@[expose] public section

set_option maxRecDepth 16384

noncomputable section

namespace Cert.KernelIdeal.Body

open Idealize.ShloMosaic Idealize.ShloMosaic.TcCoe Idealize.SL.Sem
open Cert.KernelIdeal Cert.KernelIdeal.Gen
open Cert.Ffn (col mid)

variable (m : (ℓ : Loc nD τ sig) → Buf (Elt Ideal) ℓ) (c : Dev nD)

/-- Contents read at an index as a load through a rectangle. -/
theorem canon_load {sig : RefSig} {κ : Kind} {sp : Space} {s : Shape} {e : EltTy} {Val : EltTy → Type} [∀ e, Nonempty (Val e)]
    (v : View sig κ sp s e) (L : List (View.Piece Val s e)) (r : Rect s) (y : s.Idx) (x : r.shape.Idx) (h : r.idx x = y) :
    View.canon L y = v.readCov L r.toLoadRect x := by
  rw [View.readCov_eq_canon', ← h]

/-! ## Loads of a block at an index -/

theorem ld_rows (X : Vec Ideal S512x1024 .bf16) (o : ℕ) (ho : o + 256 ≤ 512) (inb) (x : Fin 256) (d : Fin 1024) :
    View.ld X (Rect.unit ![o, 0] ![256, 1024] inb) (ix2 x d) = X (ix2 ⟨o + x.val, by omega⟩ d) :=
  View.ld_unit_apply_of X _ _ inb _ _ fun a => by
    match a with
    | ⟨0, _⟩ => rfl
    | ⟨1, _⟩ => exact (Nat.zero_add _).symm

theorem ld_tok (X : Vec Ideal S1x512x704 .f32) (o : ℕ) (ho : o + 256 ≤ 512) (inb) (x : Fin 256) (q : Fin 704) :
    View.ld X (Rect.unit ![0, o, 0] ![1, 256, 704] inb) (ix3 0 x q) = X (ix3 0 ⟨o + x.val, by omega⟩ q) :=
  View.ld_unit_apply_of X _ _ inb _ _ fun a => by
    match a with
    | ⟨0, _⟩ => rfl
    | ⟨1, _⟩ => rfl
    | ⟨2, _⟩ => exact (Nat.zero_add _).symm

theorem ld_w (X : Vec Ideal S1x3x704 .f32) (k : ℕ) (hk : k < 3) (inb) (q : Fin 704) :
    View.ld X (Rect.unit ![0, k, 0] ![1, 1, 704] inb) (ix3 0 0 q) = X (ix3 0 ⟨k, hk⟩ q) :=
  View.ld_unit_apply_of X _ _ inb _ _ fun a => by
    match a with
    | ⟨0, _⟩ => rfl
    | ⟨1, _⟩ => rfl
    | ⟨2, _⟩ => exact (Nat.zero_add _).symm

theorem idx_tap (p k : ℕ) (hp : p < 2) (hk : k < 3) (inb) (q : Fin 704) :
    (Rect.unit (s := S1x2x3x704) ![0, p, k, 0] ![1, 1, 1, 704] inb).idx (ix4 0 0 0 q) = ix4 0 ⟨p, hp⟩ ⟨k, hk⟩ q :=
  funext fun a => Fin.ext (by
    rw [Rect.idx_unit_val]
    match a with
    | ⟨0, _⟩ => rfl
    | ⟨1, _⟩ => rfl
    | ⟨2, _⟩ => rfl
    | ⟨3, _⟩ => exact Nat.zero_add _)

theorem idx_bias (p : ℕ) (hp : p < 2) (inb) (q : Fin 704) :
    (Rect.unit (s := S1x2x1x704) ![0, p, 0, 0] ![1, 1, 1, 704] inb).idx (ix4 0 0 0 q) = ix4 0 ⟨p, hp⟩ 0 q :=
  funext fun a => Fin.ext (by
    rw [Rect.idx_unit_val]
    match a with
    | ⟨0, _⟩ => rfl
    | ⟨1, _⟩ => rfl
    | ⟨2, _⟩ => rfl
    | ⟨3, _⟩ => exact Nat.zero_add _)

/-! ## The sub-blocks of a point -/

/-- The transposed weights of the point's block of columns. -/
def IsWt (t : Fin cfg0.N) (W : Vec Ideal S1024x704 .bf16) : Prop :=
  ∀ (d : Fin 1024) (q : Fin 704), W (ix2 d q) = (A m c).D (mid (cb t) q) d

variable {m c}

/-- The point's rows 0 to 255. -/
theorem subLo {t : Fin cfg0.N} {W} (hW : IsWt m c t W) :
    Sub (A m c) (cb t) (row0 t) (by have := row0_le t; omega)
      (View.ld (iblk m c 0 t) (Rect.unit ![0, 0] ![256, 1024] inb_S512x1024_S256x1024_0_0)) W
      (View.ld (iblk m c 4 t) (Rect.unit ![0, 0, 0] ![1, 256, 704] inb_S1x512x704_S1x256x704_0_0_0))
      (View.ld (iblk m c 5 t) (Rect.unit ![0, 0, 0] ![1, 256, 704] inb_S1x512x704_S1x256x704_0_0_0)) where
  g x d := ((ld_rows _ 0 (by omega) _ x d).trans (blk0 m c t _ d)).trans
    (congrArg (fun r => (A m c).G r d) (Fin.ext (by show row0 t + (0 + x.val) = row0 t + x.val; omega)))
  wt := hW
  ya x q := ((ld_tok _ 0 (by omega) _ x q).trans (blk4 m c t _ q)).trans
    (congrArg (fun r => (A m c).Y r (col 0 (cb t) q)) (Fin.ext (by show row0 t + (0 + x.val) = row0 t + x.val; omega)))
  yb x q := ((ld_tok _ 0 (by omega) _ x q).trans (blk5 m c t _ q)).trans
    (congrArg (fun r => (A m c).Y r (col 1 (cb t) q)) (Fin.ext (by show row0 t + (0 + x.val) = row0 t + x.val; omega)))

/-- The point's rows 256 to 511. -/
theorem subHi {t : Fin cfg0.N} {W} (hW : IsWt m c t W) :
    Sub (A m c) (cb t) (row0 t + 256) (by have := row0_le t; omega)
      (View.ld (iblk m c 0 t) (Rect.unit ![256, 0] ![256, 1024] inb_S512x1024_S256x1024_256_0)) W
      (View.ld (iblk m c 4 t) (Rect.unit ![0, 256, 0] ![1, 256, 704] inb_S1x512x704_S1x256x704_0_256_0))
      (View.ld (iblk m c 5 t) (Rect.unit ![0, 256, 0] ![1, 256, 704] inb_S1x512x704_S1x256x704_0_256_0)) where
  g x d := ((ld_rows _ 256 (by omega) _ x d).trans (blk0 m c t _ d)).trans
    (congrArg (fun r => (A m c).G r d) (Fin.ext (by show row0 t + (256 + x.val) = row0 t + 256 + x.val; omega)))
  wt := hW
  ya x q := ((ld_tok _ 256 (by omega) _ x q).trans (blk4 m c t _ q)).trans
    (congrArg (fun r => (A m c).Y r (col 0 (cb t) q)) (Fin.ext (by show row0 t + (256 + x.val) = row0 t + 256 + x.val; omega)))
  yb x q := ((ld_tok _ 256 (by omega) _ x q).trans (blk5 m c t _ q)).trans
    (congrArg (fun r => (A m c).Y r (col 1 (cb t) q)) (Fin.ext (by show row0 t + (256 + x.val) = row0 t + 256 + x.val; omega)))

theorem u_of {t : Fin cfg0.N} {p : Fin 2} {o : ℕ} (ho : o + 256 ≤ 512) {X : Vec Ideal S1x512x704 .f32}
    (hX : ∀ (x : Fin 512) (q : Fin 704), X (ix3 0 x q) = (A m c).U (row t x) (col p (cb t) q)) (inb) :
    IsU (A m c) p (cb t) (row0 t + o) (View.ld X (Rect.unit ![0, o, 0] ![1, 256, 704] inb)) := by
  intro x q
  have h := row0_le t
  rw [ld_tok X o ho inb x q, hX, Cert.Ffn.Arrays.ext_of_lt _ (by omega)]
  exact congrArg (fun r => (A m c).U r (col p (cb t) q)) (Fin.ext (by show row0 t + (o + x.val) = row0 t + o + x.val; omega))

/-! ## The carried weights -/

variable (m c)

theorem wt_at : ∀ (n : ℕ) (hn : n < cfg0.N), IsWt m c ⟨n, hn⟩ (outsAt0 m c n hn).2.2.2.2.2.2.2.2.2.2 := by
  intro n
  induction n with
  | zero =>
    intro hn d q
    rw [outsAt0_A m c ⟨0, hn⟩ (by rfl) (by show ¬ 0 % 8 = 7; omega)]
    frame_out
    refine Eq.trans ?_ (blk1 m c ⟨0, hn⟩ q d)
    pointwise [k0_pay13]
  | succ n ih =>
    intro hn d q
    by_cases h0 : (n + 1) % 8 = 0
    · rw [outsAt0_A m c ⟨n + 1, hn⟩ h0 (by show ¬ (n + 1) % 8 = 7; omega)]
      frame_out
      refine Eq.trans ?_ (blk1 m c ⟨n + 1, hn⟩ q d)
      pointwise [k0_pay13]
    · have e : cb ⟨n + 1, hn⟩ = cb ⟨n, by omega⟩ := Fin.ext (by show (n + 1) / 8 = n / 8; omega)
      have hi : (outsAt0 m c n (by omega)).2.2.2.2.2.2.2.2.2.2 (ix2 d q) = (A m c).D (mid (cb ⟨n + 1, hn⟩) q) d := by
        rw [e]; exact ih (by omega) d q
      by_cases h1 : (n + 1) % 8 = 7
      · rw [outsAt0_C m c ⟨n + 1, hn⟩ h0 h1]
        exact hi
      · rw [outsAt0_B m c ⟨n + 1, hn⟩ h0 h1]
        exact hi

/-- The weights a point that does not start a block of columns finds. -/
theorem wt_prev (t : Fin cfg0.N) (h0 : ¬t.val % 8 = 0) (hp : t.val - 1 < cfg0.N) :
    IsWt m c t (outsAt0 m c (t.val - 1) hp).2.2.2.2.2.2.2.2.2.2 := by
  intro d q
  have e : cb t = cb ⟨t.val - 1, hp⟩ := Fin.ext (by show t.val / 8 = (t.val - 1) / 8; omega)
  rw [e]
  exact wt_at m c (t.val - 1) hp d q

/-- The weights a point that starts a block of columns stores. -/
theorem wt_new (t : Fin cfg0.N) : IsWt m c t (k0_pay13 (iblk m c 1 t)) := by
  intro d q
  refine Eq.trans ?_ (blk1 m c t q d)
  pointwise [k0_pay13]

/-! ## The rows handed on -/

theorem pay65_at (n : FVec Ideal S8x704 .f32) (x : Fin 8) (q : Fin 704) : k0_pay65 n (ix2 x q) = n (ix2 x q) := by
  pointwise [k0_pay65]

/-- The first eight rows of the gradient at the convolution's result, of half 0. -/
theorem top_a (t : Fin cfg0.N) : IsTop (A m c) 0 (cb t) (row0 t) (outsAt0 m c t.val t.isLt).2.2.2.2.2.1 := by
  intro x q
  by_cases h0 : t.val % 8 = 0
  · rw [outsAt0_A m c t h0 (by omega)]
    frame_out
    rw [dya_name, top_name55]
    exact (pay65_at _ x q).trans (top_at (dya_at (subLo (wt_new m c t))) x q)
  · by_cases h1 : t.val % 8 = 7
    · rw [outsAt0_C m c t h0 h1]
      frame_out
      rw [read_unread_whole, dya_name, top_name55]
      exact (pay65_at _ x q).trans (top_at (dya_at (subLo (wt_prev m c t h0 _))) x q)
    · rw [outsAt0_B m c t h0 h1]
      frame_out
      rw [read_unread_whole, dya_name, top_name55]
      exact (pay65_at _ x q).trans (top_at (dya_at (subLo (wt_prev m c t h0 _))) x q)

/-- The same of half 1. -/
theorem top_b (t : Fin cfg0.N) : IsTop (A m c) 1 (cb t) (row0 t) (outsAt0 m c t.val t.isLt).2.2.2.2.2.2.1 := by
  intro x q
  by_cases h0 : t.val % 8 = 0
  · rw [outsAt0_A m c t h0 (by omega)]
    frame_out
    rw [dyb_name, top_name66]
    exact (pay65_at _ x q).trans (top_at (dyb_at (subLo (wt_new m c t))) x q)
  · by_cases h1 : t.val % 8 = 7
    · rw [outsAt0_C m c t h0 h1]
      frame_out
      rw [read_unread_whole, dyb_name, top_name66]
      exact (pay65_at _ x q).trans (top_at (dyb_at (subLo (wt_prev m c t h0 _))) x q)
    · rw [outsAt0_B m c t h0 h1]
      frame_out
      rw [read_unread_whole, dyb_name, top_name66]
      exact (pay65_at _ x q).trans (top_at (dyb_at (subLo (wt_prev m c t h0 _))) x q)

/-- The rows a point finds are the first ones after its own. -/
theorem top_prev {p : Fin 2} {n : Vec Ideal S8x704 .f32} (t : Fin cfg0.N) (h0 : ¬t.val % 8 = 0) (hp : t.val - 1 < cfg0.N)
    (hn : IsTop (A m c) p (cb ⟨t.val - 1, hp⟩) (row0 ⟨t.val - 1, hp⟩) n) : IsTop (A m c) p (cb t) (row0 t + 256 + 256) n := by
  have e : cb t = cb ⟨t.val - 1, hp⟩ := Fin.ext (by show t.val / 8 = (t.val - 1) / 8; omega)
  have er : row0 t + 256 + 256 = row0 ⟨t.val - 1, hp⟩ := by unfold row0; dsimp only; omega
  rw [e, er]
  exact hn

/-- After the last row there are zeros. -/
theorem top_zero {p : Fin 2} {n : Vec Ideal S8x704 .f32} (t : Fin cfg0.N) (h0 : t.val % 8 = 0)
    (hn : ∀ (x : Fin 8) (q : Fin 704), n (ix2 x q) = 0) : IsTop (A m c) p (cb t) (row0 t + 256 + 256) n := by
  intro x q
  rw [hn, (A m c).dz_of_le (by unfold row0; omega)]

theorem zero_a (x : Fin 8) (q : Fin 704) : (k0_pay6 : FVec Ideal S8x704 .f32) (ix2 x q) = 0 := by
  pointwise [k0_pay6]

theorem zero_b (x : Fin 8) (q : Fin 704) : (k0_pay7 : FVec Ideal S8x704 .f32) (ix2 x q) = 0 := by
  pointwise [k0_pay7]

end Cert.KernelIdeal.Body

end
-- ==== Proof.Steps.lean ====
/-
  What one grid point adds to the gradients of the taps and of the bias: its 512 rows' products, over zero at the first
  point of a block of columns and over what the point before left otherwise.
-/
module

public import proofs.«01_k».proof.Proof.Body

@[expose] public section

set_option maxRecDepth 16384

noncomputable section

namespace Cert.KernelIdeal.Body

open Idealize.ShloMosaic Idealize.ShloMosaic.TcCoe Idealize.SL.Sem
open Cert.KernelIdeal Cert.KernelIdeal.Gen
open Cert.Ffn (col mid)

/-! ## Two sub-blocks, one sum -/

section Pairs

variable {A : Cert.Ffn.Arrays} {p : Fin 2} {j : Fin 4} {R : ℕ}

/-- Two sums over 256 rows, the later rows first, are one over 512. -/
theorem pair_sum (f : ℕ → EReal) (R : ℕ) (o : EReal) :
    o + ∑ x : Fin 256, f (R + 256 + x.val) + ∑ x : Fin 256, f (R + x.val) = o + ∑ x : Fin 512, f (R + x.val) := by
  rw [Fin.sum_univ_eq_sum_range (fun x => f (R + 256 + x)) 256, Fin.sum_univ_eq_sum_range (fun x => f (R + x)) 256,
    Fin.sum_univ_eq_sum_range (fun x => f (R + x)) 512, show 512 = 256 + 256 from rfl, Finset.sum_range_add,
    add_assoc, add_comm (∑ x ∈ Finset.range 256, f (R + x))]
  refine congrArg (o + ·) (congrArg (· + _) (Finset.sum_congr rfl fun x _ => ?_))
  rw [add_assoc]

/-- The saved up-projection's row `r`, zero after the last. -/
def uz (A : Cert.Ffn.Arrays) (p : Fin 2) (j : Fin 4) (r : ℕ) (q : Fin 704) : EReal := Cert.Ffn.Arrays.ext (fun r => A.U r (col p j q)) r

theorem dcb_pair {dh dl} (hh : IsDz A p j (R + 256) dh) (hl : IsDz A p j R dl) (o : Vec Ideal S1x1x1x704 .f32) (q : Fin 704) :
    k0_pay35 dl (k0_pay35 dh o) (ix4 0 0 0 q) = o (ix4 0 0 0 q) + ∑ x : Fin 512, A.dz p (R + x.val) j q := by
  rw [dcb_at hl, dcb_at hh]
  exact pair_sum (fun r => A.dz p r j q) R _

theorem t0_pair {dh dl n uh ul} (hh : IsDz A p j (R + 256) dh) (hl : IsDz A p j R dl) (hn : IsTop A p j (R + 256 + 256) n)
    (uh' : IsU A p j (R + 256) uh) (ul' : IsU A p j R ul) (o : Vec Ideal S1x1x1x704 .f32) (q : Fin 704) :
    k0_pay52 (k0_pay19 ul) (k0_pay33 (k0_pay40 dh) dl) (k0_pay52 (k0_pay19 uh) (k0_pay33 n dh) o) (ix4 0 0 0 q)
      = o (ix4 0 0 0 q) + ∑ x : Fin 512, A.dz p (R + x.val + 2) j q * uz A p j (R + x.val) q := by
  rw [t0_at hl (top_at hh) ul', t0_at hh hn uh']
  exact pair_sum (fun r => A.dz p (r + 2) j q * uz A p j r q) R _

theorem t1_pair {dh dl n uh ul} (hh : IsDz A p j (R + 256) dh) (hl : IsDz A p j R dl) (hn : IsTop A p j (R + 256 + 256) n)
    (uh' : IsU A p j (R + 256) uh) (ul' : IsU A p j R ul) (o : Vec Ideal S1x1x1x704 .f32) (q : Fin 704) :
    k0_pay38 (k0_pay19 ul) (k0_pay32 (k0_pay40 dh) dl) (k0_pay38 (k0_pay19 uh) (k0_pay32 n dh) o) (ix4 0 0 0 q)
      = o (ix4 0 0 0 q) + ∑ x : Fin 512, A.dz p (R + x.val + 1) j q * uz A p j (R + x.val) q := by
  rw [t1_at hl (top_at hh) ul', t1_at hh hn uh']
  exact pair_sum (fun r => A.dz p (r + 1) j q * uz A p j r q) R _

theorem t2_pair {dh dl uh ul} (hh : IsDz A p j (R + 256) dh) (hl : IsDz A p j R dl)
    (uh' : IsU A p j (R + 256) uh) (ul' : IsU A p j R ul) (o : Vec Ideal S1x1x1x704 .f32) (q : Fin 704) :
    k0_pay39 dl (k0_pay19 ul) (k0_pay39 dh (k0_pay19 uh) o) (ix4 0 0 0 q)
      = o (ix4 0 0 0 q) + ∑ x : Fin 512, A.dz p (R + x.val) j q * uz A p j (R + x.val) q := by
  rw [t2_at hl ul', t2_at hh uh']
  exact pair_sum (fun r => A.dz p r j q * uz A p j r q) R _

end Pairs

variable (m : (ℓ : Loc nD τ sig) → Buf (Elt Ideal) ℓ) (c : Dev nD)

theorem zero_taps (i : S1x2x3x704.Idx) : (k0_pay8 : FVec Ideal S1x2x3x704 .f32) i = 0 := by
  pointwise [k0_pay8]

theorem zero_bias (i : S1x2x1x704.Idx) : (k0_pay9 : FVec Ideal S1x2x1x704 .f32) i = 0 := by
  pointwise [k0_pay9]

/-- The first point of a block of columns: the bias, half 0. -/
theorem bias0_first (t : Fin cfg0.N) (h0 : t.val % 8 = 0) (q : Fin 704) :
    (outsAt0 m c t.val t.isLt).2.2.1 (ix4 0 0 0 q) = 0 + ∑ x : Fin 512, (A m c).dz 0 (row0 t + x.val) (cb t) q := by
  rw [outsAt0_A m c t h0 (by omega)]
  frame_out
  rw [canon_load (ms0_12 t).view _ (Rect.unit ![0, 0, 0, 0] ![1, 1, 1, 704] inb_S1x2x1x704_S1x1x1x704_0_0_0_0) (ix4 0 0 0 q) (ix4 0 0 0 q) (idx_bias 0 (by omega) _ q)]
  simp (disch := decide) only [↓ View.readCov_skip, ↓ View.readCov_cons_toLoadRect, ↓ View.readCov_fill, read_unread_whole]
  simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
  exact (dcb_pair (dya_at (subHi (wt_new m c t))) (dya_at (subLo (wt_new m c t))) _ q).trans (congrArg (· + _) (zero_bias _))

/-- A later point: the bias, half 0. -/
theorem bias0_next (t : Fin cfg0.N) (h0 : ¬t.val % 8 = 0) (hp : t.val - 1 < cfg0.N) (q : Fin 704) :
    (outsAt0 m c t.val t.isLt).2.2.1 (ix4 0 0 0 q) = (outsAt0 m c (t.val - 1) hp).2.2.1 (ix4 0 0 0 q) + ∑ x : Fin 512, (A m c).dz 0 (row0 t + x.val) (cb t) q := by
  by_cases h1 : t.val % 8 = 7
  · rw [outsAt0_C m c t h0 h1]
    frame_out
    rw [canon_load (ms0_12 t).view _ (Rect.unit ![0, 0, 0, 0] ![1, 1, 1, 704] inb_S1x2x1x704_S1x1x1x704_0_0_0_0) (ix4 0 0 0 q) (ix4 0 0 0 q) (idx_bias 0 (by omega) _ q)]
    simp (disch := decide) only [↓ View.readCov_skip, ↓ View.readCov_cons_toLoadRect, ↓ View.readCov_fill, read_unread_whole]
    simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
    exact (dcb_pair (dya_at (subHi (wt_prev m c t h0 hp))) (dya_at (subLo (wt_prev m c t h0 hp))) _ q).trans (congrArg (fun i => (outsAt0 m c (t.val - 1) _).2.2.1 i + _) (idx_bias 0 (by omega) _ q))
  · rw [outsAt0_B m c t h0 h1]
    frame_out
    rw [canon_load (ms0_12 t).view _ (Rect.unit ![0, 0, 0, 0] ![1, 1, 1, 704] inb_S1x2x1x704_S1x1x1x704_0_0_0_0) (ix4 0 0 0 q) (ix4 0 0 0 q) (idx_bias 0 (by omega) _ q)]
    simp (disch := decide) only [↓ View.readCov_skip, ↓ View.readCov_cons_toLoadRect, ↓ View.readCov_fill, read_unread_whole]
    simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
    exact (dcb_pair (dya_at (subHi (wt_prev m c t h0 hp))) (dya_at (subLo (wt_prev m c t h0 hp))) _ q).trans (congrArg (fun i => (outsAt0 m c (t.val - 1) _).2.2.1 i + _) (idx_bias 0 (by omega) _ q))

/-- The first point of a block of columns: the bias, half 1. -/
theorem bias1_first (t : Fin cfg0.N) (h0 : t.val % 8 = 0) (q : Fin 704) :
    (outsAt0 m c t.val t.isLt).2.2.1 (ix4 0 1 0 q) = 0 + ∑ x : Fin 512, (A m c).dz 1 (row0 t + x.val) (cb t) q := by
  rw [outsAt0_A m c t h0 (by omega)]
  frame_out
  rw [canon_load (ms0_12 t).view _ (Rect.unit ![0, 1, 0, 0] ![1, 1, 1, 704] inb_S1x2x1x704_S1x1x1x704_0_1_0_0) (ix4 0 1 0 q) (ix4 0 0 0 q) (idx_bias 1 (by omega) _ q)]
  simp (disch := decide) only [↓ View.readCov_skip, ↓ View.readCov_cons_toLoadRect, ↓ View.readCov_fill, read_unread_whole]
  simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
  exact (dcb_pair (dyb_at (subHi (wt_new m c t))) (dyb_at (subLo (wt_new m c t))) _ q).trans (congrArg (· + _) (zero_bias _))

/-- A later point: the bias, half 1. -/
theorem bias1_next (t : Fin cfg0.N) (h0 : ¬t.val % 8 = 0) (hp : t.val - 1 < cfg0.N) (q : Fin 704) :
    (outsAt0 m c t.val t.isLt).2.2.1 (ix4 0 1 0 q) = (outsAt0 m c (t.val - 1) hp).2.2.1 (ix4 0 1 0 q) + ∑ x : Fin 512, (A m c).dz 1 (row0 t + x.val) (cb t) q := by
  by_cases h1 : t.val % 8 = 7
  · rw [outsAt0_C m c t h0 h1]
    frame_out
    rw [canon_load (ms0_12 t).view _ (Rect.unit ![0, 1, 0, 0] ![1, 1, 1, 704] inb_S1x2x1x704_S1x1x1x704_0_1_0_0) (ix4 0 1 0 q) (ix4 0 0 0 q) (idx_bias 1 (by omega) _ q)]
    simp (disch := decide) only [↓ View.readCov_skip, ↓ View.readCov_cons_toLoadRect, ↓ View.readCov_fill, read_unread_whole]
    simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
    exact (dcb_pair (dyb_at (subHi (wt_prev m c t h0 hp))) (dyb_at (subLo (wt_prev m c t h0 hp))) _ q).trans (congrArg (fun i => (outsAt0 m c (t.val - 1) _).2.2.1 i + _) (idx_bias 1 (by omega) _ q))
  · rw [outsAt0_B m c t h0 h1]
    frame_out
    rw [canon_load (ms0_12 t).view _ (Rect.unit ![0, 1, 0, 0] ![1, 1, 1, 704] inb_S1x2x1x704_S1x1x1x704_0_1_0_0) (ix4 0 1 0 q) (ix4 0 0 0 q) (idx_bias 1 (by omega) _ q)]
    simp (disch := decide) only [↓ View.readCov_skip, ↓ View.readCov_cons_toLoadRect, ↓ View.readCov_fill, read_unread_whole]
    simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
    exact (dcb_pair (dyb_at (subHi (wt_prev m c t h0 hp))) (dyb_at (subLo (wt_prev m c t h0 hp))) _ q).trans (congrArg (fun i => (outsAt0 m c (t.val - 1) _).2.2.1 i + _) (idx_bias 1 (by omega) _ q))

/-- The first point of a block of columns: tap 0, half 0. -/
theorem tap0_0_first (t : Fin cfg0.N) (h0 : t.val % 8 = 0) (q : Fin 704) :
    (outsAt0 m c t.val t.isLt).2.1 (ix4 0 0 0 q) = 0 + ∑ x : Fin 512, (A m c).dz 0 (row0 t + x.val + 2) (cb t) q * uz (A m c) 0 (cb t) (row0 t + x.val) q := by
  rw [outsAt0_A m c t h0 (by omega)]
  frame_out
  rw [canon_load (ms0_11 t).view _ (Rect.unit ![0, 0, 0, 0] ![1, 1, 1, 704] inb_S1x2x3x704_S1x1x1x704_0_0_0_0) (ix4 0 0 0 q) (ix4 0 0 0 q) (idx_tap 0 0 (by omega) (by omega) _ q)]
  simp (disch := decide) only [↓ View.readCov_skip, ↓ View.readCov_cons_toLoadRect, ↓ View.readCov_fill, read_unread_whole]
  simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
  exact (t0_pair (dya_at (subHi (wt_new m c t))) (dya_at (subLo (wt_new m c t))) (top_zero m c t h0 zero_a) (u_of (o := 256) (by omega) (blk2 m c t) _) (u_of (o := 0) (by omega) (blk2 m c t) _) _ q).trans (congrArg (· + _) (zero_taps _))

/-- A later point: tap 0, half 0. -/
theorem tap0_0_next (t : Fin cfg0.N) (h0 : ¬t.val % 8 = 0) (hp : t.val - 1 < cfg0.N) (q : Fin 704) :
    (outsAt0 m c t.val t.isLt).2.1 (ix4 0 0 0 q) = (outsAt0 m c (t.val - 1) hp).2.1 (ix4 0 0 0 q) + ∑ x : Fin 512, (A m c).dz 0 (row0 t + x.val + 2) (cb t) q * uz (A m c) 0 (cb t) (row0 t + x.val) q := by
  by_cases h1 : t.val % 8 = 7
  · rw [outsAt0_C m c t h0 h1]
    frame_out
    rw [canon_load (ms0_11 t).view _ (Rect.unit ![0, 0, 0, 0] ![1, 1, 1, 704] inb_S1x2x3x704_S1x1x1x704_0_0_0_0) (ix4 0 0 0 q) (ix4 0 0 0 q) (idx_tap 0 0 (by omega) (by omega) _ q)]
    simp (disch := decide) only [↓ View.readCov_skip, ↓ View.readCov_cons_toLoadRect, ↓ View.readCov_fill, read_unread_whole]
    simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
    exact (t0_pair (dya_at (subHi (wt_prev m c t h0 hp))) (dya_at (subLo (wt_prev m c t h0 hp))) (top_prev m c t h0 hp (top_a m c ⟨t.val - 1, hp⟩)) (u_of (o := 256) (by omega) (blk2 m c t) _) (u_of (o := 0) (by omega) (blk2 m c t) _) _ q).trans (congrArg (fun i => (outsAt0 m c (t.val - 1) _).2.1 i + _) (idx_tap 0 0 (by omega) (by omega) _ q))
  · rw [outsAt0_B m c t h0 h1]
    frame_out
    rw [canon_load (ms0_11 t).view _ (Rect.unit ![0, 0, 0, 0] ![1, 1, 1, 704] inb_S1x2x3x704_S1x1x1x704_0_0_0_0) (ix4 0 0 0 q) (ix4 0 0 0 q) (idx_tap 0 0 (by omega) (by omega) _ q)]
    simp (disch := decide) only [↓ View.readCov_skip, ↓ View.readCov_cons_toLoadRect, ↓ View.readCov_fill, read_unread_whole]
    simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
    exact (t0_pair (dya_at (subHi (wt_prev m c t h0 hp))) (dya_at (subLo (wt_prev m c t h0 hp))) (top_prev m c t h0 hp (top_a m c ⟨t.val - 1, hp⟩)) (u_of (o := 256) (by omega) (blk2 m c t) _) (u_of (o := 0) (by omega) (blk2 m c t) _) _ q).trans (congrArg (fun i => (outsAt0 m c (t.val - 1) _).2.1 i + _) (idx_tap 0 0 (by omega) (by omega) _ q))

/-- The first point of a block of columns: tap 1, half 0. -/
theorem tap1_0_first (t : Fin cfg0.N) (h0 : t.val % 8 = 0) (q : Fin 704) :
    (outsAt0 m c t.val t.isLt).2.1 (ix4 0 0 1 q) = 0 + ∑ x : Fin 512, (A m c).dz 0 (row0 t + x.val + 1) (cb t) q * uz (A m c) 0 (cb t) (row0 t + x.val) q := by
  rw [outsAt0_A m c t h0 (by omega)]
  frame_out
  rw [canon_load (ms0_11 t).view _ (Rect.unit ![0, 0, 1, 0] ![1, 1, 1, 704] inb_S1x2x3x704_S1x1x1x704_0_0_1_0) (ix4 0 0 1 q) (ix4 0 0 0 q) (idx_tap 0 1 (by omega) (by omega) _ q)]
  simp (disch := decide) only [↓ View.readCov_skip, ↓ View.readCov_cons_toLoadRect, ↓ View.readCov_fill, read_unread_whole]
  simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
  exact (t1_pair (dya_at (subHi (wt_new m c t))) (dya_at (subLo (wt_new m c t))) (top_zero m c t h0 zero_a) (u_of (o := 256) (by omega) (blk2 m c t) _) (u_of (o := 0) (by omega) (blk2 m c t) _) _ q).trans (congrArg (· + _) (zero_taps _))

/-- A later point: tap 1, half 0. -/
theorem tap1_0_next (t : Fin cfg0.N) (h0 : ¬t.val % 8 = 0) (hp : t.val - 1 < cfg0.N) (q : Fin 704) :
    (outsAt0 m c t.val t.isLt).2.1 (ix4 0 0 1 q) = (outsAt0 m c (t.val - 1) hp).2.1 (ix4 0 0 1 q) + ∑ x : Fin 512, (A m c).dz 0 (row0 t + x.val + 1) (cb t) q * uz (A m c) 0 (cb t) (row0 t + x.val) q := by
  by_cases h1 : t.val % 8 = 7
  · rw [outsAt0_C m c t h0 h1]
    frame_out
    rw [canon_load (ms0_11 t).view _ (Rect.unit ![0, 0, 1, 0] ![1, 1, 1, 704] inb_S1x2x3x704_S1x1x1x704_0_0_1_0) (ix4 0 0 1 q) (ix4 0 0 0 q) (idx_tap 0 1 (by omega) (by omega) _ q)]
    simp (disch := decide) only [↓ View.readCov_skip, ↓ View.readCov_cons_toLoadRect, ↓ View.readCov_fill, read_unread_whole]
    simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
    exact (t1_pair (dya_at (subHi (wt_prev m c t h0 hp))) (dya_at (subLo (wt_prev m c t h0 hp))) (top_prev m c t h0 hp (top_a m c ⟨t.val - 1, hp⟩)) (u_of (o := 256) (by omega) (blk2 m c t) _) (u_of (o := 0) (by omega) (blk2 m c t) _) _ q).trans (congrArg (fun i => (outsAt0 m c (t.val - 1) _).2.1 i + _) (idx_tap 0 1 (by omega) (by omega) _ q))
  · rw [outsAt0_B m c t h0 h1]
    frame_out
    rw [canon_load (ms0_11 t).view _ (Rect.unit ![0, 0, 1, 0] ![1, 1, 1, 704] inb_S1x2x3x704_S1x1x1x704_0_0_1_0) (ix4 0 0 1 q) (ix4 0 0 0 q) (idx_tap 0 1 (by omega) (by omega) _ q)]
    simp (disch := decide) only [↓ View.readCov_skip, ↓ View.readCov_cons_toLoadRect, ↓ View.readCov_fill, read_unread_whole]
    simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
    exact (t1_pair (dya_at (subHi (wt_prev m c t h0 hp))) (dya_at (subLo (wt_prev m c t h0 hp))) (top_prev m c t h0 hp (top_a m c ⟨t.val - 1, hp⟩)) (u_of (o := 256) (by omega) (blk2 m c t) _) (u_of (o := 0) (by omega) (blk2 m c t) _) _ q).trans (congrArg (fun i => (outsAt0 m c (t.val - 1) _).2.1 i + _) (idx_tap 0 1 (by omega) (by omega) _ q))

/-- The first point of a block of columns: tap 2, half 0. -/
theorem tap2_0_first (t : Fin cfg0.N) (h0 : t.val % 8 = 0) (q : Fin 704) :
    (outsAt0 m c t.val t.isLt).2.1 (ix4 0 0 2 q) = 0 + ∑ x : Fin 512, (A m c).dz 0 (row0 t + x.val) (cb t) q * uz (A m c) 0 (cb t) (row0 t + x.val) q := by
  rw [outsAt0_A m c t h0 (by omega)]
  frame_out
  rw [canon_load (ms0_11 t).view _ (Rect.unit ![0, 0, 2, 0] ![1, 1, 1, 704] inb_S1x2x3x704_S1x1x1x704_0_0_2_0) (ix4 0 0 2 q) (ix4 0 0 0 q) (idx_tap 0 2 (by omega) (by omega) _ q)]
  simp (disch := decide) only [↓ View.readCov_skip, ↓ View.readCov_cons_toLoadRect, ↓ View.readCov_fill, read_unread_whole]
  simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
  exact (t2_pair (dya_at (subHi (wt_new m c t))) (dya_at (subLo (wt_new m c t))) (u_of (o := 256) (by omega) (blk2 m c t) _) (u_of (o := 0) (by omega) (blk2 m c t) _) _ q).trans (congrArg (· + _) (zero_taps _))

/-- A later point: tap 2, half 0. -/
theorem tap2_0_next (t : Fin cfg0.N) (h0 : ¬t.val % 8 = 0) (hp : t.val - 1 < cfg0.N) (q : Fin 704) :
    (outsAt0 m c t.val t.isLt).2.1 (ix4 0 0 2 q) = (outsAt0 m c (t.val - 1) hp).2.1 (ix4 0 0 2 q) + ∑ x : Fin 512, (A m c).dz 0 (row0 t + x.val) (cb t) q * uz (A m c) 0 (cb t) (row0 t + x.val) q := by
  by_cases h1 : t.val % 8 = 7
  · rw [outsAt0_C m c t h0 h1]
    frame_out
    rw [canon_load (ms0_11 t).view _ (Rect.unit ![0, 0, 2, 0] ![1, 1, 1, 704] inb_S1x2x3x704_S1x1x1x704_0_0_2_0) (ix4 0 0 2 q) (ix4 0 0 0 q) (idx_tap 0 2 (by omega) (by omega) _ q)]
    simp (disch := decide) only [↓ View.readCov_skip, ↓ View.readCov_cons_toLoadRect, ↓ View.readCov_fill, read_unread_whole]
    simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
    exact (t2_pair (dya_at (subHi (wt_prev m c t h0 hp))) (dya_at (subLo (wt_prev m c t h0 hp))) (u_of (o := 256) (by omega) (blk2 m c t) _) (u_of (o := 0) (by omega) (blk2 m c t) _) _ q).trans (congrArg (fun i => (outsAt0 m c (t.val - 1) _).2.1 i + _) (idx_tap 0 2 (by omega) (by omega) _ q))
  · rw [outsAt0_B m c t h0 h1]
    frame_out
    rw [canon_load (ms0_11 t).view _ (Rect.unit ![0, 0, 2, 0] ![1, 1, 1, 704] inb_S1x2x3x704_S1x1x1x704_0_0_2_0) (ix4 0 0 2 q) (ix4 0 0 0 q) (idx_tap 0 2 (by omega) (by omega) _ q)]
    simp (disch := decide) only [↓ View.readCov_skip, ↓ View.readCov_cons_toLoadRect, ↓ View.readCov_fill, read_unread_whole]
    simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
    exact (t2_pair (dya_at (subHi (wt_prev m c t h0 hp))) (dya_at (subLo (wt_prev m c t h0 hp))) (u_of (o := 256) (by omega) (blk2 m c t) _) (u_of (o := 0) (by omega) (blk2 m c t) _) _ q).trans (congrArg (fun i => (outsAt0 m c (t.val - 1) _).2.1 i + _) (idx_tap 0 2 (by omega) (by omega) _ q))

/-- The first point of a block of columns: tap 0, half 1. -/
theorem tap0_1_first (t : Fin cfg0.N) (h0 : t.val % 8 = 0) (q : Fin 704) :
    (outsAt0 m c t.val t.isLt).2.1 (ix4 0 1 0 q) = 0 + ∑ x : Fin 512, (A m c).dz 1 (row0 t + x.val + 2) (cb t) q * uz (A m c) 1 (cb t) (row0 t + x.val) q := by
  rw [outsAt0_A m c t h0 (by omega)]
  frame_out
  rw [canon_load (ms0_11 t).view _ (Rect.unit ![0, 1, 0, 0] ![1, 1, 1, 704] inb_S1x2x3x704_S1x1x1x704_0_1_0_0) (ix4 0 1 0 q) (ix4 0 0 0 q) (idx_tap 1 0 (by omega) (by omega) _ q)]
  simp (disch := decide) only [↓ View.readCov_skip, ↓ View.readCov_cons_toLoadRect, ↓ View.readCov_fill, read_unread_whole]
  simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
  exact (t0_pair (dyb_at (subHi (wt_new m c t))) (dyb_at (subLo (wt_new m c t))) (top_zero m c t h0 zero_b) (u_of (o := 256) (by omega) (blk3 m c t) _) (u_of (o := 0) (by omega) (blk3 m c t) _) _ q).trans (congrArg (· + _) (zero_taps _))

/-- A later point: tap 0, half 1. -/
theorem tap0_1_next (t : Fin cfg0.N) (h0 : ¬t.val % 8 = 0) (hp : t.val - 1 < cfg0.N) (q : Fin 704) :
    (outsAt0 m c t.val t.isLt).2.1 (ix4 0 1 0 q) = (outsAt0 m c (t.val - 1) hp).2.1 (ix4 0 1 0 q) + ∑ x : Fin 512, (A m c).dz 1 (row0 t + x.val + 2) (cb t) q * uz (A m c) 1 (cb t) (row0 t + x.val) q := by
  by_cases h1 : t.val % 8 = 7
  · rw [outsAt0_C m c t h0 h1]
    frame_out
    rw [canon_load (ms0_11 t).view _ (Rect.unit ![0, 1, 0, 0] ![1, 1, 1, 704] inb_S1x2x3x704_S1x1x1x704_0_1_0_0) (ix4 0 1 0 q) (ix4 0 0 0 q) (idx_tap 1 0 (by omega) (by omega) _ q)]
    simp (disch := decide) only [↓ View.readCov_skip, ↓ View.readCov_cons_toLoadRect, ↓ View.readCov_fill, read_unread_whole]
    simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
    exact (t0_pair (dyb_at (subHi (wt_prev m c t h0 hp))) (dyb_at (subLo (wt_prev m c t h0 hp))) (top_prev m c t h0 hp (top_b m c ⟨t.val - 1, hp⟩)) (u_of (o := 256) (by omega) (blk3 m c t) _) (u_of (o := 0) (by omega) (blk3 m c t) _) _ q).trans (congrArg (fun i => (outsAt0 m c (t.val - 1) _).2.1 i + _) (idx_tap 1 0 (by omega) (by omega) _ q))
  · rw [outsAt0_B m c t h0 h1]
    frame_out
    rw [canon_load (ms0_11 t).view _ (Rect.unit ![0, 1, 0, 0] ![1, 1, 1, 704] inb_S1x2x3x704_S1x1x1x704_0_1_0_0) (ix4 0 1 0 q) (ix4 0 0 0 q) (idx_tap 1 0 (by omega) (by omega) _ q)]
    simp (disch := decide) only [↓ View.readCov_skip, ↓ View.readCov_cons_toLoadRect, ↓ View.readCov_fill, read_unread_whole]
    simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
    exact (t0_pair (dyb_at (subHi (wt_prev m c t h0 hp))) (dyb_at (subLo (wt_prev m c t h0 hp))) (top_prev m c t h0 hp (top_b m c ⟨t.val - 1, hp⟩)) (u_of (o := 256) (by omega) (blk3 m c t) _) (u_of (o := 0) (by omega) (blk3 m c t) _) _ q).trans (congrArg (fun i => (outsAt0 m c (t.val - 1) _).2.1 i + _) (idx_tap 1 0 (by omega) (by omega) _ q))

/-- The first point of a block of columns: tap 1, half 1. -/
theorem tap1_1_first (t : Fin cfg0.N) (h0 : t.val % 8 = 0) (q : Fin 704) :
    (outsAt0 m c t.val t.isLt).2.1 (ix4 0 1 1 q) = 0 + ∑ x : Fin 512, (A m c).dz 1 (row0 t + x.val + 1) (cb t) q * uz (A m c) 1 (cb t) (row0 t + x.val) q := by
  rw [outsAt0_A m c t h0 (by omega)]
  frame_out
  rw [canon_load (ms0_11 t).view _ (Rect.unit ![0, 1, 1, 0] ![1, 1, 1, 704] inb_S1x2x3x704_S1x1x1x704_0_1_1_0) (ix4 0 1 1 q) (ix4 0 0 0 q) (idx_tap 1 1 (by omega) (by omega) _ q)]
  simp (disch := decide) only [↓ View.readCov_skip, ↓ View.readCov_cons_toLoadRect, ↓ View.readCov_fill, read_unread_whole]
  simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
  exact (t1_pair (dyb_at (subHi (wt_new m c t))) (dyb_at (subLo (wt_new m c t))) (top_zero m c t h0 zero_b) (u_of (o := 256) (by omega) (blk3 m c t) _) (u_of (o := 0) (by omega) (blk3 m c t) _) _ q).trans (congrArg (· + _) (zero_taps _))

/-- A later point: tap 1, half 1. -/
theorem tap1_1_next (t : Fin cfg0.N) (h0 : ¬t.val % 8 = 0) (hp : t.val - 1 < cfg0.N) (q : Fin 704) :
    (outsAt0 m c t.val t.isLt).2.1 (ix4 0 1 1 q) = (outsAt0 m c (t.val - 1) hp).2.1 (ix4 0 1 1 q) + ∑ x : Fin 512, (A m c).dz 1 (row0 t + x.val + 1) (cb t) q * uz (A m c) 1 (cb t) (row0 t + x.val) q := by
  by_cases h1 : t.val % 8 = 7
  · rw [outsAt0_C m c t h0 h1]
    frame_out
    rw [canon_load (ms0_11 t).view _ (Rect.unit ![0, 1, 1, 0] ![1, 1, 1, 704] inb_S1x2x3x704_S1x1x1x704_0_1_1_0) (ix4 0 1 1 q) (ix4 0 0 0 q) (idx_tap 1 1 (by omega) (by omega) _ q)]
    simp (disch := decide) only [↓ View.readCov_skip, ↓ View.readCov_cons_toLoadRect, ↓ View.readCov_fill, read_unread_whole]
    simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
    exact (t1_pair (dyb_at (subHi (wt_prev m c t h0 hp))) (dyb_at (subLo (wt_prev m c t h0 hp))) (top_prev m c t h0 hp (top_b m c ⟨t.val - 1, hp⟩)) (u_of (o := 256) (by omega) (blk3 m c t) _) (u_of (o := 0) (by omega) (blk3 m c t) _) _ q).trans (congrArg (fun i => (outsAt0 m c (t.val - 1) _).2.1 i + _) (idx_tap 1 1 (by omega) (by omega) _ q))
  · rw [outsAt0_B m c t h0 h1]
    frame_out
    rw [canon_load (ms0_11 t).view _ (Rect.unit ![0, 1, 1, 0] ![1, 1, 1, 704] inb_S1x2x3x704_S1x1x1x704_0_1_1_0) (ix4 0 1 1 q) (ix4 0 0 0 q) (idx_tap 1 1 (by omega) (by omega) _ q)]
    simp (disch := decide) only [↓ View.readCov_skip, ↓ View.readCov_cons_toLoadRect, ↓ View.readCov_fill, read_unread_whole]
    simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
    exact (t1_pair (dyb_at (subHi (wt_prev m c t h0 hp))) (dyb_at (subLo (wt_prev m c t h0 hp))) (top_prev m c t h0 hp (top_b m c ⟨t.val - 1, hp⟩)) (u_of (o := 256) (by omega) (blk3 m c t) _) (u_of (o := 0) (by omega) (blk3 m c t) _) _ q).trans (congrArg (fun i => (outsAt0 m c (t.val - 1) _).2.1 i + _) (idx_tap 1 1 (by omega) (by omega) _ q))

/-- The first point of a block of columns: tap 2, half 1. -/
theorem tap2_1_first (t : Fin cfg0.N) (h0 : t.val % 8 = 0) (q : Fin 704) :
    (outsAt0 m c t.val t.isLt).2.1 (ix4 0 1 2 q) = 0 + ∑ x : Fin 512, (A m c).dz 1 (row0 t + x.val) (cb t) q * uz (A m c) 1 (cb t) (row0 t + x.val) q := by
  rw [outsAt0_A m c t h0 (by omega)]
  frame_out
  rw [canon_load (ms0_11 t).view _ (Rect.unit ![0, 1, 2, 0] ![1, 1, 1, 704] inb_S1x2x3x704_S1x1x1x704_0_1_2_0) (ix4 0 1 2 q) (ix4 0 0 0 q) (idx_tap 1 2 (by omega) (by omega) _ q)]
  simp (disch := decide) only [↓ View.readCov_skip, ↓ View.readCov_cons_toLoadRect, ↓ View.readCov_fill, read_unread_whole]
  simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
  exact (t2_pair (dyb_at (subHi (wt_new m c t))) (dyb_at (subLo (wt_new m c t))) (u_of (o := 256) (by omega) (blk3 m c t) _) (u_of (o := 0) (by omega) (blk3 m c t) _) _ q).trans (congrArg (· + _) (zero_taps _))

/-- A later point: tap 2, half 1. -/
theorem tap2_1_next (t : Fin cfg0.N) (h0 : ¬t.val % 8 = 0) (hp : t.val - 1 < cfg0.N) (q : Fin 704) :
    (outsAt0 m c t.val t.isLt).2.1 (ix4 0 1 2 q) = (outsAt0 m c (t.val - 1) hp).2.1 (ix4 0 1 2 q) + ∑ x : Fin 512, (A m c).dz 1 (row0 t + x.val) (cb t) q * uz (A m c) 1 (cb t) (row0 t + x.val) q := by
  by_cases h1 : t.val % 8 = 7
  · rw [outsAt0_C m c t h0 h1]
    frame_out
    rw [canon_load (ms0_11 t).view _ (Rect.unit ![0, 1, 2, 0] ![1, 1, 1, 704] inb_S1x2x3x704_S1x1x1x704_0_1_2_0) (ix4 0 1 2 q) (ix4 0 0 0 q) (idx_tap 1 2 (by omega) (by omega) _ q)]
    simp (disch := decide) only [↓ View.readCov_skip, ↓ View.readCov_cons_toLoadRect, ↓ View.readCov_fill, read_unread_whole]
    simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
    exact (t2_pair (dyb_at (subHi (wt_prev m c t h0 hp))) (dyb_at (subLo (wt_prev m c t h0 hp))) (u_of (o := 256) (by omega) (blk3 m c t) _) (u_of (o := 0) (by omega) (blk3 m c t) _) _ q).trans (congrArg (fun i => (outsAt0 m c (t.val - 1) _).2.1 i + _) (idx_tap 1 2 (by omega) (by omega) _ q))
  · rw [outsAt0_B m c t h0 h1]
    frame_out
    rw [canon_load (ms0_11 t).view _ (Rect.unit ![0, 1, 2, 0] ![1, 1, 1, 704] inb_S1x2x3x704_S1x1x1x704_0_1_2_0) (ix4 0 1 2 q) (ix4 0 0 0 q) (idx_tap 1 2 (by omega) (by omega) _ q)]
    simp (disch := decide) only [↓ View.readCov_skip, ↓ View.readCov_cons_toLoadRect, ↓ View.readCov_fill, read_unread_whole]
    simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55]
    exact (t2_pair (dyb_at (subHi (wt_prev m c t h0 hp))) (dyb_at (subLo (wt_prev m c t h0 hp))) (u_of (o := 256) (by omega) (blk3 m c t) _) (u_of (o := 0) (by omega) (blk3 m c t) _) _ q).trans (congrArg (fun i => (outsAt0 m c (t.val - 1) _).2.1 i + _) (idx_tap 1 2 (by omega) (by omega) _ q))

end Cert.KernelIdeal.Body

end
-- ==== Proof.Products.lean ====
/-
  What one grid point writes of the gradient at the up-projection, and what it adds to the three products it
  accumulates: the gradients of the down-projection's weights and of the two halves of the up-projection's.
-/
module

public import proofs.«01_k».proof.Proof.Body

@[expose] public section

set_option maxRecDepth 16384

noncomputable section

namespace Cert.KernelIdeal.Body

open Idealize.ShloMosaic Idealize.ShloMosaic.TcCoe Idealize.SL.Sem
open Cert.KernelIdeal Cert.KernelIdeal.Gen
open Cert.Ffn (col mid)

variable (m : (ℓ : Loc nD τ sig) → Buf (Elt Ideal) ℓ) (c : Dev nD)

/-! ## The gradient at the up-projection -/

theorem idx_dup (p o n : ℕ) (hp : p < 2) (ho : o + n ≤ 512) (inb) (x : Fin n) (q : Fin 704) :
    (Rect.unit (s := S1x2x512x704) ![0, p, o, 0] ![1, 1, n, 704] inb).idx (ix4 0 0 x q) = ix4 0 ⟨p, hp⟩ ⟨o + x.val, by omega⟩ q :=
  funext fun a => Fin.ext (by
    rw [Rect.idx_unit_val]
    match a with
    | ⟨0, _⟩ => rfl
    | ⟨1, _⟩ => rfl
    | ⟨2, _⟩ => rfl
    | ⟨3, _⟩ => exact Nat.zero_add _)

variable {m c} in
/-- The three taps a point reads. -/
theorem w_of {t : Fin cfg0.N} {p : Fin 2} {X : Vec Ideal S1x3x704 .f32}
    (hX : ∀ (k : Fin 3) (q : Fin 704), X (ix3 0 k q) = (A m c).W k (col p (cb t) q)) (k : ℕ) (hk : k < 3) (inb) (q : Fin 704) :
    View.ld X (Rect.unit ![0, k, 0] ![1, 1, 704] inb) (ix3 0 0 q) = (A m c).W ⟨k, hk⟩ (col p (cb t) q) :=
  (ld_w X k hk inb q).trans (hX _ q)

/-- Half 0, rows 256 to 511 of the point. -/
theorem du0_hi (t : Fin cfg0.N) (x : Fin 256) (q : Fin 704) :
    (outsAt0 m c t.val t.isLt).1 (ix4 0 0 ⟨256 + x.val, by omega⟩ q) = (A m c).du 0 (row0 t + 256 + x.val) (cb t) q := by
  by_cases h0 : t.val % 8 = 0
  · rw [outsAt0_A m c t h0 (by omega)]
    frame_out
    rw [canon_load (ms0_10 t).view _ (Rect.unit ![0, 0, 256, 0] ![1, 1, 256, 704] inb_S1x2x512x704_S1x1x256x704_0_0_256_0) (ix4 0 0 ⟨256 + x.val, by omega⟩ q) (ix4 0 0 x q) (idx_dup 0 256 256 (by omega) (by omega) _ x q)]
    simp (disch := decide) only [↓ View.readCov_skip, ↓ View.readCov_cons_toLoadRect, ↓ View.readCov_fill, read_unread_whole]
    simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55, du_name23, du_name50, du_name60]
    exact du_at (dya_at (subHi (wt_new m c t))) (top_zero m c t h0 zero_a) (w_of (blk6 m c t) 0 (by omega) _) (w_of (blk6 m c t) 1 (by omega) _) (w_of (blk6 m c t) 2 (by omega) _) x q
  · by_cases h1 : t.val % 8 = 7
    · rw [outsAt0_C m c t h0 h1]
      frame_out
      rw [canon_load (ms0_10 t).view _ (Rect.unit ![0, 0, 256, 0] ![1, 1, 256, 704] inb_S1x2x512x704_S1x1x256x704_0_0_256_0) (ix4 0 0 ⟨256 + x.val, by omega⟩ q) (ix4 0 0 x q) (idx_dup 0 256 256 (by omega) (by omega) _ x q)]
      simp (disch := decide) only [↓ View.readCov_skip, ↓ View.readCov_cons_toLoadRect, ↓ View.readCov_fill, read_unread_whole]
      simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55, du_name23, du_name50, du_name60]
      exact du_at (dya_at (subHi (wt_prev m c t h0 (Nat.lt_of_le_of_lt (Nat.sub_le t.val 1) t.isLt)))) (top_prev m c t h0 (Nat.lt_of_le_of_lt (Nat.sub_le t.val 1) t.isLt) (top_a m c ⟨t.val - 1, _⟩)) (w_of (blk6 m c t) 0 (by omega) _) (w_of (blk6 m c t) 1 (by omega) _) (w_of (blk6 m c t) 2 (by omega) _) x q
    · rw [outsAt0_B m c t h0 h1]
      frame_out
      rw [canon_load (ms0_10 t).view _ (Rect.unit ![0, 0, 256, 0] ![1, 1, 256, 704] inb_S1x2x512x704_S1x1x256x704_0_0_256_0) (ix4 0 0 ⟨256 + x.val, by omega⟩ q) (ix4 0 0 x q) (idx_dup 0 256 256 (by omega) (by omega) _ x q)]
      simp (disch := decide) only [↓ View.readCov_skip, ↓ View.readCov_cons_toLoadRect, ↓ View.readCov_fill, read_unread_whole]
      simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55, du_name23, du_name50, du_name60]
      exact du_at (dya_at (subHi (wt_prev m c t h0 (Nat.lt_of_le_of_lt (Nat.sub_le t.val 1) t.isLt)))) (top_prev m c t h0 (Nat.lt_of_le_of_lt (Nat.sub_le t.val 1) t.isLt) (top_a m c ⟨t.val - 1, _⟩)) (w_of (blk6 m c t) 0 (by omega) _) (w_of (blk6 m c t) 1 (by omega) _) (w_of (blk6 m c t) 2 (by omega) _) x q

/-- Half 0, rows 0 to 255 of the point. -/
theorem du0_lo (t : Fin cfg0.N) (x : Fin 256) (q : Fin 704) :
    (outsAt0 m c t.val t.isLt).1 (ix4 0 0 ⟨0 + x.val, by omega⟩ q) = (A m c).du 0 (row0 t + 0 + x.val) (cb t) q := by
  by_cases h0 : t.val % 8 = 0
  · rw [outsAt0_A m c t h0 (by omega)]
    frame_out
    rw [canon_load (ms0_10 t).view _ (Rect.unit ![0, 0, 0, 0] ![1, 1, 256, 704] inb_S1x2x512x704_S1x1x256x704_0_0_0_0) (ix4 0 0 ⟨0 + x.val, by omega⟩ q) (ix4 0 0 x q) (idx_dup 0 0 256 (by omega) (by omega) _ x q)]
    simp (disch := decide) only [↓ View.readCov_skip, ↓ View.readCov_cons_toLoadRect, ↓ View.readCov_fill, read_unread_whole]
    simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55, du_name23, du_name50, du_name60]
    exact du_at (dya_at (subLo (wt_new m c t))) (top_at (dya_at (subHi (wt_new m c t)))) (w_of (blk6 m c t) 0 (by omega) _) (w_of (blk6 m c t) 1 (by omega) _) (w_of (blk6 m c t) 2 (by omega) _) x q
  · by_cases h1 : t.val % 8 = 7
    · rw [outsAt0_C m c t h0 h1]
      frame_out
      rw [canon_load (ms0_10 t).view _ (Rect.unit ![0, 0, 0, 0] ![1, 1, 256, 704] inb_S1x2x512x704_S1x1x256x704_0_0_0_0) (ix4 0 0 ⟨0 + x.val, by omega⟩ q) (ix4 0 0 x q) (idx_dup 0 0 256 (by omega) (by omega) _ x q)]
      simp (disch := decide) only [↓ View.readCov_skip, ↓ View.readCov_cons_toLoadRect, ↓ View.readCov_fill, read_unread_whole]
      simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55, du_name23, du_name50, du_name60]
      exact du_at (dya_at (subLo (wt_prev m c t h0 (Nat.lt_of_le_of_lt (Nat.sub_le t.val 1) t.isLt)))) (top_at (dya_at (subHi (wt_prev m c t h0 (Nat.lt_of_le_of_lt (Nat.sub_le t.val 1) t.isLt))))) (w_of (blk6 m c t) 0 (by omega) _) (w_of (blk6 m c t) 1 (by omega) _) (w_of (blk6 m c t) 2 (by omega) _) x q
    · rw [outsAt0_B m c t h0 h1]
      frame_out
      rw [canon_load (ms0_10 t).view _ (Rect.unit ![0, 0, 0, 0] ![1, 1, 256, 704] inb_S1x2x512x704_S1x1x256x704_0_0_0_0) (ix4 0 0 ⟨0 + x.val, by omega⟩ q) (ix4 0 0 x q) (idx_dup 0 0 256 (by omega) (by omega) _ x q)]
      simp (disch := decide) only [↓ View.readCov_skip, ↓ View.readCov_cons_toLoadRect, ↓ View.readCov_fill, read_unread_whole]
      simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55, du_name23, du_name50, du_name60]
      exact du_at (dya_at (subLo (wt_prev m c t h0 (Nat.lt_of_le_of_lt (Nat.sub_le t.val 1) t.isLt)))) (top_at (dya_at (subHi (wt_prev m c t h0 (Nat.lt_of_le_of_lt (Nat.sub_le t.val 1) t.isLt))))) (w_of (blk6 m c t) 0 (by omega) _) (w_of (blk6 m c t) 1 (by omega) _) (w_of (blk6 m c t) 2 (by omega) _) x q

/-- Half 1, rows 256 to 511 of the point. -/
theorem du1_hi (t : Fin cfg0.N) (x : Fin 256) (q : Fin 704) :
    (outsAt0 m c t.val t.isLt).1 (ix4 0 1 ⟨256 + x.val, by omega⟩ q) = (A m c).du 1 (row0 t + 256 + x.val) (cb t) q := by
  by_cases h0 : t.val % 8 = 0
  · rw [outsAt0_A m c t h0 (by omega)]
    frame_out
    rw [canon_load (ms0_10 t).view _ (Rect.unit ![0, 1, 256, 0] ![1, 1, 256, 704] inb_S1x2x512x704_S1x1x256x704_0_1_256_0) (ix4 0 1 ⟨256 + x.val, by omega⟩ q) (ix4 0 0 x q) (idx_dup 1 256 256 (by omega) (by omega) _ x q)]
    simp (disch := decide) only [↓ View.readCov_skip, ↓ View.readCov_cons_toLoadRect, ↓ View.readCov_fill, read_unread_whole]
    exact du_at (dyb_at (subHi (wt_new m c t))) (top_zero m c t h0 zero_b) (w_of (blk7 m c t) 0 (by omega) _) (w_of (blk7 m c t) 1 (by omega) _) (w_of (blk7 m c t) 2 (by omega) _) x q
  · by_cases h1 : t.val % 8 = 7
    · rw [outsAt0_C m c t h0 h1]
      frame_out
      rw [canon_load (ms0_10 t).view _ (Rect.unit ![0, 1, 256, 0] ![1, 1, 256, 704] inb_S1x2x512x704_S1x1x256x704_0_1_256_0) (ix4 0 1 ⟨256 + x.val, by omega⟩ q) (ix4 0 0 x q) (idx_dup 1 256 256 (by omega) (by omega) _ x q)]
      simp (disch := decide) only [↓ View.readCov_skip, ↓ View.readCov_cons_toLoadRect, ↓ View.readCov_fill, read_unread_whole]
      exact du_at (dyb_at (subHi (wt_prev m c t h0 (Nat.lt_of_le_of_lt (Nat.sub_le t.val 1) t.isLt)))) (top_prev m c t h0 (Nat.lt_of_le_of_lt (Nat.sub_le t.val 1) t.isLt) (top_b m c ⟨t.val - 1, _⟩)) (w_of (blk7 m c t) 0 (by omega) _) (w_of (blk7 m c t) 1 (by omega) _) (w_of (blk7 m c t) 2 (by omega) _) x q
    · rw [outsAt0_B m c t h0 h1]
      frame_out
      rw [canon_load (ms0_10 t).view _ (Rect.unit ![0, 1, 256, 0] ![1, 1, 256, 704] inb_S1x2x512x704_S1x1x256x704_0_1_256_0) (ix4 0 1 ⟨256 + x.val, by omega⟩ q) (ix4 0 0 x q) (idx_dup 1 256 256 (by omega) (by omega) _ x q)]
      simp (disch := decide) only [↓ View.readCov_skip, ↓ View.readCov_cons_toLoadRect, ↓ View.readCov_fill, read_unread_whole]
      exact du_at (dyb_at (subHi (wt_prev m c t h0 (Nat.lt_of_le_of_lt (Nat.sub_le t.val 1) t.isLt)))) (top_prev m c t h0 (Nat.lt_of_le_of_lt (Nat.sub_le t.val 1) t.isLt) (top_b m c ⟨t.val - 1, _⟩)) (w_of (blk7 m c t) 0 (by omega) _) (w_of (blk7 m c t) 1 (by omega) _) (w_of (blk7 m c t) 2 (by omega) _) x q

/-- Half 1, rows 0 to 255 of the point. -/
theorem du1_lo (t : Fin cfg0.N) (x : Fin 256) (q : Fin 704) :
    (outsAt0 m c t.val t.isLt).1 (ix4 0 1 ⟨0 + x.val, by omega⟩ q) = (A m c).du 1 (row0 t + 0 + x.val) (cb t) q := by
  by_cases h0 : t.val % 8 = 0
  · rw [outsAt0_A m c t h0 (by omega)]
    frame_out
    rw [canon_load (ms0_10 t).view _ (Rect.unit ![0, 1, 0, 0] ![1, 1, 256, 704] inb_S1x2x512x704_S1x1x256x704_0_1_0_0) (ix4 0 1 ⟨0 + x.val, by omega⟩ q) (ix4 0 0 x q) (idx_dup 1 0 256 (by omega) (by omega) _ x q)]
    simp (disch := decide) only [↓ View.readCov_skip, ↓ View.readCov_cons_toLoadRect, ↓ View.readCov_fill, read_unread_whole]
    simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55, du_name23, du_name50, du_name60]
    exact du_at (dyb_at (subLo (wt_new m c t))) (top_at (dyb_at (subHi (wt_new m c t)))) (w_of (blk7 m c t) 0 (by omega) _) (w_of (blk7 m c t) 1 (by omega) _) (w_of (blk7 m c t) 2 (by omega) _) x q
  · by_cases h1 : t.val % 8 = 7
    · rw [outsAt0_C m c t h0 h1]
      frame_out
      rw [canon_load (ms0_10 t).view _ (Rect.unit ![0, 1, 0, 0] ![1, 1, 256, 704] inb_S1x2x512x704_S1x1x256x704_0_1_0_0) (ix4 0 1 ⟨0 + x.val, by omega⟩ q) (ix4 0 0 x q) (idx_dup 1 0 256 (by omega) (by omega) _ x q)]
      simp (disch := decide) only [↓ View.readCov_skip, ↓ View.readCov_cons_toLoadRect, ↓ View.readCov_fill, read_unread_whole]
      simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55, du_name23, du_name50, du_name60]
      exact du_at (dyb_at (subLo (wt_prev m c t h0 (Nat.lt_of_le_of_lt (Nat.sub_le t.val 1) t.isLt)))) (top_at (dyb_at (subHi (wt_prev m c t h0 (Nat.lt_of_le_of_lt (Nat.sub_le t.val 1) t.isLt))))) (w_of (blk7 m c t) 0 (by omega) _) (w_of (blk7 m c t) 1 (by omega) _) (w_of (blk7 m c t) 2 (by omega) _) x q
    · rw [outsAt0_B m c t h0 h1]
      frame_out
      rw [canon_load (ms0_10 t).view _ (Rect.unit ![0, 1, 0, 0] ![1, 1, 256, 704] inb_S1x2x512x704_S1x1x256x704_0_1_0_0) (ix4 0 1 ⟨0 + x.val, by omega⟩ q) (ix4 0 0 x q) (idx_dup 1 0 256 (by omega) (by omega) _ x q)]
      simp (disch := decide) only [↓ View.readCov_skip, ↓ View.readCov_cons_toLoadRect, ↓ View.readCov_fill, read_unread_whole]
      simp only [dya_name, dyb_name, u_name30, u_name46, u_name56, p1_name21, p1_name48, p1_name58, p2_name22, p2_name49, p2_name59, cb_name24, cb_name51, cb_name61, t0_name25, t0_name36, t0_name62, t1_name27, t1_name53, t1_name63, t2_name28, t2_name54, t2_name64, top_name29, top_name55, du_name23, du_name50, du_name60]
      exact du_at (dyb_at (subLo (wt_prev m c t h0 (Nat.lt_of_le_of_lt (Nat.sub_le t.val 1) t.isLt)))) (top_at (dyb_at (subHi (wt_prev m c t h0 (Nat.lt_of_le_of_lt (Nat.sub_le t.val 1) t.isLt))))) (w_of (blk7 m c t) 0 (by omega) _) (w_of (blk7 m c t) 1 (by omega) _) (w_of (blk7 m c t) 2 (by omega) _) x q

/-- The block of the gradient at the up-projection that a point writes. -/
theorem du_block (t : Fin cfg0.N) (p : Fin 2) (x : Fin 512) (q : Fin 704) :
    (outsAt0 m c t.val t.isLt).1 (ix4 0 p x q) = (A m c).du p (row0 t + x.val) (cb t) q := by
  by_cases hx : x.val < 256
  · obtain ⟨y, hy⟩ : ∃ y : Fin 256, x.val = y.val := ⟨⟨x.val, hx⟩, rfl⟩
    have e : x = ⟨0 + y.val, by omega⟩ := Fin.ext (by show x.val = 0 + y.val; omega)
    have er : row0 t + x.val = row0 t + 0 + y.val := by omega
    rw [er, e]
    match p with
    | ⟨0, _⟩ => exact du0_lo m c t y q
    | ⟨1, _⟩ => exact du1_lo m c t y q
  · obtain ⟨y, hy⟩ : ∃ y : Fin 256, x.val = 256 + y.val := ⟨⟨x.val - 256, by omega⟩, by show x.val = 256 + (x.val - 256); omega⟩
    have e : x = ⟨256 + y.val, by omega⟩ := Fin.ext hy
    have er : row0 t + x.val = row0 t + 256 + y.val := by omega
    rw [er, e]
    match p with
    | ⟨0, _⟩ => exact du0_hi m c t y q
    | ⟨1, _⟩ => exact du1_hi m c t y q

/-! ## The products over the point's rows -/

theorem accd_pay (a : Vec Ideal S704x1024 .f32) (B : Vec Ideal S1x512x704 .bf16) (h : Vec Ideal S512x1024 .bf16) (q : Fin 704) (d : Fin 1024) :
    k0_pay67 a B h (ix2 q d) = a (ix2 q d) + ∑ x : Fin 512, B (ix3 0 x q) * h (ix2 x d) := by
  pointwise [k0_pay67]

theorem acca_pay (a : Vec Ideal S704x1024 .f32) (B : Vec Ideal S1x1x512x704 .bf16) (h : Vec Ideal S512x1024 .bf16) (q : Fin 704) (d : Fin 1024) :
    k0_pay1 a (k0_pay68 B) h (ix2 q d) = a (ix2 q d) + ∑ x : Fin 512, B (ix4 0 0 x q) * h (ix2 x d) := by
  pointwise [k0_pay1, k0_pay68]

theorem accb_pay (a : Vec Ideal S704x1024 .f32) (B : Vec Ideal S1x1x512x704 .bf16) (h : Vec Ideal S512x1024 .bf16) (q : Fin 704) (d : Fin 1024) :
    k0_pay2 a B h (ix2 q d) = a (ix2 q d) + ∑ x : Fin 512, B (ix4 0 0 x q) * h (ix2 x d) := by
  pointwise [k0_pay2]

theorem zero_d (i : S704x1024.Idx) : (k0_pay10 : FVec Ideal S704x1024 .f32) i = 0 := by
  idx_vars i
  pointwise [k0_pay10]

theorem zero_ua (i : S704x1024.Idx) : (k0_pay11 : FVec Ideal S704x1024 .f32) i = 0 := by
  idx_vars i
  pointwise [k0_pay11]

theorem zero_ub (i : S704x1024.Idx) : (k0_pay12 : FVec Ideal S704x1024 .f32) i = 0 := by
  idx_vars i
  pointwise [k0_pay12]

/-- The first point of a block of columns: the down-projection's weights. -/
theorem accd_first (t : Fin cfg0.N) (h0 : t.val % 8 = 0) (q : Fin 704) (d : Fin 1024) :
    (outsAt0 m c t.val t.isLt).2.2.2.2.2.2.2.1 (ix2 q d) = 0 + ∑ x : Fin 512, (A m c).act (row t x) (cb t) q * (A m c).G (row t x) d := by
  rw [outsAt0_A m c t h0 (by omega)]
  frame_out
  refine (accd_pay _ _ _ q d).trans (congrArg₂ (· + ·) (zero_d _) (Finset.sum_congr rfl fun x _ => ?_))
  exact congrArg₂ (· * ·) (blk8 m c t x q) (blk0 m c t x d)

/-- A later point: the down-projection's weights. -/
theorem accd_next (t : Fin cfg0.N) (h0 : ¬t.val % 8 = 0) (hp : t.val - 1 < cfg0.N) (q : Fin 704) (d : Fin 1024) :
    (outsAt0 m c t.val t.isLt).2.2.2.2.2.2.2.1 (ix2 q d) = (outsAt0 m c (t.val - 1) hp).2.2.2.2.2.2.2.1 (ix2 q d) + ∑ x : Fin 512, (A m c).act (row t x) (cb t) q * (A m c).G (row t x) d := by
  by_cases h1 : t.val % 8 = 7
  · rw [outsAt0_C m c t h0 h1]
    frame_out
    simp only [read_unread_whole]
    refine (accd_pay _ _ _ q d).trans (congrArg (_ + ·) (Finset.sum_congr rfl fun x _ => ?_))
    exact congrArg₂ (· * ·) (blk8 m c t x q) (blk0 m c t x d)
  · rw [outsAt0_B m c t h0 h1]
    frame_out
    simp only [read_unread_whole]
    refine (accd_pay _ _ _ q d).trans (congrArg (_ + ·) (Finset.sum_congr rfl fun x _ => ?_))
    exact congrArg₂ (· * ·) (blk8 m c t x q) (blk0 m c t x d)

/-- The first point of a block of columns: half 0 of the up-projection's weights. -/
theorem acca_first (t : Fin cfg0.N) (h0 : t.val % 8 = 0) (q : Fin 704) (d : Fin 1024) :
    (outsAt0 m c t.val t.isLt).2.2.2.2.2.2.2.2.1 (ix2 q d) = 0 + ∑ x : Fin 512, (outsAt0 m c t.val t.isLt).1 (ix4 0 0 x q) * (A m c).H (row t x) d := by
  rw [outsAt0_A m c t h0 (by omega)]
  frame_out
  refine (acca_pay _ _ _ q d).trans (congrArg₂ (· + ·) (zero_ua _) (Finset.sum_congr rfl fun x _ => ?_))
  exact congrArg₂ (· * ·) ((congrFun (View.readCov_eq_canon' _ _ _) _).trans (congrArg (View.canon _) ((idx_dup 0 0 512 (by omega) (by omega) _ x q).trans (congrArg (fun y => ix4 0 0 y q) (Fin.ext (Nat.zero_add _)))))) (blk9 m c t x d)

/-- A later point: half 0 of the up-projection's weights. -/
theorem acca_next (t : Fin cfg0.N) (h0 : ¬t.val % 8 = 0) (hp : t.val - 1 < cfg0.N) (q : Fin 704) (d : Fin 1024) :
    (outsAt0 m c t.val t.isLt).2.2.2.2.2.2.2.2.1 (ix2 q d) = (outsAt0 m c (t.val - 1) hp).2.2.2.2.2.2.2.2.1 (ix2 q d) + ∑ x : Fin 512, (outsAt0 m c t.val t.isLt).1 (ix4 0 0 x q) * (A m c).H (row t x) d := by
  by_cases h1 : t.val % 8 = 7
  · rw [outsAt0_C m c t h0 h1]
    frame_out
    simp only [read_unread_whole]
    refine (acca_pay _ _ _ q d).trans (congrArg (_ + ·) (Finset.sum_congr rfl fun x _ => ?_))
    exact congrArg₂ (· * ·) ((congrFun (View.readCov_eq_canon' _ _ _) _).trans (congrArg (View.canon _) ((idx_dup 0 0 512 (by omega) (by omega) _ x q).trans (congrArg (fun y => ix4 0 0 y q) (Fin.ext (Nat.zero_add _)))))) (blk9 m c t x d)
  · rw [outsAt0_B m c t h0 h1]
    frame_out
    simp only [read_unread_whole]
    refine (acca_pay _ _ _ q d).trans (congrArg (_ + ·) (Finset.sum_congr rfl fun x _ => ?_))
    exact congrArg₂ (· * ·) ((congrFun (View.readCov_eq_canon' _ _ _) _).trans (congrArg (View.canon _) ((idx_dup 0 0 512 (by omega) (by omega) _ x q).trans (congrArg (fun y => ix4 0 0 y q) (Fin.ext (Nat.zero_add _)))))) (blk9 m c t x d)

/-- The first point of a block of columns: half 1 of the up-projection's weights. -/
theorem accb_first (t : Fin cfg0.N) (h0 : t.val % 8 = 0) (q : Fin 704) (d : Fin 1024) :
    (outsAt0 m c t.val t.isLt).2.2.2.2.2.2.2.2.2.1 (ix2 q d) = 0 + ∑ x : Fin 512, (outsAt0 m c t.val t.isLt).1 (ix4 0 1 x q) * (A m c).H (row t x) d := by
  rw [outsAt0_A m c t h0 (by omega)]
  frame_out
  refine (accb_pay _ _ _ q d).trans (congrArg₂ (· + ·) (zero_ub _) (Finset.sum_congr rfl fun x _ => ?_))
  exact congrArg₂ (· * ·) ((congrFun (View.readCov_eq_canon' _ _ _) _).trans (congrArg (View.canon _) ((idx_dup 1 0 512 (by omega) (by omega) _ x q).trans (congrArg (fun y => ix4 0 1 y q) (Fin.ext (Nat.zero_add _)))))) (blk9 m c t x d)

/-- A later point: half 1 of the up-projection's weights. -/
theorem accb_next (t : Fin cfg0.N) (h0 : ¬t.val % 8 = 0) (hp : t.val - 1 < cfg0.N) (q : Fin 704) (d : Fin 1024) :
    (outsAt0 m c t.val t.isLt).2.2.2.2.2.2.2.2.2.1 (ix2 q d) = (outsAt0 m c (t.val - 1) hp).2.2.2.2.2.2.2.2.2.1 (ix2 q d) + ∑ x : Fin 512, (outsAt0 m c t.val t.isLt).1 (ix4 0 1 x q) * (A m c).H (row t x) d := by
  by_cases h1 : t.val % 8 = 7
  · rw [outsAt0_C m c t h0 h1]
    frame_out
    simp only [read_unread_whole]
    refine (accb_pay _ _ _ q d).trans (congrArg (_ + ·) (Finset.sum_congr rfl fun x _ => ?_))
    exact congrArg₂ (· * ·) ((congrFun (View.readCov_eq_canon' _ _ _) _).trans (congrArg (View.canon _) ((idx_dup 1 0 512 (by omega) (by omega) _ x q).trans (congrArg (fun y => ix4 0 1 y q) (Fin.ext (Nat.zero_add _)))))) (blk9 m c t x d)
  · rw [outsAt0_B m c t h0 h1]
    frame_out
    simp only [read_unread_whole]
    refine (accb_pay _ _ _ q d).trans (congrArg (_ + ·) (Finset.sum_congr rfl fun x _ => ?_))
    exact congrArg₂ (· * ·) ((congrFun (View.readCov_eq_canon' _ _ _) _).trans (congrArg (View.canon _) ((idx_dup 1 0 512 (by omega) (by omega) _ x q).trans (congrArg (fun y => ix4 0 1 y q) (Fin.ext (Nat.zero_add _)))))) (blk9 m c t x d)

/-! ## The last point's results -/

theorem pd_pay (a : Vec Ideal S704x1024 .f32) (q : Fin 704) (d : Fin 1024) : k0_pay3 a (ix3 0 q d) = a (ix2 q d) := by
  pointwise [k0_pay3]

theorem pua_pay (a : Vec Ideal S704x1024 .f32) (q : Fin 704) (d : Fin 1024) : k0_pay4 a (ix4 0 0 q d) = a (ix2 q d) := by
  pointwise [k0_pay4]

theorem pub_pay (a : Vec Ideal S704x1024 .f32) (q : Fin 704) (d : Fin 1024) : k0_pay5 a (ix4 0 0 q d) = a (ix2 q d) := by
  pointwise [k0_pay5]

theorem idx_pu (p : ℕ) (hp : p < 2) (inb) (q : Fin 704) (d : Fin 1024) :
    (Rect.unit (s := S1x2x704x1024) ![0, p, 0, 0] ![1, 1, 704, 1024] inb).idx (ix4 0 0 q d) = ix4 0 ⟨p, hp⟩ q d :=
  funext fun a => Fin.ext (by
    rw [Rect.idx_unit_val]
    match a with
    | ⟨0, _⟩ => rfl
    | ⟨1, _⟩ => rfl
    | ⟨2, _⟩ => exact Nat.zero_add _
    | ⟨3, _⟩ => exact Nat.zero_add _)

theorem pd_out (t : Fin cfg0.N) (h0 : ¬t.val % 8 = 0) (h1 : t.val % 8 = 7) (q : Fin 704) (d : Fin 1024) :
    (outsAt0 m c t.val t.isLt).2.2.2.1 (ix3 0 q d) = (outsAt0 m c t.val t.isLt).2.2.2.2.2.2.2.1 (ix2 q d) := by
  rw [outsAt0_C m c t h0 h1]
  frame_out
  exact pd_pay _ q d

theorem pu0_out (t : Fin cfg0.N) (h0 : ¬t.val % 8 = 0) (h1 : t.val % 8 = 7) (q : Fin 704) (d : Fin 1024) :
    (outsAt0 m c t.val t.isLt).2.2.2.2.1 (ix4 0 0 q d) = (outsAt0 m c t.val t.isLt).2.2.2.2.2.2.2.2.1 (ix2 q d) := by
  rw [outsAt0_C m c t h0 h1]
  frame_out
  rw [canon_load (ms0_14 t).view _ (Rect.unit ![0, 0, 0, 0] ![1, 1, 704, 1024] inb_S1x2x704x1024_S1x1x704x1024_0_0_0_0) (ix4 0 0 q d) (ix4 0 0 q d) (idx_pu 0 (by omega) _ q d)]
  simp (disch := decide) only [↓ View.readCov_skip, ↓ View.readCov_cons_toLoadRect]
  exact pua_pay _ q d

theorem pu1_out (t : Fin cfg0.N) (h0 : ¬t.val % 8 = 0) (h1 : t.val % 8 = 7) (q : Fin 704) (d : Fin 1024) :
    (outsAt0 m c t.val t.isLt).2.2.2.2.1 (ix4 0 1 q d) = (outsAt0 m c t.val t.isLt).2.2.2.2.2.2.2.2.2.1 (ix2 q d) := by
  rw [outsAt0_C m c t h0 h1]
  frame_out
  rw [canon_load (ms0_14 t).view _ (Rect.unit ![0, 1, 0, 0] ![1, 1, 704, 1024] inb_S1x2x704x1024_S1x1x704x1024_0_1_0_0) (ix4 0 1 q d) (ix4 0 0 q d) (idx_pu 1 (by omega) _ q d)]
  simp (disch := decide) only [↓ View.readCov_skip, ↓ View.readCov_cons_toLoadRect]
  exact pub_pay _ q d

end Cert.KernelIdeal.Body

end
-- ==== Proof.Totals.lean ====
/-
  Eight points share a block of columns and walk its rows from the last 512 to the first. What they accumulate is the sum
  over all 4096 rows: here once for any accumulator, then for the five this kernel keeps.
-/
module

public import proofs.«01_k».proof.Proof.Steps
public import proofs.«01_k».proof.Proof.Products

@[expose] public section

set_option maxRecDepth 16384

noncomputable section

namespace Cert.KernelIdeal.Body

open Idealize.ShloMosaic Idealize.ShloMosaic.TcCoe Idealize.SL.Sem
open Cert.KernelIdeal Cert.KernelIdeal.Gen
open Cert.Ffn (col mid)
open Cert.Ffn.Arrays (ext ext_of_lt)

/-- Eight blocks of 512 rows, the last first, are all the rows. -/
theorem rows_sum (F : Fin 4096 → EReal) :
    ∑ i ∈ Finset.range 8, ∑ x : Fin 512, ext F (512 * (7 - i) + x.val) = ∑ r : Fin 4096, F r := by
  have h1 := Finset.sum_range_reflect (fun i => ∑ x : Fin 512, ext F (512 * i + x.val)) 8
  rw [show (∑ i ∈ Finset.range 8, ∑ x : Fin 512, ext F (512 * (7 - i) + x.val))
        = ∑ i ∈ Finset.range 8, ∑ x : Fin 512, ext F (512 * i + x.val) from h1, Finset.sum_range, ← Fintype.sum_prod_type']
  refine Fintype.sum_equiv (finProdFinEquiv (m := 8) (n := 512)) _ _ fun a => ?_
  have hv : (finProdFinEquiv (m := 8) (n := 512) a).val = a.2.val + 512 * a.1.val := rfl
  have hl : 512 * a.1.val + a.2.val < 4096 := by omega
  rw [ext_of_lt F hl]
  exact congrArg F (Fin.ext (by show 512 * a.1.val + a.2.val = _; rw [hv]; omega))

/-- An accumulator that starts at zero plus the first block of rows and adds the others one by one ends at the sum over
    all rows. -/
theorem total (f : ∀ n, n < cfg0.N → EReal) (j : Fin 4) (F : Fin 4096 → EReal)
    (hfirst : ∀ t : Fin cfg0.N, cb t = j → t.val % 8 = 0 → f t.val t.isLt = 0 + ∑ x : Fin 512, F (row t x))
    (hnext : ∀ (t : Fin cfg0.N) (hp : t.val - 1 < cfg0.N), cb t = j → ¬t.val % 8 = 0 →
      f t.val t.isLt = f (t.val - 1) hp + ∑ x : Fin 512, F (row t x))
    (t : Fin cfg0.N) (ht : cb t = j) (h7 : t.val % 8 = 7) : f t.val t.isLt = ∑ r : Fin 4096, F r := by
  have hrow : ∀ (s : ℕ) (t : Fin cfg0.N), t.val % 8 = s →
      ∑ x : Fin 512, F (row t x) = ∑ x : Fin 512, ext F (512 * (7 - s) + x.val) := fun s t hs =>
    Finset.sum_congr rfl fun x _ => by subst hs; exact (ext_of_lt F (row t x).isLt).symm
  have key : ∀ (s : ℕ) (t : Fin cfg0.N), cb t = j → t.val % 8 = s →
      f t.val t.isLt = ∑ i ∈ Finset.range (s + 1), ∑ x : Fin 512, ext F (512 * (7 - i) + x.val) := by
    intro s
    induction s with
    | zero =>
      intro t ht hs
      rw [hfirst t ht hs, hrow 0 t hs, zero_add, Finset.sum_range_one]
    | succ s ih =>
      intro t ht hs
      have hp : t.val - 1 < cfg0.N := Nat.lt_of_le_of_lt (Nat.sub_le _ _) t.isLt
      have hc : cb ⟨t.val - 1, hp⟩ = j := by
        rw [← ht]
        exact Fin.ext (by show (t.val - 1) / 8 = t.val / 8; omega)
      rw [hnext t hp ht (by omega), hrow (s + 1) t hs, Finset.sum_range_succ _ (s + 1)]
      exact congrArg (· + _) (ih ⟨t.val - 1, hp⟩ hc (by show (t.val - 1) % 8 = s; omega))
  rw [key 7 t ht h7]
  exact rows_sum F

variable (m : (ℓ : Loc nD τ sig) → Buf (Elt Ideal) ℓ) (c : Dev nD)

theorem dz_row (p : Fin 2) (t : Fin cfg0.N) (x : Fin 512) (j : Fin 4) (q : Fin 704) :
    (A m c).dz p (row0 t + x.val) j q = (A m c).dy p (row t x) j q := (A m c).dz_of_lt (row t x).isLt

theorem uz_row (p : Fin 2) (t : Fin cfg0.N) (x : Fin 512) (j : Fin 4) (q : Fin 704) :
    uz (A m c) p j (row0 t + x.val) q = (A m c).U (row t x) (col p j q) := ext_of_lt _ (row t x).isLt

/-- The gradient at the bias. -/
theorem bias_total (p : Fin 2) (t : Fin cfg0.N) (h7 : t.val % 8 = 7) (q : Fin 704) :
    (outsAt0 m c t.val t.isLt).2.2.1 (ix4 0 p 0 q) = (A m c).dcb p (cb t) q := by
  have hrow : ∀ s : Fin cfg0.N, cb s = cb t → (∑ x : Fin 512, (A m c).dz p (row0 s + x.val) (cb s) q)
      = ∑ x : Fin 512, (A m c).dy p (row s x) (cb t) q := fun s hs =>
    Finset.sum_congr rfl fun x _ => by rw [dz_row, hs]
  refine total (fun n hn => (outsAt0 m c n hn).2.2.1 (ix4 0 p 0 q)) (cb t) (fun r => (A m c).dy p r (cb t) q)
    (fun s hs h0 => ?_) (fun s hp hs h0 => ?_) t rfl h7
  · rw [← hrow s hs]
    match p with
    | ⟨0, _⟩ => exact bias0_first m c s h0 q
    | ⟨1, _⟩ => exact bias1_first m c s h0 q
  · rw [← hrow s hs]
    match p with
    | ⟨0, _⟩ => exact bias0_next m c s h0 hp q
    | ⟨1, _⟩ => exact bias1_next m c s h0 hp q

/-- The gradient at tap `k`. -/
theorem tap_total (p : Fin 2) (k : Fin 3) (t : Fin cfg0.N) (h7 : t.val % 8 = 7) (q : Fin 704) :
    (outsAt0 m c t.val t.isLt).2.1 (ix4 0 p k q) = (A m c).dcw p (2 - k.val) (cb t) q := by
  have hrow : ∀ s : Fin cfg0.N, cb s = cb t →
      (∑ x : Fin 512, (A m c).dz p (row0 s + x.val + (2 - k.val)) (cb s) q * uz (A m c) p (cb s) (row0 s + x.val) q)
      = ∑ x : Fin 512, (A m c).dz p ((row s x).val + (2 - k.val)) (cb t) q * (A m c).U (row s x) (col p (cb t) q) :=
    fun s hs => Finset.sum_congr rfl fun x _ => by rw [uz_row, hs]; rfl
  refine total (fun n hn => (outsAt0 m c n hn).2.1 (ix4 0 p k q)) (cb t)
    (fun r => (A m c).dz p (r.val + (2 - k.val)) (cb t) q * (A m c).U r (col p (cb t) q))
    (fun s hs h0 => ?_) (fun s hp hs h0 => ?_) t rfl h7
  · rw [← hrow s hs]
    match p, k with
    | ⟨0, _⟩, ⟨0, _⟩ => exact tap0_0_first m c s h0 q
    | ⟨0, _⟩, ⟨1, _⟩ => exact tap1_0_first m c s h0 q
    | ⟨0, _⟩, ⟨2, _⟩ => exact tap2_0_first m c s h0 q
    | ⟨1, _⟩, ⟨0, _⟩ => exact tap0_1_first m c s h0 q
    | ⟨1, _⟩, ⟨1, _⟩ => exact tap1_1_first m c s h0 q
    | ⟨1, _⟩, ⟨2, _⟩ => exact tap2_1_first m c s h0 q
  · rw [← hrow s hs]
    match p, k with
    | ⟨0, _⟩, ⟨0, _⟩ => exact tap0_0_next m c s h0 hp q
    | ⟨0, _⟩, ⟨1, _⟩ => exact tap1_0_next m c s h0 hp q
    | ⟨0, _⟩, ⟨2, _⟩ => exact tap2_0_next m c s h0 hp q
    | ⟨1, _⟩, ⟨0, _⟩ => exact tap0_1_next m c s h0 hp q
    | ⟨1, _⟩, ⟨1, _⟩ => exact tap1_1_next m c s h0 hp q
    | ⟨1, _⟩, ⟨2, _⟩ => exact tap2_1_next m c s h0 hp q

/-- The gradient at the down-projection's weights. -/
theorem pd_total (t : Fin cfg0.N) (h7 : t.val % 8 = 7) (q : Fin 704) (d : Fin 1024) :
    (outsAt0 m c t.val t.isLt).2.2.2.1 (ix3 0 q d) = (A m c).dwd (cb t) q d := by
  refine (pd_out m c t (by omega) h7 q d).trans ?_
  refine total (fun n hn => (outsAt0 m c n hn).2.2.2.2.2.2.2.1 (ix2 q d)) (cb t)
    (fun r => (A m c).act r (cb t) q * (A m c).G r d) (fun s hs h0 => ?_) (fun s hp hs h0 => ?_) t rfl h7
  · rw [← hs]; exact accd_first m c s h0 q d
  · rw [← hs]; exact accd_next m c s h0 hp q d

/-- The gradient at the up-projection's weights. -/
theorem pu_total (p : Fin 2) (t : Fin cfg0.N) (h7 : t.val % 8 = 7) (q : Fin 704) (d : Fin 1024) :
    (outsAt0 m c t.val t.isLt).2.2.2.2.1 (ix4 0 p q d) = (A m c).dwu p (cb t) q d := by
  have hrow : ∀ s : Fin cfg0.N, cb s = cb t →
      (∑ x : Fin 512, (outsAt0 m c s.val s.isLt).1 (ix4 0 p x q) * (A m c).H (row s x) d)
      = ∑ x : Fin 512, (A m c).du p (row s x).val (cb t) q * (A m c).H (row s x) d :=
    fun s hs => Finset.sum_congr rfl fun x _ => by rw [du_block, hs]; rfl
  match p with
  | ⟨0, _⟩ =>
    refine (pu0_out m c t (by omega) h7 q d).trans ?_
    refine total (fun n hn => (outsAt0 m c n hn).2.2.2.2.2.2.2.2.1 (ix2 q d)) (cb t)
      (fun r => (A m c).du 0 r.val (cb t) q * (A m c).H r d) (fun s hs h0 => ?_) (fun s hp hs h0 => ?_) t rfl h7
    · exact (acca_first m c s h0 q d).trans (congrArg (_ + ·) (hrow s hs))
    · exact (acca_next m c s h0 hp q d).trans (congrArg (_ + ·) (hrow s hs))
  | ⟨1, _⟩ =>
    refine (pu1_out m c t (by omega) h7 q d).trans ?_
    refine total (fun n hn => (outsAt0 m c n hn).2.2.2.2.2.2.2.2.2.1 (ix2 q d)) (cb t)
      (fun r => (A m c).du 1 r.val (cb t) q * (A m c).H r d) (fun s hs h0 => ?_) (fun s hp hs h0 => ?_) t rfl h7
    · exact (accb_first m c s h0 q d).trans (congrArg (_ + ·) (hrow s hs))
    · exact (accb_next m c s h0 hp q d).trans (congrArg (_ + ·) (hrow s hs))

end Cert.KernelIdeal.Body

end
-- ==== Proof.Final.lean ====
/-
  The kernel's five results as whole arrays: each block is written back after its last point, and the blocks tile the
  arrays.
-/
module

public import proofs.«01_k».proof.Proof.Totals

@[expose] public section

set_option maxRecDepth 16384

noncomputable section

namespace Cert.KernelIdeal.Body

open Idealize.ShloMosaic Idealize.ShloMosaic.TcCoe Idealize.SL.Sem
open Cert.KernelIdeal Cert.KernelIdeal.Gen
open Cert.Ffn (col mid)
open Cert.ReferenceIdeal.Terms (out0 out1 out2 out3 out4 out0_eq out1_eq out2_eq out3_eq out4_eq)

variable (m : (ℓ : Loc nD τ sig) → Buf (Elt Ideal) ℓ) (c : Dev nD)

theorem emb10 (t : Fin cfg0.N) (p : Fin 2) (x : Fin 512) (q : Fin 704) : (win0_10.blk t).view.emb (ix4 0 p x q) = ix4 (cb t) p (row t x) q := by
  have ht := lt32 t
  unfold cb row row0
  blk_ext [idx t]

/-- Result 0. -/
theorem final0 (hA : (A m c).Num) : (dats m 0 c).arrAt 10 cfg0.N = out0 (b0 m c) (b1 m c) (b2 m c) (b3 m c) (b4 m c) (b5 m c) := by
  refine (dats m 0 c).arrAt_eq_of_covers 10 _ (by decide +kernel) fun t hf y => ?_
  blk_simp
  rw [after0_10]
  obtain ⟨y0, p, x, q, rfl⟩ : ∃ (y0 : Fin 1) (p : Fin 2) (x : Fin 512) (q : Fin 704), y = ix4 y0 p x q := ⟨_, _, _, _, (ix4_eta y).symm⟩
  obtain rfl : y0 = 0 := Subsingleton.elim _ _
  rw [emb10 t p x q]
  exact (du_block m c t p x q).trans (out0_eq _ _ _ _ _ _ hA (cb t) p (row t x) q).symm

theorem emb11 (t : Fin cfg0.N) (p : Fin 2) (k : Fin 3) (q : Fin 704) : (win0_11.blk t).view.emb (ix4 0 p k q) = ix4 (cb t) p k q := by
  have ht := lt32 t
  unfold cb
  blk_ext [idx t]

/-- Result 1. -/
theorem final1 (hA : (A m c).Num) : (dats m 0 c).arrAt 11 cfg0.N = out1 (b0 m c) (b1 m c) (b2 m c) (b3 m c) (b4 m c) (b5 m c) := by
  refine (dats m 0 c).arrAt_eq_of_covers 11 _ (by decide +kernel) fun t hf y => ?_
  blk_simp
  rw [after0_11]
  obtain ⟨y0, p, k, q, rfl⟩ : ∃ (y0 : Fin 1) (p : Fin 2) (k : Fin 3) (q : Fin 704), y = ix4 y0 p k q := ⟨_, _, _, _, (ix4_eta y).symm⟩
  obtain rfl : y0 = 0 := Subsingleton.elim _ _
  have h7 : t.val % 8 = 7 := (flush0_11 t).mp hf
  rw [emb11 t p k q]
  exact (tap_total m c p k t h7 q).trans (out1_eq _ _ _ _ _ _ hA (cb t) p k q).symm

theorem emb12 (t : Fin cfg0.N) (p : Fin 2) (z : Fin 1) (q : Fin 704) : (win0_12.blk t).view.emb (ix4 0 p z q) = ix4 (cb t) p z q := by
  have ht := lt32 t
  unfold cb
  blk_ext [idx t]

/-- Result 2. -/
theorem final2 (hA : (A m c).Num) : (dats m 0 c).arrAt 12 cfg0.N = out2 (b0 m c) (b1 m c) (b2 m c) (b3 m c) (b4 m c) (b5 m c) := by
  refine (dats m 0 c).arrAt_eq_of_covers 12 _ (by decide +kernel) fun t hf y => ?_
  blk_simp
  rw [after0_12]
  obtain ⟨y0, p, z, q, rfl⟩ : ∃ (y0 : Fin 1) (p : Fin 2) (z : Fin 1) (q : Fin 704), y = ix4 y0 p z q := ⟨_, _, _, _, (ix4_eta y).symm⟩
  obtain rfl : y0 = 0 := Subsingleton.elim _ _
  obtain rfl : z = 0 := Subsingleton.elim _ _
  have h7 : t.val % 8 = 7 := (flush0_12 t).mp hf
  rw [emb12 t p 0 q]
  exact (bias_total m c p t h7 q).trans (out2_eq _ _ _ _ _ _ hA (cb t) p q).symm

theorem emb13 (t : Fin cfg0.N) (q : Fin 704) (d : Fin 1024) : (win0_13.blk t).view.emb (ix3 0 q d) = ix3 (cb t) q d := by
  have ht := lt32 t
  unfold cb
  blk_ext [idx t]

/-- Result 3. -/
theorem final3 : (dats m 0 c).arrAt 13 cfg0.N = out3 (b0 m c) (b1 m c) (b2 m c) (b3 m c) (b5 m c) := by
  refine (dats m 0 c).arrAt_eq_of_covers 13 _ (by decide +kernel) fun t hf y => ?_
  blk_simp
  rw [after0_13]
  obtain ⟨y0, q, d, rfl⟩ : ∃ (y0 : Fin 1) (q : Fin 704) (d : Fin 1024), y = ix3 y0 q d := ⟨_, _, _, (ix3_eta y).symm⟩
  obtain rfl : y0 = 0 := Subsingleton.elim _ _
  have h7 : t.val % 8 = 7 := (flush0_13 t).mp hf
  rw [emb13 t q d]
  exact (pd_total m c t h7 q d).trans (out3_eq _ _ _ _ _ _ (cb t) q d).symm

theorem emb14 (t : Fin cfg0.N) (p : Fin 2) (q : Fin 704) (d : Fin 1024) : (win0_14.blk t).view.emb (ix4 0 p q d) = ix4 (cb t) p q d := by
  have ht := lt32 t
  unfold cb
  blk_ext [idx t]

/-- Result 4. -/
theorem final4 (hA : (A m c).Num) : (dats m 0 c).arrAt 14 cfg0.N = out4 (b0 m c) (b1 m c) (b2 m c) (b3 m c) (b4 m c) (b5 m c) := by
  refine (dats m 0 c).arrAt_eq_of_covers 14 _ (by decide +kernel) fun t hf y => ?_
  blk_simp
  rw [after0_14]
  obtain ⟨y0, p, q, d, rfl⟩ : ∃ (y0 : Fin 1) (p : Fin 2) (q : Fin 704) (d : Fin 1024), y = ix4 y0 p q d := ⟨_, _, _, _, (ix4_eta y).symm⟩
  obtain rfl : y0 = 0 := Subsingleton.elim _ _
  have h7 : t.val % 8 = 7 := (flush0_14 t).mp hf
  rw [emb14 t p q d]
  exact (pu_total m c p t h7 q d).trans (out4_eq _ _ _ _ _ _ hA (cb t) p q d).symm

end Cert.KernelIdeal.Body

end
-- ==== Proof.Finite.lean ====
/-
  The precondition read: every entry of every argument is a number. Then so is every entry of the up-projection and of
  its convolution.
-/
module

public import proofs.«01_k».proof.Pre_finite
public import proofs.«01_k».proof.Proof.RefValue

@[expose] public section

set_option maxRecDepth 16384

noncomputable section

namespace Cert.Pre_finite.Gen

/-- The predicate's side conditions. -/
theorem facts : Cert.Pre_finite.Facts where
  bcast_S_S4096x1024 := by decide
  bcast_S_S1024x5632 := by decide
  bcast_S_S3x5632 := by decide
  bcast_S_S5632 := by decide
  bcast_S_S2816x1024 := by decide

end Cert.Pre_finite.Gen

namespace Cert.ReferenceIdeal.Terms

open Idealize.ShloMosaic Idealize.ShloMosaic.TcCoe Idealize.SL.Sem
open Cert.ReferenceIdeal Cert.ReferenceIdeal.Gen Cert.ReferenceIdeal.Facts
open Cert.Ffn (IsNum)

/-- A vector whose absolute values all lie below infinity holds numbers. -/
theorem isNum_of_mask {s : Shape} {φ : FTy} (x : FVec Ideal s φ) (B : FVec Ideal s φ) (hB : ∀ i, B i = (⊤ : EReal))
    (h : cmpf .olt (Host.absf x) B = fun _ => 1#1) (i : s.Idx) : IsNum (x i) := by
  have e := congrFun h i
  have e' : BitVec.ofBool (decide (max (x i) (-(x i)) < B i)) = 1#1 := e
  rw [hB] at e'
  refine IsNum.of_abs_lt ?_
  by_contra hn
  rw [decide_eq_false hn] at e'
  exact absurd e' (by decide)

theorem bits_top32 : (FloatOps.ofBits .f32 0x7F800000#32 : Ideal .f32) = (⊤ : EReal) := by
  show Ideal.ofBits .f32 0x7F800000#32 = ⊤
  simp [Ideal.ofBits, Ideal.ieee]

theorem bits_top16 : (FloatOps.ofBits .bf16 0x7F80#16 : Ideal .bf16) = (⊤ : EReal) := by
  show Ideal.ofBits .bf16 0x7F80#16 = ⊤
  simp [Ideal.ofBits, Ideal.ieee]

variable (h : FVec Ideal S4096x1024 .bf16) (wu : FVec Ideal S1024x5632 .f32) (cw : FVec Ideal S3x5632 .f32)
  (cb : FVec Ideal S5632 .f32) (wd : FVec Ideal S2816x1024 .f32) (df : FVec Ideal S4096x1024 .bf16)

theorem up_num (hh : ∀ i, IsNum (h i)) (hw : ∀ i, IsNum (wu i)) (r : Fin 4096) (C : Fin 5632) : IsNum (up h wu (ix2 r C)) := by
  have e : up h wu (ix2 r C) = ∑ d : Fin 1024, h (ix2 r d) * wu (ix2 d C) := by pointwise [up]
  rw [e]
  exact IsNum.sum fun d => (hh _).mul (hw _)

theorem upp_num (hu : ∀ r C, IsNum (up h wu (ix2 r C))) (r : Fin 4098) (C : Fin 5632) : IsNum (upp h wu (ix2 r C)) := by
  pointwise [upp]
  split
  · exact IsNum.zero
  · exact hu _ _

theorem y_num (hu : ∀ r C, IsNum (upp h wu (ix2 r C))) (hw : ∀ i, IsNum (cw i)) (hb : ∀ i, IsNum (cb i)) (r : Fin 4096) (C : Fin 5632) :
    IsNum (y h wu cw cb (ix2 r C)) := by
  pointwise [y, tap]
  exact (hb _).add ((((hu _ _).mul (hw _)).add ((hu _ _).mul (hw _))).add ((hu _ _).mul (hw _)))

/-- Under the precondition the arrays the backward pass reads are numbers. -/
theorem num_of_pre [Cert.Pre_finite.Facts]
    (h0 : (Cert.Pre_finite.fn (F := Ideal) h wu cw cb wd df).1 = fun _ => 1#1)
    (h1 : (Cert.Pre_finite.fn (F := Ideal) h wu cw cb wd df).2.1 = fun _ => 1#1)
    (h2 : (Cert.Pre_finite.fn (F := Ideal) h wu cw cb wd df).2.2.1 = fun _ => 1#1)
    (h3 : (Cert.Pre_finite.fn (F := Ideal) h wu cw cb wd df).2.2.2.1 = fun _ => 1#1)
    (h4 : (Cert.Pre_finite.fn (F := Ideal) h wu cw cb wd df).2.2.2.2.1 = fun _ => 1#1)
    (h5 : (Cert.Pre_finite.fn (F := Ideal) h wu cw cb wd df).2.2.2.2.2 = fun _ => 1#1) :
    (arrays h wu cw cb wd df).Num where
  Y r C := y_num h wu cw cb (upp_num h wu (up_num h wu (isNum_of_mask h _ (fun _ => bits_top16) h0)
    (isNum_of_mask wu _ (fun _ => bits_top32) h1))) (isNum_of_mask cw _ (fun _ => bits_top32) h2)
    (isNum_of_mask cb _ (fun _ => bits_top32) h3) r C
  D n d := isNum_of_mask wd _ (fun _ => bits_top32) h4 (ix2 n d)
  G r d := isNum_of_mask df _ (fun _ => bits_top16) h5 (ix2 r d)

end Cert.ReferenceIdeal.Terms

end
-- ==== Proof.Twin.lean ====
/-
The kernel over bits and the kernel over ideal numbers are one text printed twice.  The two kernel bodies, the two
tables of bodies and the two programs are shown equal here, so that the run of the second, stated for every
interpretation of the floats, also gives the frame of the first.
-/
module

public import proofs.«01_k».proof.Defs
public import proofs.«01_k».proof.Proof.Gen.Kernel
public import proofs.«01_k».proof.Proof.Gen.KernelIdeal.Frame

@[expose] public section

set_option maxRecDepth 16384
set_option maxHeartbeats 1500000

noncomputable section

namespace Cert.Twin

open Idealize.ShloMosaic Idealize.ShloMosaic.TcCoe Idealize.SL.Sem

variable {F : FTy → Type} [FloatOps F]

/-- The two kernel bodies are the same program: with the names of shapes, buffers and parts written out on both sides
    they read the same. -/
theorem body : @Cert.Kernel.cc0_ffn_down_bwd F _ Cert.Kernel.Gen.facts
    = @Cert.KernelIdeal.cc0_ffn_down_bwd F _ Cert.KernelIdeal.Gen.facts := by
  delta
    Cert.Kernel.S4096x1024 Cert.Kernel.S1024x5632 Cert.Kernel.S3x5632 Cert.Kernel.S5632 Cert.Kernel.S2816x1024
    Cert.Kernel.S3x8x704 Cert.Kernel.S8x3x704 Cert.Kernel.S4x704x1024 Cert.Kernel.S4096x5632 Cert.Kernel.S_
    Cert.Kernel.S2x5632 Cert.Kernel.S4098x5632 Cert.Kernel.S1x5632 Cert.Kernel.S4096x2816
    Cert.Kernel.S4096x4x704 Cert.Kernel.S4x4096x704 Cert.Kernel.S4x2x4096x704 Cert.Kernel.S4x2x3x704
    Cert.Kernel.S4x2x1x704 Cert.Kernel.S4x2x704x1024 Cert.Kernel.S512x1024 Cert.Kernel.S1x704x1024
    Cert.Kernel.S1x512x704 Cert.Kernel.S1x3x704 Cert.Kernel.S1x2x512x704 Cert.Kernel.S1x2x3x704
    Cert.Kernel.S1x2x1x704 Cert.Kernel.S1x2x704x1024 Cert.Kernel.S8x704 Cert.Kernel.S704x1024
    Cert.Kernel.S1024x704 Cert.Kernel.S256x1024 Cert.Kernel.S256x704 Cert.Kernel.S1x256x704
    Cert.Kernel.S264x704 Cert.Kernel.S1x1x704 Cert.Kernel.S1x704 Cert.Kernel.S1x1x256x704
    Cert.Kernel.S1x1x1x704 Cert.Kernel.S704 Cert.Kernel.S512x704 Cert.Kernel.S1x1x512x704
    Cert.Kernel.S1x1x704x1024 Cert.Kernel.nBuf Cert.Kernel.bufTy Cert.Kernel.bufScoped Cert.Kernel.semScoped
    Cert.Kernel.dmaSemScoped Cert.Kernel.sig Cert.Kernel.nD Cert.Kernel.τ Cert.Kernel.grid0
    Cert.Kernel.k0_cond2 Cert.Kernel.cc0_transform_0 Cert.Kernel.cc0_transform_1 Cert.Kernel.cc0_transform_2
    Cert.Kernel.cc0_transform_3 Cert.Kernel.cc0_transform_4 Cert.Kernel.cc0_transform_5
    Cert.Kernel.cc0_transform_6 Cert.Kernel.cc0_transform_7 Cert.Kernel.cc0_transform_8
    Cert.Kernel.cc0_transform_9 Cert.Kernel.cc0_transform_10 Cert.Kernel.cc0_transform_11
    Cert.Kernel.cc0_transform_12 Cert.Kernel.cc0_transform_13 Cert.Kernel.cc0_transform_14
    Cert.Kernel.stage0_0 Cert.Kernel.sem0_0 Cert.Kernel.reads0_0 Cert.Kernel.stage0_1 Cert.Kernel.sem0_1
    Cert.Kernel.reads0_1 Cert.Kernel.stage0_2 Cert.Kernel.sem0_2 Cert.Kernel.reads0_2 Cert.Kernel.stage0_3
    Cert.Kernel.sem0_3 Cert.Kernel.reads0_3 Cert.Kernel.stage0_4 Cert.Kernel.sem0_4 Cert.Kernel.reads0_4
    Cert.Kernel.stage0_5 Cert.Kernel.sem0_5 Cert.Kernel.reads0_5 Cert.Kernel.stage0_6 Cert.Kernel.sem0_6
    Cert.Kernel.reads0_6 Cert.Kernel.stage0_7 Cert.Kernel.sem0_7 Cert.Kernel.reads0_7 Cert.Kernel.stage0_8
    Cert.Kernel.sem0_8 Cert.Kernel.reads0_8 Cert.Kernel.stage0_9 Cert.Kernel.sem0_9 Cert.Kernel.reads0_9
    Cert.Kernel.stage0_10 Cert.Kernel.sem0_10 Cert.Kernel.reads0_10 Cert.Kernel.stage0_11 Cert.Kernel.sem0_11
    Cert.Kernel.reads0_11 Cert.Kernel.stage0_12 Cert.Kernel.sem0_12 Cert.Kernel.reads0_12
    Cert.Kernel.stage0_13 Cert.Kernel.sem0_13 Cert.Kernel.reads0_13 Cert.Kernel.stage0_14 Cert.Kernel.sem0_14
    Cert.Kernel.reads0_14 Cert.Kernel.dot_S4096x1024_S1024x5632_S4096x5632_1_0_0_1_n_n
    Cert.Kernel.dot_S256x1024_S1024x704_S256x704_1_0_0_1_n_n
    Cert.Kernel.dot_S512x704_S512x1024_S704x1024_0_0_1_1_n_n Cert.Kernel.Λ₀ Cert.Kernel.k0_part1
    Cert.Kernel.k0_part2 Cert.Kernel.k0_part3 Cert.Kernel.k0_part4 Cert.Kernel.k0_part5 Cert.Kernel.k0_part6
    Cert.Kernel.k0_part7 Cert.Kernel.k0_part8 Cert.Kernel.k0_part9 Cert.Kernel.k0_part10 Cert.Kernel.k0_part11
    Cert.Kernel.cc0_ffn_down_bwd
  delta
    Cert.KernelIdeal.S4096x1024 Cert.KernelIdeal.S1024x5632 Cert.KernelIdeal.S3x5632 Cert.KernelIdeal.S5632
    Cert.KernelIdeal.S2816x1024 Cert.KernelIdeal.S3x8x704 Cert.KernelIdeal.S8x3x704
    Cert.KernelIdeal.S4x704x1024 Cert.KernelIdeal.S4096x5632 Cert.KernelIdeal.S_ Cert.KernelIdeal.S2x5632
    Cert.KernelIdeal.S4098x5632 Cert.KernelIdeal.S1x5632 Cert.KernelIdeal.S4096x2816
    Cert.KernelIdeal.S4096x4x704 Cert.KernelIdeal.S4x4096x704 Cert.KernelIdeal.S4x2x4096x704
    Cert.KernelIdeal.S4x2x3x704 Cert.KernelIdeal.S4x2x1x704 Cert.KernelIdeal.S4x2x704x1024
    Cert.KernelIdeal.S512x1024 Cert.KernelIdeal.S1x704x1024 Cert.KernelIdeal.S1x512x704
    Cert.KernelIdeal.S1x3x704 Cert.KernelIdeal.S1x2x512x704 Cert.KernelIdeal.S1x2x3x704
    Cert.KernelIdeal.S1x2x1x704 Cert.KernelIdeal.S1x2x704x1024 Cert.KernelIdeal.S8x704
    Cert.KernelIdeal.S704x1024 Cert.KernelIdeal.S1024x704 Cert.KernelIdeal.S256x1024 Cert.KernelIdeal.S256x704
    Cert.KernelIdeal.S1x256x704 Cert.KernelIdeal.S264x704 Cert.KernelIdeal.S1x1x704 Cert.KernelIdeal.S1x704
    Cert.KernelIdeal.S1x1x256x704 Cert.KernelIdeal.S1x1x1x704 Cert.KernelIdeal.S704 Cert.KernelIdeal.S512x704
    Cert.KernelIdeal.S1x1x512x704 Cert.KernelIdeal.S1x1x704x1024 Cert.KernelIdeal.nBuf Cert.KernelIdeal.bufTy
    Cert.KernelIdeal.bufScoped Cert.KernelIdeal.semScoped Cert.KernelIdeal.dmaSemScoped Cert.KernelIdeal.sig
    Cert.KernelIdeal.nD Cert.KernelIdeal.τ Cert.KernelIdeal.grid0 Cert.KernelIdeal.k0_cond2
    Cert.KernelIdeal.cc0_transform_0 Cert.KernelIdeal.cc0_transform_1 Cert.KernelIdeal.cc0_transform_2
    Cert.KernelIdeal.cc0_transform_3 Cert.KernelIdeal.cc0_transform_4 Cert.KernelIdeal.cc0_transform_5
    Cert.KernelIdeal.cc0_transform_6 Cert.KernelIdeal.cc0_transform_7 Cert.KernelIdeal.cc0_transform_8
    Cert.KernelIdeal.cc0_transform_9 Cert.KernelIdeal.cc0_transform_10 Cert.KernelIdeal.cc0_transform_11
    Cert.KernelIdeal.cc0_transform_12 Cert.KernelIdeal.cc0_transform_13 Cert.KernelIdeal.cc0_transform_14
    Cert.KernelIdeal.stage0_0 Cert.KernelIdeal.sem0_0 Cert.KernelIdeal.reads0_0 Cert.KernelIdeal.stage0_1
    Cert.KernelIdeal.sem0_1 Cert.KernelIdeal.reads0_1 Cert.KernelIdeal.stage0_2 Cert.KernelIdeal.sem0_2
    Cert.KernelIdeal.reads0_2 Cert.KernelIdeal.stage0_3 Cert.KernelIdeal.sem0_3 Cert.KernelIdeal.reads0_3
    Cert.KernelIdeal.stage0_4 Cert.KernelIdeal.sem0_4 Cert.KernelIdeal.reads0_4 Cert.KernelIdeal.stage0_5
    Cert.KernelIdeal.sem0_5 Cert.KernelIdeal.reads0_5 Cert.KernelIdeal.stage0_6 Cert.KernelIdeal.sem0_6
    Cert.KernelIdeal.reads0_6 Cert.KernelIdeal.stage0_7 Cert.KernelIdeal.sem0_7 Cert.KernelIdeal.reads0_7
    Cert.KernelIdeal.stage0_8 Cert.KernelIdeal.sem0_8 Cert.KernelIdeal.reads0_8 Cert.KernelIdeal.stage0_9
    Cert.KernelIdeal.sem0_9 Cert.KernelIdeal.reads0_9 Cert.KernelIdeal.stage0_10 Cert.KernelIdeal.sem0_10
    Cert.KernelIdeal.reads0_10 Cert.KernelIdeal.stage0_11 Cert.KernelIdeal.sem0_11 Cert.KernelIdeal.reads0_11
    Cert.KernelIdeal.stage0_12 Cert.KernelIdeal.sem0_12 Cert.KernelIdeal.reads0_12 Cert.KernelIdeal.stage0_13
    Cert.KernelIdeal.sem0_13 Cert.KernelIdeal.reads0_13 Cert.KernelIdeal.stage0_14 Cert.KernelIdeal.sem0_14
    Cert.KernelIdeal.reads0_14 Cert.KernelIdeal.dot_S4096x1024_S1024x5632_S4096x5632_1_0_0_1_n_n
    Cert.KernelIdeal.dot_S256x1024_S1024x704_S256x704_1_0_0_1_n_n
    Cert.KernelIdeal.dot_S512x704_S512x1024_S704x1024_0_0_1_1_n_n Cert.KernelIdeal.Λ₀
    Cert.KernelIdeal.k0_part1 Cert.KernelIdeal.k0_part2 Cert.KernelIdeal.k0_part3 Cert.KernelIdeal.k0_part4
    Cert.KernelIdeal.k0_part5 Cert.KernelIdeal.k0_part6 Cert.KernelIdeal.k0_part7 Cert.KernelIdeal.k0_part8
    Cert.KernelIdeal.k0_part9 Cert.KernelIdeal.k0_part10 Cert.KernelIdeal.k0_part11
    Cert.KernelIdeal.cc0_ffn_down_bwd
  rfl

/-- So are the two tables that give the body of each label. -/
theorem table : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l a
  match l, a with
  | 0, (t, s) => dsimp only; rw [body]; rfl

/-- … and the tables with the pipeline's labels added. -/
theorem defs : @Cert.Kernel.defs F _ Cert.Kernel.Gen.facts = @Cert.KernelIdeal.defs F _ Cert.KernelIdeal.Gen.facts := by
  unfold Cert.Kernel.defs Cert.KernelIdeal.defs
  rw [table]; rfl

set_option maxHeartbeats 2000000 in
/-- The two programs that call the kernel are the same. -/
theorem main : @Cert.Kernel.main F _ Cert.Kernel.Gen.facts = @Cert.KernelIdeal.main F _ Cert.KernelIdeal.Gen.facts := rfl

/-- The frame of the kernel over bits, from the run proved once for every interpretation of the floats. -/
theorem frame_kernel : quiescent_Kernel (hKernel := Cert.Kernel.Gen.facts) := by
  intro m g _
  rw [defs, main]
  exact Cert.KernelIdeal.Gen.frame (F := Bits) m g

end Cert.Twin

end
-- ==== Proof.NormTerms.lean ====
/-
  The second reference's seven results, layer by layer: its own lines as functions of the nine arguments, so that the
  composed terms of its run are short.
-/
module

public import proofs.«01_k».proof.Proof.Gen.Reference2Ideal
public import Idealize.ShloMosaic.PureOps.Ideal

@[expose] public section

set_option maxRecDepth 16384

noncomputable section

namespace Cert.Reference2Ideal.Terms

open Idealize.ShloMosaic Idealize.ShloMosaic.TcCoe Idealize.SL.Sem
open Cert.Reference2Ideal Cert.Reference2Ideal.Gen Cert.Reference2Ideal.Facts

section Layers

/-- A row repeated over the rows. -/
def rows (v : FVec Ideal S1x1024 .f32) : FVec Ideal S4096x1024 .f32 := broadcastInDim S4096x1024 ![0, 1] bcast_S1x1024_S4096x1024_0_1 v
/-- A column repeated over the columns. -/
def cols (v : FVec Ideal S4096x1 .f32) : FVec Ideal S4096x1024 .f32 := broadcastInDim S4096x1024 ![0, 1] bcast_S4096x1_S4096x1024_0_1 v
/-- A number in every row. -/
def num (b : BitVec 32) : FVec Ideal S4096x1 .f32 := broadcastInDim S4096x1 ![] bcast_S_S4096x1 (constant S_ .f32 b)
/-- Each row's sum. -/
def rowSums (v : FVec Ideal S4096x1024 .f32) : FVec Ideal S4096 .f32 := Host.reduceAdd v (constant S_ .f32 0x00000000#32) reducesTo_S4096x1024_S4096_d1 h_S_
/-- Each column's sum. -/
def colSums (v : FVec Ideal S4096x1024 .f32) : FVec Ideal S1x1024 .f32 :=
  shapeCast _ (Host.reduceAdd v (constant S_ .f32 0x00000000#32) reducesTo_S4096x1024_S1024_d0 h_S_) shapeCasts_S1024_S1x1024
/-- Each row's mean square, plus the small number. -/
def msq (x : FVec Ideal S4096x1024 .f32) : FVec Ideal S4096x1 .f32 :=
  addf (Host.divf (broadcastInDim S4096x1 ![0] bcast_S4096_S4096x1_0 (rowSums (mulf x x))) (num 0x44800000#32)) (num 0x358637BD#32)
/-- Its inverse root. -/
def rsq (x : FVec Ideal S4096x1024 .f32) : FVec Ideal S4096x1 .f32 := Host.rsqrt (msq x)
/-- The rows scaled by it. -/
def scaled (x : FVec Ideal S4096x1024 .f32) : FVec Ideal S4096x1024 .f32 := mulf x (cols (rsq x))
/-- The inverse root's derivative at the mean square. -/
def rsqd (x : FVec Ideal S4096x1024 .f32) : FVec Ideal S4096x1 .f32 := mulf (num 0xBF000000#32) (Host.divf (rsq x) (msq x))
/-- The inverse root's derivative along `v`, from its derivative at the mean square. -/
def slopesOf (x v : FVec Ideal S4096x1024 .f32) (s : FVec Ideal S4096x1 .f32) : FVec Ideal S4096x1024 .f32 :=
  broadcastInDim S4096x1024 ![0] bcast_S4096_S4096x1024_0 (Host.reduceAdd (Host.divf (mulf (shapeCast _ (rowSums (mulf x v)) shapeCasts_S4096_S4096x1) s) (num 0x44800000#32)) (constant S_ .f32 0x00000000#32) reducesTo_S4096x1_S4096_d1 h_S_)

/-- The inverse root's derivative along `v`. -/
def slopes (x v : FVec Ideal S4096x1024 .f32) : FVec Ideal S4096x1024 .f32 := slopesOf x v (rsqd x)

variable (du : FVec Ideal S4096x5632 .bf16) (wu : FVec Ideal S1024x5632 .f32) (x mm dd : FVec Ideal S4096x1024 .f32)
  (ad ba : FVec Ideal S6x1024 .f32) (gf gm : FVec Ideal S1x1024 .f32)

/-- The gate. -/
def gate : FVec Ideal S1x1024 .f32 := extractStridedSlice S1x1024 ![2, 0] (addf ad ba) slices_S6x1024_S1x1024_2_0
/-- The scale. -/
def scale : FVec Ideal S1x1024 .f32 := extractStridedSlice S1x1024 ![4, 0] (addf ad ba) slices_S6x1024_S1x1024_4_0
/-- The stream after the first half of the layer. -/
def stream : FVec Ideal S4096x1024 .f32 := addf x (mulf (rows (gate ad ba)) (mulf (scaled mm) (rows gm)))
/-- The gradient at the modulated norm. -/
def dmod : FVec Ideal S4096x1024 .f32 := Host.dotGeneral dot_S4096x5632_S1024x5632_S4096x1024_1_1_0_0_n_n none (extf .f32 du bitsLt_bf16_f32) wu
/-- The gradient at the second norm's weighted rows. -/
def dwt : FVec Ideal S4096x1024 .f32 :=
  mulf (dmod du wu) (rows (addf (broadcastInDim S1x1024 ![] bcast_S_S1x1024 (constant S_ .f32 0x3F800000#32)) (scale ad ba)))
/-- The gradient at the second norm's scaled rows. -/
def dsd : FVec Ideal S4096x1024 .f32 := mulf (dwt du wu ad ba) (rows gf)

/-- Result 0: the gradient at the stream. -/
def out0 : FVec Ideal S4096x1024 .f32 :=
  addf (addf (addf dd (mulf (dsd du wu ad ba gf) (cols (rsq (stream x mm ad ba gm)))))
      (mulf (stream x mm ad ba gm) (slopes (stream x mm ad ba gm) (dsd du wu ad ba gf))))
    (mulf (slopes (stream x mm ad ba gm) (dsd du wu ad ba gf)) (stream x mm ad ba gm))
/-- The gradient at the first norm's weighted rows. -/
def dnt : FVec Ideal S4096x1024 .f32 :=
  mulf (rows (gate ad ba)) (shapeCast _ (out0 du wu x mm dd ad ba gf gm) shapeCasts_S4096x1024_S4096x1024)
/-- The gradient at the first norm's scaled rows. -/
def dns : FVec Ideal S4096x1024 .f32 := mulf (dnt du wu x mm dd ad ba gf gm) (rows gm)
/-- Result 1: the gradient at the first half's result. -/
def out1 : FVec Ideal S4096x1024 .bf16 :=
  truncf .bf16 (addf (addf (mulf (dns du wu x mm dd ad ba gf gm) (cols (rsq mm))) (mulf mm (slopes mm (dns du wu x mm dd ad ba gf gm))))
    (mulf (slopes mm (dns du wu x mm dd ad ba gf gm)) mm)) bitsLt_bf16_f32
/-- Result 2: the gradient at the shift. -/
def out2 : FVec Ideal S1x1024 .f32 := colSums (dmod du wu)
/-- Result 3: the gradient at the scale. -/
def out3 : FVec Ideal S1x1024 .f32 := colSums (mulf (mulf (scaled (stream x mm ad ba gm)) (rows gf)) (dmod du wu))
/-- Result 4: the gradient at the second norm's weights. -/
def out4 : FVec Ideal S1x1024 .f32 := colSums (mulf (scaled (stream x mm ad ba gm)) (dwt du wu ad ba))
/-- Result 5: the gradient at the gate. -/
def out5 : FVec Ideal S1x1024 .f32 :=
  colSums (mulf (shapeCast _ (out0 du wu x mm dd ad ba gf gm) shapeCasts_S4096x1024_S4096x1024) (mulf (scaled mm) (rows gm)))
/-- Result 6: the gradient at the first norm's weights. -/
def out6 : FVec Ideal S1x1024 .f32 := colSums (mulf (scaled mm) (dnt du wu x mm dd ad ba gf gm))

end Layers

end Cert.Reference2Ideal.Terms

end
-- ==== Proof.NormRun.lean ====
/-
  The second reference's run, in three stretches of lines: each stretch's results as functions of the buffers it finds,
  then the seven results as the layers of the arguments.
-/
module

public import proofs.«01_k».proof.Proof.NormTerms
public import Idealize.ShloMosaic.Lib.StableHlo.Run

@[expose] public section

set_option maxRecDepth 16384

noncomputable section

namespace Cert.Reference2Ideal.Terms

open Idealize.ShloMosaic Idealize.ShloMosaic.TcCoe Idealize.SL.Sem Idealize.ShloMosaic.StableHlo
open Cert.Reference2Ideal Cert.Reference2Ideal.Gen Cert.Reference2Ideal.Facts

/-- A buffer of shape `S_`. -/
abbrev C0 (F : FTy → Type) : Type := (⟨S_, .f32⟩ : BufTy).Contents (Elt F)
/-- A buffer of shape `S1x1024`. -/
abbrev C1 (F : FTy → Type) : Type := (⟨S1x1024, .f32⟩ : BufTy).Contents (Elt F)
/-- A buffer of shape `S6x1024`. -/
abbrev C6 (F : FTy → Type) : Type := (⟨S6x1024, .f32⟩ : BufTy).Contents (Elt F)
/-- A buffer of shape `S4096x1`. -/
abbrev Cc (F : FTy → Type) : Type := (⟨S4096x1, .f32⟩ : BufTy).Contents (Elt F)
/-- A buffer of shape `S1024`. -/
abbrev Cn (F : FTy → Type) : Type := (⟨S1024, .f32⟩ : BufTy).Contents (Elt F)
/-- A buffer of shape `S4096`. -/
abbrev Cr (F : FTy → Type) : Type := (⟨S4096, .f32⟩ : BufTy).Contents (Elt F)
/-- A buffer of shape `S4096x5632`. -/
abbrev Cu (F : FTy → Type) : Type := (⟨S4096x5632, .f32⟩ : BufTy).Contents (Elt F)
/-- A buffer of shape `S4096x5632`. -/
abbrev Cuh (F : FTy → Type) : Type := (⟨S4096x5632, .bf16⟩ : BufTy).Contents (Elt F)
/-- A buffer of shape `S1024x5632`. -/
abbrev Cw (F : FTy → Type) : Type := (⟨S1024x5632, .f32⟩ : BufTy).Contents (Elt F)
/-- A buffer of shape `S4096x1024`. -/
abbrev Cx (F : FTy → Type) : Type := (⟨S4096x1024, .f32⟩ : BufTy).Contents (Elt F)
/-- A buffer of shape `S4096x1024`. -/
abbrev Cxh (F : FTy → Type) : Type := (⟨S4096x1024, .bf16⟩ : BufTy).Contents (Elt F)

section Lines

variable {F : FTy → Type} [FloatOps F]

/-- The reference's lines up to the up-projection it differentiates at. -/
abbrev ops1 : List (HloOp τ sig (Elt F)) :=
  [ binary main_arg5 main_arg6 main_v0 (addf : C6 F → C6 F → C6 F),
    unary main_v0 main_v1 ((extractStridedSlice S1x1024 ![2, 0] · slices_S6x1024_S1x1024_2_0) : C6 F → C1 F),
    unary main_v0 main_v2 ((extractStridedSlice S1x1024 ![3, 0] · slices_S6x1024_S1x1024_3_0) : C6 F → C1 F),
    unary main_v0 main_v3 ((extractStridedSlice S1x1024 ![4, 0] · slices_S6x1024_S1x1024_4_0) : C6 F → C1 F),
    binary main_arg3 main_arg3 main_v4 (mulf : Cx F → Cx F → Cx F),
    nullary main_cst (constant S_ .f32 0x00000000#32),
    binary main_v4 main_cst main_v5 ((fun x v => Host.reduceAdd x v reducesTo_S4096x1024_S4096_d1 h_S_) : Cx F → C0 F → Cr F),
    unary main_v5 main_v6 (broadcastInDim S4096x1 ![0] bcast_S4096_S4096x1_0 : Cr F → Cc F),
    nullary main_cst_0 (constant S_ .f32 0x44800000#32),
    unary main_cst_0 main_v7 (broadcastInDim S4096x1 ![] bcast_S_S4096x1 : C0 F → Cc F),
    binary main_v6 main_v7 main_v8 (Host.divf : Cc F → Cc F → Cc F),
    nullary main_cst_1 (constant S_ .f32 0x358637BD#32),
    unary main_cst_1 main_v9 (broadcastInDim S4096x1 ![] bcast_S_S4096x1 : C0 F → Cc F),
    binary main_v8 main_v9 main_v10 (addf : Cc F → Cc F → Cc F),
    unary main_v10 main_v11 (Host.rsqrt : Cc F → Cc F),
    binary main_v11 main_v10 main_v12 (Host.divf : Cc F → Cc F → Cc F),
    nullary main_cst_2 (constant S_ .f32 0xBF000000#32),
    unary main_cst_2 main_v13 (broadcastInDim S4096x1 ![] bcast_S_S4096x1 : C0 F → Cc F),
    binary main_v13 main_v12 main_v14 (mulf : Cc F → Cc F → Cc F),
    unary main_v11 main_v15 (broadcastInDim S4096x1024 ![0, 1] bcast_S4096x1_S4096x1024_0_1 : Cc F → Cx F),
    binary main_arg3 main_v15 main_v16 (mulf : Cx F → Cx F → Cx F),
    unary main_arg8 main_v17 (broadcastInDim S4096x1024 ![0, 1] bcast_S1x1024_S4096x1024_0_1 : C1 F → Cx F),
    binary main_v16 main_v17 main_v18 (mulf : Cx F → Cx F → Cx F),
    unary main_v1 main_v19 (broadcastInDim S4096x1024 ![0, 1] bcast_S1x1024_S4096x1024_0_1 : C1 F → Cx F),
    binary main_v19 main_v18 main_v20 (mulf : Cx F → Cx F → Cx F),
    binary main_arg2 main_v20 main_v21 (addf : Cx F → Cx F → Cx F),
    binary main_v21 main_v21 main_v22 (mulf : Cx F → Cx F → Cx F),
    nullary main_cst_3 (constant S_ .f32 0x00000000#32),
    binary main_v22 main_cst_3 main_v23 ((fun x v => Host.reduceAdd x v reducesTo_S4096x1024_S4096_d1 h_S_) : Cx F → C0 F → Cr F),
    unary main_v23 main_v24 (broadcastInDim S4096x1 ![0] bcast_S4096_S4096x1_0 : Cr F → Cc F),
    nullary main_cst_4 (constant S_ .f32 0x44800000#32),
    unary main_cst_4 main_v25 (broadcastInDim S4096x1 ![] bcast_S_S4096x1 : C0 F → Cc F),
    binary main_v24 main_v25 main_v26 (Host.divf : Cc F → Cc F → Cc F),
    nullary main_cst_5 (constant S_ .f32 0x358637BD#32),
    unary main_cst_5 main_v27 (broadcastInDim S4096x1 ![] bcast_S_S4096x1 : C0 F → Cc F),
    binary main_v26 main_v27 main_v28 (addf : Cc F → Cc F → Cc F),
    unary main_v28 main_v29 (Host.rsqrt : Cc F → Cc F),
    binary main_v29 main_v28 main_v30 (Host.divf : Cc F → Cc F → Cc F),
    nullary main_cst_6 (constant S_ .f32 0xBF000000#32),
    unary main_cst_6 main_v31 (broadcastInDim S4096x1 ![] bcast_S_S4096x1 : C0 F → Cc F),
    binary main_v31 main_v30 main_v32 (mulf : Cc F → Cc F → Cc F),
    unary main_v29 main_v33 (broadcastInDim S4096x1024 ![0, 1] bcast_S4096x1_S4096x1024_0_1 : Cc F → Cx F),
    binary main_v21 main_v33 main_v34 (mulf : Cx F → Cx F → Cx F),
    unary main_arg7 main_v35 (broadcastInDim S4096x1024 ![0, 1] bcast_S1x1024_S4096x1024_0_1 : C1 F → Cx F),
    binary main_v34 main_v35 main_v36 (mulf : Cx F → Cx F → Cx F),
    nullary main_cst_7 (constant S_ .f32 0x3F800000#32),
    unary main_cst_7 main_v37 (broadcastInDim S1x1024 ![] bcast_S_S1x1024 : C0 F → C1 F),
    binary main_v37 main_v3 main_v38 (addf : C1 F → C1 F → C1 F),
    unary main_v38 main_v39 (broadcastInDim S4096x1024 ![0, 1] bcast_S1x1024_S4096x1024_0_1 : C1 F → Cx F),
    binary main_v36 main_v39 main_v40 (mulf : Cx F → Cx F → Cx F),
    unary main_v2 main_v41 (broadcastInDim S4096x1024 ![0, 1] bcast_S1x1024_S4096x1024_0_1 : C1 F → Cx F),
    binary main_v40 main_v41 main_v42 (addf : Cx F → Cx F → Cx F),
    binary main_v42 main_arg1 main_v43 ((fun l r => Host.dotGeneral dot_S4096x1024_S1024x5632_S4096x5632_1_0_0_1_n_n none l r) : Cx F → Cw F → Cu F) ]

/-- Its lines up to the gradient at the stream. -/
abbrev ops2 : List (HloOp τ sig (Elt F)) :=
  [ unary main_arg0 main_v44 ((extf .f32 · bitsLt_bf16_f32) : Cuh F → Cu F),
    binary main_v44 main_arg1 main_v45 ((fun l r => Host.dotGeneral dot_S4096x5632_S1024x5632_S4096x1024_1_1_0_0_n_n none l r) : Cu F → Cw F → Cx F),
    nullary main_cst_8 (constant S_ .f32 0x00000000#32),
    binary main_v45 main_cst_8 main_v46 ((fun x v => Host.reduceAdd x v reducesTo_S4096x1024_S1024_d0 h_S_) : Cx F → C0 F → Cn F),
    reshape main_v46 main_v47 (rfl : (.f32 : EltTy) = .f32) shapeCasts_S1024_S1x1024,
    binary main_v36 main_v45 main_v48 (mulf : Cx F → Cx F → Cx F),
    nullary main_cst_9 (constant S_ .f32 0x00000000#32),
    binary main_v48 main_cst_9 main_v49 ((fun x v => Host.reduceAdd x v reducesTo_S4096x1024_S1024_d0 h_S_) : Cx F → C0 F → Cn F),
    reshape main_v49 main_v50 (rfl : (.f32 : EltTy) = .f32) shapeCasts_S1024_S1x1024,
    unary main_v38 main_v51 (broadcastInDim S4096x1024 ![0, 1] bcast_S1x1024_S4096x1024_0_1 : C1 F → Cx F),
    binary main_v45 main_v51 main_v52 (mulf : Cx F → Cx F → Cx F),
    binary main_v34 main_v52 main_v53 (mulf : Cx F → Cx F → Cx F),
    nullary main_cst_10 (constant S_ .f32 0x00000000#32),
    binary main_v53 main_cst_10 main_v54 ((fun x v => Host.reduceAdd x v reducesTo_S4096x1024_S1024_d0 h_S_) : Cx F → C0 F → Cn F),
    reshape main_v54 main_v55 (rfl : (.f32 : EltTy) = .f32) shapeCasts_S1024_S1x1024,
    unary main_arg7 main_v56 (broadcastInDim S4096x1024 ![0, 1] bcast_S1x1024_S4096x1024_0_1 : C1 F → Cx F),
    binary main_v52 main_v56 main_v57 (mulf : Cx F → Cx F → Cx F),
    binary main_v21 main_v57 main_v58 (mulf : Cx F → Cx F → Cx F),
    nullary main_cst_11 (constant S_ .f32 0x00000000#32),
    binary main_v58 main_cst_11 main_v59 ((fun x v => Host.reduceAdd x v reducesTo_S4096x1024_S4096_d1 h_S_) : Cx F → C0 F → Cr F),
    reshape main_v59 main_v60 (rfl : (.f32 : EltTy) = .f32) shapeCasts_S4096_S4096x1,
    unary main_v29 main_v61 (broadcastInDim S4096x1024 ![0, 1] bcast_S4096x1_S4096x1024_0_1 : Cc F → Cx F),
    binary main_v57 main_v61 main_v62 (mulf : Cx F → Cx F → Cx F),
    binary main_arg4 main_v62 main_v63 (addf : Cx F → Cx F → Cx F),
    binary main_v60 main_v32 main_v64 (mulf : Cc F → Cc F → Cc F),
    nullary main_cst_12 (constant S_ .f32 0x44800000#32),
    unary main_cst_12 main_v65 (broadcastInDim S4096x1 ![] bcast_S_S4096x1 : C0 F → Cc F),
    binary main_v64 main_v65 main_v66 (Host.divf : Cc F → Cc F → Cc F),
    nullary main_cst_13 (constant S_ .f32 0x00000000#32),
    binary main_v66 main_cst_13 main_v67 ((fun x v => Host.reduceAdd x v reducesTo_S4096x1_S4096_d1 h_S_) : Cc F → C0 F → Cr F),
    unary main_v67 main_v68 (broadcastInDim S4096x1024 ![0] bcast_S4096_S4096x1024_0 : Cr F → Cx F),
    binary main_v21 main_v68 main_v69 (mulf : Cx F → Cx F → Cx F),
    binary main_v63 main_v69 main_v70 (addf : Cx F → Cx F → Cx F),
    binary main_v68 main_v21 main_v71 (mulf : Cx F → Cx F → Cx F),
    binary main_v70 main_v71 main_v72 (addf : Cx F → Cx F → Cx F),
    reshape main_v72 main_v73 (rfl : (.f32 : EltTy) = .f32) shapeCasts_S4096x1024_S4096x1024 ]

/-- The rest of its lines. -/
abbrev ops3 : List (HloOp τ sig (Elt F)) :=
  [ unary main_v1 main_v74 (broadcastInDim S4096x1024 ![0, 1] bcast_S1x1024_S4096x1024_0_1 : C1 F → Cx F),
    binary main_v74 main_v73 main_v75 (mulf : Cx F → Cx F → Cx F),
    binary main_v73 main_v18 main_v76 (mulf : Cx F → Cx F → Cx F),
    nullary main_cst_14 (constant S_ .f32 0x00000000#32),
    binary main_v76 main_cst_14 main_v77 ((fun x v => Host.reduceAdd x v reducesTo_S4096x1024_S1024_d0 h_S_) : Cx F → C0 F → Cn F),
    reshape main_v77 main_v78 (rfl : (.f32 : EltTy) = .f32) shapeCasts_S1024_S1x1024,
    binary main_v16 main_v75 main_v79 (mulf : Cx F → Cx F → Cx F),
    nullary main_cst_15 (constant S_ .f32 0x00000000#32),
    binary main_v79 main_cst_15 main_v80 ((fun x v => Host.reduceAdd x v reducesTo_S4096x1024_S1024_d0 h_S_) : Cx F → C0 F → Cn F),
    reshape main_v80 main_v81 (rfl : (.f32 : EltTy) = .f32) shapeCasts_S1024_S1x1024,
    unary main_arg8 main_v82 (broadcastInDim S4096x1024 ![0, 1] bcast_S1x1024_S4096x1024_0_1 : C1 F → Cx F),
    binary main_v75 main_v82 main_v83 (mulf : Cx F → Cx F → Cx F),
    binary main_arg3 main_v83 main_v84 (mulf : Cx F → Cx F → Cx F),
    nullary main_cst_16 (constant S_ .f32 0x00000000#32),
    binary main_v84 main_cst_16 main_v85 ((fun x v => Host.reduceAdd x v reducesTo_S4096x1024_S4096_d1 h_S_) : Cx F → C0 F → Cr F),
    reshape main_v85 main_v86 (rfl : (.f32 : EltTy) = .f32) shapeCasts_S4096_S4096x1,
    unary main_v11 main_v87 (broadcastInDim S4096x1024 ![0, 1] bcast_S4096x1_S4096x1024_0_1 : Cc F → Cx F),
    binary main_v83 main_v87 main_v88 (mulf : Cx F → Cx F → Cx F),
    binary main_v86 main_v14 main_v89 (mulf : Cc F → Cc F → Cc F),
    nullary main_cst_17 (constant S_ .f32 0x44800000#32),
    unary main_cst_17 main_v90 (broadcastInDim S4096x1 ![] bcast_S_S4096x1 : C0 F → Cc F),
    binary main_v89 main_v90 main_v91 (Host.divf : Cc F → Cc F → Cc F),
    nullary main_cst_18 (constant S_ .f32 0x00000000#32),
    binary main_v91 main_cst_18 main_v92 ((fun x v => Host.reduceAdd x v reducesTo_S4096x1_S4096_d1 h_S_) : Cc F → C0 F → Cr F),
    unary main_v92 main_v93 (broadcastInDim S4096x1024 ![0] bcast_S4096_S4096x1024_0 : Cr F → Cx F),
    binary main_arg3 main_v93 main_v94 (mulf : Cx F → Cx F → Cx F),
    binary main_v88 main_v94 main_v95 (addf : Cx F → Cx F → Cx F),
    binary main_v93 main_arg3 main_v96 (mulf : Cx F → Cx F → Cx F),
    binary main_v95 main_v96 main_v97 (addf : Cx F → Cx F → Cx F),
    unary main_v97 main_v98 ((truncf .bf16 · bitsLt_bf16_f32) : Cx F → Cxh F) ]

theorem ops1_sub : (ops1 : List (HloOp τ sig (Elt F))).Forall fun op => op.bufs ⊆ tcRefs τ sig :=
  ⟨binary_bufs_sub .., unary_bufs_sub .., unary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., unary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., binary_bufs_sub ..⟩

theorem ops2_sub : (ops2 : List (HloOp τ sig (Elt F))).Forall fun op => op.bufs ⊆ tcRefs τ sig :=
  ⟨unary_bufs_sub .., binary_bufs_sub .., nullary_bufs_sub .., binary_bufs_sub .., reshape_bufs_sub .., binary_bufs_sub .., nullary_bufs_sub .., binary_bufs_sub .., reshape_bufs_sub .., unary_bufs_sub .., binary_bufs_sub .., binary_bufs_sub .., nullary_bufs_sub .., binary_bufs_sub .., reshape_bufs_sub .., unary_bufs_sub .., binary_bufs_sub .., binary_bufs_sub .., nullary_bufs_sub .., binary_bufs_sub .., reshape_bufs_sub .., unary_bufs_sub .., binary_bufs_sub .., binary_bufs_sub .., binary_bufs_sub .., nullary_bufs_sub .., unary_bufs_sub .., binary_bufs_sub .., nullary_bufs_sub .., binary_bufs_sub .., unary_bufs_sub .., binary_bufs_sub .., binary_bufs_sub .., binary_bufs_sub .., binary_bufs_sub .., reshape_bufs_sub ..⟩

theorem ops3_sub : (ops3 : List (HloOp τ sig (Elt F))).Forall fun op => op.bufs ⊆ tcRefs τ sig :=
  ⟨unary_bufs_sub .., binary_bufs_sub .., binary_bufs_sub .., nullary_bufs_sub .., binary_bufs_sub .., reshape_bufs_sub .., binary_bufs_sub .., nullary_bufs_sub .., binary_bufs_sub .., reshape_bufs_sub .., unary_bufs_sub .., binary_bufs_sub .., binary_bufs_sub .., nullary_bufs_sub .., binary_bufs_sub .., reshape_bufs_sub .., unary_bufs_sub .., binary_bufs_sub .., binary_bufs_sub .., nullary_bufs_sub .., unary_bufs_sub .., binary_bufs_sub .., nullary_bufs_sub .., binary_bufs_sub .., unary_bufs_sub .., binary_bufs_sub .., binary_bufs_sub .., binary_bufs_sub .., binary_bufs_sub .., unary_bufs_sub ..⟩

end Lines

set_option maxHeartbeats 2000000 in
theorem main_eq (c : Dev nD) : main (F := Ideal) c = seq (ops1 ++ ops2 ++ ops3) := rfl
theorem no_scoped_refs : (Finset.univ.filter fun b : Ref sig .tc => b.isScoped) = ∅ := by decide
theorem no_scoped_sems : (Finset.univ.filter fun sm : SemLoc sig => sm.isScoped .tc) = ∅ := by decide

/-- One stretch after another. -/
theorem after_two (l₁ l₂ : List (HloOp τ sig (Elt Ideal))) (V : Valuation τ sig (Elt Ideal)) :
    after (l₁ ++ l₂) V = after l₂ (after l₁ V) := by
  induction l₁ generalizing V with
  | nil => rfl
  | cons op l ih => exact ih _

section Stretches

variable (V : Valuation τ sig (Elt Ideal))

theorem s1_v1 : after ops1 V main_v1 = (gate (V main_arg5) (V main_arg6) : FVec Ideal S1x1024 .f32) := by after_results_simp <;> rfl
theorem s1_v38 : after ops1 V main_v38 = (addf (broadcastInDim S1x1024 ![] bcast_S_S1x1024 (constant S_ .f32 0x3F800000#32)) (scale (V main_arg5) (V main_arg6)) : FVec Ideal S1x1024 .f32) := by after_results_simp <;> rfl
theorem s1_v11 : after ops1 V main_v11 = (rsq (V main_arg3) : FVec Ideal S4096x1 .f32) := by after_results_simp <;> rfl
theorem s1_v14 : after ops1 V main_v14 = (rsqd (V main_arg3) : FVec Ideal S4096x1 .f32) := by after_results_simp <;> rfl
theorem s1_v16 : after ops1 V main_v16 = (scaled (V main_arg3) : FVec Ideal S4096x1024 .f32) := by after_results_simp <;> rfl
theorem s1_v18 : after ops1 V main_v18 = (mulf (scaled (V main_arg3)) (rows (V main_arg8)) : FVec Ideal S4096x1024 .f32) := by after_results_simp <;> rfl
theorem s1_v21 : after ops1 V main_v21 = (stream (V main_arg2) (V main_arg3) (V main_arg5) (V main_arg6) (V main_arg8) : FVec Ideal S4096x1024 .f32) := by after_results_simp <;> rfl
theorem s1_v29 : after ops1 V main_v29 = (rsq (stream (V main_arg2) (V main_arg3) (V main_arg5) (V main_arg6) (V main_arg8)) : FVec Ideal S4096x1 .f32) := by after_results_simp <;> rfl
theorem s1_v32 : after ops1 V main_v32 = (rsqd (stream (V main_arg2) (V main_arg3) (V main_arg5) (V main_arg6) (V main_arg8)) : FVec Ideal S4096x1 .f32) := by after_results_simp <;> rfl
theorem s1_v34 : after ops1 V main_v34 = (scaled (stream (V main_arg2) (V main_arg3) (V main_arg5) (V main_arg6) (V main_arg8)) : FVec Ideal S4096x1024 .f32) := by after_results_simp <;> rfl
theorem s1_v36 : after ops1 V main_v36 = (mulf (scaled (stream (V main_arg2) (V main_arg3) (V main_arg5) (V main_arg6) (V main_arg8))) (rows (V main_arg7)) : FVec Ideal S4096x1024 .f32) := by after_results_simp <;> rfl
theorem k1_arg0 : after ops1 V main_arg0 = V main_arg0 := by after_results_simp <;> rfl
theorem k1_arg1 : after ops1 V main_arg1 = V main_arg1 := by after_results_simp <;> rfl
theorem k1_arg2 : after ops1 V main_arg2 = V main_arg2 := by after_results_simp <;> rfl
theorem k1_arg3 : after ops1 V main_arg3 = V main_arg3 := by after_results_simp <;> rfl
theorem k1_arg4 : after ops1 V main_arg4 = V main_arg4 := by after_results_simp <;> rfl
theorem k1_arg5 : after ops1 V main_arg5 = V main_arg5 := by after_results_simp <;> rfl
theorem k1_arg6 : after ops1 V main_arg6 = V main_arg6 := by after_results_simp <;> rfl
theorem k1_arg7 : after ops1 V main_arg7 = V main_arg7 := by after_results_simp <;> rfl
theorem k1_arg8 : after ops1 V main_arg8 = V main_arg8 := by after_results_simp <;> rfl

theorem s2_v47 : after ops2 V main_v47 = (colSums (dmod (V main_arg0) (V main_arg1)) : FVec Ideal S1x1024 .f32) := by after_results_simp <;> rfl
theorem s2_v50 : after ops2 V main_v50 = (colSums (mulf (V main_v36) (dmod (V main_arg0) (V main_arg1))) : FVec Ideal S1x1024 .f32) := by after_results_simp <;> rfl
theorem s2_v55 : after ops2 V main_v55 = (colSums (mulf (V main_v34) (mulf (dmod (V main_arg0) (V main_arg1)) (rows (V main_v38)))) : FVec Ideal S1x1024 .f32) := by after_results_simp <;> rfl
theorem s2_v72 : after ops2 V main_v72 = (addf (addf (addf (V main_arg4) (mulf (mulf (mulf (dmod (V main_arg0) (V main_arg1)) (rows (V main_v38))) (rows (V main_arg7))) (cols (V main_v29)))) (mulf (V main_v21) (slopesOf (V main_v21) (mulf (mulf (dmod (V main_arg0) (V main_arg1)) (rows (V main_v38))) (rows (V main_arg7))) (V main_v32)))) (mulf (slopesOf (V main_v21) (mulf (mulf (dmod (V main_arg0) (V main_arg1)) (rows (V main_v38))) (rows (V main_arg7))) (V main_v32)) (V main_v21)) : FVec Ideal S4096x1024 .f32) := by after_results_simp <;> rfl
theorem s2_v73 : after ops2 V main_v73 = (shapeCast _ (addf (addf (addf (V main_arg4) (mulf (mulf (mulf (dmod (V main_arg0) (V main_arg1)) (rows (V main_v38))) (rows (V main_arg7))) (cols (V main_v29)))) (mulf (V main_v21) (slopesOf (V main_v21) (mulf (mulf (dmod (V main_arg0) (V main_arg1)) (rows (V main_v38))) (rows (V main_arg7))) (V main_v32)))) (mulf (slopesOf (V main_v21) (mulf (mulf (dmod (V main_arg0) (V main_arg1)) (rows (V main_v38))) (rows (V main_arg7))) (V main_v32)) (V main_v21)) : FVec Ideal S4096x1024 .f32) shapeCasts_S4096x1024_S4096x1024 : FVec Ideal S4096x1024 .f32) := by after_results_simp <;> rfl
theorem k2_v1 : after ops2 V main_v1 = V main_v1 := by after_results_simp <;> rfl
theorem k2_v11 : after ops2 V main_v11 = V main_v11 := by after_results_simp <;> rfl
theorem k2_v14 : after ops2 V main_v14 = V main_v14 := by after_results_simp <;> rfl
theorem k2_v16 : after ops2 V main_v16 = V main_v16 := by after_results_simp <;> rfl
theorem k2_v18 : after ops2 V main_v18 = V main_v18 := by after_results_simp <;> rfl
theorem k2_arg0 : after ops2 V main_arg0 = V main_arg0 := by after_results_simp <;> rfl
theorem k2_arg1 : after ops2 V main_arg1 = V main_arg1 := by after_results_simp <;> rfl
theorem k2_arg2 : after ops2 V main_arg2 = V main_arg2 := by after_results_simp <;> rfl
theorem k2_arg3 : after ops2 V main_arg3 = V main_arg3 := by after_results_simp <;> rfl
theorem k2_arg4 : after ops2 V main_arg4 = V main_arg4 := by after_results_simp <;> rfl
theorem k2_arg5 : after ops2 V main_arg5 = V main_arg5 := by after_results_simp <;> rfl
theorem k2_arg6 : after ops2 V main_arg6 = V main_arg6 := by after_results_simp <;> rfl
theorem k2_arg7 : after ops2 V main_arg7 = V main_arg7 := by after_results_simp <;> rfl
theorem k2_arg8 : after ops2 V main_arg8 = V main_arg8 := by after_results_simp <;> rfl

theorem s3_v78 : after ops3 V main_v78 = (colSums (mulf (V main_v73) (V main_v18)) : FVec Ideal S1x1024 .f32) := by after_results_simp <;> rfl
theorem s3_v81 : after ops3 V main_v81 = (colSums (mulf (V main_v16) (mulf (rows (V main_v1)) (V main_v73))) : FVec Ideal S1x1024 .f32) := by after_results_simp <;> rfl
theorem s3_v98 : after ops3 V main_v98 = (truncf .bf16 (addf (addf (mulf (mulf (mulf (rows (V main_v1)) (V main_v73)) (rows (V main_arg8))) (cols (V main_v11))) (mulf (V main_arg3) (slopesOf (V main_arg3) (mulf (mulf (rows (V main_v1)) (V main_v73)) (rows (V main_arg8))) (V main_v14)))) (mulf (slopesOf (V main_arg3) (mulf (mulf (rows (V main_v1)) (V main_v73)) (rows (V main_arg8))) (V main_v14)) (V main_arg3))) bitsLt_bf16_f32 : FVec Ideal S4096x1024 .bf16) := by after_results_simp <;> rfl
theorem k3_v47 : after ops3 V main_v47 = V main_v47 := by after_results_simp <;> rfl
theorem k3_v50 : after ops3 V main_v50 = V main_v50 := by after_results_simp <;> rfl
theorem k3_v55 : after ops3 V main_v55 = V main_v55 := by after_results_simp <;> rfl
theorem k3_v72 : after ops3 V main_v72 = V main_v72 := by after_results_simp <;> rfl
theorem k3_arg0 : after ops3 V main_arg0 = V main_arg0 := by after_results_simp <;> rfl
theorem k3_arg1 : after ops3 V main_arg1 = V main_arg1 := by after_results_simp <;> rfl
theorem k3_arg2 : after ops3 V main_arg2 = V main_arg2 := by after_results_simp <;> rfl
theorem k3_arg3 : after ops3 V main_arg3 = V main_arg3 := by after_results_simp <;> rfl
theorem k3_arg4 : after ops3 V main_arg4 = V main_arg4 := by after_results_simp <;> rfl
theorem k3_arg5 : after ops3 V main_arg5 = V main_arg5 := by after_results_simp <;> rfl
theorem k3_arg6 : after ops3 V main_arg6 = V main_arg6 := by after_results_simp <;> rfl
theorem k3_arg7 : after ops3 V main_arg7 = V main_arg7 := by after_results_simp <;> rfl
theorem k3_arg8 : after ops3 V main_arg8 = V main_arg8 := by after_results_simp <;> rfl

end Stretches

/-! ## The three stretches together -/

section Whole

variable (V : Valuation τ sig (Elt Ideal))

theorem res_v72 : after ops3 (after ops2 (after ops1 V)) main_v72 = out0 (V main_arg0) (V main_arg1) (V main_arg2) (V main_arg3) (V main_arg4) (V main_arg5) (V main_arg6) (V main_arg7) (V main_arg8) := by
  rw [k3_v72, s2_v72, k1_arg4, k1_arg0, k1_arg1, s1_v38, k1_arg7, s1_v29, s1_v21, s1_v32]
  rfl
theorem res_v98 : after ops3 (after ops2 (after ops1 V)) main_v98 = out1 (V main_arg0) (V main_arg1) (V main_arg2) (V main_arg3) (V main_arg4) (V main_arg5) (V main_arg6) (V main_arg7) (V main_arg8) := by
  rw [s3_v98, k2_v1, s2_v73, k2_arg8, k2_v11, k2_arg3, k2_v14, s1_v1, k1_arg4, k1_arg0, k1_arg1, s1_v38, k1_arg7, s1_v29, s1_v21, s1_v32, k1_arg8, s1_v11, k1_arg3, s1_v14]
  rfl
theorem res_v47 : after ops3 (after ops2 (after ops1 V)) main_v47 = out2 (V main_arg0) (V main_arg1) := by
  rw [k3_v47, s2_v47, k1_arg0, k1_arg1]
  rfl
theorem res_v50 : after ops3 (after ops2 (after ops1 V)) main_v50 = out3 (V main_arg0) (V main_arg1) (V main_arg2) (V main_arg3) (V main_arg5) (V main_arg6) (V main_arg7) (V main_arg8) := by
  rw [k3_v50, s2_v50, s1_v36, k1_arg0, k1_arg1]
  rfl
theorem res_v55 : after ops3 (after ops2 (after ops1 V)) main_v55 = out4 (V main_arg0) (V main_arg1) (V main_arg2) (V main_arg3) (V main_arg5) (V main_arg6) (V main_arg8) := by
  rw [k3_v55, s2_v55, s1_v34, k1_arg0, k1_arg1, s1_v38]
  rfl
theorem res_v78 : after ops3 (after ops2 (after ops1 V)) main_v78 = out5 (V main_arg0) (V main_arg1) (V main_arg2) (V main_arg3) (V main_arg4) (V main_arg5) (V main_arg6) (V main_arg7) (V main_arg8) := by
  rw [s3_v78, s2_v73, k2_v18, k1_arg4, k1_arg0, k1_arg1, s1_v38, k1_arg7, s1_v29, s1_v21, s1_v32, s1_v18]
  rfl
theorem res_v81 : after ops3 (after ops2 (after ops1 V)) main_v81 = out6 (V main_arg0) (V main_arg1) (V main_arg2) (V main_arg3) (V main_arg4) (V main_arg5) (V main_arg6) (V main_arg7) (V main_arg8) := by
  rw [s3_v81, k2_v16, k2_v1, s2_v73, s1_v16, s1_v1, k1_arg4, k1_arg0, k1_arg1, s1_v38, k1_arg7, s1_v29, s1_v21, s1_v32]
  rfl
theorem keep_arg0 : after ops3 (after ops2 (after ops1 V)) main_arg0 = V main_arg0 := by rw [k3_arg0, k2_arg0, k1_arg0]
theorem keep_arg1 : after ops3 (after ops2 (after ops1 V)) main_arg1 = V main_arg1 := by rw [k3_arg1, k2_arg1, k1_arg1]
theorem keep_arg2 : after ops3 (after ops2 (after ops1 V)) main_arg2 = V main_arg2 := by rw [k3_arg2, k2_arg2, k1_arg2]
theorem keep_arg3 : after ops3 (after ops2 (after ops1 V)) main_arg3 = V main_arg3 := by rw [k3_arg3, k2_arg3, k1_arg3]
theorem keep_arg4 : after ops3 (after ops2 (after ops1 V)) main_arg4 = V main_arg4 := by rw [k3_arg4, k2_arg4, k1_arg4]
theorem keep_arg5 : after ops3 (after ops2 (after ops1 V)) main_arg5 = V main_arg5 := by rw [k3_arg5, k2_arg5, k1_arg5]
theorem keep_arg6 : after ops3 (after ops2 (after ops1 V)) main_arg6 = V main_arg6 := by rw [k3_arg6, k2_arg6, k1_arg6]
theorem keep_arg7 : after ops3 (after ops2 (after ops1 V)) main_arg7 = V main_arg7 := by rw [k3_arg7, k2_arg7, k1_arg7]
theorem keep_arg8 : after ops3 (after ops2 (after ops1 V)) main_arg8 = V main_arg8 := by rw [k3_arg8, k2_arg8, k1_arg8]

end Whole

theorem ops_sub : (ops1 ++ ops2 ++ ops3 : List (HloOp τ sig (Elt Ideal))).Forall fun op => op.bufs ⊆ tcRefs τ sig :=
  List.forall_iff_forall_mem.mpr fun op h => by
    rcases List.mem_append.mp h with h | h
    · rcases List.mem_append.mp h with h | h
      · exact List.forall_iff_forall_mem.mp ops1_sub op h
      · exact List.forall_iff_forall_mem.mp ops2_sub op h
    · exact List.forall_iff_forall_mem.mp ops3_sub op h

section Results

variable (m : (ℓ : Loc nD τ sig) → Buf (Elt Ideal) ℓ) (c : Dev nD)

/-- Argument `0` of the reference on a device. -/
abbrev a0 : FVec Ideal S4096x5632 .bf16 := m ((c.tc : Thread nD τ).loc main_arg0)
/-- Argument `1` of the reference on a device. -/
abbrev a1 : FVec Ideal S1024x5632 .f32 := m ((c.tc : Thread nD τ).loc main_arg1)
/-- Argument `2` of the reference on a device. -/
abbrev a2 : FVec Ideal S4096x1024 .f32 := m ((c.tc : Thread nD τ).loc main_arg2)
/-- Argument `3` of the reference on a device. -/
abbrev a3 : FVec Ideal S4096x1024 .f32 := m ((c.tc : Thread nD τ).loc main_arg3)
/-- Argument `4` of the reference on a device. -/
abbrev a4 : FVec Ideal S4096x1024 .f32 := m ((c.tc : Thread nD τ).loc main_arg4)
/-- Argument `5` of the reference on a device. -/
abbrev a5 : FVec Ideal S6x1024 .f32 := m ((c.tc : Thread nD τ).loc main_arg5)
/-- Argument `6` of the reference on a device. -/
abbrev a6 : FVec Ideal S6x1024 .f32 := m ((c.tc : Thread nD τ).loc main_arg6)
/-- Argument `7` of the reference on a device. -/
abbrev a7 : FVec Ideal S1x1024 .f32 := m ((c.tc : Thread nD τ).loc main_arg7)
/-- Argument `8` of the reference on a device. -/
abbrev a8 : FVec Ideal S1x1024 .f32 := m ((c.tc : Thread nD τ).loc main_arg8)

/-- The seven results as the run states them, and the arguments kept. -/
theorem run_outs (ρ : Dev nD → PrngReg) :
    θ_run defs (onTc (τ := τ) (main (F := Ideal))) ⟨m, fun _ => 0, ρ⟩ fun r => ∀ c : Dev nD,
      r.2.mem ((c.tc : Thread nD τ).loc main_v72) = out0 (a0 m c) (a1 m c) (a2 m c) (a3 m c) (a4 m c) (a5 m c) (a6 m c) (a7 m c) (a8 m c)
      ∧ r.2.mem ((c.tc : Thread nD τ).loc main_v98) = out1 (a0 m c) (a1 m c) (a2 m c) (a3 m c) (a4 m c) (a5 m c) (a6 m c) (a7 m c) (a8 m c)
      ∧ r.2.mem ((c.tc : Thread nD τ).loc main_v47) = out2 (a0 m c) (a1 m c)
      ∧ r.2.mem ((c.tc : Thread nD τ).loc main_v50) = out3 (a0 m c) (a1 m c) (a2 m c) (a3 m c) (a5 m c) (a6 m c) (a7 m c) (a8 m c)
      ∧ r.2.mem ((c.tc : Thread nD τ).loc main_v55) = out4 (a0 m c) (a1 m c) (a2 m c) (a3 m c) (a5 m c) (a6 m c) (a8 m c)
      ∧ r.2.mem ((c.tc : Thread nD τ).loc main_v78) = out5 (a0 m c) (a1 m c) (a2 m c) (a3 m c) (a4 m c) (a5 m c) (a6 m c) (a7 m c) (a8 m c)
      ∧ r.2.mem ((c.tc : Thread nD τ).loc main_v81) = out6 (a0 m c) (a1 m c) (a2 m c) (a3 m c) (a4 m c) (a5 m c) (a6 m c) (a7 m c) (a8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run _ _ _).mono (fun r h c => by
    have key : ∀ b : Ref sig .tc, r.2.mem ((c.tc : Thread nD τ).loc b) = after ops3 (after ops2 (after ops1 (launchContents m c))) b := fun b =>
      (h c b).trans (by rw [after_two, after_two])
    exact ⟨(key main_v72).trans (res_v72 _),
      (key main_v98).trans (res_v98 _),
      (key main_v47).trans (res_v47 _),
      (key main_v50).trans (res_v50 _),
      (key main_v55).trans (res_v55 _),
      (key main_v78).trans (res_v78 _),
      (key main_v81).trans (res_v81 _),
      (key main_arg0).trans (keep_arg0 _),
      (key main_arg1).trans (keep_arg1 _),
      (key main_arg2).trans (keep_arg2 _),
      (key main_arg3).trans (keep_arg3 _),
      (key main_arg4).trans (keep_arg4 _),
      (key main_arg5).trans (keep_arg5 _),
      (key main_arg6).trans (keep_arg6 _),
      (key main_arg7).trans (keep_arg7 _),
      (key main_arg8).trans (keep_arg8 _)⟩)
    (run_seq no_scoped_refs no_scoped_sems defs main (fun _ => ops1 ++ ops2 ++ ops3) main_eq (fun _ => ops_sub) m ρ)

end Results

end Cert.Reference2Ideal.Terms

end
-- ==== Proof.NormSpec.lean ====
/-
  The root-mean-square norm's backward pass, as formulas on coordinates: a row `r` of the 4096 and a column `d` of the
  1024. The kernel subtracts each row's mean product; the reference differentiates the inverse root by the chain rule.
  On numbers the two agree (`vjp_eq`).
-/
module

public import proofs.«01_k».proof.Proof.Numbers

@[expose] public section

noncomputable section

namespace Cert.Norm

open Idealize.ShloMosaic
open Cert.Ffn (IsNum)

/-- The number of columns, as the programs write it. -/
def width : EReal := Ideal.ofBits .f32 0x44800000#32
/-- What is added to a row's mean square. -/
def eps : EReal := Ideal.ofBits .f32 0x358637BD#32
/-- The exponent of the inverse root. -/
def half : EReal := Ideal.ofBits .f32 0xBF000000#32

theorem width_eq : width = ((1024 : ℝ) : EReal) := by
  unfold width
  simp [Ideal.ofBits, Ideal.ieee]
  rw [← EReal.coe_mul]
  norm_num

theorem half_eq : half = ((-(1 / 2) : ℝ) : EReal) := by
  unfold half
  simp [Ideal.ofBits, Ideal.ieee]
  rw [← EReal.coe_mul]
  norm_num

theorem eps_eq : ∃ e : ℝ, 0 < e ∧ eps = (e : EReal) := by
  unfold eps
  simp [Ideal.ofBits, Ideal.ieee]
  refine ⟨_, ?_, rfl⟩
  positivity

/-- A row's mean square, plus the small number. -/
def ms (x : Fin 1024 → EReal) : EReal := Ideal.div (∑ e, x e * x e) width + eps
/-- Its inverse root. -/
def rs (x : Fin 1024 → EReal) : EReal := Ideal.rsqrt (ms x)
/-- The row scaled by it. -/
def hat (x : Fin 1024 → EReal) (d : Fin 1024) : EReal := x d * rs x
/-- The gradient `v` at the scaled row taken back to the row, in the kernel's form. -/
def back (x v : Fin 1024 → EReal) (d : Fin 1024) : EReal :=
  rs x * (v d - hat x d * Ideal.div (∑ e, v e * hat x e) width)
/-- The derivative of the inverse root along `v`, as the chain rule spells it. -/
def slope (x v : Fin 1024 → EReal) : EReal :=
  Ideal.div ((∑ e, x e * v e) * (half * Ideal.div (rs x) (ms x))) width

theorem sum_coe (f : Fin 1024 → ℝ) : (∑ e, (f e : EReal)) = ((∑ e, f e : ℝ) : EReal) :=
  (map_sum (⟨⟨fun r : ℝ => (r : EReal), EReal.coe_zero⟩, EReal.coe_add⟩ : ℝ →+ EReal) f Finset.univ).symm

theorem div_coe {a b : ℝ} (hb : b ≠ 0) : Ideal.div (a : EReal) (b : EReal) = ((a * b⁻¹ : ℝ) : EReal) := by
  unfold Ideal.div
  rw [if_neg (by exact_mod_cast hb), ← EReal.coe_inv, ← EReal.coe_mul]

/-- On numbers the mean square is positive and the inverse root squared is its inverse. -/
theorem ms_coe (x : Fin 1024 → ℝ) : ∃ s r : ℝ, s ≠ 0 ∧ r * r = s⁻¹ ∧ ms (fun e => (x e : EReal)) = s ∧ rs (fun e => (x e : EReal)) = r := by
  obtain ⟨e, he, hE⟩ := eps_eq
  have hs : ms (fun e => (x e : EReal)) = (((∑ e, x e * x e) * (1024 : ℝ)⁻¹ + e : ℝ) : EReal) := by
    unfold ms
    rw [hE, width_eq, EReal.coe_add, ← div_coe (by norm_num), ← sum_coe]
    simp only [EReal.coe_mul]
  have hp : 0 < (∑ e, x e * x e) * (1024 : ℝ)⁻¹ + e := by
    have : 0 ≤ ∑ e, x e * x e := Finset.sum_nonneg fun e _ => mul_self_nonneg (x e)
    positivity
  refine ⟨_, (√((∑ e, x e * x e) * (1024 : ℝ)⁻¹ + e))⁻¹, hp.ne', ?_, hs, ?_⟩
  · rw [← mul_inv, Real.mul_self_sqrt hp.le]
  · unfold rs
    rw [hs, Ideal.rsqrt_coe, if_neg (not_lt.mpr hp.le), if_neg hp.ne']

theorem rs_num {x : Fin 1024 → EReal} (hx : ∀ d, IsNum (x d)) : IsNum (rs x) := by
  choose x' hx using hx
  obtain rfl : x = fun e => (x' e : EReal) := funext hx
  obtain ⟨s, r, -, -, -, h⟩ := ms_coe x'
  exact ⟨r, h⟩

theorem hat_num {x : Fin 1024 → EReal} (hx : ∀ d, IsNum (x d)) (d : Fin 1024) : IsNum (hat x d) := (hx d).mul (rs_num hx)

/-- The chain rule's form is the kernel's. -/
theorem vjp_eq {x v : Fin 1024 → EReal} (hx : ∀ d, IsNum (x d)) (hv : ∀ d, IsNum (v d)) (d : Fin 1024) :
    v d * rs x + x d * slope x v + slope x v * x d = back x v d := by
  choose x' hx using hx
  choose v' hv using hv
  obtain rfl : x = fun e => (x' e : EReal) := funext hx
  obtain rfl : v = fun e => (v' e : EReal) := funext hv
  obtain ⟨s, r, hs, hr, hms, hrs⟩ := ms_coe x'
  have h1 : (∑ e, x' e * v' e) = ∑ e, v' e * x' e := Finset.sum_congr rfl fun e _ => mul_comm _ _
  have h2 : (∑ e, v' e * (x' e * r)) = (∑ e, v' e * x' e) * r := by
    rw [Finset.sum_mul]; exact Finset.sum_congr rfl fun e _ => by ring
  unfold slope back hat
  rw [hms, hrs, half_eq, width_eq, div_coe hs]
  simp only [← EReal.coe_mul, sum_coe, div_coe (show (1024 : ℝ) ≠ 0 by norm_num), ← EReal.coe_add, ← EReal.coe_sub]
  rw [h1, h2, ← hr]
  congr 1
  ring

/-- So it is a number. -/
theorem back_num {x v : Fin 1024 → EReal} (hx : ∀ d, IsNum (x d)) (hv : ∀ d, IsNum (v d)) (d : Fin 1024) : IsNum (back x v d) := by
  choose x' hx using hx
  choose v' hv using hv
  obtain rfl : x = fun e => (x' e : EReal) := funext hx
  obtain rfl : v = fun e => (v' e : EReal) := funext hv
  obtain ⟨s, r, hs, hr, hms, hrs⟩ := ms_coe x'
  unfold back hat
  rw [hrs, width_eq]
  simp only [← EReal.coe_mul, sum_coe, div_coe (show (1024 : ℝ) ≠ 0 by norm_num), ← EReal.coe_sub]
  exact ⟨_, rfl⟩

/-- The arrays the call's seven results are functions of: the gradient `D` at the modulated norm, the stream `X` after
    the first half of the layer, that half's result `M`, the gradient `O` coming down the stream, the gate `gt`, the
    scale `sc` and the two norms' weights. -/
structure Arrays where
  D : Fin 4096 → Fin 1024 → EReal
  X : Fin 4096 → Fin 1024 → EReal
  M : Fin 4096 → Fin 1024 → EReal
  O : Fin 4096 → Fin 1024 → EReal
  gt : Fin 1024 → EReal
  sc : Fin 1024 → EReal
  gf : Fin 1024 → EReal
  gm : Fin 1024 → EReal

/-- The arrays hold numbers. -/
structure Arrays.Num (A : Arrays) : Prop where
  D : ∀ r d, IsNum (A.D r d)
  X : ∀ r d, IsNum (A.X r d)
  M : ∀ r d, IsNum (A.M r d)
  O : ∀ r d, IsNum (A.O r d)
  gt : ∀ d, IsNum (A.gt d)
  sc : ∀ d, IsNum (A.sc d)
  gf : ∀ d, IsNum (A.gf d)
  gm : ∀ d, IsNum (A.gm d)

namespace Arrays

variable (A : Arrays)

/-- The gradient at the second norm's weighted row. -/
def dw (r : Fin 4096) (d : Fin 1024) : EReal := A.D r d * (1 + A.sc d)
/-- The gradient at the second norm's scaled row. -/
def dh (r : Fin 4096) (d : Fin 1024) : EReal := A.dw r d * A.gf d
/-- The gradient at the stream. -/
def dx (r : Fin 4096) (d : Fin 1024) : EReal := A.O r d + back (A.X r) (A.dh r) d
/-- The gradient at the first norm's weighted row. -/
def dn (r : Fin 4096) (d : Fin 1024) : EReal := A.dx r d * A.gt d
/-- The gradient at the first norm's scaled row. -/
def dk (r : Fin 4096) (d : Fin 1024) : EReal := A.dn r d * A.gm d
/-- The gradient at the first half's result. -/
def dm (r : Fin 4096) (d : Fin 1024) : EReal := back (A.M r) (A.dk r) d
/-- A row's share of the gradient at the scale. -/
def rsc (r : Fin 4096) (d : Fin 1024) : EReal := A.D r d * (hat (A.X r) d * A.gf d)
/-- A row's share of the gradient at the second norm's weights. -/
def rgf (r : Fin 4096) (d : Fin 1024) : EReal := A.dw r d * hat (A.X r) d
/-- A row's share of the gradient at the gate. -/
def rgt (r : Fin 4096) (d : Fin 1024) : EReal := A.dx r d * (hat (A.M r) d * A.gm d)
/-- A row's share of the gradient at the first norm's weights. -/
def rgm (r : Fin 4096) (d : Fin 1024) : EReal := A.dn r d * hat (A.M r) d

variable {A}

theorem Num.dh (h : A.Num) (r : Fin 4096) (d : Fin 1024) : IsNum (A.dh r d) :=
  ((h.D r d).mul (IsNum.add ⟨1, EReal.coe_one.symm⟩ (h.sc d))).mul (h.gf d)
theorem Num.dx (h : A.Num) (r : Fin 4096) (d : Fin 1024) : IsNum (A.dx r d) :=
  (h.O r d).add (back_num (h.X r) (h.dh r) d)
theorem Num.dk (h : A.Num) (r : Fin 4096) (d : Fin 1024) : IsNum (A.dk r d) :=
  ((h.dx r d).mul (h.gt d)).mul (h.gm d)

end Arrays

end Cert.Norm

end
-- ==== Proof.NormRef.lean ====
/-
  The second reference's seven results read at an index: they are the formulas of `Cert.Norm.Arrays`.
-/
module

public import proofs.«01_k».proof.Proof.NormTerms
public import proofs.«01_k».proof.Proof.NormSpec

@[expose] public section

set_option maxRecDepth 16384

noncomputable section

namespace Cert.Reference2Ideal.Terms

open Idealize.ShloMosaic Idealize.ShloMosaic.TcCoe Idealize.SL.Sem
open Cert.Reference2Ideal Cert.Reference2Ideal.Gen Cert.Reference2Ideal.Facts
open Cert.Norm (ms rs hat back)

section Read

theorem rows_at (v : FVec Ideal S1x1024 .f32) (r : Fin 4096) (d : Fin 1024) : rows v (ix2 r d) = v (ix2 0 d) := by pointwise [rows]
theorem cols_at (v : FVec Ideal S4096x1 .f32) (r : Fin 4096) (d : Fin 1024) : cols v (ix2 r d) = v (ix2 r 0) := by pointwise [cols]

theorem msq_at (x : FVec Ideal S4096x1024 .f32) (r : Fin 4096) : msq x (ix2 r 0) = ms (fun d => x (ix2 r d)) := by
  unfold ms Cert.Norm.width Cert.Norm.eps
  pointwise [msq, num, rowSums]

theorem rsq_at (x : FVec Ideal S4096x1024 .f32) (r : Fin 4096) : rsq x (ix2 r 0) = rs (fun d => x (ix2 r d)) :=
  congrArg Ideal.rsqrt (msq_at x r)

theorem scaled_at (x : FVec Ideal S4096x1024 .f32) (r : Fin 4096) (d : Fin 1024) : scaled x (ix2 r d) = hat (fun d => x (ix2 r d)) d :=
  congrArg (x (ix2 r d) * ·) ((cols_at _ r d).trans (rsq_at x r))

theorem slopes_at (x v : FVec Ideal S4096x1024 .f32) (r : Fin 4096) (d : Fin 1024) :
    slopes x v (ix2 r d) = Cert.Norm.slope (fun d => x (ix2 r d)) (fun d => v (ix2 r d)) := by
  unfold Cert.Norm.slope
  rw [← rsq_at, ← msq_at]
  unfold Cert.Norm.width Cert.Norm.half
  pointwise [slopes, slopesOf, rsqd, num, rowSums]
  exact Fin.sum_univ_one _

theorem colSums_at (v : FVec Ideal S4096x1024 .f32) (d : Fin 1024) : colSums v (ix2 0 d) = ∑ r, v (ix2 r d) := by pointwise [colSums]

variable (du : FVec Ideal S4096x5632 .bf16) (wu : FVec Ideal S1024x5632 .f32) (x mm dd : FVec Ideal S4096x1024 .f32)
  (ad ba : FVec Ideal S6x1024 .f32) (gf gm : FVec Ideal S1x1024 .f32)

/-- The arrays the results are functions of. -/
def arrays : Cert.Norm.Arrays where
  D r d := ∑ C : Fin 5632, du (ix2 r C) * wu (ix2 d C)
  X r d := stream x mm ad ba gm (ix2 r d)
  M r d := mm (ix2 r d)
  O r d := dd (ix2 r d)
  gt d := ad (ix2 2 d) + ba (ix2 2 d)
  sc d := ad (ix2 4 d) + ba (ix2 4 d)
  gf d := gf (ix2 0 d)
  gm d := gm (ix2 0 d)

theorem gate_at (d : Fin 1024) : gate ad ba (ix2 0 d) = ad (ix2 2 d) + ba (ix2 2 d) := by pointwise [gate]
theorem scale_at (d : Fin 1024) : scale ad ba (ix2 0 d) = ad (ix2 4 d) + ba (ix2 4 d) := by pointwise [scale]

theorem stream_at (r : Fin 4096) (d : Fin 1024) : stream x mm ad ba gm (ix2 r d)
    = x (ix2 r d) + (ad (ix2 2 d) + ba (ix2 2 d)) * (hat (fun d => mm (ix2 r d)) d * gm (ix2 0 d)) := by
  rw [← gate_at, ← scaled_at, ← rows_at (gate ad ba) r, ← rows_at gm r]
  rfl

theorem dmod_at (r : Fin 4096) (d : Fin 1024) : dmod du wu (ix2 r d) = (arrays du wu x mm dd ad ba gf gm).D r d := by
  show _ = ∑ C : Fin 5632, du (ix2 r C) * wu (ix2 d C)
  pointwise [dmod]

theorem dwt_at (r : Fin 4096) (d : Fin 1024) : dwt du wu ad ba (ix2 r d) = (arrays du wu x mm dd ad ba gf gm).dw r d := by
  refine congrArg₂ (· * ·) (dmod_at du wu x mm dd ad ba gf gm r d) ((rows_at _ r d).trans ?_)
  refine congrArg₂ (· + ·) ?_ (scale_at ad ba d)
  pointwise

theorem dsd_at (r : Fin 4096) (d : Fin 1024) : dsd du wu ad ba gf (ix2 r d) = (arrays du wu x mm dd ad ba gf gm).dh r d :=
  congrArg₂ (· * ·) (dwt_at du wu x mm dd ad ba gf gm r d) (rows_at _ r d)

theorem dsd_row (r : Fin 4096) : (fun d => dsd du wu ad ba gf (ix2 r d)) = (arrays du wu x mm dd ad ba gf gm).dh r := funext (dsd_at du wu x mm dd ad ba gf gm r)

theorem out0_eq (hA : (arrays du wu x mm dd ad ba gf gm).Num) (r : Fin 4096) (d : Fin 1024) : out0 du wu x mm dd ad ba gf gm (ix2 r d) = (arrays du wu x mm dd ad ba gf gm).dx r d := by
  have e1 : cols (rsq (stream x mm ad ba gm)) (ix2 r d) = rs ((arrays du wu x mm dd ad ba gf gm).X r) := (cols_at _ r d).trans (rsq_at _ r)
  have e2 : slopes (stream x mm ad ba gm) (dsd du wu ad ba gf) (ix2 r d) = Cert.Norm.slope ((arrays du wu x mm dd ad ba gf gm).X r) ((arrays du wu x mm dd ad ba gf gm).dh r) :=
    (slopes_at _ _ r d).trans (congrArg (Cert.Norm.slope _) (dsd_row du wu x mm dd ad ba gf gm r))
  show dd (ix2 r d) + dsd du wu ad ba gf (ix2 r d) * _ + stream x mm ad ba gm (ix2 r d) * _ + _ * stream x mm ad ba gm (ix2 r d) = _
  rw [e1, e2, dsd_at du wu x mm dd ad ba gf gm]
  unfold Cert.Norm.Arrays.dx
  rw [← Cert.Norm.vjp_eq (hA.X r) (hA.dh r)]
  show (arrays du wu x mm dd ad ba gf gm).O r d + _ + (arrays du wu x mm dd ad ba gf gm).X r d * _ + _ * (arrays du wu x mm dd ad ba gf gm).X r d = _
  rw [add_assoc, add_assoc, add_assoc]

theorem cast_at (v : FVec Ideal S4096x1024 .f32) (r : Fin 4096) (d : Fin 1024) :
    (shapeCast _ v shapeCasts_S4096x1024_S4096x1024 : FVec Ideal S4096x1024 .f32) (ix2 r d) = v (ix2 r d) := by pointwise

theorem dnt_at (hA : (arrays du wu x mm dd ad ba gf gm).Num) (r : Fin 4096) (d : Fin 1024) : dnt du wu x mm dd ad ba gf gm (ix2 r d) = (arrays du wu x mm dd ad ba gf gm).dn r d := by
  refine Eq.trans (congrArg₂ (· * ·) ((rows_at _ r d).trans (gate_at ad ba d)) ((cast_at _ r d).trans (out0_eq du wu x mm dd ad ba gf gm hA r d))) ?_
  exact mul_comm _ _

theorem dns_at (hA : (arrays du wu x mm dd ad ba gf gm).Num) (r : Fin 4096) (d : Fin 1024) : dns du wu x mm dd ad ba gf gm (ix2 r d) = (arrays du wu x mm dd ad ba gf gm).dk r d :=
  congrArg₂ (· * ·) (dnt_at du wu x mm dd ad ba gf gm hA r d) (rows_at _ r d)

theorem out1_eq (hA : (arrays du wu x mm dd ad ba gf gm).Num) (r : Fin 4096) (d : Fin 1024) : out1 du wu x mm dd ad ba gf gm (ix2 r d) = (arrays du wu x mm dd ad ba gf gm).dm r d := by
  have e1 : cols (rsq mm) (ix2 r d) = rs ((arrays du wu x mm dd ad ba gf gm).M r) := (cols_at _ r d).trans (rsq_at _ r)
  have e2 : slopes mm (dns du wu x mm dd ad ba gf gm) (ix2 r d) = Cert.Norm.slope ((arrays du wu x mm dd ad ba gf gm).M r) ((arrays du wu x mm dd ad ba gf gm).dk r) :=
    (slopes_at _ _ r d).trans (congrArg (Cert.Norm.slope _) (funext (dns_at du wu x mm dd ad ba gf gm hA r)))
  show dns du wu x mm dd ad ba gf gm (ix2 r d) * _ + mm (ix2 r d) * _ + _ * mm (ix2 r d) = _
  rw [e1, e2, dns_at du wu x mm dd ad ba gf gm hA]
  exact Cert.Norm.vjp_eq (hA.M r) (hA.dk r) d

theorem out2_eq (d : Fin 1024) : out2 du wu (ix2 0 d) = ∑ r, (arrays du wu x mm dd ad ba gf gm).D r d :=
  (colSums_at _ d).trans (Finset.sum_congr rfl fun r _ => dmod_at du wu x mm dd ad ba gf gm r d)

theorem out3_eq (d : Fin 1024) : out3 du wu x mm ad ba gf gm (ix2 0 d) = ∑ r, (arrays du wu x mm dd ad ba gf gm).rsc r d :=
  (colSums_at _ d).trans (Finset.sum_congr rfl fun r _ =>
    (congrArg₂ (· * ·) (congrArg₂ (· * ·) (scaled_at _ r d) (rows_at gf r d)) (dmod_at du wu x mm dd ad ba gf gm r d)).trans (mul_comm _ _))

theorem out4_eq (d : Fin 1024) : out4 du wu x mm ad ba gm (ix2 0 d) = ∑ r, (arrays du wu x mm dd ad ba gf gm).rgf r d :=
  (colSums_at _ d).trans (Finset.sum_congr rfl fun r _ =>
    (congrArg₂ (· * ·) (scaled_at _ r d) (dwt_at du wu x mm dd ad ba gf gm r d)).trans (mul_comm _ _))

theorem out5_eq (hA : (arrays du wu x mm dd ad ba gf gm).Num) (d : Fin 1024) : out5 du wu x mm dd ad ba gf gm (ix2 0 d) = ∑ r, (arrays du wu x mm dd ad ba gf gm).rgt r d :=
  (colSums_at _ d).trans (Finset.sum_congr rfl fun r _ =>
    congrArg₂ (· * ·) ((cast_at _ r d).trans (out0_eq du wu x mm dd ad ba gf gm hA r d)) (congrArg₂ (· * ·) (scaled_at mm r d) (rows_at gm r d)))

theorem out6_eq (hA : (arrays du wu x mm dd ad ba gf gm).Num) (d : Fin 1024) : out6 du wu x mm dd ad ba gf gm (ix2 0 d) = ∑ r, (arrays du wu x mm dd ad ba gf gm).rgm r d :=
  (colSums_at _ d).trans (Finset.sum_congr rfl fun r _ =>
    (congrArg₂ (· * ·) (scaled_at mm r d) (dnt_at du wu x mm dd ad ba gf gm hA r d)).trans (mul_comm _ _))

end Read

end Cert.Reference2Ideal.Terms

end
-- ==== Proof.NormBlocks.lean ====
/-
  The blocks the second kernel reads at a grid point, as the arrays of `Cert.Norm.Arrays`: point `t` works on the 512 rows
  from row `512 t`, and reads the columns of the gradient at the up-projection in eight groups of 704.
-/
module

public import proofs.«01_k».proof.Proof.Gen.Kernel2Ideal.Value
public import proofs.«01_k».proof.Proof.NormRef
public import Idealize.ShloMosaic.Lib.Pointwise
public import Idealize.ShloMosaic.Lib.Claim
public import Idealize.ShloMosaic.Lib.StableHlo.RunRead
public import Idealize.ShloMosaic.Lib.Pipeline.ValueKit

@[expose] public section

set_option maxRecDepth 16384

noncomputable section

namespace Cert.Kernel2Ideal.Body

open Idealize.ShloMosaic Idealize.ShloMosaic.TcCoe Idealize.SL.Sem
open Cert.Kernel2Ideal Cert.Kernel2Ideal.Gen

variable (m : (ℓ : Loc nD τ sig) → Buf (Elt Ideal) ℓ) (c : Dev nD)

/-- Argument `0` of the kernel on a device. -/
abbrev b0 : FVec Ideal S4096x5632 .bf16 := m ((c.tc : Thread nD τ).loc main_arg0)
/-- Argument `1` of the kernel on a device. -/
abbrev b1 : FVec Ideal S1024x5632 .f32 := m ((c.tc : Thread nD τ).loc main_arg1)
/-- Argument `2` of the kernel on a device. -/
abbrev b2 : FVec Ideal S4096x1024 .f32 := m ((c.tc : Thread nD τ).loc main_arg2)
/-- Argument `3` of the kernel on a device. -/
abbrev b3 : FVec Ideal S4096x1024 .f32 := m ((c.tc : Thread nD τ).loc main_arg3)
/-- Argument `4` of the kernel on a device. -/
abbrev b4 : FVec Ideal S4096x1024 .f32 := m ((c.tc : Thread nD τ).loc main_arg4)
/-- Argument `5` of the kernel on a device. -/
abbrev b5 : FVec Ideal S6x1024 .f32 := m ((c.tc : Thread nD τ).loc main_arg5)
/-- Argument `6` of the kernel on a device. -/
abbrev b6 : FVec Ideal S6x1024 .f32 := m ((c.tc : Thread nD τ).loc main_arg6)
/-- Argument `7` of the kernel on a device. -/
abbrev b7 : FVec Ideal S1x1024 .f32 := m ((c.tc : Thread nD τ).loc main_arg7)
/-- Argument `8` of the kernel on a device. -/
abbrev b8 : FVec Ideal S1x1024 .f32 := m ((c.tc : Thread nD τ).loc main_arg8)

/-- The arrays the backward pass reads, of the kernel's arguments. -/
abbrev A : Cert.Norm.Arrays :=
  Cert.Reference2Ideal.Terms.arrays (b0 m c) (b1 m c) (b2 m c) (b3 m c) (b4 m c) (b5 m c) (b6 m c) (b7 m c) (b8 m c)

/-! ## What the call is handed -/

theorem V1 : V m c main_v1 = transpose S4x2x4096x704 [2, 1, 0, 3] (shapeCast S4096x2x4x704 (b0 m c) shapeCasts_S4096x5632_S4096x2x4x704) transposes_S4096x2x4x704_S4x2x4096x704_2_1_0_3 := rfl

theorem V4 : V m c main_v4 = shapeCast S8x704x1024 (truncf .bf16 (transpose S5632x1024 [1, 0] (b1 m c) transposes_S1024x5632_S5632x1024_1_0) bitsLt_bf16_f32) shapeCasts_S5632x1024_S8x704x1024 := rfl

/-- Column `q` of group `k`. -/
def grp (k : Fin 8) (q : Fin 704) : Fin 5632 := ⟨k.val * 704 + q.val, by omega⟩

theorem d_at (j : Fin 4) (p : Fin 2) (r : Fin 4096) (q : Fin 704) :
    (V m c main_v1 : FVec Ideal S4x2x4096x704 .bf16) (ix4 j p r q) = b0 m c (ix2 r (grp ⟨p.val * 4 + j.val, by omega⟩ q)) := by
  rw [V1]
  unfold grp
  pointwise
  exact congrArg (fun n => b0 m c (ix2 r n)) (Fin.ext (by show p.val * 2816 + j.val * 704 + q.val = (p.val * 4 + j.val) * 704 + q.val; omega))

theorem w_at (k : Fin 8) (q : Fin 704) (d : Fin 1024) :
    (V m c main_v4 : FVec Ideal S8x704x1024 .bf16) (ix3 k q d) = b1 m c (ix2 d (grp k q)) := by
  rw [V4]
  unfold grp
  pointwise

/-- The gate, as the call's caller reads it. -/
def gateRow (ad ba : FVec Ideal S6x1024 .f32) : FVec Ideal S1x1024 .f32 :=
  broadcastInDim S1x1024 ![1] bcast_S1024_S1x1024_1 (shapeCast S1024 (extractStridedSlice S1x1024 ![2, 0] (addf ad ba) slices_S6x1024_S1x1024_2_0) shapeCasts_S1x1024_S1024)

theorem gateRow_at (ad ba : FVec Ideal S6x1024 .f32) (d : Fin 1024) : gateRow ad ba (ix2 0 d) = ad (ix2 2 d) + ba (ix2 2 d) := by
  pointwise [gateRow]

theorem V23 : V m c main_v23 = addf (b2 m c) (mulf (Cert.Reference2Ideal.Terms.rows (gateRow (b5 m c) (b6 m c)))
    (mulf (Cert.Reference2Ideal.Terms.scaled (b3 m c)) (Cert.Reference2Ideal.Terms.rows (b8 m c)))) := by
  unfold V hostOps0
  after_reads_simp
  rfl

theorem x_at (r : Fin 4096) (d : Fin 1024) : (V m c main_v23 : FVec Ideal S4096x1024 .f32) (ix2 r d) = (A m c).X r d := by
  refine Eq.trans ?_ (Cert.Reference2Ideal.Terms.stream_at _ _ _ _ _ r d).symm
  rw [V23, ← gateRow_at, ← Cert.Reference2Ideal.Terms.scaled_at, ← Cert.Reference2Ideal.Terms.rows_at (gateRow _ _) r,
    ← Cert.Reference2Ideal.Terms.rows_at (b8 m c) r]
  rfl

/-! ## The blocks -/

/-- Where each window's block stands. -/
theorem idx : ∀ t : Fin cfg0.N,
    win0_0.index t = ![0, 0, t.val, 0] ∧ win0_1.index t = ![0, 0, 0] ∧ win0_2.index t = ![t.val, 0] ∧
    win0_3.index t = ![t.val, 0] ∧ win0_4.index t = ![t.val, 0] ∧ win0_5.index t = ![0, 0] ∧ win0_6.index t = ![0, 0] ∧
    win0_7.index t = ![0, 0] ∧ win0_8.index t = ![0, 0] ∧ win0_9.index t = ![t.val, 0] ∧ win0_10.index t = ![t.val, 0] ∧
    win0_11.index t = ![0, 0] ∧ win0_12.index t = ![0, 0] ∧ win0_13.index t = ![0, 0] ∧ win0_14.index t = ![0, 0] ∧
    win0_15.index t = ![0, 0] :=
  (by decide +kernel : ∀ t : Fin grid0.N, _)

theorem lt8 (t : Fin cfg0.N) : t.val < 8 := lt_of_lt_of_eq t.isLt Gen.N_0

/-- Row `x` of a point's 512. -/
def row (t : Fin cfg0.N) (x : Fin 512) : Fin 4096 := ⟨512 * t.val + x.val, by have := lt8 t; omega⟩

theorem blk0 (t : Fin cfg0.N) (j : Fin 4) (p : Fin 2) (x : Fin 512) (q : Fin 704) :
    iblk m c 0 t (ix4 j p x q) = b0 m c (ix2 (row t x) (grp ⟨p.val * 4 + j.val, by omega⟩ q)) := by
  have ht := lt8 t
  rw [← d_at]
  unfold row
  blk_ext [iblk, idx t]

theorem blk1 (t : Fin cfg0.N) (k : Fin 8) (q : Fin 704) (d : Fin 1024) : iblk m c 1 t (ix3 k q d) = b1 m c (ix2 d (grp k q)) := by
  have ht := lt8 t
  rw [← w_at]
  blk_ext [iblk, idx t]

theorem blk2 (t : Fin cfg0.N) (x : Fin 512) (d : Fin 1024) : iblk m c 2 t (ix2 x d) = (A m c).X (row t x) d := by
  have ht := lt8 t
  rw [← x_at]
  unfold row
  blk_ext [iblk, idx t]

theorem blk3 (t : Fin cfg0.N) (x : Fin 512) (d : Fin 1024) : iblk m c 3 t (ix2 x d) = (A m c).M (row t x) d := by
  have ht := lt8 t
  refine Eq.trans (b := (b3 m c) (ix2 (row t x) d)) ?_ rfl
  unfold row
  blk_ext [iblk, V, idx t]

theorem blk4 (t : Fin cfg0.N) (x : Fin 512) (d : Fin 1024) : iblk m c 4 t (ix2 x d) = (A m c).O (row t x) d := by
  have ht := lt8 t
  refine Eq.trans (b := (b4 m c) (ix2 (row t x) d)) ?_ rfl
  unfold row
  blk_ext [iblk, V, idx t]

theorem blk5 (t : Fin cfg0.N) (k : Fin 6) (d : Fin 1024) : iblk m c 5 t (ix2 k d) = b5 m c (ix2 k d) := by
  have ht := lt8 t
  blk_ext [iblk, V, idx t]

theorem blk6 (t : Fin cfg0.N) (k : Fin 6) (d : Fin 1024) : iblk m c 6 t (ix2 k d) = b6 m c (ix2 k d) := by
  have ht := lt8 t
  blk_ext [iblk, V, idx t]

theorem blk7 (t : Fin cfg0.N) (d : Fin 1024) : iblk m c 7 t (ix2 0 d) = (A m c).gf d := by
  have ht := lt8 t
  refine Eq.trans (b := (b7 m c) (ix2 0 d)) ?_ rfl
  blk_ext [iblk, V, idx t]

theorem blk8 (t : Fin cfg0.N) (d : Fin 1024) : iblk m c 8 t (ix2 0 d) = (A m c).gm d := by
  have ht := lt8 t
  refine Eq.trans (b := (b8 m c) (ix2 0 d)) ?_ rfl
  blk_ext [iblk, V, idx t]

end Cert.Kernel2Ideal.Body

end
-- ==== Proof.NormPay.lean ====
/-
  What the second kernel computes from a block of 512 rows, at an index: the gradient at the modulated norm from eight
  products, the two norms taken back, and the sums over the rows it adds to what it has accumulated.
-/
module

public import proofs.«01_k».proof.Proof.Gen.Kernel2Ideal.Skeleton
public import proofs.«01_k».proof.Proof.NormSpec
public import Idealize.ShloMosaic.PureOps.Ideal
public import Idealize.ShloMosaic.Lib.Pointwise

@[expose] public section

set_option maxRecDepth 16384

noncomputable section

namespace Cert.Kernel2Ideal.Body

open Idealize.ShloMosaic Idealize.ShloMosaic.TcCoe Idealize.SL.Sem
open Cert.Kernel2Ideal Cert.Kernel2Ideal.Gen
open Cert.Norm (ms rs hat back)

/-! ## The gradient at the modulated norm -/

/-- One group's product at an index. -/
def prod (a : Vec Ideal S1x1x512x704 .bf16) (w : Vec Ideal S1x704x1024 .bf16) (x : Fin 512) (d : Fin 1024) : EReal :=
  ∑ q : Fin 704, a (ix4 0 0 x q) * w (ix3 0 q d)

theorem pay12_at (a0 a1 : Vec Ideal S1x1x512x704 .bf16) (w0 w1 : Vec Ideal S1x704x1024 .bf16) (x : Fin 512) (d : Fin 1024) :
    k0_pay12 a0 w0 a1 w1 (ix2 x d) = prod a0 w0 x d + prod a1 w1 x d := by
  unfold prod
  pointwise [k0_pay12]

theorem pay14_at (v : FVec Ideal S512x1024 .f32) (a2 a3 a4 a5 : Vec Ideal S1x1x512x704 .bf16) (w2 w3 w4 w5 : Vec Ideal S1x704x1024 .bf16)
    (x : Fin 512) (d : Fin 1024) :
    k0_pay14 v (k0_pay13 a2) w2 a3 w3 a4 w4 a5 w5 (ix2 x d) = v (ix2 x d) + prod a2 w2 x d + prod a3 w3 x d + prod a4 w4 x d + prod a5 w5 x d := by
  unfold prod
  pointwise [k0_pay14, k0_pay13]

theorem pay16_at (v : FVec Ideal S512x1024 .f32) (a6 a7 : Vec Ideal S1x1x512x704 .bf16) (w6 w7 : Vec Ideal S1x704x1024 .bf16)
    (x : Fin 512) (d : Fin 1024) :
    k0_pay16 v (k0_pay15 a6) w6 a7 w7 (ix2 x d) = v (ix2 x d) + prod a6 w6 x d + prod a7 w7 x d := by
  unfold prod
  pointwise [k0_pay16, k0_pay15]

/-! ## The norms -/

theorem pay17_at (v : Vec Ideal S512x1024 .f32) (x : Fin 512) (d : Fin 1024) : k0_pay17 v (ix2 x d) = v (ix2 x d) := by
  pointwise [k0_pay17]

theorem pay18_at (v : Vec Ideal S512x1024 .f32) (x : Fin 512) : k0_pay18 v (ix2 x 0) = rs (fun d => v (ix2 x d)) := by
  unfold rs ms Cert.Norm.width Cert.Norm.eps
  pointwise [k0_pay18, k0_pay17]

theorem pay19_at (v : Vec Ideal S512x1024 .f32) (x : Fin 512) (d : Fin 1024) : k0_pay19 v (ix2 x d) = hat (fun d => v (ix2 x d)) d := by
  refine Eq.trans (b := v (ix2 x d) * k0_pay18 v (ix2 x 0)) ?_ (congrArg (v (ix2 x d) * ·) (pay18_at v x))
  unfold k0_pay19
  generalize k0_pay18 v = r
  pointwise [k0_pay17]

theorem pay25_at (v : Vec Ideal S512x1024 .f32) (x : Fin 512) : k0_pay25 v (ix2 x 0) = rs (fun d => v (ix2 x d)) := by
  unfold rs ms Cert.Norm.width Cert.Norm.eps
  pointwise [k0_pay25]

theorem pay26_at (v : Vec Ideal S512x1024 .f32) (x : Fin 512) (d : Fin 1024) : k0_pay26 v (ix2 x d) = hat (fun d => v (ix2 x d)) d := by
  refine Eq.trans (b := v (ix2 x d) * k0_pay25 v (ix2 x 0)) ?_ (congrArg (v (ix2 x d) * ·) (pay25_at v x))
  unfold k0_pay26
  generalize k0_pay25 v = r
  pointwise

/-! ## The small rows -/

theorem pay10_at (u v : Vec Ideal S1x1024 .f32) (d : Fin 1024) : k0_pay10 u v (ix2 0 d) = u (ix2 0 d) + v (ix2 0 d) := by
  pointwise [k0_pay10]

theorem pay11_at (u v : Vec Ideal S1x1024 .f32) (d : Fin 1024) : k0_pay11 u v (ix2 0 d) = u (ix2 0 d) + v (ix2 0 d) := by
  pointwise [k0_pay11]

/-! ## The blocks of rows -/

/-- The blocks one point computes from, as rows `R` of the arrays. -/
structure Rows (A : Cert.Norm.Arrays) (R : Fin 512 → Fin 4096) (D : FVec Ideal S512x1024 .f32) (X M O : Vec Ideal S512x1024 .f32)
    (gt sc gf gm : FVec Ideal S1x1024 .f32) : Prop where
  D : ∀ x d, D (ix2 x d) = A.D (R x) d
  X : ∀ x d, X (ix2 x d) = A.X (R x) d
  M : ∀ x d, M (ix2 x d) = A.M (R x) d
  O : ∀ x d, O (ix2 x d) = A.O (R x) d
  gt : ∀ d, gt (ix2 0 d) = A.gt d
  sc : ∀ d, sc (ix2 0 d) = A.sc d
  gf : ∀ d, gf (ix2 0 d) = A.gf d
  gm : ∀ d, gm (ix2 0 d) = A.gm d

section Rows

variable {A : Cert.Norm.Arrays} {R : Fin 512 → Fin 4096} {D : FVec Ideal S512x1024 .f32} {X M O : Vec Ideal S512x1024 .f32}
  {gt sc gf gm : FVec Ideal S1x1024 .f32}

theorem Rows.hatX (h : Rows A R D X M O gt sc gf gm) (x : Fin 512) (d : Fin 1024) : k0_pay19 X (ix2 x d) = hat (A.X (R x)) d := by
  rw [pay19_at, show (fun d => X (ix2 x d)) = A.X (R x) from funext (h.X x)]

theorem Rows.hatM (h : Rows A R D X M O gt sc gf gm) (x : Fin 512) (d : Fin 1024) : k0_pay26 M (ix2 x d) = hat (A.M (R x)) d := by
  rw [pay26_at, show (fun d => M (ix2 x d)) = A.M (R x) from funext (h.M x)]

theorem Rows.rsX (h : Rows A R D X M O gt sc gf gm) (x : Fin 512) : k0_pay18 X (ix2 x 0) = rs (A.X (R x)) := by
  rw [pay18_at, show (fun d => X (ix2 x d)) = A.X (R x) from funext (h.X x)]

theorem Rows.rsM (h : Rows A R D X M O gt sc gf gm) (x : Fin 512) : k0_pay25 M (ix2 x 0) = rs (A.M (R x)) := by
  rw [pay25_at, show (fun d => M (ix2 x d)) = A.M (R x) from funext (h.M x)]

theorem pay22_read (sc : FVec Ideal S1x1024 .f32) (D : FVec Ideal S512x1024 .f32) (x : Fin 512) (d : Fin 1024) :
    k0_pay22 sc D (ix2 x d) = D (ix2 x d) * (1 + sc (ix2 0 d)) := by
  pointwise [k0_pay22]

theorem Rows.dw (h : Rows A R D X M O gt sc gf gm) (x : Fin 512) (d : Fin 1024) : k0_pay22 sc D (ix2 x d) = A.dw (R x) d := by
  rw [pay22_read, h.D, h.sc]
  rfl

theorem pay24_read (sc gf : FVec Ideal S1x1024 .f32) (D X' O : FVec Ideal S512x1024 .f32) (r : FVec Ideal S512x1 .f32) (x : Fin 512) (d : Fin 1024) :
    k0_pay24 sc gf D r X' O (ix2 x d) = O (ix2 x d) + r (ix2 x 0) * (k0_pay22 sc D (ix2 x d) * gf (ix2 0 d)
      - X' (ix2 x d) * Ideal.div (∑ e, k0_pay22 sc D (ix2 x e) * gf (ix2 0 e) * X' (ix2 x e)) Cert.Norm.width) := by
  unfold Cert.Norm.width
  unfold k0_pay24
  generalize k0_pay22 sc D = W
  pointwise

theorem Rows.dx (h : Rows A R D X M O gt sc gf gm) (x : Fin 512) (d : Fin 1024) :
    k0_pay24 sc gf D (k0_pay18 X) (k0_pay19 X) O (ix2 x d) = A.dx (R x) d := by
  rw [pay24_read, h.O, h.rsX, h.hatX]
  unfold Cert.Norm.Arrays.dx back Cert.Norm.Arrays.dh
  simp only [h.dw, h.gf, h.hatX]

theorem pay2_read (gt : FVec Ideal S1x1024 .f32) (E : FVec Ideal S512x1024 .f32) (x : Fin 512) (d : Fin 1024) :
    k0_pay2 gt E (ix2 x d) = E (ix2 x d) * gt (ix2 0 d) := by
  pointwise [k0_pay2]

theorem pay4_read (gt gm : FVec Ideal S1x1024 .f32) (E M' : FVec Ideal S512x1024 .f32) (r : FVec Ideal S512x1 .f32) (x : Fin 512) (d : Fin 1024) :
    k0_pay4 gt gm E r M' (ix2 x d) = r (ix2 x 0) * (k0_pay2 gt E (ix2 x d) * gm (ix2 0 d)
      - M' (ix2 x d) * Ideal.div (∑ e, k0_pay2 gt E (ix2 x e) * gm (ix2 0 e) * M' (ix2 x e)) Cert.Norm.width) := by
  unfold Cert.Norm.width
  unfold k0_pay4
  generalize k0_pay2 gt E = W
  pointwise

theorem Rows.dm (h : Rows A R D X M O gt sc gf gm) {E : FVec Ideal S512x1024 .f32} (hE : ∀ x d, E (ix2 x d) = A.dx (R x) d)
    (x : Fin 512) (d : Fin 1024) : k0_pay4 gt gm E (k0_pay25 M) (k0_pay26 M) (ix2 x d) = A.dm (R x) d := by
  rw [pay4_read, h.rsM, h.hatM]
  unfold Cert.Norm.Arrays.dm back Cert.Norm.Arrays.dk Cert.Norm.Arrays.dn
  simp only [pay2_read, hE, h.gt, h.gm, h.hatM]

/-! ## The accumulators -/

theorem sh_add (v : FVec Ideal S512x1024 .f32) (a6 : FVec Ideal S512x704 .bf16) (a7 : Vec Ideal S1x1x512x704 .bf16) (w6 w7 : Vec Ideal S1x704x1024 .bf16)
    (acc : FVec Ideal S1x1024 .f32) (d : Fin 1024) :
    k0_pay20 v a6 w6 a7 w7 acc (ix2 0 d) = acc (ix2 0 d) + ∑ x : Fin 512, k0_pay16 v a6 w6 a7 w7 (ix2 x d) := by
  unfold k0_pay20
  generalize k0_pay16 v a6 w6 a7 w7 = D
  pointwise

theorem sc_read (gf : FVec Ideal S1x1024 .f32) (v : FVec Ideal S512x1024 .f32) (a6 : FVec Ideal S512x704 .bf16) (a7 : Vec Ideal S1x1x512x704 .bf16)
    (w6 w7 : Vec Ideal S1x704x1024 .bf16) (X : Vec Ideal S512x1024 .f32) (acc : FVec Ideal S1x1024 .f32) (d : Fin 1024) :
    k0_pay21 gf v a6 w6 a7 w7 X acc (ix2 0 d)
      = acc (ix2 0 d) + ∑ x : Fin 512, k0_pay16 v a6 w6 a7 w7 (ix2 x d) * (k0_pay19 X (ix2 x d) * gf (ix2 0 d)) := by
  unfold k0_pay21
  generalize k0_pay16 v a6 w6 a7 w7 = D
  generalize k0_pay19 X = Y
  pointwise

theorem gf_read (sc : FVec Ideal S1x1024 .f32) (D X' : FVec Ideal S512x1024 .f32) (acc : FVec Ideal S1x1024 .f32) (d : Fin 1024) :
    k0_pay23 sc D X' acc (ix2 0 d) = acc (ix2 0 d) + ∑ x : Fin 512, k0_pay22 sc D (ix2 x d) * X' (ix2 x d) := by
  unfold k0_pay23
  generalize k0_pay22 sc D = W
  pointwise

theorem gt_read (gm : FVec Ideal S1x1024 .f32) (E M' : FVec Ideal S512x1024 .f32) (acc : FVec Ideal S1x1024 .f32) (d : Fin 1024) :
    k0_pay1 gm E M' acc (ix2 0 d) = acc (ix2 0 d) + ∑ x : Fin 512, E (ix2 x d) * (M' (ix2 x d) * gm (ix2 0 d)) := by
  pointwise [k0_pay1]

theorem gm_read (gt : FVec Ideal S1x1024 .f32) (E M' : FVec Ideal S512x1024 .f32) (acc : FVec Ideal S1x1024 .f32) (d : Fin 1024) :
    k0_pay3 gt E M' acc (ix2 0 d) = acc (ix2 0 d) + ∑ x : Fin 512, k0_pay2 gt E (ix2 x d) * M' (ix2 x d) := by
  unfold k0_pay3
  generalize k0_pay2 gt E = W
  pointwise

theorem zero5 (d : Fin 1024) : (k0_pay5 : FVec Ideal S1x1024 .f32) (ix2 0 d) = 0 := by pointwise [k0_pay5]
theorem zero6 (d : Fin 1024) : (k0_pay6 : FVec Ideal S1x1024 .f32) (ix2 0 d) = 0 := by pointwise [k0_pay6]
theorem zero7 (d : Fin 1024) : (k0_pay7 : FVec Ideal S1x1024 .f32) (ix2 0 d) = 0 := by pointwise [k0_pay7]
theorem zero8 (d : Fin 1024) : (k0_pay8 : FVec Ideal S1x1024 .f32) (ix2 0 d) = 0 := by pointwise [k0_pay8]
theorem zero9 (d : Fin 1024) : (k0_pay9 : FVec Ideal S1x1024 .f32) (ix2 0 d) = 0 := by pointwise [k0_pay9]

end Rows

end Cert.Kernel2Ideal.Body

end
-- ==== Proof.NormBody.lean ====
/-
  What one grid point leaves in the second kernel's buffers: its rows of the two gradients at the streams, and its rows'
  sums added to the five accumulators.
-/
module

public import proofs.«01_k».proof.Proof.NormBlocks
public import proofs.«01_k».proof.Proof.NormPay
public import Idealize.ShloMosaic.Lib.Pipeline.ReadBack

@[expose] public section

set_option maxRecDepth 16384

noncomputable section

namespace Cert.Kernel2Ideal.Body

open Idealize.ShloMosaic Idealize.ShloMosaic.TcCoe Idealize.SL.Sem
open Cert.Kernel2Ideal Cert.Kernel2Ideal.Gen

variable (m : (ℓ : Loc nD τ sig) → Buf (Elt Ideal) ℓ) (c : Dev nD)

/-! ## Loads of a block at an index -/

theorem ld_grad (X : Vec Ideal S4x2x512x704 .bf16) (j p : ℕ) (hj : j < 4) (hp : p < 2) (inb) (x : Fin 512) (q : Fin 704) :
    View.ld X (Rect.unit ![j, p, 0, 0] ![1, 1, 512, 704] inb) (ix4 0 0 x q) = X (ix4 ⟨j, hj⟩ ⟨p, hp⟩ x q) :=
  View.ld_unit_apply_of X _ _ inb _ _ fun a => by
    match a with
    | ⟨0, _⟩ => rfl
    | ⟨1, _⟩ => rfl
    | ⟨2, _⟩ => exact (Nat.zero_add _).symm
    | ⟨3, _⟩ => exact (Nat.zero_add _).symm

theorem ld_wt (X : Vec Ideal S8x704x1024 .bf16) (k : ℕ) (hk : k < 8) (inb) (q : Fin 704) (d : Fin 1024) :
    View.ld X (Rect.unit ![k, 0, 0] ![1, 704, 1024] inb) (ix3 0 q d) = X (ix3 ⟨k, hk⟩ q d) :=
  View.ld_unit_apply_of X _ _ inb _ _ fun a => by
    match a with
    | ⟨0, _⟩ => rfl
    | ⟨1, _⟩ => exact (Nat.zero_add _).symm
    | ⟨2, _⟩ => exact (Nat.zero_add _).symm

theorem ld_row (X : Vec Ideal S6x1024 .f32) (k : ℕ) (hk : k < 6) (inb) (d : Fin 1024) :
    View.ld X (Rect.unit ![k, 0] ![1, 1024] inb) (ix2 0 d) = X (ix2 ⟨k, hk⟩ d) :=
  View.ld_unit_apply_of X _ _ inb _ _ fun a => by
    match a with
    | ⟨0, _⟩ => rfl
    | ⟨1, _⟩ => exact (Nat.zero_add _).symm

/-! ## The blocks of a point -/

/-- The gradient at the up-projection, group `j` of half `p`. -/
abbrev gD (t : Fin cfg0.N) (j p : ℕ) (inb : ∀ a, (![j, p, 0, 0] : Fin 4 → ℕ) a + S1x1x512x704.size a ≤ S4x2x512x704.size a) : Vec Ideal S1x1x512x704 .bf16 :=
  View.ld (iblk m c 0 t) (Rect.unit ![j, p, 0, 0] ![1, 1, 512, 704] inb)

/-- The weights' group `k`. -/
abbrev gW (t : Fin cfg0.N) (k : ℕ) (inb : ∀ a, (![k, 0, 0] : Fin 3 → ℕ) a + S1x704x1024.size a ≤ S8x704x1024.size a) : Vec Ideal S1x704x1024 .bf16 :=
  View.ld (iblk m c 1 t) (Rect.unit ![k, 0, 0] ![1, 704, 1024] inb)

/-- The sum of the first six products. -/
abbrev d6 (t : Fin cfg0.N) : FVec Ideal S512x1024 .f32 :=
  k0_pay14 (k0_pay12 (gD m c t 0 0 inb_S4x2x512x704_S1x1x512x704_0_0_0_0) (gW m c t 0 inb_S8x704x1024_S1x704x1024_0_0_0)
      (gD m c t 1 0 inb_S4x2x512x704_S1x1x512x704_1_0_0_0) (gW m c t 1 inb_S8x704x1024_S1x704x1024_1_0_0))
    (k0_pay13 (gD m c t 2 0 inb_S4x2x512x704_S1x1x512x704_2_0_0_0)) (gW m c t 2 inb_S8x704x1024_S1x704x1024_2_0_0)
    (gD m c t 3 0 inb_S4x2x512x704_S1x1x512x704_3_0_0_0) (gW m c t 3 inb_S8x704x1024_S1x704x1024_3_0_0)
    (gD m c t 0 1 inb_S4x2x512x704_S1x1x512x704_0_1_0_0) (gW m c t 4 inb_S8x704x1024_S1x704x1024_4_0_0)
    (gD m c t 1 1 inb_S4x2x512x704_S1x1x512x704_1_1_0_0) (gW m c t 5 inb_S8x704x1024_S1x704x1024_5_0_0)

/-- The sum of all eight products. -/
abbrev d8 (t : Fin cfg0.N) : FVec Ideal S512x1024 .f32 :=
  k0_pay16 (d6 m c t) (k0_pay15 (gD m c t 2 1 inb_S4x2x512x704_S1x1x512x704_2_1_0_0)) (gW m c t 6 inb_S8x704x1024_S1x704x1024_6_0_0)
    (gD m c t 3 1 inb_S4x2x512x704_S1x1x512x704_3_1_0_0) (gW m c t 7 inb_S8x704x1024_S1x704x1024_7_0_0)

/-- The gate. -/
abbrev gtB (t : Fin cfg0.N) : FVec Ideal S1x1024 .f32 :=
  k0_pay10 (View.ld (iblk m c 5 t) (Rect.unit ![2, 0] ![1, 1024] inb_S6x1024_S1x1024_2_0))
    (View.ld (iblk m c 6 t) (Rect.unit ![2, 0] ![1, 1024] inb_S6x1024_S1x1024_2_0))

/-- The scale. -/
abbrev scB (t : Fin cfg0.N) : FVec Ideal S1x1024 .f32 :=
  k0_pay11 (View.ld (iblk m c 5 t) (Rect.unit ![4, 0] ![1, 1024] inb_S6x1024_S1x1024_4_0))
    (View.ld (iblk m c 6 t) (Rect.unit ![4, 0] ![1, 1024] inb_S6x1024_S1x1024_4_0))

/-- The gradient at the stream. -/
abbrev dxB (t : Fin cfg0.N) : FVec Ideal S512x1024 .f32 :=
  k0_pay24 (scB m c t) (iblk m c 7 t) (d8 m c t) (k0_pay18 (iblk m c 2 t)) (k0_pay19 (iblk m c 2 t)) (iblk m c 4 t)

theorem prod_at (t : Fin cfg0.N) (j p k : ℕ) (hj : j < 4) (hp : p < 2) (hk : k < 8) (e : k = p * 4 + j) (inb) (inb') (x : Fin 512) (d : Fin 1024) :
    prod (gD m c t j p inb) (gW m c t k inb') x d
      = ∑ q : Fin 704, b0 m c (ix2 (row t x) (grp ⟨k, hk⟩ q)) * b1 m c (ix2 d (grp ⟨k, hk⟩ q)) := by
  subst e
  refine Finset.sum_congr rfl fun q _ => ?_
  exact congrArg₂ (· * ·) ((ld_grad _ j p hj hp inb x q).trans (blk0 m c t ⟨j, hj⟩ ⟨p, hp⟩ x q))
    ((ld_wt _ _ hk inb' q d).trans (blk1 m c t ⟨p * 4 + j, hk⟩ q d))

/-- The eight groups are all the columns. -/
theorem grp_sum (f : Fin 5632 → EReal) : ∑ k : Fin 8, ∑ q : Fin 704, f (grp k q) = ∑ C : Fin 5632, f C := by
  rw [← Fintype.sum_prod_type']
  refine Fintype.sum_equiv (finProdFinEquiv (m := 8) (n := 704)) _ _ fun a => ?_
  have hv : (finProdFinEquiv (m := 8) (n := 704) a).val = a.2.val + 704 * a.1.val := rfl
  exact congrArg f (Fin.ext (by show a.1.val * 704 + a.2.val = _; rw [hv]; omega))

theorem d8_at (t : Fin cfg0.N) (x : Fin 512) (d : Fin 1024) : d8 m c t (ix2 x d) = (A m c).D (row t x) d := by
  show _ = ∑ C : Fin 5632, b0 m c (ix2 (row t x) C) * b1 m c (ix2 d C)
  rw [← grp_sum, Fin.sum_univ_eight]
  refine (pay16_at _ _ _ _ _ _ _).trans ?_
  unfold d6
  rw [pay14_at, pay12_at,
    prod_at m c t 0 0 0 (by omega) (by omega) (by omega) rfl, prod_at m c t 1 0 1 (by omega) (by omega) (by omega) rfl,
    prod_at m c t 2 0 2 (by omega) (by omega) (by omega) rfl, prod_at m c t 3 0 3 (by omega) (by omega) (by omega) rfl,
    prod_at m c t 0 1 4 (by omega) (by omega) (by omega) rfl, prod_at m c t 1 1 5 (by omega) (by omega) (by omega) rfl,
    prod_at m c t 2 1 6 (by omega) (by omega) (by omega) rfl, prod_at m c t 3 1 7 (by omega) (by omega) (by omega) rfl]
  rfl

/-- The point's blocks are rows `512 t` to `512 t + 511` of the arrays. -/
theorem rows_of (t : Fin cfg0.N) : Rows (A m c) (row t) (d8 m c t) (iblk m c 2 t) (iblk m c 3 t) (iblk m c 4 t) (gtB m c t) (scB m c t)
    (iblk m c 7 t) (iblk m c 8 t) where
  D := d8_at m c t
  X := blk2 m c t
  M := blk3 m c t
  O := blk4 m c t
  gt d := (pay10_at _ _ d).trans (congrArg₂ (· + ·) ((ld_row _ 2 (by omega) _ d).trans (blk5 m c t 2 d)) ((ld_row _ 2 (by omega) _ d).trans (blk6 m c t 2 d)))
  sc d := (pay11_at _ _ d).trans (congrArg₂ (· + ·) ((ld_row _ 4 (by omega) _ d).trans (blk5 m c t 4 d)) ((ld_row _ 4 (by omega) _ d).trans (blk6 m c t 4 d)))
  gf := blk7 m c t
  gm := blk8 m c t

/-! ## The rows a point writes -/

/-- The gradient at the stream. -/
theorem dx_block (t : Fin cfg0.N) (x : Fin 512) (d : Fin 1024) : (outsAt0 m c t.val t.isLt).1 (ix2 x d) = (A m c).dx (row t x) d := by
  by_cases h0 : t.val % 8 = 0
  · rw [outsAt0_A m c t h0]
    frame_out
    exact (rows_of m c t).dx x d
  · rw [outsAt0_B m c t h0]
    frame_out
    exact (rows_of m c t).dx x d

/-- The gradient at the first half's result. -/
theorem dm_block (t : Fin cfg0.N) (x : Fin 512) (d : Fin 1024) : (outsAt0 m c t.val t.isLt).2.1 (ix2 x d) = (A m c).dm (row t x) d := by
  by_cases h0 : t.val % 8 = 0
  · rw [outsAt0_A m c t h0]
    frame_out
    exact (rows_of m c t).dm (rows_of m c t).dx x d
  · rw [outsAt0_B m c t h0]
    frame_out
    exact (rows_of m c t).dm (rows_of m c t).dx x d

/-! ## The accumulators -/

/-- Two accumulators that start alike and add alike are alike. -/
theorem acc_congr {a b : EReal} {f g : Fin 512 → EReal} (h : a = b) (hf : ∀ x, f x = g x) : a + ∑ x, f x = b + ∑ x, g x :=
  congrArg₂ (· + ·) h (Finset.sum_congr rfl fun x _ => hf x)

theorem sh_first (t : Fin cfg0.N) (h0 : t.val % 8 = 0) (d : Fin 1024) :
    (outsAt0 m c t.val t.isLt).2.2.1 (ix2 0 d) = 0 + ∑ x : Fin 512, (A m c).D (row t x) d := by
  rw [outsAt0_A m c t h0]
  frame_out
  exact (sh_add _ _ _ _ _ _ d).trans (acc_congr (zero5 d) fun x => d8_at m c t x d)

theorem sh_next (t : Fin cfg0.N) (h0 : ¬t.val % 8 = 0) (hp : t.val - 1 < cfg0.N) (d : Fin 1024) :
    (outsAt0 m c t.val t.isLt).2.2.1 (ix2 0 d) = (outsAt0 m c (t.val - 1) hp).2.2.1 (ix2 0 d) + ∑ x : Fin 512, (A m c).D (row t x) d := by
  rw [outsAt0_B m c t h0]
  frame_out
  exact (sh_add _ _ _ _ _ _ d).trans (acc_congr rfl fun x => d8_at m c t x d)

/-- A row's share of the gradient at the scale. -/
theorem rsc_at (t : Fin cfg0.N) (x : Fin 512) (d : Fin 1024) :
    d8 m c t (ix2 x d) * (k0_pay19 (iblk m c 2 t) (ix2 x d) * iblk m c 7 t (ix2 0 d)) = (A m c).rsc (row t x) d :=
  congrArg₂ (· * ·) (d8_at m c t x d) (congrArg₂ (· * ·) ((rows_of m c t).hatX x d) (blk7 m c t d))

theorem sc_first (t : Fin cfg0.N) (h0 : t.val % 8 = 0) (d : Fin 1024) :
    (outsAt0 m c t.val t.isLt).2.2.2.1 (ix2 0 d) = 0 + ∑ x : Fin 512, (A m c).rsc (row t x) d := by
  rw [outsAt0_A m c t h0]
  frame_out
  exact (sc_read _ _ _ _ _ _ _ _ d).trans (acc_congr (zero6 d) fun x => rsc_at m c t x d)

theorem sc_next (t : Fin cfg0.N) (h0 : ¬t.val % 8 = 0) (hp : t.val - 1 < cfg0.N) (d : Fin 1024) :
    (outsAt0 m c t.val t.isLt).2.2.2.1 (ix2 0 d) = (outsAt0 m c (t.val - 1) hp).2.2.2.1 (ix2 0 d) + ∑ x : Fin 512, (A m c).rsc (row t x) d := by
  rw [outsAt0_B m c t h0]
  frame_out
  exact (sc_read _ _ _ _ _ _ _ _ d).trans (acc_congr rfl fun x => rsc_at m c t x d)

/-- A row's share of the gradient at the second norm's weights. -/
theorem rgf_at (t : Fin cfg0.N) (x : Fin 512) (d : Fin 1024) :
    k0_pay22 (scB m c t) (d8 m c t) (ix2 x d) * k0_pay19 (iblk m c 2 t) (ix2 x d) = (A m c).rgf (row t x) d :=
  congrArg₂ (· * ·) ((rows_of m c t).dw x d) ((rows_of m c t).hatX x d)

theorem gf_first (t : Fin cfg0.N) (h0 : t.val % 8 = 0) (d : Fin 1024) :
    (outsAt0 m c t.val t.isLt).2.2.2.2.1 (ix2 0 d) = 0 + ∑ x : Fin 512, (A m c).rgf (row t x) d := by
  rw [outsAt0_A m c t h0]
  frame_out
  exact (gf_read _ _ _ _ d).trans (acc_congr (zero7 d) fun x => rgf_at m c t x d)

theorem gf_next (t : Fin cfg0.N) (h0 : ¬t.val % 8 = 0) (hp : t.val - 1 < cfg0.N) (d : Fin 1024) :
    (outsAt0 m c t.val t.isLt).2.2.2.2.1 (ix2 0 d) = (outsAt0 m c (t.val - 1) hp).2.2.2.2.1 (ix2 0 d) + ∑ x : Fin 512, (A m c).rgf (row t x) d := by
  rw [outsAt0_B m c t h0]
  frame_out
  exact (gf_read _ _ _ _ d).trans (acc_congr rfl fun x => rgf_at m c t x d)

/-- A row's share of the gradient at the gate. -/
theorem rgt_at (t : Fin cfg0.N) (x : Fin 512) (d : Fin 1024) :
    dxB m c t (ix2 x d) * (k0_pay26 (iblk m c 3 t) (ix2 x d) * iblk m c 8 t (ix2 0 d)) = (A m c).rgt (row t x) d :=
  congrArg₂ (· * ·) ((rows_of m c t).dx x d) (congrArg₂ (· * ·) ((rows_of m c t).hatM x d) (blk8 m c t d))

theorem gt_first (t : Fin cfg0.N) (h0 : t.val % 8 = 0) (d : Fin 1024) :
    (outsAt0 m c t.val t.isLt).2.2.2.2.2.1 (ix2 0 d) = 0 + ∑ x : Fin 512, (A m c).rgt (row t x) d := by
  rw [outsAt0_A m c t h0]
  frame_out
  exact (gt_read _ _ _ _ d).trans (acc_congr (zero8 d) fun x => rgt_at m c t x d)

theorem gt_next (t : Fin cfg0.N) (h0 : ¬t.val % 8 = 0) (hp : t.val - 1 < cfg0.N) (d : Fin 1024) :
    (outsAt0 m c t.val t.isLt).2.2.2.2.2.1 (ix2 0 d) = (outsAt0 m c (t.val - 1) hp).2.2.2.2.2.1 (ix2 0 d) + ∑ x : Fin 512, (A m c).rgt (row t x) d := by
  rw [outsAt0_B m c t h0]
  frame_out
  exact (gt_read _ _ _ _ d).trans (acc_congr rfl fun x => rgt_at m c t x d)

/-- A row's share of the gradient at the first norm's weights. -/
theorem rgm_at (t : Fin cfg0.N) (x : Fin 512) (d : Fin 1024) :
    k0_pay2 (gtB m c t) (dxB m c t) (ix2 x d) * k0_pay26 (iblk m c 3 t) (ix2 x d) = (A m c).rgm (row t x) d :=
  congrArg₂ (· * ·) ((pay2_read _ _ x d).trans (congrArg₂ (· * ·) ((rows_of m c t).dx x d) ((rows_of m c t).gt d))) ((rows_of m c t).hatM x d)

theorem gm_first (t : Fin cfg0.N) (h0 : t.val % 8 = 0) (d : Fin 1024) :
    (outsAt0 m c t.val t.isLt).2.2.2.2.2.2 (ix2 0 d) = 0 + ∑ x : Fin 512, (A m c).rgm (row t x) d := by
  rw [outsAt0_A m c t h0]
  frame_out
  exact (gm_read _ _ _ _ d).trans (acc_congr (zero9 d) fun x => rgm_at m c t x d)

theorem gm_next (t : Fin cfg0.N) (h0 : ¬t.val % 8 = 0) (hp : t.val - 1 < cfg0.N) (d : Fin 1024) :
    (outsAt0 m c t.val t.isLt).2.2.2.2.2.2 (ix2 0 d) = (outsAt0 m c (t.val - 1) hp).2.2.2.2.2.2 (ix2 0 d) + ∑ x : Fin 512, (A m c).rgm (row t x) d := by
  rw [outsAt0_B m c t h0]
  frame_out
  exact (gm_read _ _ _ _ d).trans (acc_congr rfl fun x => rgm_at m c t x d)

end Cert.Kernel2Ideal.Body

end
-- ==== Proof.NormFinal.lean ====
/-
  The second kernel's seven results as whole arrays: the two gradients at the streams are written back block by block, the
  five accumulators once, after the last point, when they hold the sums over all 4096 rows.
-/
module

public import proofs.«01_k».proof.Proof.NormBody

@[expose] public section

set_option maxRecDepth 16384

noncomputable section

namespace Cert.Kernel2Ideal.Body

open Idealize.ShloMosaic Idealize.ShloMosaic.TcCoe Idealize.SL.Sem
open Cert.Kernel2Ideal Cert.Kernel2Ideal.Gen
open Cert.Reference2Ideal.Terms (out0 out1 out2 out3 out4 out5 out6 out0_eq out1_eq out2_eq out3_eq out4_eq out5_eq out6_eq)

/-! ## The sums over all rows -/

/-- The point that works on block `i` of the rows. -/
def pt (i : Fin 8) : Fin cfg0.N := ⟨i.val, lt_of_lt_of_eq i.isLt Gen.N_0.symm⟩

/-- Eight blocks of 512 rows are all the rows. -/
theorem rows_sum (F : Fin 4096 → EReal) : ∑ i : Fin 8, ∑ x : Fin 512, F (row (pt i) x) = ∑ r : Fin 4096, F r := by
  rw [← Fintype.sum_prod_type']
  refine Fintype.sum_equiv (finProdFinEquiv (m := 8) (n := 512)) _ _ fun a => ?_
  have hv : (finProdFinEquiv (m := 8) (n := 512) a).val = a.2.val + 512 * a.1.val := rfl
  exact congrArg F (Fin.ext (by show 512 * a.1.val + a.2.val = _; rw [hv]; omega))

/-- An accumulator that starts at zero plus the first block of rows and adds the others one by one ends at the sum over
    all rows. -/
theorem total (f : ∀ n, n < cfg0.N → EReal) (F : Fin 4096 → EReal)
    (hfirst : ∀ t : Fin cfg0.N, t.val % 8 = 0 → f t.val t.isLt = 0 + ∑ x : Fin 512, F (row t x))
    (hnext : ∀ (t : Fin cfg0.N) (hp : t.val - 1 < cfg0.N), ¬t.val % 8 = 0 →
      f t.val t.isLt = f (t.val - 1) hp + ∑ x : Fin 512, F (row t x))
    (t : Fin cfg0.N) (h7 : t.val % 8 = 7) : f t.val t.isLt = ∑ r : Fin 4096, F r := by
  have z : f (pt 0).val (pt 0).isLt = ∑ x : Fin 512, F (row (pt 0) x) := by rw [hfirst (pt 0) rfl, zero_add]
  have s1 : f (pt 1).val (pt 1).isLt = f (pt 0).val (pt 0).isLt + _ := hnext (pt 1) (pt 0).isLt (by show ¬ 1 % 8 = 0; omega)
  have s2 : f (pt 2).val (pt 2).isLt = f (pt 1).val (pt 1).isLt + _ := hnext (pt 2) (pt 1).isLt (by show ¬ 2 % 8 = 0; omega)
  have s3 : f (pt 3).val (pt 3).isLt = f (pt 2).val (pt 2).isLt + _ := hnext (pt 3) (pt 2).isLt (by show ¬ 3 % 8 = 0; omega)
  have s4 : f (pt 4).val (pt 4).isLt = f (pt 3).val (pt 3).isLt + _ := hnext (pt 4) (pt 3).isLt (by show ¬ 4 % 8 = 0; omega)
  have s5 : f (pt 5).val (pt 5).isLt = f (pt 4).val (pt 4).isLt + _ := hnext (pt 5) (pt 4).isLt (by show ¬ 5 % 8 = 0; omega)
  have s6 : f (pt 6).val (pt 6).isLt = f (pt 5).val (pt 5).isLt + _ := hnext (pt 6) (pt 5).isLt (by show ¬ 6 % 8 = 0; omega)
  have s7 : f (pt 7).val (pt 7).isLt = f (pt 6).val (pt 6).isLt + _ := hnext (pt 7) (pt 6).isLt (by show ¬ 7 % 8 = 0; omega)
  have e : t = pt 7 := Fin.ext (by have := lt8 t; show t.val = 7; omega)
  rw [e, ← rows_sum, Fin.sum_univ_eight, s7, s6, s5, s4, s3, s2, s1, z]

variable (m : (ℓ : Loc nD τ sig) → Buf (Elt Ideal) ℓ) (c : Dev nD)

/-! ## The rows -/

theorem emb9 (t : Fin cfg0.N) (x : Fin 512) (d : Fin 1024) : (win0_9.blk t).view.emb (ix2 x d) = ix2 (row t x) d := by
  have ht := lt8 t
  unfold row
  blk_ext [idx t]

/-- Result 0: the gradient at the stream. -/
theorem final0 (hA : (A m c).Num) : (dats m 0 c).arrAt 9 cfg0.N = out0 (b0 m c) (b1 m c) (b2 m c) (b3 m c) (b4 m c) (b5 m c) (b6 m c) (b7 m c) (b8 m c) := by
  refine (dats m 0 c).arrAt_eq_of_covers 9 _ (by decide +kernel) fun t hf y => ?_
  blk_simp
  rw [after0_9]
  obtain ⟨x, d, rfl⟩ : ∃ (x : Fin 512) (d : Fin 1024), y = ix2 x d := ⟨_, _, (ix2_eta y).symm⟩
  rw [emb9 t x d]
  exact (dx_block m c t x d).trans (out0_eq _ _ _ _ _ _ _ _ _ hA (row t x) d).symm

theorem emb10 (t : Fin cfg0.N) (x : Fin 512) (d : Fin 1024) : (win0_10.blk t).view.emb (ix2 x d) = ix2 (row t x) d := by
  have ht := lt8 t
  unfold row
  blk_ext [idx t]

/-- Result 1: the gradient at the first half's result. -/
theorem final1 (hA : (A m c).Num) : (dats m 0 c).arrAt 10 cfg0.N = out1 (b0 m c) (b1 m c) (b2 m c) (b3 m c) (b4 m c) (b5 m c) (b6 m c) (b7 m c) (b8 m c) := by
  refine (dats m 0 c).arrAt_eq_of_covers 10 _ (by decide +kernel) fun t hf y => ?_
  blk_simp
  rw [after0_10]
  obtain ⟨x, d, rfl⟩ : ∃ (x : Fin 512) (d : Fin 1024), y = ix2 x d := ⟨_, _, (ix2_eta y).symm⟩
  rw [emb10 t x d]
  exact (dm_block m c t x d).trans (out1_eq _ _ _ _ _ _ _ _ _ hA (row t x) d).symm

/-! ## The sums -/

theorem emb11 (t : Fin cfg0.N) (d : Fin 1024) : (win0_11.blk t).view.emb (ix2 0 d) = ix2 0 d := by
  have ht := lt8 t
  blk_ext [idx t]

/-- Result 2: the gradient at the shift. -/
theorem final2 : (dats m 0 c).arrAt 11 cfg0.N = out2 (b0 m c) (b1 m c) := by
  refine (dats m 0 c).arrAt_eq_of_covers 11 _ (by decide +kernel) fun t hf y => ?_
  blk_simp
  rw [after0_11]
  obtain ⟨y0, d, rfl⟩ : ∃ (y0 : Fin 1) (d : Fin 1024), y = ix2 y0 d := ⟨_, _, (ix2_eta y).symm⟩
  obtain rfl : y0 = 0 := Subsingleton.elim _ _
  have h7 : t.val % 8 = 7 := (flush0_11 t).mp hf
  rw [emb11 t d]
  exact (total (fun n hn => (outsAt0 m c n hn).2.2.1 (ix2 0 d)) (fun r => (A m c).D r d)
    (fun s h0 => sh_first m c s h0 d) (fun s hp h0 => sh_next m c s h0 hp d) t h7).trans
    (out2_eq (b0 m c) (b1 m c) (b2 m c) (b3 m c) (b4 m c) (b5 m c) (b6 m c) (b7 m c) (b8 m c) d).symm

theorem emb12 (t : Fin cfg0.N) (d : Fin 1024) : (win0_12.blk t).view.emb (ix2 0 d) = ix2 0 d := by
  have ht := lt8 t
  blk_ext [idx t]

/-- Result 3: the gradient at the scale. -/
theorem final3 : (dats m 0 c).arrAt 12 cfg0.N = out3 (b0 m c) (b1 m c) (b2 m c) (b3 m c) (b5 m c) (b6 m c) (b7 m c) (b8 m c) := by
  refine (dats m 0 c).arrAt_eq_of_covers 12 _ (by decide +kernel) fun t hf y => ?_
  blk_simp
  rw [after0_12]
  obtain ⟨y0, d, rfl⟩ : ∃ (y0 : Fin 1) (d : Fin 1024), y = ix2 y0 d := ⟨_, _, (ix2_eta y).symm⟩
  obtain rfl : y0 = 0 := Subsingleton.elim _ _
  have h7 : t.val % 8 = 7 := (flush0_12 t).mp hf
  rw [emb12 t d]
  exact (total (fun n hn => (outsAt0 m c n hn).2.2.2.1 (ix2 0 d)) (fun r => (A m c).rsc r d)
    (fun s h0 => sc_first m c s h0 d) (fun s hp h0 => sc_next m c s h0 hp d) t h7).trans
    (out3_eq (b0 m c) (b1 m c) (b2 m c) (b3 m c) (b4 m c) (b5 m c) (b6 m c) (b7 m c) (b8 m c) d).symm

theorem emb13 (t : Fin cfg0.N) (d : Fin 1024) : (win0_13.blk t).view.emb (ix2 0 d) = ix2 0 d := by
  have ht := lt8 t
  blk_ext [idx t]

/-- Result 4: the gradient at the second norm's weights. -/
theorem final4 : (dats m 0 c).arrAt 13 cfg0.N = out4 (b0 m c) (b1 m c) (b2 m c) (b3 m c) (b5 m c) (b6 m c) (b8 m c) := by
  refine (dats m 0 c).arrAt_eq_of_covers 13 _ (by decide +kernel) fun t hf y => ?_
  blk_simp
  rw [after0_13]
  obtain ⟨y0, d, rfl⟩ : ∃ (y0 : Fin 1) (d : Fin 1024), y = ix2 y0 d := ⟨_, _, (ix2_eta y).symm⟩
  obtain rfl : y0 = 0 := Subsingleton.elim _ _
  have h7 : t.val % 8 = 7 := (flush0_13 t).mp hf
  rw [emb13 t d]
  exact (total (fun n hn => (outsAt0 m c n hn).2.2.2.2.1 (ix2 0 d)) (fun r => (A m c).rgf r d)
    (fun s h0 => gf_first m c s h0 d) (fun s hp h0 => gf_next m c s h0 hp d) t h7).trans
    (out4_eq (b0 m c) (b1 m c) (b2 m c) (b3 m c) (b4 m c) (b5 m c) (b6 m c) (b7 m c) (b8 m c) d).symm

theorem emb14 (t : Fin cfg0.N) (d : Fin 1024) : (win0_14.blk t).view.emb (ix2 0 d) = ix2 0 d := by
  have ht := lt8 t
  blk_ext [idx t]

/-- Result 5: the gradient at the gate. -/
theorem final5 (hA : (A m c).Num) : (dats m 0 c).arrAt 14 cfg0.N = out5 (b0 m c) (b1 m c) (b2 m c) (b3 m c) (b4 m c) (b5 m c) (b6 m c) (b7 m c) (b8 m c) := by
  refine (dats m 0 c).arrAt_eq_of_covers 14 _ (by decide +kernel) fun t hf y => ?_
  blk_simp
  rw [after0_14]
  obtain ⟨y0, d, rfl⟩ : ∃ (y0 : Fin 1) (d : Fin 1024), y = ix2 y0 d := ⟨_, _, (ix2_eta y).symm⟩
  obtain rfl : y0 = 0 := Subsingleton.elim _ _
  have h7 : t.val % 8 = 7 := (flush0_14 t).mp hf
  rw [emb14 t d]
  exact (total (fun n hn => (outsAt0 m c n hn).2.2.2.2.2.1 (ix2 0 d)) (fun r => (A m c).rgt r d)
    (fun s h0 => gt_first m c s h0 d) (fun s hp h0 => gt_next m c s h0 hp d) t h7).trans
    (out5_eq _ _ _ _ _ _ _ _ _ hA d).symm

theorem emb15 (t : Fin cfg0.N) (d : Fin 1024) : (win0_15.blk t).view.emb (ix2 0 d) = ix2 0 d := by
  have ht := lt8 t
  blk_ext [idx t]

/-- Result 6: the gradient at the first norm's weights. -/
theorem final6 (hA : (A m c).Num) : (dats m 0 c).arrAt 15 cfg0.N = out6 (b0 m c) (b1 m c) (b2 m c) (b3 m c) (b4 m c) (b5 m c) (b6 m c) (b7 m c) (b8 m c) := by
  refine (dats m 0 c).arrAt_eq_of_covers 15 _ (by decide +kernel) fun t hf y => ?_
  blk_simp
  rw [after0_15]
  obtain ⟨y0, d, rfl⟩ : ∃ (y0 : Fin 1) (d : Fin 1024), y = ix2 y0 d := ⟨_, _, (ix2_eta y).symm⟩
  obtain rfl : y0 = 0 := Subsingleton.elim _ _
  have h7 : t.val % 8 = 7 := (flush0_15 t).mp hf
  rw [emb15 t d]
  exact (total (fun n hn => (outsAt0 m c n hn).2.2.2.2.2.2 (ix2 0 d)) (fun r => (A m c).rgm r d)
    (fun s h0 => gm_first m c s h0 d) (fun s hp h0 => gm_next m c s h0 hp d) t h7).trans
    (out6_eq _ _ _ _ _ _ _ _ _ hA d).symm

end Cert.Kernel2Ideal.Body

end
-- ==== Proof.NormFinite.lean ====
/-
  The second call's precondition read: every entry of every argument is a number. Then so is every entry of the arrays the
  backward pass reads.
-/
module

public import proofs.«01_k».proof.Pre_finite2
public import proofs.«01_k».proof.Proof.NormRef
public import proofs.«01_k».proof.Proof.Finite

@[expose] public section

set_option maxRecDepth 16384

noncomputable section

namespace Cert.Pre_finite2.Gen

/-- The predicate's side conditions. -/
theorem facts : Cert.Pre_finite2.Facts where
  bcast_S_S4096x5632 := by decide
  bcast_S_S1024x5632 := by decide
  bcast_S_S4096x1024 := by decide
  bcast_S_S6x1024 := by decide
  bcast_S_S1x1024 := by decide

end Cert.Pre_finite2.Gen

namespace Cert.Reference2Ideal.Terms

open Idealize.ShloMosaic Idealize.ShloMosaic.TcCoe Idealize.SL.Sem
open Cert.Reference2Ideal Cert.Reference2Ideal.Gen Cert.Reference2Ideal.Facts
open Cert.Ffn (IsNum)
open Cert.ReferenceIdeal.Terms (isNum_of_mask bits_top32 bits_top16)

variable (du : FVec Ideal S4096x5632 .bf16) (wu : FVec Ideal S1024x5632 .f32) (x mm dd : FVec Ideal S4096x1024 .f32)
  (ad ba : FVec Ideal S6x1024 .f32) (gf gm : FVec Ideal S1x1024 .f32)

theorem num_of (h0 : ∀ i, IsNum (du i)) (h1 : ∀ i, IsNum (wu i)) (h2 : ∀ i, IsNum (x i)) (h3 : ∀ i, IsNum (mm i)) (h4 : ∀ i, IsNum (dd i))
    (h5 : ∀ i, IsNum (ad i)) (h6 : ∀ i, IsNum (ba i)) (h7 : ∀ i, IsNum (gf i)) (h8 : ∀ i, IsNum (gm i)) :
    (arrays du wu x mm dd ad ba gf gm).Num where
  D r d := IsNum.sum fun C => (h0 _).mul (h1 _)
  X r d := by
    show IsNum (stream x mm ad ba gm (ix2 r d))
    rw [stream_at]
    exact (h2 _).add (((h5 _).add (h6 _)).mul ((Cert.Norm.hat_num (fun d => h3 _) d).mul (h8 _)))
  M r d := h3 _
  O r d := h4 _
  gt d := (h5 _).add (h6 _)
  sc d := (h5 _).add (h6 _)
  gf d := h7 _
  gm d := h8 _

/-- Under the precondition the arrays the backward pass reads are numbers. -/
theorem num_of_pre [Cert.Pre_finite2.Facts]
    (h0 : (Cert.Pre_finite2.fn (F := Ideal) du wu x mm dd ad ba gf gm).1 = fun _ => 1#1)
    (h1 : (Cert.Pre_finite2.fn (F := Ideal) du wu x mm dd ad ba gf gm).2.1 = fun _ => 1#1)
    (h2 : (Cert.Pre_finite2.fn (F := Ideal) du wu x mm dd ad ba gf gm).2.2.1 = fun _ => 1#1)
    (h3 : (Cert.Pre_finite2.fn (F := Ideal) du wu x mm dd ad ba gf gm).2.2.2.1 = fun _ => 1#1)
    (h4 : (Cert.Pre_finite2.fn (F := Ideal) du wu x mm dd ad ba gf gm).2.2.2.2.1 = fun _ => 1#1)
    (h5 : (Cert.Pre_finite2.fn (F := Ideal) du wu x mm dd ad ba gf gm).2.2.2.2.2.1 = fun _ => 1#1)
    (h6 : (Cert.Pre_finite2.fn (F := Ideal) du wu x mm dd ad ba gf gm).2.2.2.2.2.2.1 = fun _ => 1#1)
    (h7 : (Cert.Pre_finite2.fn (F := Ideal) du wu x mm dd ad ba gf gm).2.2.2.2.2.2.2.1 = fun _ => 1#1)
    (h8 : (Cert.Pre_finite2.fn (F := Ideal) du wu x mm dd ad ba gf gm).2.2.2.2.2.2.2.2 = fun _ => 1#1) :
    (arrays du wu x mm dd ad ba gf gm).Num :=
  num_of du wu x mm dd ad ba gf gm
    (isNum_of_mask du _ (fun _ => bits_top16) h0) (isNum_of_mask wu _ (fun _ => bits_top32) h1)
    (isNum_of_mask x _ (fun _ => bits_top32) h2) (isNum_of_mask mm _ (fun _ => bits_top32) h3)
    (isNum_of_mask dd _ (fun _ => bits_top32) h4) (isNum_of_mask ad _ (fun _ => bits_top32) h5)
    (isNum_of_mask ba _ (fun _ => bits_top32) h6) (isNum_of_mask gf _ (fun _ => bits_top32) h7)
    (isNum_of_mask gm _ (fun _ => bits_top32) h8)

end Cert.Reference2Ideal.Terms

end
-- ==== Proof.Twin2.lean ====
/-
The second kernel over bits and over ideal numbers are one text printed twice.  The two kernel bodies, the two
tables of bodies and the two programs are shown equal here, so that the run of the second, stated for every
interpretation of the floats, also gives the frame of the first.
-/
module

public import proofs.«01_k».proof.Defs
public import proofs.«01_k».proof.Proof.Gen.Kernel2
public import proofs.«01_k».proof.Proof.Gen.Kernel2Ideal.Frame

@[expose] public section

set_option maxRecDepth 16384
set_option maxHeartbeats 1500000

noncomputable section

namespace Cert.Twin2

open Idealize.ShloMosaic Idealize.ShloMosaic.TcCoe Idealize.SL.Sem

variable {F : FTy → Type} [FloatOps F]

/-- The two kernel bodies are the same program: with the names of shapes, buffers and parts written out on both sides
    they read the same. -/
theorem body : @Cert.Kernel2.cc0_ffn_up_bwd F _ Cert.Kernel2.Gen.facts
    = @Cert.Kernel2Ideal.cc0_ffn_up_bwd F _ Cert.Kernel2Ideal.Gen.facts := by
  delta
    Cert.Kernel2.S4096x5632 Cert.Kernel2.S1024x5632 Cert.Kernel2.S4096x1024 Cert.Kernel2.S6x1024
    Cert.Kernel2.S1x1024 Cert.Kernel2.S4096x2x4x704 Cert.Kernel2.S4x2x4096x704 Cert.Kernel2.S5632x1024
    Cert.Kernel2.S8x704x1024 Cert.Kernel2.S1024 Cert.Kernel2.S_ Cert.Kernel2.S4096 Cert.Kernel2.S4096x1
    Cert.Kernel2.S4x2x512x704 Cert.Kernel2.S512x1024 Cert.Kernel2.S1x1x512x704 Cert.Kernel2.S512x704
    Cert.Kernel2.S1x704x1024 Cert.Kernel2.S704x1024 Cert.Kernel2.S512 Cert.Kernel2.S512x1 Cert.Kernel2.nBuf
    Cert.Kernel2.bufTy Cert.Kernel2.bufScoped Cert.Kernel2.semScoped Cert.Kernel2.dmaSemScoped
    Cert.Kernel2.sig Cert.Kernel2.nD Cert.Kernel2.τ Cert.Kernel2.grid0 Cert.Kernel2.cc0_transform_0
    Cert.Kernel2.cc0_transform_1 Cert.Kernel2.cc0_transform_2 Cert.Kernel2.cc0_transform_3
    Cert.Kernel2.cc0_transform_4 Cert.Kernel2.cc0_transform_5 Cert.Kernel2.cc0_transform_6
    Cert.Kernel2.cc0_transform_7 Cert.Kernel2.cc0_transform_8 Cert.Kernel2.cc0_transform_9
    Cert.Kernel2.cc0_transform_10 Cert.Kernel2.cc0_transform_11 Cert.Kernel2.cc0_transform_12
    Cert.Kernel2.cc0_transform_13 Cert.Kernel2.cc0_transform_14 Cert.Kernel2.cc0_transform_15
    Cert.Kernel2.stage0_0 Cert.Kernel2.sem0_0 Cert.Kernel2.reads0_0 Cert.Kernel2.stage0_1 Cert.Kernel2.sem0_1
    Cert.Kernel2.reads0_1 Cert.Kernel2.stage0_2 Cert.Kernel2.sem0_2 Cert.Kernel2.reads0_2
    Cert.Kernel2.stage0_3 Cert.Kernel2.sem0_3 Cert.Kernel2.reads0_3 Cert.Kernel2.stage0_4 Cert.Kernel2.sem0_4
    Cert.Kernel2.reads0_4 Cert.Kernel2.stage0_5 Cert.Kernel2.sem0_5 Cert.Kernel2.reads0_5
    Cert.Kernel2.stage0_6 Cert.Kernel2.sem0_6 Cert.Kernel2.reads0_6 Cert.Kernel2.stage0_7 Cert.Kernel2.sem0_7
    Cert.Kernel2.reads0_7 Cert.Kernel2.stage0_8 Cert.Kernel2.sem0_8 Cert.Kernel2.reads0_8
    Cert.Kernel2.stage0_9 Cert.Kernel2.sem0_9 Cert.Kernel2.reads0_9 Cert.Kernel2.stage0_10
    Cert.Kernel2.sem0_10 Cert.Kernel2.reads0_10 Cert.Kernel2.stage0_11 Cert.Kernel2.sem0_11
    Cert.Kernel2.reads0_11 Cert.Kernel2.stage0_12 Cert.Kernel2.sem0_12 Cert.Kernel2.reads0_12
    Cert.Kernel2.stage0_13 Cert.Kernel2.sem0_13 Cert.Kernel2.reads0_13 Cert.Kernel2.stage0_14
    Cert.Kernel2.sem0_14 Cert.Kernel2.reads0_14 Cert.Kernel2.stage0_15 Cert.Kernel2.sem0_15
    Cert.Kernel2.reads0_15 Cert.Kernel2.dot_S512x704_S704x1024_S512x1024_1_0_0_1_n_n Cert.Kernel2.Λ₀
    Cert.Kernel2.k0_part1 Cert.Kernel2.k0_part2 Cert.Kernel2.k0_part3 Cert.Kernel2.k0_part4
    Cert.Kernel2.cc0_ffn_up_bwd
  delta
    Cert.Kernel2Ideal.S4096x5632 Cert.Kernel2Ideal.S1024x5632 Cert.Kernel2Ideal.S4096x1024
    Cert.Kernel2Ideal.S6x1024 Cert.Kernel2Ideal.S1x1024 Cert.Kernel2Ideal.S4096x2x4x704
    Cert.Kernel2Ideal.S4x2x4096x704 Cert.Kernel2Ideal.S5632x1024 Cert.Kernel2Ideal.S8x704x1024
    Cert.Kernel2Ideal.S1024 Cert.Kernel2Ideal.S_ Cert.Kernel2Ideal.S4096 Cert.Kernel2Ideal.S4096x1
    Cert.Kernel2Ideal.S4x2x512x704 Cert.Kernel2Ideal.S512x1024 Cert.Kernel2Ideal.S1x1x512x704
    Cert.Kernel2Ideal.S512x704 Cert.Kernel2Ideal.S1x704x1024 Cert.Kernel2Ideal.S704x1024
    Cert.Kernel2Ideal.S512 Cert.Kernel2Ideal.S512x1 Cert.Kernel2Ideal.nBuf Cert.Kernel2Ideal.bufTy
    Cert.Kernel2Ideal.bufScoped Cert.Kernel2Ideal.semScoped Cert.Kernel2Ideal.dmaSemScoped
    Cert.Kernel2Ideal.sig Cert.Kernel2Ideal.nD Cert.Kernel2Ideal.τ Cert.Kernel2Ideal.grid0
    Cert.Kernel2Ideal.cc0_transform_0 Cert.Kernel2Ideal.cc0_transform_1 Cert.Kernel2Ideal.cc0_transform_2
    Cert.Kernel2Ideal.cc0_transform_3 Cert.Kernel2Ideal.cc0_transform_4 Cert.Kernel2Ideal.cc0_transform_5
    Cert.Kernel2Ideal.cc0_transform_6 Cert.Kernel2Ideal.cc0_transform_7 Cert.Kernel2Ideal.cc0_transform_8
    Cert.Kernel2Ideal.cc0_transform_9 Cert.Kernel2Ideal.cc0_transform_10 Cert.Kernel2Ideal.cc0_transform_11
    Cert.Kernel2Ideal.cc0_transform_12 Cert.Kernel2Ideal.cc0_transform_13 Cert.Kernel2Ideal.cc0_transform_14
    Cert.Kernel2Ideal.cc0_transform_15 Cert.Kernel2Ideal.stage0_0 Cert.Kernel2Ideal.sem0_0
    Cert.Kernel2Ideal.reads0_0 Cert.Kernel2Ideal.stage0_1 Cert.Kernel2Ideal.sem0_1 Cert.Kernel2Ideal.reads0_1
    Cert.Kernel2Ideal.stage0_2 Cert.Kernel2Ideal.sem0_2 Cert.Kernel2Ideal.reads0_2 Cert.Kernel2Ideal.stage0_3
    Cert.Kernel2Ideal.sem0_3 Cert.Kernel2Ideal.reads0_3 Cert.Kernel2Ideal.stage0_4 Cert.Kernel2Ideal.sem0_4
    Cert.Kernel2Ideal.reads0_4 Cert.Kernel2Ideal.stage0_5 Cert.Kernel2Ideal.sem0_5 Cert.Kernel2Ideal.reads0_5
    Cert.Kernel2Ideal.stage0_6 Cert.Kernel2Ideal.sem0_6 Cert.Kernel2Ideal.reads0_6 Cert.Kernel2Ideal.stage0_7
    Cert.Kernel2Ideal.sem0_7 Cert.Kernel2Ideal.reads0_7 Cert.Kernel2Ideal.stage0_8 Cert.Kernel2Ideal.sem0_8
    Cert.Kernel2Ideal.reads0_8 Cert.Kernel2Ideal.stage0_9 Cert.Kernel2Ideal.sem0_9 Cert.Kernel2Ideal.reads0_9
    Cert.Kernel2Ideal.stage0_10 Cert.Kernel2Ideal.sem0_10 Cert.Kernel2Ideal.reads0_10
    Cert.Kernel2Ideal.stage0_11 Cert.Kernel2Ideal.sem0_11 Cert.Kernel2Ideal.reads0_11
    Cert.Kernel2Ideal.stage0_12 Cert.Kernel2Ideal.sem0_12 Cert.Kernel2Ideal.reads0_12
    Cert.Kernel2Ideal.stage0_13 Cert.Kernel2Ideal.sem0_13 Cert.Kernel2Ideal.reads0_13
    Cert.Kernel2Ideal.stage0_14 Cert.Kernel2Ideal.sem0_14 Cert.Kernel2Ideal.reads0_14
    Cert.Kernel2Ideal.stage0_15 Cert.Kernel2Ideal.sem0_15 Cert.Kernel2Ideal.reads0_15
    Cert.Kernel2Ideal.dot_S512x704_S704x1024_S512x1024_1_0_0_1_n_n Cert.Kernel2Ideal.Λ₀
    Cert.Kernel2Ideal.k0_part1 Cert.Kernel2Ideal.k0_part2 Cert.Kernel2Ideal.k0_part3
    Cert.Kernel2Ideal.k0_part4 Cert.Kernel2Ideal.cc0_ffn_up_bwd
  rfl

/-- So are the two tables that give the body of each label. -/
theorem table : @Cert.Kernel2.defs₀ F _ Cert.Kernel2.Gen.facts = @Cert.Kernel2Ideal.defs₀ F _ Cert.Kernel2Ideal.Gen.facts := by
  unfold Cert.Kernel2.defs₀ Cert.Kernel2Ideal.defs₀
  refine congrArg Defs.onTc ?_
  funext l a
  match l, a with
  | 0, (t, s) => dsimp only; rw [body]; rfl

/-- … and the tables with the pipeline's labels added. -/
theorem defs : @Cert.Kernel2.defs F _ Cert.Kernel2.Gen.facts = @Cert.Kernel2Ideal.defs F _ Cert.Kernel2Ideal.Gen.facts := by
  unfold Cert.Kernel2.defs Cert.Kernel2Ideal.defs
  rw [table]; rfl

set_option maxHeartbeats 2000000 in
/-- The two programs that call the kernel are the same. -/
theorem main : @Cert.Kernel2.main F _ Cert.Kernel2.Gen.facts = @Cert.Kernel2Ideal.main F _ Cert.Kernel2Ideal.Gen.facts := rfl

/-- The frame of the kernel over bits, from the run proved once for every interpretation of the floats. -/
theorem frame_kernel : quiescent_Kernel2 (hKernel2 := Cert.Kernel2.Gen.facts) := by
  intro m g _
  rw [defs, main]
  exact Cert.Kernel2Ideal.Gen.frame (F := Bits) m g

end Cert.Twin2

end
-- ==== Proof.Twin3.lean ====
/-
The third kernel over bits and over ideal numbers are one text printed twice.  The two kernel bodies, the two
tables of bodies and the two programs are shown equal here, so that the run of the second, stated for every
interpretation of the floats, also gives the frame of the first.
-/
module

public import proofs.«01_k».proof.Defs
public import proofs.«01_k».proof.Proof.Gen.Kernel3
public import proofs.«01_k».proof.Proof.Gen.Kernel3Ideal.Frame

@[expose] public section

set_option maxRecDepth 16384
set_option maxHeartbeats 1500000

noncomputable section

namespace Cert.Twin3

open Idealize.ShloMosaic Idealize.ShloMosaic.TcCoe Idealize.SL.Sem

variable {F : FTy → Type} [FloatOps F]

/-- The two kernel bodies are the same program: with the names of shapes, buffers and parts written out on both sides
    they read the same. -/
theorem body : @Cert.Kernel3.cc0_ffn_up_fwd F _ Cert.Kernel3.Gen.facts
    = @Cert.Kernel3Ideal.cc0_ffn_up_fwd F _ Cert.Kernel3Ideal.Gen.facts := by
  delta
    Cert.Kernel3.S4096x1024 Cert.Kernel3.S1024x5632 Cert.Kernel3.S3x5632 Cert.Kernel3.S5632
    Cert.Kernel3.S5632x1024 Cert.Kernel3.S8x704x1024 Cert.Kernel3.S3x8x704 Cert.Kernel3.S8x3x704
    Cert.Kernel3.S8x1x704 Cert.Kernel3.S4x4096x704 Cert.Kernel3.S512x1024 Cert.Kernel3.S1x704x1024
    Cert.Kernel3.S1x3x704 Cert.Kernel3.S1x1x704 Cert.Kernel3.S1x512x704 Cert.Kernel3.S8x704
    Cert.Kernel3.S1024x704 Cert.Kernel3.S704x1024 Cert.Kernel3.S256x1024 Cert.Kernel3.S256x704
    Cert.Kernel3.S1x256x704 Cert.Kernel3.S264x704 Cert.Kernel3.S1x704 Cert.Kernel3.nBuf Cert.Kernel3.bufTy
    Cert.Kernel3.bufScoped Cert.Kernel3.semScoped Cert.Kernel3.dmaSemScoped Cert.Kernel3.sig Cert.Kernel3.nD
    Cert.Kernel3.τ Cert.Kernel3.grid0 Cert.Kernel3.cc0_transform_0 Cert.Kernel3.cc0_transform_1
    Cert.Kernel3.cc0_transform_2 Cert.Kernel3.cc0_transform_3 Cert.Kernel3.cc0_transform_4
    Cert.Kernel3.cc0_transform_5 Cert.Kernel3.cc0_transform_6 Cert.Kernel3.cc0_transform_7
    Cert.Kernel3.cc0_transform_8 Cert.Kernel3.cc0_transform_9 Cert.Kernel3.cc0_transform_10
    Cert.Kernel3.cc0_transform_11 Cert.Kernel3.stage0_0 Cert.Kernel3.sem0_0 Cert.Kernel3.reads0_0
    Cert.Kernel3.stage0_1 Cert.Kernel3.sem0_1 Cert.Kernel3.reads0_1 Cert.Kernel3.stage0_2 Cert.Kernel3.sem0_2
    Cert.Kernel3.reads0_2 Cert.Kernel3.stage0_3 Cert.Kernel3.sem0_3 Cert.Kernel3.reads0_3
    Cert.Kernel3.stage0_4 Cert.Kernel3.sem0_4 Cert.Kernel3.reads0_4 Cert.Kernel3.stage0_5 Cert.Kernel3.sem0_5
    Cert.Kernel3.reads0_5 Cert.Kernel3.stage0_6 Cert.Kernel3.sem0_6 Cert.Kernel3.reads0_6
    Cert.Kernel3.stage0_7 Cert.Kernel3.sem0_7 Cert.Kernel3.reads0_7 Cert.Kernel3.stage0_8 Cert.Kernel3.sem0_8
    Cert.Kernel3.reads0_8 Cert.Kernel3.stage0_9 Cert.Kernel3.sem0_9 Cert.Kernel3.reads0_9
    Cert.Kernel3.stage0_10 Cert.Kernel3.sem0_10 Cert.Kernel3.reads0_10 Cert.Kernel3.stage0_11
    Cert.Kernel3.sem0_11 Cert.Kernel3.reads0_11 Cert.Kernel3.dot_S256x1024_S1024x704_S256x704_1_0_0_1_n_n
    Cert.Kernel3.Λ₀ Cert.Kernel3.k0_part1 Cert.Kernel3.k0_part2 Cert.Kernel3.k0_part3 Cert.Kernel3.k0_part4
    Cert.Kernel3.cc0_ffn_up_fwd
  delta
    Cert.Kernel3Ideal.S4096x1024 Cert.Kernel3Ideal.S1024x5632 Cert.Kernel3Ideal.S3x5632
    Cert.Kernel3Ideal.S5632 Cert.Kernel3Ideal.S5632x1024 Cert.Kernel3Ideal.S8x704x1024
    Cert.Kernel3Ideal.S3x8x704 Cert.Kernel3Ideal.S8x3x704 Cert.Kernel3Ideal.S8x1x704
    Cert.Kernel3Ideal.S4x4096x704 Cert.Kernel3Ideal.S512x1024 Cert.Kernel3Ideal.S1x704x1024
    Cert.Kernel3Ideal.S1x3x704 Cert.Kernel3Ideal.S1x1x704 Cert.Kernel3Ideal.S1x512x704
    Cert.Kernel3Ideal.S8x704 Cert.Kernel3Ideal.S1024x704 Cert.Kernel3Ideal.S704x1024
    Cert.Kernel3Ideal.S256x1024 Cert.Kernel3Ideal.S256x704 Cert.Kernel3Ideal.S1x256x704
    Cert.Kernel3Ideal.S264x704 Cert.Kernel3Ideal.S1x704 Cert.Kernel3Ideal.nBuf Cert.Kernel3Ideal.bufTy
    Cert.Kernel3Ideal.bufScoped Cert.Kernel3Ideal.semScoped Cert.Kernel3Ideal.dmaSemScoped
    Cert.Kernel3Ideal.sig Cert.Kernel3Ideal.nD Cert.Kernel3Ideal.τ Cert.Kernel3Ideal.grid0
    Cert.Kernel3Ideal.cc0_transform_0 Cert.Kernel3Ideal.cc0_transform_1 Cert.Kernel3Ideal.cc0_transform_2
    Cert.Kernel3Ideal.cc0_transform_3 Cert.Kernel3Ideal.cc0_transform_4 Cert.Kernel3Ideal.cc0_transform_5
    Cert.Kernel3Ideal.cc0_transform_6 Cert.Kernel3Ideal.cc0_transform_7 Cert.Kernel3Ideal.cc0_transform_8
    Cert.Kernel3Ideal.cc0_transform_9 Cert.Kernel3Ideal.cc0_transform_10 Cert.Kernel3Ideal.cc0_transform_11
    Cert.Kernel3Ideal.stage0_0 Cert.Kernel3Ideal.sem0_0 Cert.Kernel3Ideal.reads0_0 Cert.Kernel3Ideal.stage0_1
    Cert.Kernel3Ideal.sem0_1 Cert.Kernel3Ideal.reads0_1 Cert.Kernel3Ideal.stage0_2 Cert.Kernel3Ideal.sem0_2
    Cert.Kernel3Ideal.reads0_2 Cert.Kernel3Ideal.stage0_3 Cert.Kernel3Ideal.sem0_3 Cert.Kernel3Ideal.reads0_3
    Cert.Kernel3Ideal.stage0_4 Cert.Kernel3Ideal.sem0_4 Cert.Kernel3Ideal.reads0_4 Cert.Kernel3Ideal.stage0_5
    Cert.Kernel3Ideal.sem0_5 Cert.Kernel3Ideal.reads0_5 Cert.Kernel3Ideal.stage0_6 Cert.Kernel3Ideal.sem0_6
    Cert.Kernel3Ideal.reads0_6 Cert.Kernel3Ideal.stage0_7 Cert.Kernel3Ideal.sem0_7 Cert.Kernel3Ideal.reads0_7
    Cert.Kernel3Ideal.stage0_8 Cert.Kernel3Ideal.sem0_8 Cert.Kernel3Ideal.reads0_8 Cert.Kernel3Ideal.stage0_9
    Cert.Kernel3Ideal.sem0_9 Cert.Kernel3Ideal.reads0_9 Cert.Kernel3Ideal.stage0_10 Cert.Kernel3Ideal.sem0_10
    Cert.Kernel3Ideal.reads0_10 Cert.Kernel3Ideal.stage0_11 Cert.Kernel3Ideal.sem0_11
    Cert.Kernel3Ideal.reads0_11 Cert.Kernel3Ideal.dot_S256x1024_S1024x704_S256x704_1_0_0_1_n_n
    Cert.Kernel3Ideal.Λ₀ Cert.Kernel3Ideal.k0_part1 Cert.Kernel3Ideal.k0_part2 Cert.Kernel3Ideal.k0_part3
    Cert.Kernel3Ideal.k0_part4 Cert.Kernel3Ideal.cc0_ffn_up_fwd
  rfl

/-- So are the two tables that give the body of each label. -/
theorem table : @Cert.Kernel3.defs₀ F _ Cert.Kernel3.Gen.facts = @Cert.Kernel3Ideal.defs₀ F _ Cert.Kernel3Ideal.Gen.facts := by
  unfold Cert.Kernel3.defs₀ Cert.Kernel3Ideal.defs₀
  refine congrArg Defs.onTc ?_
  funext l a
  match l, a with
  | 0, (t, s) => dsimp only; rw [body]; rfl

/-- … and the tables with the pipeline's labels added. -/
theorem defs : @Cert.Kernel3.defs F _ Cert.Kernel3.Gen.facts = @Cert.Kernel3Ideal.defs F _ Cert.Kernel3Ideal.Gen.facts := by
  unfold Cert.Kernel3.defs Cert.Kernel3Ideal.defs
  rw [table]; rfl

set_option maxHeartbeats 2000000 in
/-- The two programs that call the kernel are the same. -/
theorem main : @Cert.Kernel3.main F _ Cert.Kernel3.Gen.facts = @Cert.Kernel3Ideal.main F _ Cert.Kernel3Ideal.Gen.facts := rfl

/-- The frame of the kernel over bits, from the run proved once for every interpretation of the floats. -/
theorem frame_kernel : quiescent_Kernel3 (hKernel3 := Cert.Kernel3.Gen.facts) := by
  intro m g _
  rw [defs, main]
  exact Cert.Kernel3Ideal.Gen.frame (F := Bits) m g

end Cert.Twin3

end
-- ==== Proof.UpSpec.lean ====
/-
  What the forward call computes, as formulas on coordinates: the up-projection, the causal convolution of three taps,
  and the gate's product. Rows are numbered from two zero rows before the first, so that a tap never looks outside.
-/
module

public import proofs.«01_k».proof.Proof.Spec

@[expose] public section

noncomputable section

namespace Cert.Up

open Idealize.ShloMosaic
open Cert.Ffn (col)

/-- The arrays the call reads: the layer's input `H`, the up-projection's weights `P`, the taps `W`, the bias `B`. -/
structure Arrays where
  H : Fin 4096 → Fin 1024 → EReal
  P : Fin 1024 → Fin 5632 → EReal
  W : Fin 3 → Fin 5632 → EReal
  B : Fin 5632 → EReal

namespace Arrays

variable (A : Arrays)

/-- The up-projection. -/
def U (r : Fin 4096) (C : Fin 5632) : EReal := ∑ d, A.H r d * A.P d C

/-- The up-projection with two zero rows before it: row `n` is the up-projection's row `n - 2`. -/
def up (n : ℕ) (C : Fin 5632) : EReal := if h : 2 ≤ n ∧ n < 4098 then A.U ⟨n - 2, by omega⟩ C else 0

theorem up_add (r : Fin 4096) (n : ℕ) (e : n = r.val + 2) (C : Fin 5632) : A.up n C = A.U r C := by
  subst e
  exact dif_pos ⟨by omega, by omega⟩

theorem up_lt {n : ℕ} (h : n < 2) (C : Fin 5632) : A.up n C = 0 := dif_neg (by omega)

/-- The convolution: the bias, the row two before, the row before and the row itself. -/
def y (r : ℕ) (C : Fin 5632) : EReal :=
  A.B C + (A.up r C * A.W 0 C + A.up (r + 1) C * A.W 1 C + A.up (r + 2) C * A.W 2 C)

/-- The gate's product. -/
def act (r : ℕ) (j : Fin 4) (q : Fin 704) : EReal :=
  A.y r (col 0 j q) * Ideal.logistic (A.y r (col 0 j q)) * A.y r (col 1 j q)

end Arrays

end Cert.Up

end
-- ==== Proof.UpRef.lean ====
/-
  The forward reference's five results, as its own lines and then at an index.
-/
module

public import proofs.«01_k».proof.Proof.Gen.Reference3Ideal.Run
public import proofs.«01_k».proof.Proof.UpSpec
public import Idealize.ShloMosaic.PureOps.Ideal
public import Idealize.ShloMosaic.Lib.Pointwise

@[expose] public section

set_option maxRecDepth 16384

noncomputable section

namespace Cert.Reference3Ideal.Terms

open Idealize.ShloMosaic Idealize.ShloMosaic.TcCoe Idealize.SL.Sem
open Cert.Reference3Ideal Cert.Reference3Ideal.Gen Cert.Reference3Ideal.Facts
open Cert.Ffn (col mid)

section Layers

variable (h : FVec Ideal S4096x1024 .bf16) (wu : FVec Ideal S1024x5632 .f32) (cw : FVec Ideal S3x5632 .f32)
  (cb : FVec Ideal S5632 .f32)

/-- The up-projection. -/
def up : FVec Ideal S4096x5632 .f32 :=
  Host.dotGeneral dot_S4096x1024_S1024x5632_S4096x5632_1_0_0_1_n_n none (extf .f32 h bitsLt_bf16_f32) wu

/-- The up-projection padded with two zero rows. -/
def upp : FVec Ideal S4098x5632 .f32 :=
  pad S4098x5632 ![2, 0] ![0, 0] ![0, 0] (up h wu) (sitofp .f32 (constantI S_ 32 0#32)) pads_S4096x5632_S4098x5632_200_000 h_S_

/-- One tap's row of weights, repeated over the rows. -/
def tap (o : Fin 2 → Nat) (ho : S3x5632.Slices o S1x5632) : FVec Ideal S4096x5632 .f32 :=
  broadcastInDim S4096x5632 ![0, 1] bcast_S1x5632_S4096x5632_0_1 (broadcastInDim S1x5632 ![1] bcast_S5632_S1x5632_1 (shapeCast _ (extractStridedSlice S1x5632 o cw ho) shapeCasts_S1x5632_S5632))

/-- The causal convolution of the up-projection. -/
def y : FVec Ideal S4096x5632 .f32 :=
  addf (broadcastInDim S4096x5632 ![0, 1] bcast_S1x5632_S4096x5632_0_1 (broadcastInDim S1x5632 ![1] bcast_S5632_S1x5632_1 cb)) (addf (addf (addf (broadcastInDim S4096x5632 ![] bcast_S_S4096x5632 (constant S_ .f32 0x00000000#32)) (mulf (extractStridedSlice S4096x5632 ![0, 0] (upp h wu) slices_S4098x5632_S4096x5632_0_0) (tap cw ![0, 0] slices_S3x5632_S1x5632_0_0))) (mulf (extractStridedSlice S4096x5632 ![1, 0] (upp h wu) slices_S4098x5632_S4096x5632_1_0) (tap cw ![1, 0] slices_S3x5632_S1x5632_1_0))) (mulf (extractStridedSlice S4096x5632 ![2, 0] (upp h wu) slices_S4098x5632_S4096x5632_2_0) (tap cw ![2, 0] slices_S3x5632_S1x5632_2_0)))

/-- The first half of the columns. -/
def left (v : FVec Ideal S4096x5632 .f32) : FVec Ideal S4096x2816 .f32 := extractStridedSlice S4096x2816 ![0, 0] v slices_S4096x5632_S4096x2816_0_0

/-- The second half of the columns. -/
def right (v : FVec Ideal S4096x5632 .f32) : FVec Ideal S4096x2816 .f32 := extractStridedSlice S4096x2816 ![0, 2816] v slices_S4096x5632_S4096x2816_0_2816

/-- The gate's product. -/
def act : FVec Ideal S4096x2816 .f32 :=
  mulf (mulf (left (y h wu cw cb)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (left (y h wu cw cb))))))) (right (y h wu cw cb))

/-- The columns of one half, in blocks of 704. -/
def blocks {e : FTy} (v : FVec Ideal S4096x2816 e) : FVec Ideal S4x4096x704 e :=
  transpose S4x4096x704 [1, 0, 2] (shapeCast S4096x4x704 v shapeCasts_S4096x2816_S4096x4x704) transposes_S4096x4x704_S4x4096x704_1_0_2

/-- Result 0. -/
def out0 : FVec Ideal S4x4096x704 .f32 := blocks (left (up h wu))
/-- Result 1. -/
def out1 : FVec Ideal S4x4096x704 .f32 := blocks (right (up h wu))
/-- Result 2. -/
def out2 : FVec Ideal S4x4096x704 .f32 := blocks (left (y h wu cw cb))
/-- Result 3. -/
def out3 : FVec Ideal S4x4096x704 .f32 := blocks (right (y h wu cw cb))
/-- Result 4. -/
def out4 : FVec Ideal S4x4096x704 .bf16 := blocks (truncf .bf16 (act h wu cw cb) bitsLt_bf16_f32)

end Layers

section Run

variable (m : (ℓ : Loc nD τ sig) → Buf (Elt Ideal) ℓ) (c : Dev nD)

/-- Argument `0` of the reference on a device. -/
abbrev a0 : FVec Ideal S4096x1024 .bf16 := m ((c.tc : Thread nD τ).loc main_arg0)
/-- Argument `1` of the reference on a device. -/
abbrev a1 : FVec Ideal S1024x5632 .f32 := m ((c.tc : Thread nD τ).loc main_arg1)
/-- Argument `2` of the reference on a device. -/
abbrev a2 : FVec Ideal S3x5632 .f32 := m ((c.tc : Thread nD τ).loc main_arg2)
/-- Argument `3` of the reference on a device. -/
abbrev a3 : FVec Ideal S5632 .f32 := m ((c.tc : Thread nD τ).loc main_arg3)

/-- The reference's run, its results by their names here. -/
theorem run_outs (ρ : Dev nD → PrngReg) :
    θ_run defs (onTc (τ := τ) (main (F := Ideal))) ⟨m, fun _ => 0, ρ⟩ fun r => ∀ c : Dev nD,
      r.2.mem ((c.tc : Thread nD τ).loc main_v32) = out0 (a0 m c) (a1 m c)
      ∧ r.2.mem ((c.tc : Thread nD τ).loc main_v35) = out1 (a0 m c) (a1 m c)
      ∧ r.2.mem ((c.tc : Thread nD τ).loc main_v37) = out2 (a0 m c) (a1 m c) (a2 m c) (a3 m c)
      ∧ r.2.mem ((c.tc : Thread nD τ).loc main_v39) = out3 (a0 m c) (a1 m c) (a2 m c) (a3 m c)
      ∧ r.2.mem ((c.tc : Thread nD τ).loc main_v44) = out4 (a0 m c) (a1 m c) (a2 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h c).1, (h c).2.1, (h c).2.2.1, (h c).2.2.2.1, (h c).2.2.2.2.1, (h c).2.2.2.2.2⟩)
    (Value.run m ρ)

end Run

/-! ## At an index -/

variable (h : FVec Ideal S4096x1024 .bf16) (wu : FVec Ideal S1024x5632 .f32) (cw : FVec Ideal S3x5632 .f32)
  (cb : FVec Ideal S5632 .f32)

/-- The arrays the call reads, of its arguments. -/
def arrays : Cert.Up.Arrays where
  H r d := h (ix2 r d)
  P d C := wu (ix2 d C)
  W k C := cw (ix2 k C)
  B C := cb (ix1 C)

/-- A column of the first half, among all. -/
abbrev lo (n : Fin 2816) : Fin 5632 := ⟨n.val, by omega⟩
/-- A column of the second half, among all. -/
abbrev hi (n : Fin 2816) : Fin 5632 := ⟨2816 + n.val, by omega⟩

theorem col_zero (j : Fin 4) (q : Fin 704) : col 0 j q = lo (mid j q) := Fin.ext (by simp [col, mid])
theorem col_one (j : Fin 4) (q : Fin 704) : col 1 j q = hi (mid j q) := Fin.ext (by simp [col, mid]; omega)

theorem blocks_at {e : FTy} (v : FVec Ideal S4096x2816 e) (j : Fin 4) (r : Fin 4096) (q : Fin 704) :
    blocks v (ix3 j r q) = v (ix2 r (mid j q)) := by
  pointwise [blocks]
  rfl

theorem left_at (v : FVec Ideal S4096x5632 .f32) (r : Fin 4096) (j : Fin 4) (q : Fin 704) :
    left v (ix2 r (mid j q)) = v (ix2 r (col 0 j q)) := by
  rw [col_zero]
  generalize mid j q = n
  pointwise [left]

theorem right_at (v : FVec Ideal S4096x5632 .f32) (r : Fin 4096) (j : Fin 4) (q : Fin 704) :
    right v (ix2 r (mid j q)) = v (ix2 r (col 1 j q)) := by
  rw [col_one]
  generalize mid j q = n
  pointwise [right]

theorem up_at (r : Fin 4096) (C : Fin 5632) : up h wu (ix2 r C) = (arrays h wu cw cb).U r C := by
  show _ = ∑ d, h (ix2 r d) * wu (ix2 d C)
  pointwise [up]

/-- The padded array's row `n` is the up-projection's row `n - 2`, or zero. -/
theorem upp_at (n : Fin 4098) (C : Fin 5632) : upp h wu (ix2 n C) = (arrays h wu cw cb).up n.val C := by
  unfold upp
  have hu := up_at h wu cw cb
  generalize up h wu = u at hu
  pointwise
  by_cases hn : 2 ≤ n.val
  · rw [dif_pos (by omega), (arrays h wu cw cb).up_add ⟨n.val - 2, by omega⟩ n.val (by show n.val = n.val - 2 + 2; omega)]
    exact hu _ _
  · rw [dif_neg (by omega), (arrays h wu cw cb).up_lt (by omega)]
    show ((((0#32 : BitVec 32).toInt : ℝ)) : EReal) = 0
    norm_num

theorem y_at (r : Fin 4096) (C : Fin 5632) : y h wu cw cb (ix2 r C) = (arrays h wu cw cb).y r.val C := by
  show _ = cb (ix1 C) + ((arrays h wu cw cb).up r.val C * cw (ix2 0 C) + (arrays h wu cw cb).up (r.val + 1) C * cw (ix2 1 C)
    + (arrays h wu cw cb).up (r.val + 2) C * cw (ix2 2 C))
  rw [← upp_at h wu cw cb ⟨r.val, by omega⟩, ← upp_at h wu cw cb ⟨r.val + 1, by omega⟩, ← upp_at h wu cw cb ⟨r.val + 2, by omega⟩]
  unfold y
  generalize upp h wu = u
  have e1 : (⟨1 + r.val, by omega⟩ : Fin 4098) = ⟨r.val + 1, by omega⟩ := Fin.ext (Nat.add_comm _ _)
  have e2 : (⟨2 + r.val, by omega⟩ : Fin 4098) = ⟨r.val + 2, by omega⟩ := Fin.ext (Nat.add_comm _ _)
  rw [← e1, ← e2]
  pointwise [tap]

theorem out0_at (j : Fin 4) (r : Fin 4096) (q : Fin 704) : out0 h wu (ix3 j r q) = (arrays h wu cw cb).U r (col 0 j q) := by
  unfold out0
  rw [blocks_at, left_at, up_at h wu cw cb]

theorem out1_at (j : Fin 4) (r : Fin 4096) (q : Fin 704) : out1 h wu (ix3 j r q) = (arrays h wu cw cb).U r (col 1 j q) := by
  unfold out1
  rw [blocks_at, right_at, up_at h wu cw cb]

theorem out2_at (j : Fin 4) (r : Fin 4096) (q : Fin 704) : out2 h wu cw cb (ix3 j r q) = (arrays h wu cw cb).y r.val (col 0 j q) := by
  unfold out2
  rw [blocks_at, left_at, y_at]

theorem out3_at (j : Fin 4) (r : Fin 4096) (q : Fin 704) : out3 h wu cw cb (ix3 j r q) = (arrays h wu cw cb).y r.val (col 1 j q) := by
  unfold out3
  rw [blocks_at, right_at, y_at]

theorem out4_at (j : Fin 4) (r : Fin 4096) (q : Fin 704) : out4 h wu cw cb (ix3 j r q) = (arrays h wu cw cb).act r.val j q := by
  unfold out4 Cert.Up.Arrays.act
  rw [blocks_at, ← y_at, ← y_at, ← left_at (y h wu cw cb), ← right_at (y h wu cw cb)]
  unfold act
  generalize left (y h wu cw cb) = a
  generalize right (y h wu cw cb) = b
  pointwise
  rfl

end Cert.Reference3Ideal.Terms

end
-- ==== Proof.UpBlocks.lean ====
/-
  The blocks the forward kernel reads at a grid point, as the arrays of `Cert.Up.Arrays`: point `t` works on the 704
  columns of block `t / 8`, in both halves, and on the 512 rows of row block `t % 8`.
-/
module

public import proofs.«01_k».proof.Proof.Gen.Kernel3Ideal.Value
public import proofs.«01_k».proof.Proof.UpRef
public import Idealize.ShloMosaic.Lib.Pointwise
public import Idealize.ShloMosaic.Lib.Claim
public import Idealize.ShloMosaic.Lib.StableHlo.RunRead
public import Idealize.ShloMosaic.Lib.Pipeline.ValueKit

@[expose] public section

set_option maxRecDepth 16384

noncomputable section

namespace Cert.Kernel3Ideal.Body

open Idealize.ShloMosaic Idealize.ShloMosaic.TcCoe Idealize.SL.Sem
open Cert.Kernel3Ideal Cert.Kernel3Ideal.Gen
open Cert.Ffn (col mid)

variable (m : (ℓ : Loc nD τ sig) → Buf (Elt Ideal) ℓ) (c : Dev nD)

/-- Argument `0` of the kernel on a device. -/
abbrev b0 : FVec Ideal S4096x1024 .bf16 := m ((c.tc : Thread nD τ).loc main_arg0)
/-- Argument `1` of the kernel on a device. -/
abbrev b1 : FVec Ideal S1024x5632 .f32 := m ((c.tc : Thread nD τ).loc main_arg1)
/-- Argument `2` of the kernel on a device. -/
abbrev b2 : FVec Ideal S3x5632 .f32 := m ((c.tc : Thread nD τ).loc main_arg2)
/-- Argument `3` of the kernel on a device. -/
abbrev b3 : FVec Ideal S5632 .f32 := m ((c.tc : Thread nD τ).loc main_arg3)

/-- The arrays the call reads, of the kernel's arguments. -/
abbrev A : Cert.Up.Arrays := Cert.Reference3Ideal.Terms.arrays (b0 m c) (b1 m c) (b2 m c) (b3 m c)

/-! ## What the call is handed -/

theorem V2 : V m c main_v2 = shapeCast S8x704x1024 (truncf .bf16 (transpose S5632x1024 [1, 0] (b1 m c) transposes_S1024x5632_S5632x1024_1_0) bitsLt_bf16_f32) shapeCasts_S5632x1024_S8x704x1024 := rfl
theorem V4 : V m c main_v4 = transpose S8x3x704 [1, 0, 2] (shapeCast S3x8x704 (b2 m c) shapeCasts_S3x5632_S3x8x704) transposes_S3x8x704_S8x3x704_1_0_2 := rfl
theorem V5 : V m c main_v5 = shapeCast S8x1x704 (b3 m c) shapeCasts_S5632_S8x1x704 := rfl

/-- Column `q` of group `n` of the eight groups of 704. -/
theorem col_group (p : Fin 2) (j : Fin 4) (q : Fin 704) (n : Fin 8) (hn : n.val = p.val * 4 + j.val) :
    col p j q = ⟨n.val * 704 + q.val, by omega⟩ := Fin.ext (by simp [col]; omega)

theorem weights_at (p : Fin 2) (j : Fin 4) (n : Fin 8) (hn : n.val = p.val * 4 + j.val) (q : Fin 704) (d : Fin 1024) :
    (V m c main_v2 : FVec Ideal S8x704x1024 .bf16) (ix3 n q d) = (A m c).P d (col p j q) := by
  rw [V2, col_group p j q n hn]
  pointwise
  rfl

theorem taps_at (p : Fin 2) (j : Fin 4) (n : Fin 8) (hn : n.val = p.val * 4 + j.val) (k : Fin 3) (q : Fin 704) :
    (V m c main_v4 : FVec Ideal S8x3x704 .f32) (ix3 n k q) = (A m c).W k (col p j q) := by
  rw [V4, col_group p j q n hn]
  pointwise
  rfl

theorem bias_at (p : Fin 2) (j : Fin 4) (n : Fin 8) (hn : n.val = p.val * 4 + j.val) (q : Fin 704) :
    (V m c main_v5 : FVec Ideal S8x1x704 .f32) (ix3 n 0 q) = (A m c).B (col p j q) := by
  rw [V5, col_group p j q n hn]
  pointwise
  rfl

/-! ## The blocks -/

/-- Where each window's block stands. -/
theorem idx : ∀ t : Fin cfg0.N,
    win0_0.index t = ![t.val % 8, 0] ∧ win0_1.index t = ![t.val / 8, 0, 0] ∧ win0_2.index t = ![t.val / 8 + 4, 0, 0] ∧
    win0_3.index t = ![t.val / 8, 0, 0] ∧ win0_4.index t = ![t.val / 8 + 4, 0, 0] ∧
    win0_5.index t = ![t.val / 8, 0, 0] ∧ win0_6.index t = ![t.val / 8 + 4, 0, 0] ∧
    win0_7.index t = ![t.val / 8, t.val % 8, 0] ∧ win0_8.index t = ![t.val / 8, t.val % 8, 0] ∧
    win0_9.index t = ![t.val / 8, t.val % 8, 0] ∧ win0_10.index t = ![t.val / 8, t.val % 8, 0] ∧
    win0_11.index t = ![t.val / 8, t.val % 8, 0] :=
  (by decide +kernel : ∀ t : Fin grid0.N, _)

theorem lt32 (t : Fin cfg0.N) : t.val < 32 := lt_of_lt_of_eq t.isLt Gen.N_0

/-- The block of columns a point works on. -/
def cb (t : Fin cfg0.N) : Fin 4 := ⟨t.val / 8, by have := lt32 t; omega⟩

/-- The first row a point works on. -/
def row0 (t : Fin cfg0.N) : ℕ := 512 * (t.val % 8)

theorem row0_le (t : Fin cfg0.N) : row0 t ≤ 3584 := by unfold row0; omega

/-- Row `x` of a point's 512. -/
def row (t : Fin cfg0.N) (x : Fin 512) : Fin 4096 := ⟨row0 t + x.val, by have := row0_le t; omega⟩

theorem blk0 (t : Fin cfg0.N) (x : Fin 512) (d : Fin 1024) : iblk m c 0 t (ix2 x d) = (A m c).H (row t x) d := by
  have ht := lt32 t
  refine Eq.trans (b := (b0 m c) (ix2 (row t x) d)) ?_ rfl
  unfold row row0
  blk_ext [iblk, V, idx t]

theorem blk1 (t : Fin cfg0.N) (q : Fin 704) (d : Fin 1024) : iblk m c 1 t (ix3 0 q d) = (A m c).P d (col 0 (cb t) q) := by
  have ht := lt32 t
  rw [← weights_at m c 0 (cb t) ⟨t.val / 8, by omega⟩ (by show t.val / 8 = 0 * 4 + t.val / 8; omega)]
  blk_ext [iblk, idx t]

theorem blk2 (t : Fin cfg0.N) (q : Fin 704) (d : Fin 1024) : iblk m c 2 t (ix3 0 q d) = (A m c).P d (col 1 (cb t) q) := by
  have ht := lt32 t
  rw [← weights_at m c 1 (cb t) ⟨t.val / 8 + 4, by omega⟩ (by show t.val / 8 + 4 = 1 * 4 + t.val / 8; omega)]
  blk_ext [iblk, idx t]

theorem blk3 (t : Fin cfg0.N) (k : Fin 3) (q : Fin 704) : iblk m c 3 t (ix3 0 k q) = (A m c).W k (col 0 (cb t) q) := by
  have ht := lt32 t
  rw [← taps_at m c 0 (cb t) ⟨t.val / 8, by omega⟩ (by show t.val / 8 = 0 * 4 + t.val / 8; omega)]
  blk_ext [iblk, idx t]

theorem blk4 (t : Fin cfg0.N) (k : Fin 3) (q : Fin 704) : iblk m c 4 t (ix3 0 k q) = (A m c).W k (col 1 (cb t) q) := by
  have ht := lt32 t
  rw [← taps_at m c 1 (cb t) ⟨t.val / 8 + 4, by omega⟩ (by show t.val / 8 + 4 = 1 * 4 + t.val / 8; omega)]
  blk_ext [iblk, idx t]

theorem blk5 (t : Fin cfg0.N) (q : Fin 704) : iblk m c 5 t (ix3 0 0 q) = (A m c).B (col 0 (cb t) q) := by
  have ht := lt32 t
  rw [← bias_at m c 0 (cb t) ⟨t.val / 8, by omega⟩ (by show t.val / 8 = 0 * 4 + t.val / 8; omega)]
  blk_ext [iblk, idx t]

theorem blk6 (t : Fin cfg0.N) (q : Fin 704) : iblk m c 6 t (ix3 0 0 q) = (A m c).B (col 1 (cb t) q) := by
  have ht := lt32 t
  rw [← bias_at m c 1 (cb t) ⟨t.val / 8 + 4, by omega⟩ (by show t.val / 8 + 4 = 1 * 4 + t.val / 8; omega)]
  blk_ext [iblk, idx t]

end Cert.Kernel3Ideal.Body

end
-- ==== Proof.UpPay.lean ====
/-
  What the forward kernel computes from one sub-block of 256 rows, at an index: the product with the weights, the
  convolution over the rows before, the gate's product. The two halves and the two sub-blocks run the same operations,
  so each is read once.
-/
module

public import proofs.«01_k».proof.Proof.Gen.Kernel3Ideal.Skeleton
public import proofs.«01_k».proof.Proof.UpSpec
public import Idealize.ShloMosaic.PureOps.Ideal
public import Idealize.ShloMosaic.Lib.Pointwise

@[expose] public section

set_option maxRecDepth 16384

noncomputable section

namespace Cert.Kernel3Ideal.Body

open Idealize.ShloMosaic Idealize.ShloMosaic.TcCoe Idealize.SL.Sem
open Cert.Kernel3Ideal Cert.Kernel3Ideal.Gen
open Cert.Ffn (col mid)

/-! ## The same operations under several names -/

section Names

variable (g : Vec Ideal S256x1024 .bf16) (W : Vec Ideal S1024x704 .bf16) (n : Vec Ideal S8x704 .f32)
  (u v : FVec Ideal S256x704 .f32) (b w0 w1 w2 : Vec Ideal S1x1x704 .f32)

/-- The first half's convolution, of the first 256 rows. -/
theorem conv_name19 : k0_pay19 (k0_pay11 g W) (k0_pay16 n g W) (k0_pay17 b) (k0_pay18 n g W w0) w1 w2
    = k0_pay20 n (k0_pay11 g W) b w0 w1 w2 := rfl

/-- The first half's convolution, of the last 256 rows. -/
theorem conv_name32 : k0_pay32 (k0_pay11 g W) (k0_pay30 u g W) (k0_pay31 u g W) b w0 w1 w2
    = k0_pay20 (k0_pay23 u) (k0_pay11 g W) b w0 w1 w2 := rfl

/-- The second half's convolution, of the last 256 rows. -/
theorem conv_name1 : k0_pay1 (k0_pay33 b) (k0_pay34 n u w0 w1) (k0_pay35 u w2) = k0_pay20 n u b w0 w1 w2 := rfl

theorem mm_name12 : k0_pay12 g W = k0_pay11 g W := rfl
theorem mm_name25 : k0_pay25 g W = k0_pay11 g W := rfl
theorem mm_name26 : k0_pay26 g W = k0_pay11 g W := rfl
theorem out_name13 : k0_pay13 g W = k0_pay2 (k0_pay11 g W) := rfl
theorem out_name14 : k0_pay14 g W = k0_pay2 (k0_pay11 g W) := rfl
theorem out_name27 : k0_pay27 g W = k0_pay2 (k0_pay11 g W) := rfl
theorem out_name28 : k0_pay28 g W = k0_pay2 (k0_pay11 g W) := rfl
theorem out_name21 : k0_pay21 u = k0_pay2 u := rfl
theorem out_name22 : k0_pay22 u = k0_pay2 u := rfl
theorem out_name3 : k0_pay3 (k0_pay33 b) (k0_pay34 n u w0 w1) (k0_pay35 u w2) = k0_pay2 (k0_pay20 n u b w0 w1 w2) := rfl
theorem gate_name4 : k0_pay4 v (k0_pay33 b) (k0_pay34 n u w0 w1) (k0_pay35 u w2) = k0_pay24 v (k0_pay20 n u b w0 w1 w2) := rfl
theorem end_name6 : k0_pay6 u = k0_pay5 u := rfl

end Names

/-! ## At an index -/

section At

variable (A : Cert.Up.Arrays) (p : Fin 2) (j : Fin 4) (R : ℕ)

/-- The 256 rows from row `R` of the up-projection. -/
def IsUp (u : FVec Ideal S256x704 .f32) : Prop := ∀ (x : Fin 256) (q : Fin 704), u (ix2 x q) = A.up (R + x.val + 2) (col p j q)

/-- Eight rows of which the last two are the two before row `R`. -/
def IsHalo (n : Vec Ideal S8x704 .f32) : Prop :=
  ∀ (x : Fin 8) (q : Fin 704), 6 ≤ x.val → n (ix2 x q) = A.up (R + x.val - 6) (col p j q)

/-- The 256 rows from row `R` of the convolution. -/
def IsY (y : FVec Ideal S256x704 .f32) : Prop := ∀ (x : Fin 256) (q : Fin 704), y (ix2 x q) = A.y (R + x.val) (col p j q)

variable {A p j R}

theorem mm_at {g : Vec Ideal S256x1024 .bf16} {W : Vec Ideal S1024x704 .bf16} (hR : R + 256 ≤ 4096)
    (hg : ∀ (x : Fin 256) (d : Fin 1024), g (ix2 x d) = A.H ⟨R + x.val, by omega⟩ d)
    (hW : ∀ (d : Fin 1024) (q : Fin 704), W (ix2 d q) = A.P d (col p j q)) : IsUp A p j R (k0_pay11 g W) := by
  intro x q
  rw [A.up_add ⟨R + x.val, by omega⟩ _ rfl]
  unfold Cert.Up.Arrays.U
  simp only [← hg, ← hW]
  pointwise [k0_pay11]

theorem conv_at {n u b w0 w1 w2} (hu : IsUp A p j R u) (hn : IsHalo A p j R n) (hb : ∀ q, b (ix3 0 0 q) = A.B (col p j q))
    (h0 : ∀ q, w0 (ix3 0 0 q) = A.W 0 (col p j q)) (h1 : ∀ q, w1 (ix3 0 0 q) = A.W 1 (col p j q))
    (h2 : ∀ q, w2 (ix3 0 0 q) = A.W 2 (col p j q)) : IsY A p j R (k0_pay20 n u b w0 w1 w2) := by
  intro x q
  unfold Cert.Up.Arrays.y
  rw [← hb, ← h0, ← h1, ← h2, ← hu x q]
  have hx := x.isLt
  pointwise [k0_pay20]
  refine congrArg (_ + ·) (congrArg (· + _) (congrArg₂ (· + ·) (congrArg (· * _) ?_) (congrArg (· * _) ?_)))
  · split
    · exact (hn _ _ (by show 6 ≤ (8 + x.val + 264 - 2) % 264; omega)).trans (congrArg (A.up · (col p j q)) (by show R + (8 + x.val + 264 - 2) % 264 - 6 = _; omega))
    · exact (hu _ _).trans (congrArg (A.up · (col p j q)) (by show R + ((8 + x.val + 264 - 2) % 264 - 8) + 2 = _; omega))
  · split
    · exact (hn _ _ (by show 6 ≤ (8 + x.val + 264 - 1) % 264; omega)).trans (congrArg (A.up · (col p j q)) (by show R + (8 + x.val + 264 - 1) % 264 - 6 = _; omega))
    · exact (hu _ _).trans (congrArg (A.up · (col p j q)) (by show R + ((8 + x.val + 264 - 1) % 264 - 8) + 2 = _; omega))

/-- The last eight rows, for the sub-block after. -/
theorem halo_at {u} (hu : IsUp A p j R u) : IsHalo A p j (R + 256) (k0_pay23 u) := by
  intro x q hx
  pointwise [k0_pay23]
  exact (hu _ _).trans (congrArg (A.up · (col p j q)) (by show R + (248 + x.val) + 2 = _; omega))

/-- The last eight rows, for the point after. -/
theorem end_at {u} (hu : IsUp A p j R u) : IsHalo A p j (R + 256) (k0_pay5 u) := by
  intro x q hx
  pointwise [k0_pay5]
  exact (hu _ _).trans (congrArg (A.up · (col p j q)) (by show R + (248 + x.val) + 2 = _; omega))

/-- Before the first row there are zeros. -/
theorem halo_zero {n : Vec Ideal S8x704 .f32} (hR : R = 0) (hn : ∀ (x : Fin 8) (q : Fin 704), n (ix2 x q) = 0) :
    IsHalo A p j R n := by
  intro x q hx
  rw [hn, A.up_lt (by omega)]

theorem zero_a (x : Fin 8) (q : Fin 704) : (k0_pay7 : FVec Ideal S8x704 .f32) (ix2 x q) = 0 := by
  pointwise [k0_pay7]

theorem zero_b (x : Fin 8) (q : Fin 704) : (k0_pay8 : FVec Ideal S8x704 .f32) (ix2 x q) = 0 := by
  pointwise [k0_pay8]

theorem cast_at (u : FVec Ideal S256x704 .f32) (x : Fin 256) (q : Fin 704) : k0_pay2 u (ix3 0 x q) = u (ix2 x q) := by
  pointwise [k0_pay2]

theorem gate_at {ya yb} (ha : IsY A 0 j R ya) (hb : IsY A 1 j R yb) (x : Fin 256) (q : Fin 704) :
    k0_pay24 ya yb (ix3 0 x q) = A.act (R + x.val) j q := by
  unfold Cert.Up.Arrays.act
  rw [← ha, ← hb]
  pointwise [k0_pay24]

end At

end Cert.Kernel3Ideal.Body

end
-- ==== Proof.UpBody.lean ====
/-
  What one grid point of the forward call leaves in the kernel's buffers: the transposed weights it carries, the eight
  rows of the up-projection it hands on, and its blocks of the five results.
-/
module

public import proofs.«01_k».proof.Proof.UpBlocks
public import proofs.«01_k».proof.Proof.UpPay
public import proofs.«01_k».proof.Proof.Body

@[expose] public section

set_option maxRecDepth 16384

noncomputable section

namespace Cert.Kernel3Ideal.Body

open Idealize.ShloMosaic Idealize.ShloMosaic.TcCoe Idealize.SL.Sem
open Cert.Kernel3Ideal Cert.Kernel3Ideal.Gen
open Cert.Ffn (col mid)

open Cert.KernelIdeal.Body (canon_load ld_rows ld_w)

variable (m : (ℓ : Loc nD τ sig) → Buf (Elt Ideal) ℓ) (c : Dev nD)

theorem idx_blk (o : ℕ) (ho : o + 256 ≤ 512) (inb) (x : Fin 256) (q : Fin 704) :
    (Rect.unit (s := S1x512x704) ![0, o, 0] ![1, 256, 704] inb).idx (ix3 0 x q) = ix3 0 ⟨o + x.val, by omega⟩ q :=
  funext fun a => Fin.ext (by
    rw [Rect.idx_unit_val]
    match a with
    | ⟨0, _⟩ => rfl
    | ⟨1, _⟩ => rfl
    | ⟨2, _⟩ => exact Nat.zero_add _)

/-! ## The carried weights -/

/-- The transposed weights of a half of the point's block of columns. -/
def IsWt (p : Fin 2) (t : Fin cfg0.N) (W : Vec Ideal S1024x704 .bf16) : Prop :=
  ∀ (d : Fin 1024) (q : Fin 704), W (ix2 d q) = (A m c).P d (col p (cb t) q)

/-- The weights a point that starts a block of columns stores, of half 0. -/
theorem wa_new (t : Fin cfg0.N) : IsWt m c 0 t (k0_pay9 (iblk m c 1 t)) := by
  intro d q
  refine Eq.trans ?_ (blk1 m c t q d)
  pointwise [k0_pay9]

/-- The same of half 1. -/
theorem wb_new (t : Fin cfg0.N) : IsWt m c 1 t (k0_pay10 (iblk m c 2 t)) := by
  intro d q
  refine Eq.trans ?_ (blk2 m c t q d)
  pointwise [k0_pay10]

theorem wa_at : ∀ (n : ℕ) (hn : n < cfg0.N), IsWt m c 0 ⟨n, hn⟩ (outsAt0 m c n hn).2.2.2.2.2.2.2.1 := by
  intro n
  induction n with
  | zero =>
    intro hn d q
    rw [outsAt0_A m c ⟨0, hn⟩ (by rfl)]
    frame_out
    exact wa_new m c ⟨0, hn⟩ d q
  | succ n ih =>
    intro hn d q
    by_cases h0 : (n + 1) % 8 = 0
    · rw [outsAt0_A m c ⟨n + 1, hn⟩ h0]
      frame_out
      exact wa_new m c ⟨n + 1, hn⟩ d q
    · have e : cb ⟨n + 1, hn⟩ = cb ⟨n, by omega⟩ := Fin.ext (by show (n + 1) / 8 = n / 8; omega)
      have hi : (outsAt0 m c n (by omega)).2.2.2.2.2.2.2.1 (ix2 d q) = (A m c).P d (col 0 (cb ⟨n + 1, hn⟩) q) := by
        rw [e]; exact ih (by omega) d q
      rw [outsAt0_B m c ⟨n + 1, hn⟩ h0]
      exact hi

/-- The weights of half 0 a point that does not start a block of columns finds. -/
theorem wa_prev (t : Fin cfg0.N) (h0 : ¬t.val % 8 = 0) (hp : t.val - 1 < cfg0.N) :
    IsWt m c 0 t (outsAt0 m c (t.val - 1) hp).2.2.2.2.2.2.2.1 := by
  intro d q
  have e : cb t = cb ⟨t.val - 1, hp⟩ := Fin.ext (by show t.val / 8 = (t.val - 1) / 8; omega)
  rw [e]
  exact wa_at m c (t.val - 1) hp d q

theorem wb_at : ∀ (n : ℕ) (hn : n < cfg0.N), IsWt m c 1 ⟨n, hn⟩ (outsAt0 m c n hn).2.2.2.2.2.2.2.2 := by
  intro n
  induction n with
  | zero =>
    intro hn d q
    rw [outsAt0_A m c ⟨0, hn⟩ (by rfl)]
    frame_out
    exact wb_new m c ⟨0, hn⟩ d q
  | succ n ih =>
    intro hn d q
    by_cases h0 : (n + 1) % 8 = 0
    · rw [outsAt0_A m c ⟨n + 1, hn⟩ h0]
      frame_out
      exact wb_new m c ⟨n + 1, hn⟩ d q
    · have e : cb ⟨n + 1, hn⟩ = cb ⟨n, by omega⟩ := Fin.ext (by show (n + 1) / 8 = n / 8; omega)
      have hi : (outsAt0 m c n (by omega)).2.2.2.2.2.2.2.2 (ix2 d q) = (A m c).P d (col 1 (cb ⟨n + 1, hn⟩) q) := by
        rw [e]; exact ih (by omega) d q
      rw [outsAt0_B m c ⟨n + 1, hn⟩ h0]
      exact hi

/-- The weights of half 1 a point that does not start a block of columns finds. -/
theorem wb_prev (t : Fin cfg0.N) (h0 : ¬t.val % 8 = 0) (hp : t.val - 1 < cfg0.N) :
    IsWt m c 1 t (outsAt0 m c (t.val - 1) hp).2.2.2.2.2.2.2.2 := by
  intro d q
  have e : cb t = cb ⟨t.val - 1, hp⟩ := Fin.ext (by show t.val / 8 = (t.val - 1) / 8; omega)
  rw [e]
  exact wb_at m c (t.val - 1) hp d q

/-! ## The up-projection of a sub-block -/

variable {m c}

/-- The point's rows 0 to 255. -/
theorem up_lo {p : Fin 2} {t : Fin cfg0.N} {W} (hW : IsWt m c p t W) :
    IsUp (A m c) p (cb t) (row0 t)
      (k0_pay11 (View.ld (iblk m c 0 t) (Rect.unit ![0, 0] ![256, 1024] inb_S512x1024_S256x1024_0_0)) W) :=
  mm_at (by have := row0_le t; omega) (fun x d => ((ld_rows _ 0 (by omega) _ x d).trans (blk0 m c t _ d)).trans
    (congrArg (fun r => (A m c).H r d) (Fin.ext (by show row0 t + (0 + x.val) = row0 t + x.val; omega)))) hW

/-- The point's rows 256 to 511. -/
theorem up_hi {p : Fin 2} {t : Fin cfg0.N} {W} (hW : IsWt m c p t W) :
    IsUp (A m c) p (cb t) (row0 t + 256)
      (k0_pay11 (View.ld (iblk m c 0 t) (Rect.unit ![256, 0] ![256, 1024] inb_S512x1024_S256x1024_256_0)) W) :=
  mm_at (by have := row0_le t; omega) (fun x d => ((ld_rows _ 256 (by omega) _ x d).trans (blk0 m c t _ d)).trans
    (congrArg (fun r => (A m c).H r d) (Fin.ext (by show row0 t + (256 + x.val) = row0 t + 256 + x.val; omega)))) hW

/-- The three taps a point reads. -/
theorem w_of {t : Fin cfg0.N} {p : Fin 2} {X : Vec Ideal S1x3x704 .f32}
    (hX : ∀ (k : Fin 3) (q : Fin 704), X (ix3 0 k q) = (A m c).W k (col p (cb t) q)) (k : ℕ) (hk : k < 3) (inb) (q : Fin 704) :
    View.ld X (Rect.unit ![0, k, 0] ![1, 1, 704] inb) (ix3 0 0 q) = (A m c).W ⟨k, hk⟩ (col p (cb t) q) :=
  (ld_w X k hk inb q).trans (hX _ q)

variable (m c)

/-! ## The rows handed on -/

/-- The last eight rows of the point's up-projection, of half 0. -/
theorem halo_a (t : Fin cfg0.N) : IsHalo (A m c) 0 (cb t) (row0 t + 256 + 256) (outsAt0 m c t.val t.isLt).2.2.2.2.2.1 := by
  intro x q hx
  by_cases h0 : t.val % 8 = 0
  · rw [outsAt0_A m c t h0]
    frame_out
    simp only [mm_name25, mm_name26, end_name6]
    exact end_at (up_hi (wa_new m c t)) x q hx
  · rw [outsAt0_B m c t h0]
    frame_out
    simp only [read_unread_whole, mm_name25, mm_name26, end_name6]
    exact end_at (up_hi (wa_prev m c t h0 _)) x q hx

/-- The last eight rows of the point's up-projection, of half 1. -/
theorem halo_b (t : Fin cfg0.N) : IsHalo (A m c) 1 (cb t) (row0 t + 256 + 256) (outsAt0 m c t.val t.isLt).2.2.2.2.2.2.1 := by
  intro x q hx
  by_cases h0 : t.val % 8 = 0
  · rw [outsAt0_A m c t h0]
    frame_out
    simp only [mm_name25, mm_name26, end_name6]
    exact end_at (up_hi (wb_new m c t)) x q hx
  · rw [outsAt0_B m c t h0]
    frame_out
    simp only [read_unread_whole, mm_name25, mm_name26, end_name6]
    exact end_at (up_hi (wb_prev m c t h0 _)) x q hx

/-- The rows a point finds are the last ones before its own. -/
theorem halo_prev {p : Fin 2} {n : Vec Ideal S8x704 .f32} (t : Fin cfg0.N) (h0 : ¬t.val % 8 = 0) (hp : t.val - 1 < cfg0.N)
    (hn : IsHalo (A m c) p (cb ⟨t.val - 1, hp⟩) (row0 ⟨t.val - 1, hp⟩ + 256 + 256) n) : IsHalo (A m c) p (cb t) (row0 t) n := by
  have e : cb t = cb ⟨t.val - 1, hp⟩ := Fin.ext (by show t.val / 8 = (t.val - 1) / 8; omega)
  have er : row0 t = row0 ⟨t.val - 1, hp⟩ + 256 + 256 := by unfold row0; dsimp only; omega
  rw [e, er]
  exact hn

theorem row0_new (t : Fin cfg0.N) (h0 : t.val % 8 = 0) : row0 t = 0 := by unfold row0; omega

end Cert.Kernel3Ideal.Body

end
-- ==== Proof.UpOut.lean ====
/-
  The blocks of the five results that one grid point of the forward call writes: the up-projection of either half, the
  convolution of either half, and the gate's product.
-/
module

public import proofs.«01_k».proof.Proof.UpBody

@[expose] public section

set_option maxRecDepth 16384

noncomputable section

namespace Cert.Kernel3Ideal.Body

open Idealize.ShloMosaic Idealize.ShloMosaic.TcCoe Idealize.SL.Sem
open Cert.Kernel3Ideal Cert.Kernel3Ideal.Gen
open Cert.Ffn (col mid)

open Cert.KernelIdeal.Body (canon_load)

variable (m : (ℓ : Loc nD τ sig) → Buf (Elt Ideal) ℓ) (c : Dev nD)

/-- A block's 512 rows from its first and its last 256. -/
theorem rows_of {v : S1x512x704.Idx → EReal} {R : ℕ} {f : ℕ → Fin 704 → EReal}
    (hlo : ∀ (x : Fin 256) (q : Fin 704), v (ix3 0 ⟨0 + x.val, by omega⟩ q) = f (R + 0 + x.val) q)
    (hhi : ∀ (x : Fin 256) (q : Fin 704), v (ix3 0 ⟨256 + x.val, by omega⟩ q) = f (R + 256 + x.val) q)
    (x : Fin 512) (q : Fin 704) : v (ix3 0 x q) = f (R + x.val) q := by
  by_cases hx : x.val < 256
  · have e : x = ⟨0 + (⟨x.val, hx⟩ : Fin 256).val, by omega⟩ := Fin.ext (by show x.val = 0 + x.val; omega)
    rw [show R + x.val = R + 0 + (⟨x.val, hx⟩ : Fin 256).val from by show R + x.val = R + 0 + x.val; omega]
    exact (congrArg (fun z => v (ix3 0 z q)) e).trans (hlo ⟨x.val, hx⟩ q)
  · have e : x = ⟨256 + (⟨x.val - 256, by omega⟩ : Fin 256).val, by omega⟩ := Fin.ext (by show x.val = 256 + (x.val - 256); omega)
    rw [show R + x.val = R + 256 + (⟨x.val - 256, by omega⟩ : Fin 256).val from by show R + x.val = R + 256 + (x.val - 256); omega]
    exact (congrArg (fun z => v (ix3 0 z q)) e).trans (hhi ⟨x.val - 256, by omega⟩ q)

/-- Rows 256 to 511 of half 0 of the up-projection. -/
theorem ua_hi (t : Fin cfg0.N) (x : Fin 256) (q : Fin 704) :
    (outsAt0 m c t.val t.isLt).1 (ix3 0 ⟨256 + x.val, by omega⟩ q) = (A m c).up (row0 t + 256 + x.val + 2) (col 0 (cb t) q) := by
  by_cases h0 : t.val % 8 = 0
  · rw [outsAt0_A m c t h0]
    frame_out
    rw [canon_load (ms0_7 t).view _ (Rect.unit ![0, 256, 0] ![1, 256, 704] inb_S1x512x704_S1x256x704_0_256_0) (ix3 0 ⟨256 + x.val, by omega⟩ q) (ix3 0 x q) (idx_blk 256 (by omega) _ x q)]
    simp (disch := decide) only [↓ View.readCov_skip, ↓ View.readCov_cons_toLoadRect, ↓ View.readCov_fill, read_unread_whole]
    simp only [mm_name12, mm_name25, mm_name26, out_name13, out_name14, out_name27, out_name28, out_name21, out_name22, out_name3, conv_name19, conv_name32, conv_name1, gate_name4, end_name6]
    exact (cast_at _ x q).trans (up_hi (wa_new m c t) x q)
  · rw [outsAt0_B m c t h0]
    frame_out
    rw [canon_load (ms0_7 t).view _ (Rect.unit ![0, 256, 0] ![1, 256, 704] inb_S1x512x704_S1x256x704_0_256_0) (ix3 0 ⟨256 + x.val, by omega⟩ q) (ix3 0 x q) (idx_blk 256 (by omega) _ x q)]
    simp (disch := decide) only [↓ View.readCov_skip, ↓ View.readCov_cons_toLoadRect, ↓ View.readCov_fill, read_unread_whole]
    simp only [mm_name12, mm_name25, mm_name26, out_name13, out_name14, out_name27, out_name28, out_name21, out_name22, out_name3, conv_name19, conv_name32, conv_name1, gate_name4, end_name6]
    exact (cast_at _ x q).trans (up_hi (wa_prev m c t h0 (Nat.lt_of_le_of_lt (Nat.sub_le t.val 1) t.isLt)) x q)

/-- Rows 0 to 255 of half 0 of the up-projection. -/
theorem ua_lo (t : Fin cfg0.N) (x : Fin 256) (q : Fin 704) :
    (outsAt0 m c t.val t.isLt).1 (ix3 0 ⟨0 + x.val, by omega⟩ q) = (A m c).up (row0 t + 0 + x.val + 2) (col 0 (cb t) q) := by
  by_cases h0 : t.val % 8 = 0
  · rw [outsAt0_A m c t h0]
    frame_out
    rw [canon_load (ms0_7 t).view _ (Rect.unit ![0, 0, 0] ![1, 256, 704] inb_S1x512x704_S1x256x704_0_0_0) (ix3 0 ⟨0 + x.val, by omega⟩ q) (ix3 0 x q) (idx_blk 0 (by omega) _ x q)]
    simp (disch := decide) only [↓ View.readCov_skip, ↓ View.readCov_cons_toLoadRect, ↓ View.readCov_fill, read_unread_whole]
    simp only [mm_name12, mm_name25, mm_name26, out_name13, out_name14, out_name27, out_name28, out_name21, out_name22, out_name3, conv_name19, conv_name32, conv_name1, gate_name4, end_name6]
    exact (cast_at _ x q).trans (up_lo (wa_new m c t) x q)
  · rw [outsAt0_B m c t h0]
    frame_out
    rw [canon_load (ms0_7 t).view _ (Rect.unit ![0, 0, 0] ![1, 256, 704] inb_S1x512x704_S1x256x704_0_0_0) (ix3 0 ⟨0 + x.val, by omega⟩ q) (ix3 0 x q) (idx_blk 0 (by omega) _ x q)]
    simp (disch := decide) only [↓ View.readCov_skip, ↓ View.readCov_cons_toLoadRect, ↓ View.readCov_fill, read_unread_whole]
    simp only [mm_name12, mm_name25, mm_name26, out_name13, out_name14, out_name27, out_name28, out_name21, out_name22, out_name3, conv_name19, conv_name32, conv_name1, gate_name4, end_name6]
    exact (cast_at _ x q).trans (up_lo (wa_prev m c t h0 (Nat.lt_of_le_of_lt (Nat.sub_le t.val 1) t.isLt)) x q)

/-- The block of half 0 of the up-projection that a point writes. -/
theorem ua_block (t : Fin cfg0.N) (x : Fin 512) (q : Fin 704) :
    (outsAt0 m c t.val t.isLt).1 (ix3 0 x q) = (A m c).up (row0 t + x.val + 2) (col 0 (cb t) q) :=
  rows_of (R := row0 t) (f := fun r q => (A m c).up (r + 2) (col 0 (cb t) q)) (ua_lo m c t) (ua_hi m c t) x q

/-- Rows 256 to 511 of half 1 of the up-projection. -/
theorem ub_hi (t : Fin cfg0.N) (x : Fin 256) (q : Fin 704) :
    (outsAt0 m c t.val t.isLt).2.1 (ix3 0 ⟨256 + x.val, by omega⟩ q) = (A m c).up (row0 t + 256 + x.val + 2) (col 1 (cb t) q) := by
  by_cases h0 : t.val % 8 = 0
  · rw [outsAt0_A m c t h0]
    frame_out
    rw [canon_load (ms0_8 t).view _ (Rect.unit ![0, 256, 0] ![1, 256, 704] inb_S1x512x704_S1x256x704_0_256_0) (ix3 0 ⟨256 + x.val, by omega⟩ q) (ix3 0 x q) (idx_blk 256 (by omega) _ x q)]
    simp (disch := decide) only [↓ View.readCov_skip, ↓ View.readCov_cons_toLoadRect, ↓ View.readCov_fill, read_unread_whole]
    simp only [mm_name12, mm_name25, mm_name26, out_name13, out_name14, out_name27, out_name28, out_name21, out_name22, out_name3, conv_name19, conv_name32, conv_name1, gate_name4, end_name6]
    exact (cast_at _ x q).trans (up_hi (wb_new m c t) x q)
  · rw [outsAt0_B m c t h0]
    frame_out
    rw [canon_load (ms0_8 t).view _ (Rect.unit ![0, 256, 0] ![1, 256, 704] inb_S1x512x704_S1x256x704_0_256_0) (ix3 0 ⟨256 + x.val, by omega⟩ q) (ix3 0 x q) (idx_blk 256 (by omega) _ x q)]
    simp (disch := decide) only [↓ View.readCov_skip, ↓ View.readCov_cons_toLoadRect, ↓ View.readCov_fill, read_unread_whole]
    simp only [mm_name12, mm_name25, mm_name26, out_name13, out_name14, out_name27, out_name28, out_name21, out_name22, out_name3, conv_name19, conv_name32, conv_name1, gate_name4, end_name6]
    exact (cast_at _ x q).trans (up_hi (wb_prev m c t h0 (Nat.lt_of_le_of_lt (Nat.sub_le t.val 1) t.isLt)) x q)

/-- Rows 0 to 255 of half 1 of the up-projection. -/
theorem ub_lo (t : Fin cfg0.N) (x : Fin 256) (q : Fin 704) :
    (outsAt0 m c t.val t.isLt).2.1 (ix3 0 ⟨0 + x.val, by omega⟩ q) = (A m c).up (row0 t + 0 + x.val + 2) (col 1 (cb t) q) := by
  by_cases h0 : t.val % 8 = 0
  · rw [outsAt0_A m c t h0]
    frame_out
    rw [canon_load (ms0_8 t).view _ (Rect.unit ![0, 0, 0] ![1, 256, 704] inb_S1x512x704_S1x256x704_0_0_0) (ix3 0 ⟨0 + x.val, by omega⟩ q) (ix3 0 x q) (idx_blk 0 (by omega) _ x q)]
    simp (disch := decide) only [↓ View.readCov_skip, ↓ View.readCov_cons_toLoadRect, ↓ View.readCov_fill, read_unread_whole]
    simp only [mm_name12, mm_name25, mm_name26, out_name13, out_name14, out_name27, out_name28, out_name21, out_name22, out_name3, conv_name19, conv_name32, conv_name1, gate_name4, end_name6]
    exact (cast_at _ x q).trans (up_lo (wb_new m c t) x q)
  · rw [outsAt0_B m c t h0]
    frame_out
    rw [canon_load (ms0_8 t).view _ (Rect.unit ![0, 0, 0] ![1, 256, 704] inb_S1x512x704_S1x256x704_0_0_0) (ix3 0 ⟨0 + x.val, by omega⟩ q) (ix3 0 x q) (idx_blk 0 (by omega) _ x q)]
    simp (disch := decide) only [↓ View.readCov_skip, ↓ View.readCov_cons_toLoadRect, ↓ View.readCov_fill, read_unread_whole]
    simp only [mm_name12, mm_name25, mm_name26, out_name13, out_name14, out_name27, out_name28, out_name21, out_name22, out_name3, conv_name19, conv_name32, conv_name1, gate_name4, end_name6]
    exact (cast_at _ x q).trans (up_lo (wb_prev m c t h0 (Nat.lt_of_le_of_lt (Nat.sub_le t.val 1) t.isLt)) x q)

/-- The block of half 1 of the up-projection that a point writes. -/
theorem ub_block (t : Fin cfg0.N) (x : Fin 512) (q : Fin 704) :
    (outsAt0 m c t.val t.isLt).2.1 (ix3 0 x q) = (A m c).up (row0 t + x.val + 2) (col 1 (cb t) q) :=
  rows_of (R := row0 t) (f := fun r q => (A m c).up (r + 2) (col 1 (cb t) q)) (ub_lo m c t) (ub_hi m c t) x q

/-- Rows 256 to 511 of half 0 of the convolution. -/
theorem ya_hi (t : Fin cfg0.N) (x : Fin 256) (q : Fin 704) :
    (outsAt0 m c t.val t.isLt).2.2.1 (ix3 0 ⟨256 + x.val, by omega⟩ q) = (A m c).y (row0 t + 256 + x.val) (col 0 (cb t) q) := by
  by_cases h0 : t.val % 8 = 0
  · rw [outsAt0_A m c t h0]
    frame_out
    rw [canon_load (ms0_9 t).view _ (Rect.unit ![0, 256, 0] ![1, 256, 704] inb_S1x512x704_S1x256x704_0_256_0) (ix3 0 ⟨256 + x.val, by omega⟩ q) (ix3 0 x q) (idx_blk 256 (by omega) _ x q)]
    simp (disch := decide) only [↓ View.readCov_skip, ↓ View.readCov_cons_toLoadRect, ↓ View.readCov_fill, read_unread_whole]
    simp only [mm_name12, mm_name25, mm_name26, out_name13, out_name14, out_name27, out_name28, out_name21, out_name22, out_name3, conv_name19, conv_name32, conv_name1, gate_name4, end_name6]
    exact (cast_at _ x q).trans ((conv_at (up_hi (wa_new m c t)) (halo_at (up_lo (wa_new m c t))) (blk5 m c t) (w_of (blk3 m c t) 0 (by omega) _) (w_of (blk3 m c t) 1 (by omega) _) (w_of (blk3 m c t) 2 (by omega) _)) x q)
  · rw [outsAt0_B m c t h0]
    frame_out
    rw [canon_load (ms0_9 t).view _ (Rect.unit ![0, 256, 0] ![1, 256, 704] inb_S1x512x704_S1x256x704_0_256_0) (ix3 0 ⟨256 + x.val, by omega⟩ q) (ix3 0 x q) (idx_blk 256 (by omega) _ x q)]
    simp (disch := decide) only [↓ View.readCov_skip, ↓ View.readCov_cons_toLoadRect, ↓ View.readCov_fill, read_unread_whole]
    simp only [mm_name12, mm_name25, mm_name26, out_name13, out_name14, out_name27, out_name28, out_name21, out_name22, out_name3, conv_name19, conv_name32, conv_name1, gate_name4, end_name6]
    exact (cast_at _ x q).trans ((conv_at (up_hi (wa_prev m c t h0 (Nat.lt_of_le_of_lt (Nat.sub_le t.val 1) t.isLt))) (halo_at (up_lo (wa_prev m c t h0 (Nat.lt_of_le_of_lt (Nat.sub_le t.val 1) t.isLt)))) (blk5 m c t) (w_of (blk3 m c t) 0 (by omega) _) (w_of (blk3 m c t) 1 (by omega) _) (w_of (blk3 m c t) 2 (by omega) _)) x q)

/-- Rows 0 to 255 of half 0 of the convolution. -/
theorem ya_lo (t : Fin cfg0.N) (x : Fin 256) (q : Fin 704) :
    (outsAt0 m c t.val t.isLt).2.2.1 (ix3 0 ⟨0 + x.val, by omega⟩ q) = (A m c).y (row0 t + 0 + x.val) (col 0 (cb t) q) := by
  by_cases h0 : t.val % 8 = 0
  · rw [outsAt0_A m c t h0]
    frame_out
    rw [canon_load (ms0_9 t).view _ (Rect.unit ![0, 0, 0] ![1, 256, 704] inb_S1x512x704_S1x256x704_0_0_0) (ix3 0 ⟨0 + x.val, by omega⟩ q) (ix3 0 x q) (idx_blk 0 (by omega) _ x q)]
    simp (disch := decide) only [↓ View.readCov_skip, ↓ View.readCov_cons_toLoadRect, ↓ View.readCov_fill, read_unread_whole]
    simp only [mm_name12, mm_name25, mm_name26, out_name13, out_name14, out_name27, out_name28, out_name21, out_name22, out_name3, conv_name19, conv_name32, conv_name1, gate_name4, end_name6]
    exact (cast_at _ x q).trans ((conv_at (up_lo (wa_new m c t)) (halo_zero (row0_new t h0) zero_a) (blk5 m c t) (w_of (blk3 m c t) 0 (by omega) _) (w_of (blk3 m c t) 1 (by omega) _) (w_of (blk3 m c t) 2 (by omega) _)) x q)
  · rw [outsAt0_B m c t h0]
    frame_out
    rw [canon_load (ms0_9 t).view _ (Rect.unit ![0, 0, 0] ![1, 256, 704] inb_S1x512x704_S1x256x704_0_0_0) (ix3 0 ⟨0 + x.val, by omega⟩ q) (ix3 0 x q) (idx_blk 0 (by omega) _ x q)]
    simp (disch := decide) only [↓ View.readCov_skip, ↓ View.readCov_cons_toLoadRect, ↓ View.readCov_fill, read_unread_whole]
    simp only [mm_name12, mm_name25, mm_name26, out_name13, out_name14, out_name27, out_name28, out_name21, out_name22, out_name3, conv_name19, conv_name32, conv_name1, gate_name4, end_name6]
    exact (cast_at _ x q).trans ((conv_at (up_lo (wa_prev m c t h0 (Nat.lt_of_le_of_lt (Nat.sub_le t.val 1) t.isLt))) (halo_prev m c t h0 (Nat.lt_of_le_of_lt (Nat.sub_le t.val 1) t.isLt) (halo_a m c ⟨t.val - 1, _⟩)) (blk5 m c t) (w_of (blk3 m c t) 0 (by omega) _) (w_of (blk3 m c t) 1 (by omega) _) (w_of (blk3 m c t) 2 (by omega) _)) x q)

/-- The block of half 0 of the convolution that a point writes. -/
theorem ya_block (t : Fin cfg0.N) (x : Fin 512) (q : Fin 704) :
    (outsAt0 m c t.val t.isLt).2.2.1 (ix3 0 x q) = (A m c).y (row0 t + x.val) (col 0 (cb t) q) :=
  rows_of (R := row0 t) (f := fun r q => (A m c).y r (col 0 (cb t) q)) (ya_lo m c t) (ya_hi m c t) x q

/-- Rows 256 to 511 of half 1 of the convolution. -/
theorem yb_hi (t : Fin cfg0.N) (x : Fin 256) (q : Fin 704) :
    (outsAt0 m c t.val t.isLt).2.2.2.1 (ix3 0 ⟨256 + x.val, by omega⟩ q) = (A m c).y (row0 t + 256 + x.val) (col 1 (cb t) q) := by
  by_cases h0 : t.val % 8 = 0
  · rw [outsAt0_A m c t h0]
    frame_out
    rw [canon_load (ms0_10 t).view _ (Rect.unit ![0, 256, 0] ![1, 256, 704] inb_S1x512x704_S1x256x704_0_256_0) (ix3 0 ⟨256 + x.val, by omega⟩ q) (ix3 0 x q) (idx_blk 256 (by omega) _ x q)]
    simp (disch := decide) only [↓ View.readCov_skip, ↓ View.readCov_cons_toLoadRect, ↓ View.readCov_fill, read_unread_whole]
    simp only [mm_name12, mm_name25, mm_name26, out_name13, out_name14, out_name27, out_name28, out_name21, out_name22, out_name3, conv_name19, conv_name32, conv_name1, gate_name4, end_name6]
    exact (cast_at _ x q).trans ((conv_at (up_hi (wb_new m c t)) (halo_at (up_lo (wb_new m c t))) (blk6 m c t) (w_of (blk4 m c t) 0 (by omega) _) (w_of (blk4 m c t) 1 (by omega) _) (w_of (blk4 m c t) 2 (by omega) _)) x q)
  · rw [outsAt0_B m c t h0]
    frame_out
    rw [canon_load (ms0_10 t).view _ (Rect.unit ![0, 256, 0] ![1, 256, 704] inb_S1x512x704_S1x256x704_0_256_0) (ix3 0 ⟨256 + x.val, by omega⟩ q) (ix3 0 x q) (idx_blk 256 (by omega) _ x q)]
    simp (disch := decide) only [↓ View.readCov_skip, ↓ View.readCov_cons_toLoadRect, ↓ View.readCov_fill, read_unread_whole]
    simp only [mm_name12, mm_name25, mm_name26, out_name13, out_name14, out_name27, out_name28, out_name21, out_name22, out_name3, conv_name19, conv_name32, conv_name1, gate_name4, end_name6]
    exact (cast_at _ x q).trans ((conv_at (up_hi (wb_prev m c t h0 (Nat.lt_of_le_of_lt (Nat.sub_le t.val 1) t.isLt))) (halo_at (up_lo (wb_prev m c t h0 (Nat.lt_of_le_of_lt (Nat.sub_le t.val 1) t.isLt)))) (blk6 m c t) (w_of (blk4 m c t) 0 (by omega) _) (w_of (blk4 m c t) 1 (by omega) _) (w_of (blk4 m c t) 2 (by omega) _)) x q)

/-- Rows 0 to 255 of half 1 of the convolution. -/
theorem yb_lo (t : Fin cfg0.N) (x : Fin 256) (q : Fin 704) :
    (outsAt0 m c t.val t.isLt).2.2.2.1 (ix3 0 ⟨0 + x.val, by omega⟩ q) = (A m c).y (row0 t + 0 + x.val) (col 1 (cb t) q) := by
  by_cases h0 : t.val % 8 = 0
  · rw [outsAt0_A m c t h0]
    frame_out
    rw [canon_load (ms0_10 t).view _ (Rect.unit ![0, 0, 0] ![1, 256, 704] inb_S1x512x704_S1x256x704_0_0_0) (ix3 0 ⟨0 + x.val, by omega⟩ q) (ix3 0 x q) (idx_blk 0 (by omega) _ x q)]
    simp (disch := decide) only [↓ View.readCov_skip, ↓ View.readCov_cons_toLoadRect, ↓ View.readCov_fill, read_unread_whole]
    simp only [mm_name12, mm_name25, mm_name26, out_name13, out_name14, out_name27, out_name28, out_name21, out_name22, out_name3, conv_name19, conv_name32, conv_name1, gate_name4, end_name6]
    exact (cast_at _ x q).trans ((conv_at (up_lo (wb_new m c t)) (halo_zero (row0_new t h0) zero_b) (blk6 m c t) (w_of (blk4 m c t) 0 (by omega) _) (w_of (blk4 m c t) 1 (by omega) _) (w_of (blk4 m c t) 2 (by omega) _)) x q)
  · rw [outsAt0_B m c t h0]
    frame_out
    rw [canon_load (ms0_10 t).view _ (Rect.unit ![0, 0, 0] ![1, 256, 704] inb_S1x512x704_S1x256x704_0_0_0) (ix3 0 ⟨0 + x.val, by omega⟩ q) (ix3 0 x q) (idx_blk 0 (by omega) _ x q)]
    simp (disch := decide) only [↓ View.readCov_skip, ↓ View.readCov_cons_toLoadRect, ↓ View.readCov_fill, read_unread_whole]
    simp only [mm_name12, mm_name25, mm_name26, out_name13, out_name14, out_name27, out_name28, out_name21, out_name22, out_name3, conv_name19, conv_name32, conv_name1, gate_name4, end_name6]
    exact (cast_at _ x q).trans ((conv_at (up_lo (wb_prev m c t h0 (Nat.lt_of_le_of_lt (Nat.sub_le t.val 1) t.isLt))) (halo_prev m c t h0 (Nat.lt_of_le_of_lt (Nat.sub_le t.val 1) t.isLt) (halo_b m c ⟨t.val - 1, _⟩)) (blk6 m c t) (w_of (blk4 m c t) 0 (by omega) _) (w_of (blk4 m c t) 1 (by omega) _) (w_of (blk4 m c t) 2 (by omega) _)) x q)

/-- The block of half 1 of the convolution that a point writes. -/
theorem yb_block (t : Fin cfg0.N) (x : Fin 512) (q : Fin 704) :
    (outsAt0 m c t.val t.isLt).2.2.2.1 (ix3 0 x q) = (A m c).y (row0 t + x.val) (col 1 (cb t) q) :=
  rows_of (R := row0 t) (f := fun r q => (A m c).y r (col 1 (cb t) q)) (yb_lo m c t) (yb_hi m c t) x q

/-- Rows 256 to 511 of the gate's product. -/
theorem act_hi (t : Fin cfg0.N) (x : Fin 256) (q : Fin 704) :
    (outsAt0 m c t.val t.isLt).2.2.2.2.1 (ix3 0 ⟨256 + x.val, by omega⟩ q) = (A m c).act (row0 t + 256 + x.val) (cb t) q := by
  by_cases h0 : t.val % 8 = 0
  · rw [outsAt0_A m c t h0]
    frame_out
    rw [canon_load (ms0_11 t).view _ (Rect.unit ![0, 256, 0] ![1, 256, 704] inb_S1x512x704_S1x256x704_0_256_0) (ix3 0 ⟨256 + x.val, by omega⟩ q) (ix3 0 x q) (idx_blk 256 (by omega) _ x q)]
    simp (disch := decide) only [↓ View.readCov_skip, ↓ View.readCov_cons_toLoadRect, ↓ View.readCov_fill, read_unread_whole]
    simp only [mm_name12, mm_name25, mm_name26, out_name13, out_name14, out_name27, out_name28, out_name21, out_name22, out_name3, conv_name19, conv_name32, conv_name1, gate_name4, end_name6]
    exact gate_at (conv_at (up_hi (wa_new m c t)) (halo_at (up_lo (wa_new m c t))) (blk5 m c t) (w_of (blk3 m c t) 0 (by omega) _) (w_of (blk3 m c t) 1 (by omega) _) (w_of (blk3 m c t) 2 (by omega) _)) (conv_at (up_hi (wb_new m c t)) (halo_at (up_lo (wb_new m c t))) (blk6 m c t) (w_of (blk4 m c t) 0 (by omega) _) (w_of (blk4 m c t) 1 (by omega) _) (w_of (blk4 m c t) 2 (by omega) _)) x q
  · rw [outsAt0_B m c t h0]
    frame_out
    rw [canon_load (ms0_11 t).view _ (Rect.unit ![0, 256, 0] ![1, 256, 704] inb_S1x512x704_S1x256x704_0_256_0) (ix3 0 ⟨256 + x.val, by omega⟩ q) (ix3 0 x q) (idx_blk 256 (by omega) _ x q)]
    simp (disch := decide) only [↓ View.readCov_skip, ↓ View.readCov_cons_toLoadRect, ↓ View.readCov_fill, read_unread_whole]
    simp only [mm_name12, mm_name25, mm_name26, out_name13, out_name14, out_name27, out_name28, out_name21, out_name22, out_name3, conv_name19, conv_name32, conv_name1, gate_name4, end_name6]
    exact gate_at (conv_at (up_hi (wa_prev m c t h0 (Nat.lt_of_le_of_lt (Nat.sub_le t.val 1) t.isLt))) (halo_at (up_lo (wa_prev m c t h0 (Nat.lt_of_le_of_lt (Nat.sub_le t.val 1) t.isLt)))) (blk5 m c t) (w_of (blk3 m c t) 0 (by omega) _) (w_of (blk3 m c t) 1 (by omega) _) (w_of (blk3 m c t) 2 (by omega) _)) (conv_at (up_hi (wb_prev m c t h0 (Nat.lt_of_le_of_lt (Nat.sub_le t.val 1) t.isLt))) (halo_at (up_lo (wb_prev m c t h0 (Nat.lt_of_le_of_lt (Nat.sub_le t.val 1) t.isLt)))) (blk6 m c t) (w_of (blk4 m c t) 0 (by omega) _) (w_of (blk4 m c t) 1 (by omega) _) (w_of (blk4 m c t) 2 (by omega) _)) x q

/-- Rows 0 to 255 of the gate's product. -/
theorem act_lo (t : Fin cfg0.N) (x : Fin 256) (q : Fin 704) :
    (outsAt0 m c t.val t.isLt).2.2.2.2.1 (ix3 0 ⟨0 + x.val, by omega⟩ q) = (A m c).act (row0 t + 0 + x.val) (cb t) q := by
  by_cases h0 : t.val % 8 = 0
  · rw [outsAt0_A m c t h0]
    frame_out
    rw [canon_load (ms0_11 t).view _ (Rect.unit ![0, 0, 0] ![1, 256, 704] inb_S1x512x704_S1x256x704_0_0_0) (ix3 0 ⟨0 + x.val, by omega⟩ q) (ix3 0 x q) (idx_blk 0 (by omega) _ x q)]
    simp (disch := decide) only [↓ View.readCov_skip, ↓ View.readCov_cons_toLoadRect, ↓ View.readCov_fill, read_unread_whole]
    simp only [mm_name12, mm_name25, mm_name26, out_name13, out_name14, out_name27, out_name28, out_name21, out_name22, out_name3, conv_name19, conv_name32, conv_name1, gate_name4, end_name6]
    exact gate_at (conv_at (up_lo (wa_new m c t)) (halo_zero (row0_new t h0) zero_a) (blk5 m c t) (w_of (blk3 m c t) 0 (by omega) _) (w_of (blk3 m c t) 1 (by omega) _) (w_of (blk3 m c t) 2 (by omega) _)) (conv_at (up_lo (wb_new m c t)) (halo_zero (row0_new t h0) zero_b) (blk6 m c t) (w_of (blk4 m c t) 0 (by omega) _) (w_of (blk4 m c t) 1 (by omega) _) (w_of (blk4 m c t) 2 (by omega) _)) x q
  · rw [outsAt0_B m c t h0]
    frame_out
    rw [canon_load (ms0_11 t).view _ (Rect.unit ![0, 0, 0] ![1, 256, 704] inb_S1x512x704_S1x256x704_0_0_0) (ix3 0 ⟨0 + x.val, by omega⟩ q) (ix3 0 x q) (idx_blk 0 (by omega) _ x q)]
    simp (disch := decide) only [↓ View.readCov_skip, ↓ View.readCov_cons_toLoadRect, ↓ View.readCov_fill, read_unread_whole]
    simp only [mm_name12, mm_name25, mm_name26, out_name13, out_name14, out_name27, out_name28, out_name21, out_name22, out_name3, conv_name19, conv_name32, conv_name1, gate_name4, end_name6]
    exact gate_at (conv_at (up_lo (wa_prev m c t h0 (Nat.lt_of_le_of_lt (Nat.sub_le t.val 1) t.isLt))) (halo_prev m c t h0 (Nat.lt_of_le_of_lt (Nat.sub_le t.val 1) t.isLt) (halo_a m c ⟨t.val - 1, _⟩)) (blk5 m c t) (w_of (blk3 m c t) 0 (by omega) _) (w_of (blk3 m c t) 1 (by omega) _) (w_of (blk3 m c t) 2 (by omega) _)) (conv_at (up_lo (wb_prev m c t h0 (Nat.lt_of_le_of_lt (Nat.sub_le t.val 1) t.isLt))) (halo_prev m c t h0 (Nat.lt_of_le_of_lt (Nat.sub_le t.val 1) t.isLt) (halo_b m c ⟨t.val - 1, _⟩)) (blk6 m c t) (w_of (blk4 m c t) 0 (by omega) _) (w_of (blk4 m c t) 1 (by omega) _) (w_of (blk4 m c t) 2 (by omega) _)) x q

/-- The block of the gate's product that a point writes. -/
theorem act_block (t : Fin cfg0.N) (x : Fin 512) (q : Fin 704) :
    (outsAt0 m c t.val t.isLt).2.2.2.2.1 (ix3 0 x q) = (A m c).act (row0 t + x.val) (cb t) q :=
  rows_of (R := row0 t) (f := fun r q => (A m c).act r (cb t) q) (act_lo m c t) (act_hi m c t) x q

end Cert.Kernel3Ideal.Body

end
-- ==== Proof.UpFinal.lean ====
/-
  The forward kernel's five results as whole arrays: every point writes its own block back, and the blocks tile the
  arrays.
-/
module

public import proofs.«01_k».proof.Proof.UpOut

@[expose] public section

set_option maxRecDepth 16384

noncomputable section

namespace Cert.Kernel3Ideal.Body

open Idealize.ShloMosaic Idealize.ShloMosaic.TcCoe Idealize.SL.Sem
open Cert.Kernel3Ideal Cert.Kernel3Ideal.Gen
open Cert.Ffn (col mid)

open Cert.Reference3Ideal.Terms (out0 out1 out2 out3 out4 out0_at out1_at out2_at out3_at out4_at)

variable (m : (ℓ : Loc nD τ sig) → Buf (Elt Ideal) ℓ) (c : Dev nD)

theorem emb7 (t : Fin cfg0.N) (x : Fin 512) (q : Fin 704) : (win0_7.blk t).view.emb (ix3 0 x q) = ix3 (cb t) (row t x) q := by
  have ht := lt32 t
  unfold cb row row0
  blk_ext [idx t]

/-- Result 0. -/
theorem final0 : (dats m 0 c).arrAt 7 cfg0.N = out0 (b0 m c) (b1 m c) := by
  refine (dats m 0 c).arrAt_eq_of_covers 7 _ (by decide +kernel) fun t hf y => ?_
  blk_simp
  rw [after0_7]
  obtain ⟨y0, x, q, rfl⟩ : ∃ (y0 : Fin 1) (x : Fin 512) (q : Fin 704), y = ix3 y0 x q := ⟨_, _, _, (ix3_eta y).symm⟩
  obtain rfl : y0 = 0 := Subsingleton.elim _ _
  rw [emb7 t x q]
  exact ((ua_block m c t x q).trans ((A m c).up_add (row t x) _ rfl _)).trans (out0_at _ _ (b2 m c) (b3 m c) (cb t) (row t x) q).symm

theorem emb8 (t : Fin cfg0.N) (x : Fin 512) (q : Fin 704) : (win0_8.blk t).view.emb (ix3 0 x q) = ix3 (cb t) (row t x) q := by
  have ht := lt32 t
  unfold cb row row0
  blk_ext [idx t]

/-- Result 1. -/
theorem final1 : (dats m 0 c).arrAt 8 cfg0.N = out1 (b0 m c) (b1 m c) := by
  refine (dats m 0 c).arrAt_eq_of_covers 8 _ (by decide +kernel) fun t hf y => ?_
  blk_simp
  rw [after0_8]
  obtain ⟨y0, x, q, rfl⟩ : ∃ (y0 : Fin 1) (x : Fin 512) (q : Fin 704), y = ix3 y0 x q := ⟨_, _, _, (ix3_eta y).symm⟩
  obtain rfl : y0 = 0 := Subsingleton.elim _ _
  rw [emb8 t x q]
  exact ((ub_block m c t x q).trans ((A m c).up_add (row t x) _ rfl _)).trans (out1_at _ _ (b2 m c) (b3 m c) (cb t) (row t x) q).symm

theorem emb9 (t : Fin cfg0.N) (x : Fin 512) (q : Fin 704) : (win0_9.blk t).view.emb (ix3 0 x q) = ix3 (cb t) (row t x) q := by
  have ht := lt32 t
  unfold cb row row0
  blk_ext [idx t]

/-- Result 2. -/
theorem final2 : (dats m 0 c).arrAt 9 cfg0.N = out2 (b0 m c) (b1 m c) (b2 m c) (b3 m c) := by
  refine (dats m 0 c).arrAt_eq_of_covers 9 _ (by decide +kernel) fun t hf y => ?_
  blk_simp
  rw [after0_9]
  obtain ⟨y0, x, q, rfl⟩ : ∃ (y0 : Fin 1) (x : Fin 512) (q : Fin 704), y = ix3 y0 x q := ⟨_, _, _, (ix3_eta y).symm⟩
  obtain rfl : y0 = 0 := Subsingleton.elim _ _
  rw [emb9 t x q]
  exact ((ya_block m c t x q)).trans (out2_at _ _ _ _ (cb t) (row t x) q).symm

theorem emb10 (t : Fin cfg0.N) (x : Fin 512) (q : Fin 704) : (win0_10.blk t).view.emb (ix3 0 x q) = ix3 (cb t) (row t x) q := by
  have ht := lt32 t
  unfold cb row row0
  blk_ext [idx t]

/-- Result 3. -/
theorem final3 : (dats m 0 c).arrAt 10 cfg0.N = out3 (b0 m c) (b1 m c) (b2 m c) (b3 m c) := by
  refine (dats m 0 c).arrAt_eq_of_covers 10 _ (by decide +kernel) fun t hf y => ?_
  blk_simp
  rw [after0_10]
  obtain ⟨y0, x, q, rfl⟩ : ∃ (y0 : Fin 1) (x : Fin 512) (q : Fin 704), y = ix3 y0 x q := ⟨_, _, _, (ix3_eta y).symm⟩
  obtain rfl : y0 = 0 := Subsingleton.elim _ _
  rw [emb10 t x q]
  exact ((yb_block m c t x q)).trans (out3_at _ _ _ _ (cb t) (row t x) q).symm

theorem emb11 (t : Fin cfg0.N) (x : Fin 512) (q : Fin 704) : (win0_11.blk t).view.emb (ix3 0 x q) = ix3 (cb t) (row t x) q := by
  have ht := lt32 t
  unfold cb row row0
  blk_ext [idx t]

/-- Result 4. -/
theorem final4 : (dats m 0 c).arrAt 11 cfg0.N = out4 (b0 m c) (b1 m c) (b2 m c) (b3 m c) := by
  refine (dats m 0 c).arrAt_eq_of_covers 11 _ (by decide +kernel) fun t hf y => ?_
  blk_simp
  rw [after0_11]
  obtain ⟨y0, x, q, rfl⟩ : ∃ (y0 : Fin 1) (x : Fin 512) (q : Fin 704), y = ix3 y0 x q := ⟨_, _, _, (ix3_eta y).symm⟩
  obtain rfl : y0 = 0 := Subsingleton.elim _ _
  rw [emb11 t x q]
  exact ((act_block m c t x q)).trans (out4_at _ _ _ _ (cb t) (row t x) q).symm

end Cert.Kernel3Ideal.Body

end
-- ==== Proof.DownTerms.lean ====
/-
  The fourth reference's five results, layer by layer: its own lines as functions of the seven arguments. The layers of the
  root-mean-square norm are those of the second reference.
-/
module

public import proofs.«01_k».proof.Proof.Gen.Reference4Ideal
public import proofs.«01_k».proof.Proof.NormTerms

@[expose] public section

set_option maxRecDepth 16384

noncomputable section

namespace Cert.Reference4Ideal.Terms

open Idealize.ShloMosaic Idealize.ShloMosaic.TcCoe Idealize.SL.Sem
open Cert.Reference4Ideal Cert.Reference4Ideal.Gen Cert.Reference4Ideal.Facts
open Cert.Reference2Ideal.Terms (rows cols rowSums colSums rsq scaled slopes)

section Layers

/-- The factor in front of the loss, over the number of columns. -/
def weight : FVec Ideal S4096 .f32 :=
  Host.divf (broadcastInDim S4096 ![] bcast_S_S4096 (mulf (constant S_ .f32 0x3F000000#32) (constant S_ .f32 0x3F800000#32)))
    (broadcastInDim S4096 ![] bcast_S_S4096 (constant S_ .f32 0x44800000#32))
/-- The error's square, differentiated and weighted. -/
def weighted (e : FVec Ideal S4096x1024 .f32) : FVec Ideal S4096x1024 .f32 :=
  mulf (broadcastInDim S4096x1024 ![0] bcast_S4096_S4096x1024_0 weight)
    (mulf (broadcastInDim S4096x1024 ![] bcast_S_S4096x1024 (constant S_ .f32 0x40000000#32)) e)
/-- Half the sum over the rows of a row's mean square. -/
def total (e : FVec Ideal S4096x1024 .f32) : FVec Ideal S_ .f32 :=
  mulf (constant S_ .f32 0x3F000000#32)
    (Host.reduceAdd (Host.divf (rowSums (mulf e e)) (broadcastInDim S4096 ![] bcast_S_S4096 (constant S_ .f32 0x44800000#32)))
      (constant S_ .f32 0x00000000#32) reducesTo_S4096_S_d0 h_S_)
/-- The chain rule's form of the gradient `v` at the scaled rows taken back to the rows `x`. -/
def backs (x v : FVec Ideal S4096x1024 .f32) : FVec Ideal S4096x1024 .f32 :=
  addf (addf (mulf v (cols (rsq x))) (mulf x (slopes x v))) (mulf (slopes x v) x)

variable (a : FVec Ideal S4096x2816 .bf16) (wd : FVec Ideal S2816x1024 .f32) (x tg : FVec Ideal S4096x1024 .f32)
  (ad ba : FVec Ideal S6x1024 .f32) (g : FVec Ideal S1x1024 .f32)

/-- The gate. -/
def gate : FVec Ideal S1x1024 .f32 := extractStridedSlice S1x1024 ![5, 0] (addf ad ba) slices_S6x1024_S1x1024_5_0
/-- The down-projection. -/
def down : FVec Ideal S4096x1024 .f32 := Host.dotGeneral dot_S4096x2816_S2816x1024_S4096x1024_1_0_0_1_n_n none (extf .f32 a bitsLt_bf16_f32) wd
/-- Its weighted norm. -/
def normed : FVec Ideal S4096x1024 .f32 := mulf (scaled (down a wd)) (rows g)
/-- The error. -/
def err : FVec Ideal S4096x1024 .f32 := subf (addf x (mulf (rows (gate ad ba)) (normed a wd g))) tg

/-- Result 0: the gradient at the layer's result. -/
def out0 : FVec Ideal S4096x1024 .f32 := weighted (err a wd x tg ad ba g)
/-- The gradient at the norm's weighted rows. -/
def dnt : FVec Ideal S4096x1024 .f32 := mulf (rows (gate ad ba)) (out0 a wd x tg ad ba g)
/-- The gradient at the norm's scaled rows. -/
def dns : FVec Ideal S4096x1024 .f32 := mulf (dnt a wd x tg ad ba g) (rows g)
/-- Result 1: the gradient at the down-projection. -/
def out1 : FVec Ideal S4096x1024 .bf16 := truncf .bf16 (backs (down a wd) (dns a wd x tg ad ba g)) bitsLt_bf16_f32
/-- Result 2: the loss. -/
def out2 : FVec Ideal S1x128 .f32 := broadcastInDim S1x128 ![] bcast_S_S1x128 (total (err a wd x tg ad ba g))
/-- Result 3: the gradient at the gate. -/
def out3 : FVec Ideal S1x1024 .f32 := colSums (mulf (out0 a wd x tg ad ba g) (normed a wd g))
/-- Result 4: the gradient at the norm's weights. -/
def out4 : FVec Ideal S1x1024 .f32 := colSums (mulf (scaled (down a wd)) (dnt a wd x tg ad ba g))

end Layers

end Cert.Reference4Ideal.Terms

end
-- ==== Proof.DownRun.lean ====
/-
  The fourth reference's run, its five results by their names.
-/
module

public import proofs.«01_k».proof.Proof.Gen.Reference4Ideal.Run
public import proofs.«01_k».proof.Proof.DownTerms

@[expose] public section

set_option maxRecDepth 16384

noncomputable section

namespace Cert.Reference4Ideal.Terms

open Idealize.ShloMosaic Idealize.ShloMosaic.TcCoe Idealize.SL.Sem
open Cert.Reference4Ideal Cert.Reference4Ideal.Gen Cert.Reference4Ideal.Facts

section Run

variable (m : (ℓ : Loc nD τ sig) → Buf (Elt Ideal) ℓ) (c : Dev nD)

/-- Argument `0` of the reference on a device. -/
abbrev a0 : FVec Ideal S4096x2816 .bf16 := m ((c.tc : Thread nD τ).loc main_arg0)
/-- Argument `1` of the reference on a device. -/
abbrev a1 : FVec Ideal S2816x1024 .f32 := m ((c.tc : Thread nD τ).loc main_arg1)
/-- Argument `2` of the reference on a device. -/
abbrev a2 : FVec Ideal S4096x1024 .f32 := m ((c.tc : Thread nD τ).loc main_arg2)
/-- Argument `3` of the reference on a device. -/
abbrev a3 : FVec Ideal S4096x1024 .f32 := m ((c.tc : Thread nD τ).loc main_arg3)
/-- Argument `4` of the reference on a device. -/
abbrev a4 : FVec Ideal S6x1024 .f32 := m ((c.tc : Thread nD τ).loc main_arg4)
/-- Argument `5` of the reference on a device. -/
abbrev a5 : FVec Ideal S6x1024 .f32 := m ((c.tc : Thread nD τ).loc main_arg5)
/-- Argument `6` of the reference on a device. -/
abbrev a6 : FVec Ideal S1x1024 .f32 := m ((c.tc : Thread nD τ).loc main_arg6)

set_option maxHeartbeats 2000000 in
/-- The reference's run, its results by their names here. -/
theorem run_outs (ρ : Dev nD → PrngReg) :
    θ_run defs (onTc (τ := τ) (main (F := Ideal))) ⟨m, fun _ => 0, ρ⟩ fun r => ∀ c : Dev nD,
      r.2.mem ((c.tc : Thread nD τ).loc main_v36) = out0 (a0 m c) (a1 m c) (a2 m c) (a3 m c) (a4 m c) (a5 m c) (a6 m c)
      ∧ r.2.mem ((c.tc : Thread nD τ).loc main_v61) = out1 (a0 m c) (a1 m c) (a2 m c) (a3 m c) (a4 m c) (a5 m c) (a6 m c)
      ∧ r.2.mem ((c.tc : Thread nD τ).loc main_v62) = out2 (a0 m c) (a1 m c) (a2 m c) (a3 m c) (a4 m c) (a5 m c) (a6 m c)
      ∧ r.2.mem ((c.tc : Thread nD τ).loc main_v41) = out3 (a0 m c) (a1 m c) (a2 m c) (a3 m c) (a4 m c) (a5 m c) (a6 m c)
      ∧ r.2.mem ((c.tc : Thread nD τ).loc main_v44) = out4 (a0 m c) (a1 m c) (a2 m c) (a3 m c) (a4 m c) (a5 m c) (a6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun r h c => ⟨(h c).1, (h c).2.1, (h c).2.2.1, (h c).2.2.2.1, (h c).2.2.2.2.1, (h c).2.2.2.2.2⟩)
    (Value.run m ρ)

end Run

end Cert.Reference4Ideal.Terms

end
-- ==== Proof.DownSpec.lean ====
/-
  The forward call through the down-projection, its norm and the loss, as formulas on coordinates: a row `r` of the 4096
  and a column `d` of the 1024. The loss is half the sum over the rows of a row's mean squared error, and the call also
  returns the loss's gradients at the stream, at the down-projection, at the gate and at the norm's weights.
-/
module

public import proofs.«01_k».proof.Proof.NormSpec

@[expose] public section

noncomputable section

namespace Cert.Ffn

/-- The difference of two numbers is a number. -/
theorem IsNum.sub {x y : EReal} (hx : IsNum x) (hy : IsNum y) : IsNum (x - y) := by
  obtain ⟨a, rfl⟩ := hx; obtain ⟨b, rfl⟩ := hy
  exact ⟨a - b, (EReal.coe_sub a b).symm⟩

end Cert.Ffn

namespace Cert.Down

open Idealize.ShloMosaic
open Cert.Ffn (IsNum)
open Cert.Norm (hat back width)

/-- The factor in front of the loss. -/
def half : EReal := Ideal.ofBits .f32 0x3F000000#32
/-- One over the number of columns, as the kernel writes it. -/
def per : EReal := Ideal.ofBits .f32 0x3A800000#32

theorem half_eq : half = ((1 / 2 : ℝ) : EReal) := by
  unfold half
  simp [Ideal.ofBits, Ideal.ieee]
  rw [← EReal.coe_mul]
  norm_num

theorem per_eq : per = ((1 / 1024 : ℝ) : EReal) := by
  unfold per
  simp [Ideal.ofBits, Ideal.ieee]
  rw [← EReal.coe_mul]
  norm_num

/-- The factor in front of a row's squared error, differentiated: half of one over the number of columns, times two. -/
theorem per_forms (x : EReal) :
    Ideal.div (half * Ideal.ofBits .f32 0x3F800000#32) width * (Ideal.ofBits .f32 0x40000000#32 * x) = x * per := by
  have h1 : Ideal.ofBits .f32 0x3F800000#32 = ((1 : ℝ) : EReal) := by
    simp [Ideal.ofBits, Ideal.ieee]
    try (rw [← EReal.coe_mul]; norm_num)
  have h2 : Ideal.ofBits .f32 0x40000000#32 = ((2 : ℝ) : EReal) := by
    simp [Ideal.ofBits, Ideal.ieee]
    try (rw [← EReal.coe_mul]; norm_num)
  rw [← mul_assoc, mul_comm x, h1, h2, half_eq, per_eq, Cert.Norm.width_eq, ← EReal.coe_mul, Cert.Norm.div_coe (by norm_num), ← EReal.coe_mul]
  norm_num

/-- A nonnegative number goes into a sum. -/
theorem half_sum {n : ℕ} (f : Fin n → EReal) : half * ∑ x, f x = ∑ x, half * f x := by
  rw [half_eq]
  induction (Finset.univ : Finset (Fin n)) using Finset.induction_on with
  | empty => simp
  | insert a s ha ih =>
    rw [Finset.sum_insert ha, Finset.sum_insert ha,
      EReal.left_distrib_of_nonneg_of_ne_top (by exact_mod_cast (by norm_num : (0 : ℝ) ≤ 1 / 2)) (EReal.coe_ne_top _), ih]

/-- The arrays the call's five results are functions of: the down-projection `F`, the stream `X`, the target `T`, the gate
    `gt` and the norm's weights `g`. -/
structure Arrays where
  F : Fin 4096 → Fin 1024 → EReal
  X : Fin 4096 → Fin 1024 → EReal
  T : Fin 4096 → Fin 1024 → EReal
  gt : Fin 1024 → EReal
  g : Fin 1024 → EReal

/-- The arrays hold numbers. -/
structure Arrays.Num (A : Arrays) : Prop where
  F : ∀ r d, IsNum (A.F r d)
  X : ∀ r d, IsNum (A.X r d)
  T : ∀ r d, IsNum (A.T r d)
  gt : ∀ d, IsNum (A.gt d)
  g : ∀ d, IsNum (A.g d)

namespace Arrays

variable (A : Arrays)

/-- The weighted norm of the down-projection. -/
def nr (r : Fin 4096) (d : Fin 1024) : EReal := hat (A.F r) d * A.g d
/-- The error. -/
def er (r : Fin 4096) (d : Fin 1024) : EReal := A.X r d + A.gt d * A.nr r d - A.T r d
/-- A row's share of the loss. -/
def ls (r : Fin 4096) : EReal := half * Ideal.div (∑ d, A.er r d * A.er r d) width
/-- The gradient at the layer's result. -/
def dy (r : Fin 4096) (d : Fin 1024) : EReal := A.er r d * per
/-- The gradient at the norm's weighted row. -/
def dn (r : Fin 4096) (d : Fin 1024) : EReal := A.dy r d * A.gt d
/-- The gradient at the norm's scaled row. -/
def dh (r : Fin 4096) (d : Fin 1024) : EReal := A.dn r d * A.g d
/-- The gradient at the down-projection. -/
def df (r : Fin 4096) (d : Fin 1024) : EReal := back (A.F r) (A.dh r) d
/-- A row's share of the gradient at the gate. -/
def rgt (r : Fin 4096) (d : Fin 1024) : EReal := A.dy r d * A.nr r d
/-- A row's share of the gradient at the norm's weights. -/
def rg (r : Fin 4096) (d : Fin 1024) : EReal := A.dn r d * hat (A.F r) d

variable {A}

theorem Num.dh (h : A.Num) (r : Fin 4096) (d : Fin 1024) : IsNum (A.dh r d) :=
  (((((h.X r d).add ((h.gt d).mul ((Cert.Norm.hat_num (h.F r) d).mul (h.g d)))).sub (h.T r d)).mul ⟨_, per_eq⟩).mul (h.gt d)).mul (h.g d)

end Arrays

end Cert.Down

end
-- ==== Proof.DownRef.lean ====
/-
  The fourth reference's five results read at an index: they are the formulas of `Cert.Down.Arrays`.
-/
module

public import proofs.«01_k».proof.Proof.DownTerms
public import proofs.«01_k».proof.Proof.DownSpec
public import proofs.«01_k».proof.Proof.NormRef

@[expose] public section

set_option maxRecDepth 16384

noncomputable section

namespace Cert.Reference4Ideal.Terms

open Idealize.ShloMosaic Idealize.ShloMosaic.TcCoe Idealize.SL.Sem
open Cert.Reference4Ideal Cert.Reference4Ideal.Gen Cert.Reference4Ideal.Facts
open Cert.Reference2Ideal.Terms (rows cols rowSums colSums rsq scaled slopes rows_at cols_at rsq_at scaled_at slopes_at colSums_at)
open Cert.Norm (hat back rs)

section Read

theorem weighted_at (e : FVec Ideal S4096x1024 .f32) (r : Fin 4096) (d : Fin 1024) : weighted e (ix2 r d) = e (ix2 r d) * Cert.Down.per := by
  rw [← Cert.Down.per_forms]
  unfold Cert.Down.half Cert.Norm.width
  pointwise [weighted, weight]

theorem total_at (e : FVec Ideal S4096x1024 .f32) (k : Fin 128) :
    (broadcastInDim S1x128 ![] bcast_S_S1x128 (total e) : FVec Ideal S1x128 .f32) (ix2 0 k)
      = Cert.Down.half * ∑ r : Fin 4096, Ideal.div (∑ d : Fin 1024, e (ix2 r d) * e (ix2 r d)) Cert.Norm.width := by
  unfold Cert.Down.half Cert.Norm.width
  pointwise [total, rowSums]

theorem backs_at {x v : FVec Ideal S4096x1024 .f32} {X V : Fin 1024 → EReal} (r : Fin 4096) (hx : ∀ d, x (ix2 r d) = X d)
    (hv : ∀ d, v (ix2 r d) = V d) (nx : ∀ d, Cert.Ffn.IsNum (X d)) (nv : ∀ d, Cert.Ffn.IsNum (V d)) (d : Fin 1024) :
    backs x v (ix2 r d) = back X V d := by
  obtain rfl : (fun d => x (ix2 r d)) = X := funext hx
  obtain rfl : (fun d => v (ix2 r d)) = V := funext hv
  have e1 : cols (rsq x) (ix2 r d) = rs fun d => x (ix2 r d) := (cols_at _ r d).trans (rsq_at _ r)
  show v (ix2 r d) * cols (rsq x) (ix2 r d) + x (ix2 r d) * slopes x v (ix2 r d) + slopes x v (ix2 r d) * x (ix2 r d) = _
  rw [e1, slopes_at]
  exact Cert.Norm.vjp_eq nx nv d

variable (a : FVec Ideal S4096x2816 .bf16) (wd : FVec Ideal S2816x1024 .f32) (x tg : FVec Ideal S4096x1024 .f32)
  (ad ba : FVec Ideal S6x1024 .f32) (g : FVec Ideal S1x1024 .f32)

/-- The arrays the results are functions of. -/
def arrays : Cert.Down.Arrays where
  F r d := ∑ C : Fin 2816, a (ix2 r C) * wd (ix2 C d)
  X r d := x (ix2 r d)
  T r d := tg (ix2 r d)
  gt d := ad (ix2 5 d) + ba (ix2 5 d)
  g d := g (ix2 0 d)

theorem gate_at (d : Fin 1024) : gate ad ba (ix2 0 d) = ad (ix2 5 d) + ba (ix2 5 d) := by pointwise [gate]

theorem down_at (r : Fin 4096) (d : Fin 1024) : down a wd (ix2 r d) = (arrays a wd x tg ad ba g).F r d := by
  show _ = ∑ C : Fin 2816, a (ix2 r C) * wd (ix2 C d)
  pointwise [down]

theorem hat_at (r : Fin 4096) (d : Fin 1024) : scaled (down a wd) (ix2 r d) = hat ((arrays a wd x tg ad ba g).F r) d :=
  (scaled_at _ r d).trans (congrArg (fun f => hat f d) (funext (down_at a wd x tg ad ba g r)))

theorem normed_at (r : Fin 4096) (d : Fin 1024) : normed a wd g (ix2 r d) = (arrays a wd x tg ad ba g).nr r d :=
  congrArg₂ (· * ·) (hat_at a wd x tg ad ba g r d) (rows_at g r d)

theorem err_at (r : Fin 4096) (d : Fin 1024) : err a wd x tg ad ba g (ix2 r d) = (arrays a wd x tg ad ba g).er r d :=
  congrArg (x (ix2 r d) + · - tg (ix2 r d))
    (congrArg₂ (· * ·) ((rows_at _ r d).trans (gate_at ad ba d)) (normed_at a wd x tg ad ba g r d))

theorem out0_eq (r : Fin 4096) (d : Fin 1024) : out0 a wd x tg ad ba g (ix2 r d) = (arrays a wd x tg ad ba g).dy r d :=
  (weighted_at _ r d).trans (congrArg (· * Cert.Down.per) (err_at a wd x tg ad ba g r d))

theorem dnt_at (r : Fin 4096) (d : Fin 1024) : dnt a wd x tg ad ba g (ix2 r d) = (arrays a wd x tg ad ba g).dn r d :=
  (congrArg₂ (· * ·) ((rows_at _ r d).trans (gate_at ad ba d)) (out0_eq a wd x tg ad ba g r d)).trans (mul_comm _ _)

theorem dns_at (r : Fin 4096) (d : Fin 1024) : dns a wd x tg ad ba g (ix2 r d) = (arrays a wd x tg ad ba g).dh r d :=
  congrArg₂ (· * ·) (dnt_at a wd x tg ad ba g r d) (rows_at _ r d)

theorem out1_eq (hA : (arrays a wd x tg ad ba g).Num) (r : Fin 4096) (d : Fin 1024) :
    out1 a wd x tg ad ba g (ix2 r d) = (arrays a wd x tg ad ba g).df r d :=
  backs_at r (down_at a wd x tg ad ba g r) (dns_at a wd x tg ad ba g r) (hA.F r) (hA.dh r) d

theorem out2_eq (k : Fin 128) : out2 a wd x tg ad ba g (ix2 0 k) = ∑ r, (arrays a wd x tg ad ba g).ls r := by
  refine (total_at _ k).trans ((Cert.Down.half_sum _).trans (Finset.sum_congr rfl fun r _ => ?_))
  unfold Cert.Down.Arrays.ls
  simp only [err_at a wd x tg ad ba g]

theorem out3_eq (d : Fin 1024) : out3 a wd x tg ad ba g (ix2 0 d) = ∑ r, (arrays a wd x tg ad ba g).rgt r d :=
  (colSums_at _ d).trans (Finset.sum_congr rfl fun r _ => congrArg₂ (· * ·) (out0_eq a wd x tg ad ba g r d) (normed_at a wd x tg ad ba g r d))

theorem out4_eq (d : Fin 1024) : out4 a wd x tg ad ba g (ix2 0 d) = ∑ r, (arrays a wd x tg ad ba g).rg r d :=
  (colSums_at _ d).trans (Finset.sum_congr rfl fun r _ =>
    (congrArg₂ (· * ·) (hat_at a wd x tg ad ba g r d) (dnt_at a wd x tg ad ba g r d)).trans (mul_comm _ _))

end Read

end Cert.Reference4Ideal.Terms

end
-- ==== Proof.DownBlocks.lean ====
/-
  The blocks the fourth kernel reads at a grid point, as the arrays of `Cert.Down.Arrays`: point `t` works on the 512 rows
  from row `512 t`, and reads the columns of the gate's product in four groups of 704.
-/
module

public import proofs.«01_k».proof.Proof.Gen.Kernel4Ideal.Value
public import proofs.«01_k».proof.Proof.DownRef
public import proofs.«01_k».proof.Proof.Spec
public import Idealize.ShloMosaic.Lib.Pointwise
public import Idealize.ShloMosaic.Lib.Claim
public import Idealize.ShloMosaic.Lib.StableHlo.RunRead
public import Idealize.ShloMosaic.Lib.Pipeline.ValueKit

@[expose] public section

set_option maxRecDepth 16384

noncomputable section

namespace Cert.Kernel4Ideal.Body

open Idealize.ShloMosaic Idealize.ShloMosaic.TcCoe Idealize.SL.Sem
open Cert.Kernel4Ideal Cert.Kernel4Ideal.Gen
open Cert.Ffn (mid)

variable (m : (ℓ : Loc nD τ sig) → Buf (Elt Ideal) ℓ) (c : Dev nD)

/-- Argument `0` of the kernel on a device. -/
abbrev b0 : FVec Ideal S4096x2816 .bf16 := m ((c.tc : Thread nD τ).loc main_arg0)
/-- Argument `1` of the kernel on a device. -/
abbrev b1 : FVec Ideal S2816x1024 .f32 := m ((c.tc : Thread nD τ).loc main_arg1)
/-- Argument `2` of the kernel on a device. -/
abbrev b2 : FVec Ideal S4096x1024 .f32 := m ((c.tc : Thread nD τ).loc main_arg2)
/-- Argument `3` of the kernel on a device. -/
abbrev b3 : FVec Ideal S4096x1024 .f32 := m ((c.tc : Thread nD τ).loc main_arg3)
/-- Argument `4` of the kernel on a device. -/
abbrev b4 : FVec Ideal S6x1024 .f32 := m ((c.tc : Thread nD τ).loc main_arg4)
/-- Argument `5` of the kernel on a device. -/
abbrev b5 : FVec Ideal S6x1024 .f32 := m ((c.tc : Thread nD τ).loc main_arg5)
/-- Argument `6` of the kernel on a device. -/
abbrev b6 : FVec Ideal S1x1024 .f32 := m ((c.tc : Thread nD τ).loc main_arg6)

/-- The arrays the call reads, of the kernel's arguments. -/
abbrev A : Cert.Down.Arrays := Cert.Reference4Ideal.Terms.arrays (b0 m c) (b1 m c) (b2 m c) (b3 m c) (b4 m c) (b5 m c) (b6 m c)

/-! ## What the call is handed -/

theorem V1 : V m c main_v1 = transpose S4x4096x704 [1, 0, 2] (shapeCast S4096x4x704 (b0 m c) shapeCasts_S4096x2816_S4096x4x704) transposes_S4096x4x704_S4x4096x704_1_0_2 := rfl

theorem V3 : V m c main_v3 = shapeCast S4x704x1024 (truncf .bf16 (b1 m c) bitsLt_bf16_f32) shapeCasts_S2816x1024_S4x704x1024 := rfl

theorem a_at (j : Fin 4) (r : Fin 4096) (q : Fin 704) :
    (V m c main_v1 : FVec Ideal S4x4096x704 .bf16) (ix3 j r q) = b0 m c (ix2 r (mid j q)) := by
  rw [V1]
  unfold mid
  pointwise

theorem w_at (j : Fin 4) (q : Fin 704) (d : Fin 1024) :
    (V m c main_v3 : FVec Ideal S4x704x1024 .bf16) (ix3 j q d) = b1 m c (ix2 (mid j q) d) := by
  rw [V3]
  unfold mid
  pointwise

/-! ## The blocks -/

/-- Where each window's block stands. -/
theorem idx : ∀ t : Fin cfg0.N,
    win0_0.index t = ![0, t.val, 0] ∧ win0_1.index t = ![0, 0, 0] ∧ win0_2.index t = ![t.val, 0] ∧
    win0_3.index t = ![t.val, 0] ∧ win0_4.index t = ![0, 0] ∧ win0_5.index t = ![0, 0] ∧ win0_6.index t = ![0, 0] ∧
    win0_7.index t = ![t.val, 0] ∧ win0_8.index t = ![t.val, 0] ∧ win0_9.index t = ![0, 0] ∧ win0_10.index t = ![0, 0] ∧
    win0_11.index t = ![0, 0] :=
  (by decide +kernel : ∀ t : Fin grid0.N, _)

theorem lt8 (t : Fin cfg0.N) : t.val < 8 := lt_of_lt_of_eq t.isLt Gen.N_0

/-- Row `x` of a point's 512. -/
def row (t : Fin cfg0.N) (x : Fin 512) : Fin 4096 := ⟨512 * t.val + x.val, by have := lt8 t; omega⟩

theorem blk0 (t : Fin cfg0.N) (j : Fin 4) (x : Fin 512) (q : Fin 704) : iblk m c 0 t (ix3 j x q) = b0 m c (ix2 (row t x) (mid j q)) := by
  have ht := lt8 t
  rw [← a_at]
  unfold row
  blk_ext [iblk, idx t]

theorem blk1 (t : Fin cfg0.N) (j : Fin 4) (q : Fin 704) (d : Fin 1024) : iblk m c 1 t (ix3 j q d) = b1 m c (ix2 (mid j q) d) := by
  have ht := lt8 t
  rw [← w_at]
  blk_ext [iblk, idx t]

theorem blk2 (t : Fin cfg0.N) (x : Fin 512) (d : Fin 1024) : iblk m c 2 t (ix2 x d) = b2 m c (ix2 (row t x) d) := by
  have ht := lt8 t
  unfold row
  blk_ext [iblk, V, idx t]

theorem blk3 (t : Fin cfg0.N) (x : Fin 512) (d : Fin 1024) : iblk m c 3 t (ix2 x d) = b3 m c (ix2 (row t x) d) := by
  have ht := lt8 t
  unfold row
  blk_ext [iblk, V, idx t]

theorem blk4 (t : Fin cfg0.N) (k : Fin 6) (d : Fin 1024) : iblk m c 4 t (ix2 k d) = b4 m c (ix2 k d) := by
  have ht := lt8 t
  blk_ext [iblk, V, idx t]

theorem blk5 (t : Fin cfg0.N) (k : Fin 6) (d : Fin 1024) : iblk m c 5 t (ix2 k d) = b5 m c (ix2 k d) := by
  have ht := lt8 t
  blk_ext [iblk, V, idx t]

theorem blk6 (t : Fin cfg0.N) (d : Fin 1024) : iblk m c 6 t (ix2 0 d) = b6 m c (ix2 0 d) := by
  have ht := lt8 t
  blk_ext [iblk, V, idx t]

end Cert.Kernel4Ideal.Body

end
-- ==== Proof.DownPay.lean ====
/-
  What the fourth kernel computes from a sub-block of 256 rows, at an index: the down-projection from four products, its
  norm, the error, the sums over the rows it adds to what it has accumulated, and the norm taken back.
-/
module

public import proofs.«01_k».proof.Proof.Gen.Kernel4Ideal.Skeleton
public import proofs.«01_k».proof.Proof.DownSpec
public import Idealize.ShloMosaic.PureOps.Ideal
public import Idealize.ShloMosaic.Lib.Pointwise

@[expose] public section

set_option maxRecDepth 16384

noncomputable section

namespace Cert.Kernel4Ideal.Body

open Idealize.ShloMosaic Idealize.ShloMosaic.TcCoe Idealize.SL.Sem
open Cert.Kernel4Ideal Cert.Kernel4Ideal.Gen
open Cert.Norm (ms rs hat back)

/-! ## The first sub-block's operations are the second's -/

section Names

variable (a0 a1 a2 a3 : Vec Ideal S1x256x704 .bf16) (w0 w1 w2 w3 : Vec Ideal S1x704x1024 .bf16) (gt : FVec Ideal S1x1024 .f32)
  (g : Vec Ideal S1x1024 .f32) (n h E : FVec Ideal S256x1024 .f32) (X T : Vec Ideal S256x1024 .f32) (r : FVec Ideal S256x1 .f32)
  (acc : Vec Ideal S1x1024 .f32) (l : Vec Ideal S1x128 .f32)

theorem name9 : k0_pay9 (k0_pay7 a0 w0 a1 w1 a2 w2) (k0_pay8 a3) w3 = k0_pay21 (k0_pay20 a0) w0 a1 w1 a2 w2 a3 w3 := rfl
theorem name10 : k0_pay10 (k0_pay7 a0 w0 a1 w1 a2 w2) (k0_pay8 a3) w3 = k0_pay22 (k0_pay20 a0) w0 a1 w1 a2 w2 a3 w3 := rfl
theorem name11 : k0_pay11 (k0_pay7 a0 w0 a1 w1 a2 w2) (k0_pay8 a3) w3 = k0_pay23 (k0_pay20 a0) w0 a1 w1 a2 w2 a3 w3 := rfl
theorem name12 : k0_pay12 g (k0_pay7 a0 w0 a1 w1 a2 w2) (k0_pay8 a3) w3 = k0_pay24 g (k0_pay20 a0) w0 a1 w1 a2 w2 a3 w3 := rfl

variable (v : FVec Ideal S256x1024 .f32) (b : FVec Ideal S256x704 .bf16)

theorem name14 : k0_pay14 gt g v b w3 X T l = k0_pay26 gt (k0_pay12 g v b w3) X T l := rfl
theorem name15 : k0_pay15 gt g v b w3 X T = k0_pay27 gt (k0_pay12 g v b w3) X T := rfl
theorem name16 : k0_pay16 n (k0_pay27 gt n X T) acc = k0_pay28 gt n X T acc := rfl
theorem name17 : k0_pay17 gt (k0_pay27 gt n X T) = k0_pay29 gt n X T := rfl
theorem name18 : k0_pay18 gt h (k0_pay27 gt n X T) acc = k0_pay1 (k0_pay30 acc) (k0_pay31 gt h n X T) := rfl
theorem name19 : k0_pay19 gt g r h (k0_pay27 gt n X T) = k0_pay2 g r h (k0_pay29 gt n X T) := rfl

end Names

/-! ## The operations at an index -/

/-- One group's product at an index. -/
def prod (a : Vec Ideal S1x256x704 .bf16) (w : Vec Ideal S1x704x1024 .bf16) (x : Fin 256) (d : Fin 1024) : EReal :=
  ∑ q : Fin 704, a (ix3 0 x q) * w (ix3 0 q d)

section Read

variable (a0 a1 a2 a3 : Vec Ideal S1x256x704 .bf16) (w0 w1 w2 w3 : Vec Ideal S1x704x1024 .bf16)

theorem pay21_at (x : Fin 256) (d : Fin 1024) :
    k0_pay21 (k0_pay20 a0) w0 a1 w1 a2 w2 a3 w3 (ix2 x d) = prod a0 w0 x d + prod a1 w1 x d + prod a2 w2 x d + prod a3 w3 x d := by
  unfold prod
  pointwise [k0_pay21, k0_pay20]

variable (b : FVec Ideal S256x704 .bf16)

theorem pay22_at (x : Fin 256) : k0_pay22 b w0 a1 w1 a2 w2 a3 w3 (ix2 x 0) = rs fun d => k0_pay21 b w0 a1 w1 a2 w2 a3 w3 (ix2 x d) := by
  unfold rs ms Cert.Norm.width Cert.Norm.eps
  unfold k0_pay22
  generalize k0_pay21 b w0 a1 w1 a2 w2 a3 w3 = f
  pointwise

theorem pay23_at (x : Fin 256) (d : Fin 1024) :
    k0_pay23 b w0 a1 w1 a2 w2 a3 w3 (ix2 x d) = hat (fun d => k0_pay21 b w0 a1 w1 a2 w2 a3 w3 (ix2 x d)) d := by
  unfold hat
  rw [← pay22_at]
  unfold k0_pay23
  generalize k0_pay22 b w0 a1 w1 a2 w2 a3 w3 = r
  generalize k0_pay21 b w0 a1 w1 a2 w2 a3 w3 = f
  pointwise

theorem pay24_at (g : Vec Ideal S1x1024 .f32) (x : Fin 256) (d : Fin 1024) :
    k0_pay24 g b w0 a1 w1 a2 w2 a3 w3 (ix2 x d) = k0_pay23 b w0 a1 w1 a2 w2 a3 w3 (ix2 x d) * g (ix2 0 d) := by
  unfold k0_pay24
  generalize k0_pay23 b w0 a1 w1 a2 w2 a3 w3 = h
  pointwise

variable (gt : FVec Ideal S1x1024 .f32) (n h E : FVec Ideal S256x1024 .f32) (X T : Vec Ideal S256x1024 .f32) (r : FVec Ideal S256x1 .f32)
  (g acc : Vec Ideal S1x1024 .f32) (l : Vec Ideal S1x128 .f32)

theorem pay6_at (u v : Vec Ideal S1x1024 .f32) (d : Fin 1024) : k0_pay6 u v (ix2 0 d) = u (ix2 0 d) + v (ix2 0 d) := by
  pointwise [k0_pay6]

theorem pay25_at (x : Fin 256) (d : Fin 1024) : k0_pay25 gt n X T (ix2 x d) = X (ix2 x d) + gt (ix2 0 d) * n (ix2 x d) - T (ix2 x d) := by
  pointwise [k0_pay25]

theorem pay27_at (x : Fin 256) (d : Fin 1024) : k0_pay27 gt n X T (ix2 x d) = k0_pay25 gt n X T (ix2 x d) * Cert.Down.per := by
  unfold Cert.Down.per
  unfold k0_pay27
  generalize k0_pay25 gt n X T = e
  pointwise

theorem pay29_at (x : Fin 256) (d : Fin 1024) : k0_pay29 gt n X T (ix2 x d) = k0_pay27 gt n X T (ix2 x d) * gt (ix2 0 d) := by
  unfold k0_pay29
  generalize k0_pay27 gt n X T = e
  pointwise

theorem pay26_at (k : Fin 128) : k0_pay26 gt n X T l (ix2 0 k)
    = l (ix2 0 k) + Cert.Down.half * ∑ x : Fin 256, Ideal.div (∑ d, k0_pay25 gt n X T (ix2 x d) * k0_pay25 gt n X T (ix2 x d)) Cert.Norm.width := by
  unfold Cert.Down.half Cert.Norm.width
  unfold k0_pay26
  generalize k0_pay25 gt n X T = e
  pointwise
  exact congrArg (fun s => l (ix2 0 k) + _ * s) (Finset.sum_congr rfl fun x _ => Fin.sum_univ_one _)

theorem pay28_at (d : Fin 1024) : k0_pay28 gt n X T acc (ix2 0 d) = acc (ix2 0 d) + ∑ x : Fin 256, k0_pay27 gt n X T (ix2 x d) * n (ix2 x d) := by
  unfold k0_pay28
  generalize k0_pay27 gt n X T = e
  pointwise

theorem pay1_at (d : Fin 1024) : k0_pay1 (k0_pay30 acc) (k0_pay31 gt h n X T) (ix2 0 d)
    = acc (ix2 0 d) + ∑ x : Fin 256, k0_pay29 gt n X T (ix2 x d) * h (ix2 x d) := by
  unfold k0_pay31
  generalize k0_pay29 gt n X T = e
  pointwise [k0_pay1, k0_pay30]

theorem pay2_at (x : Fin 256) (d : Fin 1024) : k0_pay2 g r h E (ix2 x d)
    = r (ix2 x 0) * (E (ix2 x d) * g (ix2 0 d) - h (ix2 x d) * Ideal.div (∑ e, E (ix2 x e) * g (ix2 0 e) * h (ix2 x e)) Cert.Norm.width) := by
  unfold Cert.Norm.width
  pointwise [k0_pay2]

theorem zero3 (k : Fin 128) : (k0_pay3 : FVec Ideal S1x128 .f32) (ix2 0 k) = 0 := by pointwise [k0_pay3]
theorem zero4 (d : Fin 1024) : (k0_pay4 : FVec Ideal S1x1024 .f32) (ix2 0 d) = 0 := by pointwise [k0_pay4]
theorem zero5 (d : Fin 1024) : (k0_pay5 : FVec Ideal S1x1024 .f32) (ix2 0 d) = 0 := by pointwise [k0_pay5]

end Read

/-! ## A sub-block of rows -/

/-- The blocks a sub-block is computed from, as rows `R` of the arrays: the down-projection `f`, its inverse root `r`, its
    norm `h` and weighted norm `n`, the stream, the target, the gate and the norm's weights. -/
structure Rows (A : Cert.Down.Arrays) (R : Fin 256 → Fin 4096) (r : FVec Ideal S256x1 .f32) (h n : FVec Ideal S256x1024 .f32)
    (X T : Vec Ideal S256x1024 .f32) (gt g : FVec Ideal S1x1024 .f32) : Prop where
  r : ∀ x, r (ix2 x 0) = rs (A.F (R x))
  h : ∀ x d, h (ix2 x d) = hat (A.F (R x)) d
  n : ∀ x d, n (ix2 x d) = A.nr (R x) d
  X : ∀ x d, X (ix2 x d) = A.X (R x) d
  T : ∀ x d, T (ix2 x d) = A.T (R x) d
  gt : ∀ d, gt (ix2 0 d) = A.gt d
  g : ∀ d, g (ix2 0 d) = A.g d

section Rows

variable {A : Cert.Down.Arrays} {R : Fin 256 → Fin 4096} {r : FVec Ideal S256x1 .f32} {h n : FVec Ideal S256x1024 .f32}
  {X T : Vec Ideal S256x1024 .f32} {gt g : FVec Ideal S1x1024 .f32}

theorem Rows.of {b : FVec Ideal S256x704 .bf16} {w0 w1 w2 w3 : Vec Ideal S1x704x1024 .bf16} {a1 a2 a3 : Vec Ideal S1x256x704 .bf16}
    (hf : ∀ x d, k0_pay21 b w0 a1 w1 a2 w2 a3 w3 (ix2 x d) = A.F (R x) d)
    (hX : ∀ x d, X (ix2 x d) = A.X (R x) d) (hT : ∀ x d, T (ix2 x d) = A.T (R x) d) (hgt : ∀ d, gt (ix2 0 d) = A.gt d) (hg : ∀ d, g (ix2 0 d) = A.g d) :
    Rows A R (k0_pay22 b w0 a1 w1 a2 w2 a3 w3) (k0_pay23 b w0 a1 w1 a2 w2 a3 w3) (k0_pay24 g b w0 a1 w1 a2 w2 a3 w3) X T gt g where
  r x := (pay22_at _ _ _ _ _ _ _ _ x).trans (congrArg rs (funext (hf x)))
  h x d := (pay23_at _ _ _ _ _ _ _ _ x d).trans (congrArg (fun f => hat f d) (funext (hf x)))
  n x d := (pay24_at _ _ _ _ _ _ _ _ g x d).trans (congrArg₂ (· * ·) ((pay23_at _ _ _ _ _ _ _ _ x d).trans (congrArg (fun f => hat f d) (funext (hf x)))) (hg d))
  X := hX
  T := hT
  gt := hgt
  g := hg

theorem Rows.er (w : Rows A R r h n X T gt g) (x : Fin 256) (d : Fin 1024) : k0_pay25 gt n X T (ix2 x d) = A.er (R x) d := by
  rw [pay25_at, w.X, w.gt, w.n, w.T]
  rfl

theorem Rows.dy (w : Rows A R r h n X T gt g) (x : Fin 256) (d : Fin 1024) : k0_pay27 gt n X T (ix2 x d) = A.dy (R x) d := by
  rw [pay27_at, w.er]
  rfl

theorem Rows.dn (w : Rows A R r h n X T gt g) (x : Fin 256) (d : Fin 1024) : k0_pay29 gt n X T (ix2 x d) = A.dn (R x) d := by
  rw [pay29_at, w.dy, w.gt]
  rfl

theorem Rows.df (w : Rows A R r h n X T gt g) (x : Fin 256) (d : Fin 1024) : k0_pay2 g r h (k0_pay29 gt n X T) (ix2 x d) = A.df (R x) d := by
  rw [pay2_at, w.r, w.h]
  unfold Cert.Down.Arrays.df back Cert.Down.Arrays.dh
  simp only [w.dn, w.g, w.h]

theorem Rows.loss (w : Rows A R r h n X T gt g) (l : Vec Ideal S1x128 .f32) (k : Fin 128) :
    k0_pay26 gt n X T l (ix2 0 k) = l (ix2 0 k) + ∑ x : Fin 256, A.ls (R x) := by
  rw [pay26_at, Cert.Down.half_sum]
  simp only [w.er]
  rfl

theorem Rows.dgt (w : Rows A R r h n X T gt g) (acc : Vec Ideal S1x1024 .f32) (d : Fin 1024) :
    k0_pay28 gt n X T acc (ix2 0 d) = acc (ix2 0 d) + ∑ x : Fin 256, A.rgt (R x) d := by
  rw [pay28_at]
  simp only [w.dy, w.n]
  rfl

theorem Rows.dg (w : Rows A R r h n X T gt g) (acc : Vec Ideal S1x1024 .f32) (d : Fin 1024) :
    k0_pay1 (k0_pay30 acc) (k0_pay31 gt h n X T) (ix2 0 d) = acc (ix2 0 d) + ∑ x : Fin 256, A.rg (R x) d := by
  rw [pay1_at]
  simp only [w.dn, w.h]
  rfl

end Rows

end Cert.Kernel4Ideal.Body

end
-- ==== Proof.DownBody.lean ====
/-
  What one grid point of the fourth kernel leaves in its buffers: its rows of the two gradients, and its rows' sums added to
  the three accumulators. A point works on two sub-blocks of 256 rows, one after the other.
-/
module

public import proofs.«01_k».proof.Proof.DownBlocks
public import proofs.«01_k».proof.Proof.DownPay
public import proofs.«01_k».proof.Proof.Body
public import Idealize.ShloMosaic.Lib.Pipeline.ReadBack

@[expose] public section

set_option maxRecDepth 16384

noncomputable section

namespace Cert.Kernel4Ideal.Body

open Idealize.ShloMosaic Idealize.ShloMosaic.TcCoe Idealize.SL.Sem
open Cert.Kernel4Ideal Cert.Kernel4Ideal.Gen
open Cert.Ffn (mid)
open Cert.KernelIdeal.Body (canon_load)

variable (m : (ℓ : Loc nD τ sig) → Buf (Elt Ideal) ℓ) (c : Dev nD)

/-! ## Loads of a block at an index -/

theorem ld_act (X : Vec Ideal S4x512x704 .bf16) (j o : ℕ) (hj : j < 4) (ho : o + 256 ≤ 512) (inb) (x : Fin 256) (q : Fin 704) :
    View.ld X (Rect.unit ![j, o, 0] ![1, 256, 704] inb) (ix3 0 x q) = X (ix3 ⟨j, hj⟩ ⟨o + x.val, by omega⟩ q) :=
  View.ld_unit_apply_of X _ _ inb _ _ fun a => by
    match a with
    | ⟨0, _⟩ => rfl
    | ⟨1, _⟩ => rfl
    | ⟨2, _⟩ => exact (Nat.zero_add _).symm

theorem ld_wt (X : Vec Ideal S4x704x1024 .bf16) (j : ℕ) (hj : j < 4) (inb) (q : Fin 704) (d : Fin 1024) :
    View.ld X (Rect.unit ![j, 0, 0] ![1, 704, 1024] inb) (ix3 0 q d) = X (ix3 ⟨j, hj⟩ q d) :=
  View.ld_unit_apply_of X _ _ inb _ _ fun a => by
    match a with
    | ⟨0, _⟩ => rfl
    | ⟨1, _⟩ => exact (Nat.zero_add _).symm
    | ⟨2, _⟩ => exact (Nat.zero_add _).symm

theorem ld_rows (X : Vec Ideal S512x1024 .f32) (o : ℕ) (ho : o + 256 ≤ 512) (inb) (x : Fin 256) (d : Fin 1024) :
    View.ld X (Rect.unit ![o, 0] ![256, 1024] inb) (ix2 x d) = X (ix2 ⟨o + x.val, by omega⟩ d) :=
  View.ld_unit_apply_of X _ _ inb _ _ fun a => by
    match a with
    | ⟨0, _⟩ => rfl
    | ⟨1, _⟩ => exact (Nat.zero_add _).symm

theorem ld_row (X : Vec Ideal S6x1024 .f32) (k : ℕ) (hk : k < 6) (inb) (d : Fin 1024) :
    View.ld X (Rect.unit ![k, 0] ![1, 1024] inb) (ix2 0 d) = X (ix2 ⟨k, hk⟩ d) :=
  View.ld_unit_apply_of X _ _ inb _ _ fun a => by
    match a with
    | ⟨0, _⟩ => rfl
    | ⟨1, _⟩ => exact (Nat.zero_add _).symm

theorem idx_rows (o : ℕ) (ho : o + 256 ≤ 512) (inb) (x : Fin 256) (d : Fin 1024) :
    (Rect.unit (s := S512x1024) ![o, 0] ![256, 1024] inb).idx (ix2 x d) = ix2 ⟨o + x.val, by omega⟩ d :=
  funext fun a => Fin.ext (by
    rw [Rect.idx_unit_val]
    match a with
    | ⟨0, _⟩ => rfl
    | ⟨1, _⟩ => exact Nat.zero_add _)

/-! ## The sub-blocks of a point -/

/-- Row `x` of the sub-block that starts at row `o` of a point's 512. -/
def sub (t : Fin cfg0.N) (o : ℕ) (ho : o + 256 ≤ 512) (x : Fin 256) : Fin 4096 := row t ⟨o + x.val, by omega⟩

/-- The gate's product, group `j` of a sub-block's rows. -/
abbrev gA (t : Fin cfg0.N) (j o : ℕ) (inb : ∀ a, (![j, o, 0] : Fin 3 → ℕ) a + S1x256x704.size a ≤ S4x512x704.size a) : Vec Ideal S1x256x704 .bf16 :=
  View.ld (iblk m c 0 t) (Rect.unit ![j, o, 0] ![1, 256, 704] inb)

/-- The weights' group `j`. -/
abbrev gW (t : Fin cfg0.N) (j : ℕ) (inb : ∀ a, (![j, 0, 0] : Fin 3 → ℕ) a + S1x704x1024.size a ≤ S4x704x1024.size a) : Vec Ideal S1x704x1024 .bf16 :=
  View.ld (iblk m c 1 t) (Rect.unit ![j, 0, 0] ![1, 704, 1024] inb)

theorem prod_at (t : Fin cfg0.N) (j o : ℕ) (hj : j < 4) (ho : o + 256 ≤ 512) (inb) (inb') (x : Fin 256) (d : Fin 1024) :
    prod (gA m c t j o inb) (gW m c t j inb') x d
      = ∑ q : Fin 704, b0 m c (ix2 (sub t o ho x) (mid ⟨j, hj⟩ q)) * b1 m c (ix2 (mid ⟨j, hj⟩ q) d) :=
  Finset.sum_congr rfl fun q _ => congrArg₂ (· * ·) ((ld_act _ j o hj ho inb x q).trans (blk0 m c t ⟨j, hj⟩ _ q))
    ((ld_wt _ j hj inb' q d).trans (blk1 m c t ⟨j, hj⟩ q d))

/-- The four groups are all the columns. -/
theorem mid_sum (f : Fin 2816 → EReal) : ∑ j : Fin 4, ∑ q : Fin 704, f (mid j q) = ∑ C : Fin 2816, f C := by
  rw [← Fintype.sum_prod_type']
  refine Fintype.sum_equiv (finProdFinEquiv (m := 4) (n := 704)) _ _ fun a => ?_
  have hv : (finProdFinEquiv (m := 4) (n := 704) a).val = a.2.val + 704 * a.1.val := rfl
  exact congrArg f (Fin.ext (by show a.1.val * 704 + a.2.val = _; rw [hv]; omega))

theorem down_at (t : Fin cfg0.N) (o : ℕ) (ho : o + 256 ≤ 512) (i0 i1 i2 i3) (k0 k1 k2 k3) (x : Fin 256) (d : Fin 1024) :
    k0_pay21 (k0_pay20 (gA m c t 0 o i0)) (gW m c t 0 k0) (gA m c t 1 o i1) (gW m c t 1 k1) (gA m c t 2 o i2) (gW m c t 2 k2)
      (gA m c t 3 o i3) (gW m c t 3 k3) (ix2 x d) = (A m c).F (sub t o ho x) d := by
  show _ = ∑ C : Fin 2816, b0 m c (ix2 (sub t o ho x) C) * b1 m c (ix2 C d)
  rw [pay21_at, ← mid_sum, Fin.sum_univ_four, prod_at m c t 0 o (by omega) ho, prod_at m c t 1 o (by omega) ho,
    prod_at m c t 2 o (by omega) ho, prod_at m c t 3 o (by omega) ho]
  rfl

/-- A sub-block's rows are rows of the arrays. -/
theorem rows_of (t : Fin cfg0.N) (o : ℕ) (ho : o + 256 ≤ 512) (i0 i1 i2 i3) (k0 k1 k2 k3) (ix it) (ia ib) :
    Rows (A m c) (sub t o ho)
      (k0_pay22 (k0_pay20 (gA m c t 0 o i0)) (gW m c t 0 k0) (gA m c t 1 o i1) (gW m c t 1 k1) (gA m c t 2 o i2) (gW m c t 2 k2) (gA m c t 3 o i3) (gW m c t 3 k3))
      (k0_pay23 (k0_pay20 (gA m c t 0 o i0)) (gW m c t 0 k0) (gA m c t 1 o i1) (gW m c t 1 k1) (gA m c t 2 o i2) (gW m c t 2 k2) (gA m c t 3 o i3) (gW m c t 3 k3))
      (k0_pay24 (iblk m c 6 t) (k0_pay20 (gA m c t 0 o i0)) (gW m c t 0 k0) (gA m c t 1 o i1) (gW m c t 1 k1) (gA m c t 2 o i2) (gW m c t 2 k2) (gA m c t 3 o i3) (gW m c t 3 k3))
      (View.ld (iblk m c 2 t) (Rect.unit ![o, 0] ![256, 1024] ix)) (View.ld (iblk m c 3 t) (Rect.unit ![o, 0] ![256, 1024] it))
      (k0_pay6 (View.ld (iblk m c 4 t) (Rect.unit ![5, 0] ![1, 1024] ia)) (View.ld (iblk m c 5 t) (Rect.unit ![5, 0] ![1, 1024] ib)))
      (iblk m c 6 t) :=
  Rows.of (down_at m c t o ho i0 i1 i2 i3 k0 k1 k2 k3)
    (fun x d => (ld_rows _ o ho ix x d).trans (blk2 m c t _ d)) (fun x d => (ld_rows _ o ho it x d).trans (blk3 m c t _ d))
    (fun d => (pay6_at _ _ d).trans (congrArg₂ (· + ·) ((ld_row _ 5 (by omega) ia d).trans (blk4 m c t 5 d)) ((ld_row _ 5 (by omega) ib d).trans (blk5 m c t 5 d))))
    (blk6 m c t)

/-! ## The rows a point writes -/

/-- A block's 512 rows from its first and its last 256. -/
theorem halves {v : S512x1024.Idx → EReal} {f : Fin 512 → Fin 1024 → EReal}
    (hlo : ∀ (x : Fin 256) (d : Fin 1024), v (ix2 ⟨0 + x.val, by omega⟩ d) = f ⟨0 + x.val, by omega⟩ d)
    (hhi : ∀ (x : Fin 256) (d : Fin 1024), v (ix2 ⟨256 + x.val, by omega⟩ d) = f ⟨256 + x.val, by omega⟩ d)
    (x : Fin 512) (d : Fin 1024) : v (ix2 x d) = f x d := by
  by_cases hx : x.val < 256
  · have e : x = ⟨0 + (⟨x.val, hx⟩ : Fin 256).val, by omega⟩ := Fin.ext (Nat.zero_add _).symm
    exact (congrArg (fun z => v (ix2 z d)) e).trans ((hlo _ d).trans (congrArg (fun z => f z d) e.symm))
  · have e : x = ⟨256 + (⟨x.val - 256, by omega⟩ : Fin 256).val, by omega⟩ := Fin.ext (by show x.val = 256 + (x.val - 256); omega)
    exact (congrArg (fun z => v (ix2 z d)) e).trans ((hhi _ d).trans (congrArg (fun z => f z d) e.symm))

/-- Rows 0 to 255 of the gradient at the layer's result. -/
theorem dy_lo (t : Fin cfg0.N) (x : Fin 256) (d : Fin 1024) :
    (outsAt0 m c t.val t.isLt).1 (ix2 ⟨0 + x.val, by omega⟩ d) = (A m c).dy (row t ⟨0 + x.val, by omega⟩) d := by
  by_cases h0 : t.val % 8 = 0
  · rw [outsAt0_A m c t h0]
    frame_out
    rw [canon_load (ms0_7 t).view _ (Rect.unit ![0, 0] ![256, 1024] inb_S512x1024_S256x1024_0_0) (ix2 ⟨0 + x.val, by omega⟩ d) (ix2 x d) (idx_rows 0 (by omega) _ x d)]
    simp (disch := decide) only [↓ View.readCov_skip, ↓ View.readCov_cons_toLoadRect, ↓ View.readCov_fill, read_unread_whole]
    simp only [name9, name10, name11, name12, name14, name15, name16, name17, name18, name19]
    exact (rows_of m c t 0 (by omega) _ _ _ _ _ _ _ _ _ _ _ _).dy x d
  · rw [outsAt0_B m c t h0]
    frame_out
    rw [canon_load (ms0_7 t).view _ (Rect.unit ![0, 0] ![256, 1024] inb_S512x1024_S256x1024_0_0) (ix2 ⟨0 + x.val, by omega⟩ d) (ix2 x d) (idx_rows 0 (by omega) _ x d)]
    simp (disch := decide) only [↓ View.readCov_skip, ↓ View.readCov_cons_toLoadRect, ↓ View.readCov_fill, read_unread_whole]
    simp only [name9, name10, name11, name12, name14, name15, name16, name17, name18, name19]
    exact (rows_of m c t 0 (by omega) _ _ _ _ _ _ _ _ _ _ _ _).dy x d

/-- Rows 256 to 511 of the gradient at the layer's result. -/
theorem dy_hi (t : Fin cfg0.N) (x : Fin 256) (d : Fin 1024) :
    (outsAt0 m c t.val t.isLt).1 (ix2 ⟨256 + x.val, by omega⟩ d) = (A m c).dy (row t ⟨256 + x.val, by omega⟩) d := by
  by_cases h0 : t.val % 8 = 0
  · rw [outsAt0_A m c t h0]
    frame_out
    rw [canon_load (ms0_7 t).view _ (Rect.unit ![256, 0] ![256, 1024] inb_S512x1024_S256x1024_256_0) (ix2 ⟨256 + x.val, by omega⟩ d) (ix2 x d) (idx_rows 256 (by omega) _ x d)]
    simp (disch := decide) only [↓ View.readCov_skip, ↓ View.readCov_cons_toLoadRect, ↓ View.readCov_fill, read_unread_whole]
    exact (rows_of m c t 256 (by omega) _ _ _ _ _ _ _ _ _ _ _ _).dy x d
  · rw [outsAt0_B m c t h0]
    frame_out
    rw [canon_load (ms0_7 t).view _ (Rect.unit ![256, 0] ![256, 1024] inb_S512x1024_S256x1024_256_0) (ix2 ⟨256 + x.val, by omega⟩ d) (ix2 x d) (idx_rows 256 (by omega) _ x d)]
    simp (disch := decide) only [↓ View.readCov_skip, ↓ View.readCov_cons_toLoadRect, ↓ View.readCov_fill, read_unread_whole]
    exact (rows_of m c t 256 (by omega) _ _ _ _ _ _ _ _ _ _ _ _).dy x d

/-- The gradient at the layer's result. -/
theorem dy_block (t : Fin cfg0.N) (x : Fin 512) (d : Fin 1024) : (outsAt0 m c t.val t.isLt).1 (ix2 x d) = (A m c).dy (row t x) d :=
  halves (f := fun x d => (A m c).dy (row t x) d) (dy_lo m c t) (dy_hi m c t) x d

/-- Rows 0 to 255 of the gradient at the down-projection. -/
theorem df_lo (t : Fin cfg0.N) (x : Fin 256) (d : Fin 1024) :
    (outsAt0 m c t.val t.isLt).2.1 (ix2 ⟨0 + x.val, by omega⟩ d) = (A m c).df (row t ⟨0 + x.val, by omega⟩) d := by
  by_cases h0 : t.val % 8 = 0
  · rw [outsAt0_A m c t h0]
    frame_out
    rw [canon_load (ms0_8 t).view _ (Rect.unit ![0, 0] ![256, 1024] inb_S512x1024_S256x1024_0_0) (ix2 ⟨0 + x.val, by omega⟩ d) (ix2 x d) (idx_rows 0 (by omega) _ x d)]
    simp (disch := decide) only [↓ View.readCov_skip, ↓ View.readCov_cons_toLoadRect, ↓ View.readCov_fill, read_unread_whole]
    simp only [name9, name10, name11, name12, name14, name15, name16, name17, name18, name19]
    exact (rows_of m c t 0 (by omega) _ _ _ _ _ _ _ _ _ _ _ _).df x d
  · rw [outsAt0_B m c t h0]
    frame_out
    rw [canon_load (ms0_8 t).view _ (Rect.unit ![0, 0] ![256, 1024] inb_S512x1024_S256x1024_0_0) (ix2 ⟨0 + x.val, by omega⟩ d) (ix2 x d) (idx_rows 0 (by omega) _ x d)]
    simp (disch := decide) only [↓ View.readCov_skip, ↓ View.readCov_cons_toLoadRect, ↓ View.readCov_fill, read_unread_whole]
    simp only [name9, name10, name11, name12, name14, name15, name16, name17, name18, name19]
    exact (rows_of m c t 0 (by omega) _ _ _ _ _ _ _ _ _ _ _ _).df x d

/-- Rows 256 to 511 of the gradient at the down-projection. -/
theorem df_hi (t : Fin cfg0.N) (x : Fin 256) (d : Fin 1024) :
    (outsAt0 m c t.val t.isLt).2.1 (ix2 ⟨256 + x.val, by omega⟩ d) = (A m c).df (row t ⟨256 + x.val, by omega⟩) d := by
  by_cases h0 : t.val % 8 = 0
  · rw [outsAt0_A m c t h0]
    frame_out
    rw [canon_load (ms0_8 t).view _ (Rect.unit ![256, 0] ![256, 1024] inb_S512x1024_S256x1024_256_0) (ix2 ⟨256 + x.val, by omega⟩ d) (ix2 x d) (idx_rows 256 (by omega) _ x d)]
    simp (disch := decide) only [↓ View.readCov_skip, ↓ View.readCov_cons_toLoadRect, ↓ View.readCov_fill, read_unread_whole]
    exact (rows_of m c t 256 (by omega) _ _ _ _ _ _ _ _ _ _ _ _).df x d
  · rw [outsAt0_B m c t h0]
    frame_out
    rw [canon_load (ms0_8 t).view _ (Rect.unit ![256, 0] ![256, 1024] inb_S512x1024_S256x1024_256_0) (ix2 ⟨256 + x.val, by omega⟩ d) (ix2 x d) (idx_rows 256 (by omega) _ x d)]
    simp (disch := decide) only [↓ View.readCov_skip, ↓ View.readCov_cons_toLoadRect, ↓ View.readCov_fill, read_unread_whole]
    exact (rows_of m c t 256 (by omega) _ _ _ _ _ _ _ _ _ _ _ _).df x d

/-- The gradient at the down-projection. -/
theorem df_block (t : Fin cfg0.N) (x : Fin 512) (d : Fin 1024) : (outsAt0 m c t.val t.isLt).2.1 (ix2 x d) = (A m c).df (row t x) d :=
  halves (f := fun x d => (A m c).df (row t x) d) (df_lo m c t) (df_hi m c t) x d

/-! ## The accumulators -/

/-- The two sub-blocks' sums are the block's. -/
theorem two (f : Fin 4096 → EReal) (t : Fin cfg0.N) (a : EReal) :
    a + (∑ x : Fin 256, f (sub t 0 (by omega) x)) + ∑ x : Fin 256, f (sub t 256 (by omega) x) = a + ∑ x : Fin 512, f (row t x) := by
  rw [add_assoc]
  refine congrArg (a + ·) (Eq.symm ?_)
  refine (Fin.sum_univ_add (a := 256) (b := 256) fun x => f (row t x)).trans (congrArg₂ (· + ·) ?_ ?_)
  · exact Finset.sum_congr rfl fun x _ => congrArg (fun y => f (row t y)) (Fin.ext (Nat.zero_add _).symm)
  · rfl

/-- The first point's contents of the loss. -/
theorem loss_first (t : Fin cfg0.N) (h0 : t.val % 8 = 0) (d : Fin 128) :
    (outsAt0 m c t.val t.isLt).2.2.1 (ix2 0 d) = 0 + ∑ x : Fin 512, (A m c).ls (row t x) := by
  rw [outsAt0_A m c t h0]
  frame_out
  simp only [name9, name10, name11, name12, name14, name15, name16, name17, name18, name19]
  refine Eq.trans ?_ (two (fun r => (A m c).ls r) t _)
  refine ((rows_of m c t 256 (by omega) _ _ _ _ _ _ _ _ _ _ _ _).loss _ d).trans (congrArg (· + _) ?_)
  exact ((rows_of m c t 0 (by omega) _ _ _ _ _ _ _ _ _ _ _ _).loss _ d).trans (congrArg (· + _) (zero3 d))

/-- What a later point adds to the loss. -/
theorem loss_next (t : Fin cfg0.N) (h0 : ¬t.val % 8 = 0) (hp : t.val - 1 < cfg0.N) (d : Fin 128) :
    (outsAt0 m c t.val t.isLt).2.2.1 (ix2 0 d) = (outsAt0 m c (t.val - 1) hp).2.2.1 (ix2 0 d) + ∑ x : Fin 512, (A m c).ls (row t x) := by
  rw [outsAt0_B m c t h0]
  frame_out
  simp only [name9, name10, name11, name12, name14, name15, name16, name17, name18, name19]
  refine Eq.trans ?_ (two (fun r => (A m c).ls r) t _)
  refine ((rows_of m c t 256 (by omega) _ _ _ _ _ _ _ _ _ _ _ _).loss _ d).trans (congrArg (· + _) ?_)
  exact ((rows_of m c t 0 (by omega) _ _ _ _ _ _ _ _ _ _ _ _).loss _ d).trans (congrArg (· + _) (rfl))

/-- The first point's contents of the gradient at the gate. -/
theorem gt_first (t : Fin cfg0.N) (h0 : t.val % 8 = 0) (d : Fin 1024) :
    (outsAt0 m c t.val t.isLt).2.2.2.1 (ix2 0 d) = 0 + ∑ x : Fin 512, (A m c).rgt (row t x) d := by
  rw [outsAt0_A m c t h0]
  frame_out
  simp only [name9, name10, name11, name12, name14, name15, name16, name17, name18, name19]
  refine Eq.trans ?_ (two (fun r => (A m c).rgt r d) t _)
  refine ((rows_of m c t 256 (by omega) _ _ _ _ _ _ _ _ _ _ _ _).dgt _ d).trans (congrArg (· + _) ?_)
  exact ((rows_of m c t 0 (by omega) _ _ _ _ _ _ _ _ _ _ _ _).dgt _ d).trans (congrArg (· + _) (zero4 d))

/-- What a later point adds to the gradient at the gate. -/
theorem gt_next (t : Fin cfg0.N) (h0 : ¬t.val % 8 = 0) (hp : t.val - 1 < cfg0.N) (d : Fin 1024) :
    (outsAt0 m c t.val t.isLt).2.2.2.1 (ix2 0 d) = (outsAt0 m c (t.val - 1) hp).2.2.2.1 (ix2 0 d) + ∑ x : Fin 512, (A m c).rgt (row t x) d := by
  rw [outsAt0_B m c t h0]
  frame_out
  simp only [name9, name10, name11, name12, name14, name15, name16, name17, name18, name19]
  refine Eq.trans ?_ (two (fun r => (A m c).rgt r d) t _)
  refine ((rows_of m c t 256 (by omega) _ _ _ _ _ _ _ _ _ _ _ _).dgt _ d).trans (congrArg (· + _) ?_)
  exact ((rows_of m c t 0 (by omega) _ _ _ _ _ _ _ _ _ _ _ _).dgt _ d).trans (congrArg (· + _) (rfl))

/-- The first point's contents of the gradient at the norm's weights. -/
theorem g_first (t : Fin cfg0.N) (h0 : t.val % 8 = 0) (d : Fin 1024) :
    (outsAt0 m c t.val t.isLt).2.2.2.2 (ix2 0 d) = 0 + ∑ x : Fin 512, (A m c).rg (row t x) d := by
  rw [outsAt0_A m c t h0]
  frame_out
  simp only [name9, name10, name11, name12, name14, name15, name16, name17, name18, name19]
  refine Eq.trans ?_ (two (fun r => (A m c).rg r d) t _)
  refine ((rows_of m c t 256 (by omega) _ _ _ _ _ _ _ _ _ _ _ _).dg _ d).trans (congrArg (· + _) ?_)
  exact ((rows_of m c t 0 (by omega) _ _ _ _ _ _ _ _ _ _ _ _).dg _ d).trans (congrArg (· + _) (zero5 d))

/-- What a later point adds to the gradient at the norm's weights. -/
theorem g_next (t : Fin cfg0.N) (h0 : ¬t.val % 8 = 0) (hp : t.val - 1 < cfg0.N) (d : Fin 1024) :
    (outsAt0 m c t.val t.isLt).2.2.2.2 (ix2 0 d) = (outsAt0 m c (t.val - 1) hp).2.2.2.2 (ix2 0 d) + ∑ x : Fin 512, (A m c).rg (row t x) d := by
  rw [outsAt0_B m c t h0]
  frame_out
  simp only [name9, name10, name11, name12, name14, name15, name16, name17, name18, name19]
  refine Eq.trans ?_ (two (fun r => (A m c).rg r d) t _)
  refine ((rows_of m c t 256 (by omega) _ _ _ _ _ _ _ _ _ _ _ _).dg _ d).trans (congrArg (· + _) ?_)
  exact ((rows_of m c t 0 (by omega) _ _ _ _ _ _ _ _ _ _ _ _).dg _ d).trans (congrArg (· + _) (rfl))

end Cert.Kernel4Ideal.Body

end
-- ==== Proof.DownFinal.lean ====
/-
  The fourth kernel's five results as whole arrays: the two gradients are written back block by block, the three accumulators
  once, after the last point, when they hold the sums over all 4096 rows.
-/
module

public import proofs.«01_k».proof.Proof.DownBody
public import proofs.«01_k».proof.Proof.NormFinal

@[expose] public section

set_option maxRecDepth 16384

noncomputable section

namespace Cert.Kernel4Ideal.Body

open Idealize.ShloMosaic Idealize.ShloMosaic.TcCoe Idealize.SL.Sem
open Cert.Kernel4Ideal Cert.Kernel4Ideal.Gen
open Cert.Reference4Ideal.Terms (out0 out1 out2 out3 out4 out0_eq out1_eq out2_eq out3_eq out4_eq)

/-! ## The sums over all rows -/

/-- The second kernel has as many points. -/
theorem points : Cert.Kernel2Ideal.cfg0.N = cfg0.N := Cert.Kernel2Ideal.Gen.N_0.trans Gen.N_0.symm

/-- An accumulator that starts at zero plus the first block of rows and adds the others one by one ends at the sum over
    all rows: the second kernel's accumulators do the same. -/
theorem total (f : ∀ n, n < cfg0.N → EReal) (F : Fin 4096 → EReal)
    (hfirst : ∀ t : Fin cfg0.N, t.val % 8 = 0 → f t.val t.isLt = 0 + ∑ x : Fin 512, F (row t x))
    (hnext : ∀ (t : Fin cfg0.N) (hp : t.val - 1 < cfg0.N), ¬t.val % 8 = 0 →
      f t.val t.isLt = f (t.val - 1) hp + ∑ x : Fin 512, F (row t x))
    (t : Fin cfg0.N) (h7 : t.val % 8 = 7) : f t.val t.isLt = ∑ r : Fin 4096, F r :=
  Cert.Kernel2Ideal.Body.total (fun n hn => f n (lt_of_lt_of_eq hn points)) F
    (fun s h0 => hfirst ⟨s.val, lt_of_lt_of_eq s.isLt points⟩ h0)
    (fun s hp h0 => hnext ⟨s.val, lt_of_lt_of_eq s.isLt points⟩ (lt_of_lt_of_eq hp points) h0)
    ⟨t.val, lt_of_lt_of_eq t.isLt points.symm⟩ h7

variable (m : (ℓ : Loc nD τ sig) → Buf (Elt Ideal) ℓ) (c : Dev nD)

/-! ## The rows -/

theorem emb7 (t : Fin cfg0.N) (x : Fin 512) (d : Fin 1024) : (win0_7.blk t).view.emb (ix2 x d) = ix2 (row t x) d := by
  have ht := lt8 t
  unfold row
  blk_ext [idx t]

/-- Result 0: the gradient at the layer's result. -/
theorem final0 : (dats m 0 c).arrAt 7 cfg0.N = out0 (b0 m c) (b1 m c) (b2 m c) (b3 m c) (b4 m c) (b5 m c) (b6 m c) := by
  refine (dats m 0 c).arrAt_eq_of_covers 7 _ (by decide +kernel) fun t hf y => ?_
  blk_simp
  rw [after0_7]
  obtain ⟨x, d, rfl⟩ : ∃ (x : Fin 512) (d : Fin 1024), y = ix2 x d := ⟨_, _, (ix2_eta y).symm⟩
  rw [emb7 t x d]
  exact (dy_block m c t x d).trans (out0_eq _ _ _ _ _ _ _ (row t x) d).symm

theorem emb8 (t : Fin cfg0.N) (x : Fin 512) (d : Fin 1024) : (win0_8.blk t).view.emb (ix2 x d) = ix2 (row t x) d := by
  have ht := lt8 t
  unfold row
  blk_ext [idx t]

/-- Result 1: the gradient at the down-projection. -/
theorem final1 (hA : (A m c).Num) : (dats m 0 c).arrAt 8 cfg0.N = out1 (b0 m c) (b1 m c) (b2 m c) (b3 m c) (b4 m c) (b5 m c) (b6 m c) := by
  refine (dats m 0 c).arrAt_eq_of_covers 8 _ (by decide +kernel) fun t hf y => ?_
  blk_simp
  rw [after0_8]
  obtain ⟨x, d, rfl⟩ : ∃ (x : Fin 512) (d : Fin 1024), y = ix2 x d := ⟨_, _, (ix2_eta y).symm⟩
  rw [emb8 t x d]
  exact (df_block m c t x d).trans (out1_eq _ _ _ _ _ _ _ hA (row t x) d).symm

/-! ## The sums -/

theorem emb9 (t : Fin cfg0.N) (d : Fin 128) : (win0_9.blk t).view.emb (ix2 0 d) = ix2 0 d := by
  have ht := lt8 t
  blk_ext [idx t]

/-- Result 2: the loss. -/
theorem final2 : (dats m 0 c).arrAt 9 cfg0.N = out2 (b0 m c) (b1 m c) (b2 m c) (b3 m c) (b4 m c) (b5 m c) (b6 m c) := by
  refine (dats m 0 c).arrAt_eq_of_covers 9 _ (by decide +kernel) fun t hf y => ?_
  blk_simp
  rw [after0_9]
  obtain ⟨y0, d, rfl⟩ : ∃ (y0 : Fin 1) (d : Fin 128), y = ix2 y0 d := ⟨_, _, (ix2_eta y).symm⟩
  obtain rfl : y0 = 0 := Subsingleton.elim _ _
  have h7 : t.val % 8 = 7 := (flush0_9 t).mp hf
  rw [emb9 t d]
  exact (total (fun n hn => (outsAt0 m c n hn).2.2.1 (ix2 0 d)) (fun r => (A m c).ls r)
    (fun s h0 => loss_first m c s h0 d) (fun s hp h0 => loss_next m c s h0 hp d) t h7).trans
    (out2_eq _ _ _ _ _ _ _ d).symm

theorem emb10 (t : Fin cfg0.N) (d : Fin 1024) : (win0_10.blk t).view.emb (ix2 0 d) = ix2 0 d := by
  have ht := lt8 t
  blk_ext [idx t]

/-- Result 3: the gradient at the gate. -/
theorem final3 : (dats m 0 c).arrAt 10 cfg0.N = out3 (b0 m c) (b1 m c) (b2 m c) (b3 m c) (b4 m c) (b5 m c) (b6 m c) := by
  refine (dats m 0 c).arrAt_eq_of_covers 10 _ (by decide +kernel) fun t hf y => ?_
  blk_simp
  rw [after0_10]
  obtain ⟨y0, d, rfl⟩ : ∃ (y0 : Fin 1) (d : Fin 1024), y = ix2 y0 d := ⟨_, _, (ix2_eta y).symm⟩
  obtain rfl : y0 = 0 := Subsingleton.elim _ _
  have h7 : t.val % 8 = 7 := (flush0_10 t).mp hf
  rw [emb10 t d]
  exact (total (fun n hn => (outsAt0 m c n hn).2.2.2.1 (ix2 0 d)) (fun r => (A m c).rgt r d)
    (fun s h0 => gt_first m c s h0 d) (fun s hp h0 => gt_next m c s h0 hp d) t h7).trans
    (out3_eq _ _ _ _ _ _ _ d).symm

theorem emb11 (t : Fin cfg0.N) (d : Fin 1024) : (win0_11.blk t).view.emb (ix2 0 d) = ix2 0 d := by
  have ht := lt8 t
  blk_ext [idx t]

/-- Result 4: the gradient at the norm's weights. -/
theorem final4 : (dats m 0 c).arrAt 11 cfg0.N = out4 (b0 m c) (b1 m c) (b2 m c) (b3 m c) (b4 m c) (b5 m c) (b6 m c) := by
  refine (dats m 0 c).arrAt_eq_of_covers 11 _ (by decide +kernel) fun t hf y => ?_
  blk_simp
  rw [after0_11]
  obtain ⟨y0, d, rfl⟩ : ∃ (y0 : Fin 1) (d : Fin 1024), y = ix2 y0 d := ⟨_, _, (ix2_eta y).symm⟩
  obtain rfl : y0 = 0 := Subsingleton.elim _ _
  have h7 : t.val % 8 = 7 := (flush0_11 t).mp hf
  rw [emb11 t d]
  exact (total (fun n hn => (outsAt0 m c n hn).2.2.2.2 (ix2 0 d)) (fun r => (A m c).rg r d)
    (fun s h0 => g_first m c s h0 d) (fun s hp h0 => g_next m c s h0 hp d) t h7).trans
    (out4_eq _ _ _ _ _ _ _ d).symm

end Cert.Kernel4Ideal.Body

end
-- ==== Proof.DownFinite.lean ====
/-
  The fourth call's precondition read: every entry of every argument is a number. Then so is every entry of the arrays the
  call reads.
-/
module

public import proofs.«01_k».proof.Pre_finite4
public import proofs.«01_k».proof.Proof.DownRef
public import proofs.«01_k».proof.Proof.Finite

@[expose] public section

set_option maxRecDepth 16384

noncomputable section

namespace Cert.Pre_finite4.Gen

/-- The predicate's side conditions. -/
theorem facts : Cert.Pre_finite4.Facts where
  bcast_S_S4096x2816 := by decide
  bcast_S_S2816x1024 := by decide
  bcast_S_S4096x1024 := by decide
  bcast_S_S6x1024 := by decide
  bcast_S_S1x1024 := by decide

end Cert.Pre_finite4.Gen

namespace Cert.Reference4Ideal.Terms

open Idealize.ShloMosaic Idealize.ShloMosaic.TcCoe Idealize.SL.Sem
open Cert.Reference4Ideal Cert.Reference4Ideal.Gen Cert.Reference4Ideal.Facts
open Cert.Ffn (IsNum)
open Cert.ReferenceIdeal.Terms (isNum_of_mask bits_top32 bits_top16)

variable (a : FVec Ideal S4096x2816 .bf16) (wd : FVec Ideal S2816x1024 .f32) (x tg : FVec Ideal S4096x1024 .f32)
  (ad ba : FVec Ideal S6x1024 .f32) (g : FVec Ideal S1x1024 .f32)

/-- Under the precondition the arrays the call reads are numbers. -/
theorem num_of_pre [Cert.Pre_finite4.Facts]
    (h0 : (Cert.Pre_finite4.fn (F := Ideal) a wd x tg ad ba g).1 = fun _ => 1#1)
    (h1 : (Cert.Pre_finite4.fn (F := Ideal) a wd x tg ad ba g).2.1 = fun _ => 1#1)
    (h2 : (Cert.Pre_finite4.fn (F := Ideal) a wd x tg ad ba g).2.2.1 = fun _ => 1#1)
    (h3 : (Cert.Pre_finite4.fn (F := Ideal) a wd x tg ad ba g).2.2.2.1 = fun _ => 1#1)
    (h4 : (Cert.Pre_finite4.fn (F := Ideal) a wd x tg ad ba g).2.2.2.2.1 = fun _ => 1#1)
    (h5 : (Cert.Pre_finite4.fn (F := Ideal) a wd x tg ad ba g).2.2.2.2.2.1 = fun _ => 1#1)
    (h6 : (Cert.Pre_finite4.fn (F := Ideal) a wd x tg ad ba g).2.2.2.2.2.2 = fun _ => 1#1) :
    (arrays a wd x tg ad ba g).Num where
  F r d := IsNum.sum fun C => (isNum_of_mask a _ (fun _ => bits_top16) h0 _).mul (isNum_of_mask wd _ (fun _ => bits_top32) h1 _)
  X r d := isNum_of_mask x _ (fun _ => bits_top32) h2 _
  T r d := isNum_of_mask tg _ (fun _ => bits_top32) h3 _
  gt d := (isNum_of_mask ad _ (fun _ => bits_top32) h4 _).add (isNum_of_mask ba _ (fun _ => bits_top32) h5 _)
  g d := isNum_of_mask g _ (fun _ => bits_top32) h6 _

end Cert.Reference4Ideal.Terms

end
-- ==== Proof.Twin4.lean ====
/-
The fourth kernel over bits and over ideal numbers are one text printed twice.  The two kernel bodies, the two
tables of bodies and the two programs are shown equal here, so that the run of the second, stated for every
interpretation of the floats, also gives the frame of the first.
-/
module

public import proofs.«01_k».proof.Defs
public import proofs.«01_k».proof.Proof.Gen.Kernel4
public import proofs.«01_k».proof.Proof.Gen.Kernel4Ideal.Frame

@[expose] public section

set_option maxRecDepth 16384
set_option maxHeartbeats 1500000

noncomputable section

namespace Cert.Twin4

open Idealize.ShloMosaic Idealize.ShloMosaic.TcCoe Idealize.SL.Sem

variable {F : FTy → Type} [FloatOps F]

/-- The two kernel bodies are the same program: with the names of shapes, buffers and parts written out on both sides
    they read the same. -/
theorem body : @Cert.Kernel4.cc0_ffn_down_fwd F _ Cert.Kernel4.Gen.facts
    = @Cert.Kernel4Ideal.cc0_ffn_down_fwd F _ Cert.Kernel4Ideal.Gen.facts := by
  delta
    Cert.Kernel4.S4096x2816 Cert.Kernel4.S2816x1024 Cert.Kernel4.S4096x1024 Cert.Kernel4.S6x1024
    Cert.Kernel4.S1x1024 Cert.Kernel4.S4096x4x704 Cert.Kernel4.S4x4096x704 Cert.Kernel4.S4x704x1024
    Cert.Kernel4.S1x128 Cert.Kernel4.S4x512x704 Cert.Kernel4.S512x1024 Cert.Kernel4.S1x256x704
    Cert.Kernel4.S256x704 Cert.Kernel4.S1x704x1024 Cert.Kernel4.S704x1024 Cert.Kernel4.S256x1024
    Cert.Kernel4.S256 Cert.Kernel4.S256x1 Cert.Kernel4.S1x256x1 Cert.Kernel4.S1 Cert.Kernel4.S1x1x1
    Cert.Kernel4.S1024 Cert.Kernel4.nBuf Cert.Kernel4.bufTy Cert.Kernel4.bufScoped Cert.Kernel4.semScoped
    Cert.Kernel4.dmaSemScoped Cert.Kernel4.sig Cert.Kernel4.nD Cert.Kernel4.τ Cert.Kernel4.grid0
    Cert.Kernel4.cc0_transform_0 Cert.Kernel4.cc0_transform_1 Cert.Kernel4.cc0_transform_2
    Cert.Kernel4.cc0_transform_3 Cert.Kernel4.cc0_transform_4 Cert.Kernel4.cc0_transform_5
    Cert.Kernel4.cc0_transform_6 Cert.Kernel4.cc0_transform_7 Cert.Kernel4.cc0_transform_8
    Cert.Kernel4.cc0_transform_9 Cert.Kernel4.cc0_transform_10 Cert.Kernel4.cc0_transform_11
    Cert.Kernel4.stage0_0 Cert.Kernel4.sem0_0 Cert.Kernel4.reads0_0 Cert.Kernel4.stage0_1 Cert.Kernel4.sem0_1
    Cert.Kernel4.reads0_1 Cert.Kernel4.stage0_2 Cert.Kernel4.sem0_2 Cert.Kernel4.reads0_2
    Cert.Kernel4.stage0_3 Cert.Kernel4.sem0_3 Cert.Kernel4.reads0_3 Cert.Kernel4.stage0_4 Cert.Kernel4.sem0_4
    Cert.Kernel4.reads0_4 Cert.Kernel4.stage0_5 Cert.Kernel4.sem0_5 Cert.Kernel4.reads0_5
    Cert.Kernel4.stage0_6 Cert.Kernel4.sem0_6 Cert.Kernel4.reads0_6 Cert.Kernel4.stage0_7 Cert.Kernel4.sem0_7
    Cert.Kernel4.reads0_7 Cert.Kernel4.stage0_8 Cert.Kernel4.sem0_8 Cert.Kernel4.reads0_8
    Cert.Kernel4.stage0_9 Cert.Kernel4.sem0_9 Cert.Kernel4.reads0_9 Cert.Kernel4.stage0_10
    Cert.Kernel4.sem0_10 Cert.Kernel4.reads0_10 Cert.Kernel4.stage0_11 Cert.Kernel4.sem0_11
    Cert.Kernel4.reads0_11 Cert.Kernel4.dot_S256x704_S704x1024_S256x1024_1_0_0_1_n_n Cert.Kernel4.Λ₀
    Cert.Kernel4.k0_part1 Cert.Kernel4.k0_part2 Cert.Kernel4.k0_part3 Cert.Kernel4.k0_part4
    Cert.Kernel4.k0_part5 Cert.Kernel4.cc0_ffn_down_fwd
  delta
    Cert.Kernel4Ideal.S4096x2816 Cert.Kernel4Ideal.S2816x1024 Cert.Kernel4Ideal.S4096x1024
    Cert.Kernel4Ideal.S6x1024 Cert.Kernel4Ideal.S1x1024 Cert.Kernel4Ideal.S4096x4x704
    Cert.Kernel4Ideal.S4x4096x704 Cert.Kernel4Ideal.S4x704x1024 Cert.Kernel4Ideal.S1x128
    Cert.Kernel4Ideal.S4x512x704 Cert.Kernel4Ideal.S512x1024 Cert.Kernel4Ideal.S1x256x704
    Cert.Kernel4Ideal.S256x704 Cert.Kernel4Ideal.S1x704x1024 Cert.Kernel4Ideal.S704x1024
    Cert.Kernel4Ideal.S256x1024 Cert.Kernel4Ideal.S256 Cert.Kernel4Ideal.S256x1 Cert.Kernel4Ideal.S1x256x1
    Cert.Kernel4Ideal.S1 Cert.Kernel4Ideal.S1x1x1 Cert.Kernel4Ideal.S1024 Cert.Kernel4Ideal.nBuf
    Cert.Kernel4Ideal.bufTy Cert.Kernel4Ideal.bufScoped Cert.Kernel4Ideal.semScoped
    Cert.Kernel4Ideal.dmaSemScoped Cert.Kernel4Ideal.sig Cert.Kernel4Ideal.nD Cert.Kernel4Ideal.τ
    Cert.Kernel4Ideal.grid0 Cert.Kernel4Ideal.cc0_transform_0 Cert.Kernel4Ideal.cc0_transform_1
    Cert.Kernel4Ideal.cc0_transform_2 Cert.Kernel4Ideal.cc0_transform_3 Cert.Kernel4Ideal.cc0_transform_4
    Cert.Kernel4Ideal.cc0_transform_5 Cert.Kernel4Ideal.cc0_transform_6 Cert.Kernel4Ideal.cc0_transform_7
    Cert.Kernel4Ideal.cc0_transform_8 Cert.Kernel4Ideal.cc0_transform_9 Cert.Kernel4Ideal.cc0_transform_10
    Cert.Kernel4Ideal.cc0_transform_11 Cert.Kernel4Ideal.stage0_0 Cert.Kernel4Ideal.sem0_0
    Cert.Kernel4Ideal.reads0_0 Cert.Kernel4Ideal.stage0_1 Cert.Kernel4Ideal.sem0_1 Cert.Kernel4Ideal.reads0_1
    Cert.Kernel4Ideal.stage0_2 Cert.Kernel4Ideal.sem0_2 Cert.Kernel4Ideal.reads0_2 Cert.Kernel4Ideal.stage0_3
    Cert.Kernel4Ideal.sem0_3 Cert.Kernel4Ideal.reads0_3 Cert.Kernel4Ideal.stage0_4 Cert.Kernel4Ideal.sem0_4
    Cert.Kernel4Ideal.reads0_4 Cert.Kernel4Ideal.stage0_5 Cert.Kernel4Ideal.sem0_5 Cert.Kernel4Ideal.reads0_5
    Cert.Kernel4Ideal.stage0_6 Cert.Kernel4Ideal.sem0_6 Cert.Kernel4Ideal.reads0_6 Cert.Kernel4Ideal.stage0_7
    Cert.Kernel4Ideal.sem0_7 Cert.Kernel4Ideal.reads0_7 Cert.Kernel4Ideal.stage0_8 Cert.Kernel4Ideal.sem0_8
    Cert.Kernel4Ideal.reads0_8 Cert.Kernel4Ideal.stage0_9 Cert.Kernel4Ideal.sem0_9 Cert.Kernel4Ideal.reads0_9
    Cert.Kernel4Ideal.stage0_10 Cert.Kernel4Ideal.sem0_10 Cert.Kernel4Ideal.reads0_10
    Cert.Kernel4Ideal.stage0_11 Cert.Kernel4Ideal.sem0_11 Cert.Kernel4Ideal.reads0_11
    Cert.Kernel4Ideal.dot_S256x704_S704x1024_S256x1024_1_0_0_1_n_n Cert.Kernel4Ideal.Λ₀
    Cert.Kernel4Ideal.k0_part1 Cert.Kernel4Ideal.k0_part2 Cert.Kernel4Ideal.k0_part3
    Cert.Kernel4Ideal.k0_part4 Cert.Kernel4Ideal.k0_part5 Cert.Kernel4Ideal.cc0_ffn_down_fwd
  rfl

/-- So are the two tables that give the body of each label. -/
theorem table : @Cert.Kernel4.defs₀ F _ Cert.Kernel4.Gen.facts = @Cert.Kernel4Ideal.defs₀ F _ Cert.Kernel4Ideal.Gen.facts := by
  unfold Cert.Kernel4.defs₀ Cert.Kernel4Ideal.defs₀
  refine congrArg Defs.onTc ?_
  funext l a
  match l, a with
  | 0, (t, s) => dsimp only; rw [body]; rfl

/-- … and the tables with the pipeline's labels added. -/
theorem defs : @Cert.Kernel4.defs F _ Cert.Kernel4.Gen.facts = @Cert.Kernel4Ideal.defs F _ Cert.Kernel4Ideal.Gen.facts := by
  unfold Cert.Kernel4.defs Cert.Kernel4Ideal.defs
  rw [table]; rfl

set_option maxHeartbeats 2000000 in
/-- The two programs that call the kernel are the same. -/
theorem main : @Cert.Kernel4.main F _ Cert.Kernel4.Gen.facts = @Cert.Kernel4Ideal.main F _ Cert.Kernel4Ideal.Gen.facts := rfl

/-- The frame of the kernel over bits, from the run proved once for every interpretation of the floats. -/
theorem frame_kernel : quiescent_Kernel4 (hKernel4 := Cert.Kernel4.Gen.facts) := by
  intro m g _
  rw [defs, main]
  exact Cert.Kernel4Ideal.Gen.frame (F := Bits) m g

end Cert.Twin4

end
-- ==== Proof.MixTerms.lean ====
/-
  The fifth reference's three results, layer by layer: its own lines as functions of the eight arguments. The layers of
  the root-mean-square norm are those of the second reference.
-/
module

public import proofs.«01_k».proof.Proof.Gen.Reference5Ideal.Run
public import proofs.«01_k».proof.Proof.NormTerms

@[expose] public section

set_option maxRecDepth 16384

noncomputable section

namespace Cert.Reference5Ideal.Terms

open Idealize.ShloMosaic Idealize.ShloMosaic.TcCoe Idealize.SL.Sem
open Cert.Reference5Ideal Cert.Reference5Ideal.Gen
open Cert.Reference5Ideal.Facts
open Cert.Reference2Ideal.Terms (rows scaled scale stream)

section Layers

variable (o : FVec Ideal S4096x1024 .bf16) (s : FVec Ideal S4096x512 .bf16) (w : FVec Ideal S1024x1024 .f32)
  (x : FVec Ideal S4096x1024 .f32) (ad ba : FVec Ideal S6x1024 .f32) (gm gf : FVec Ideal S1x1024 .f32)

/-- The heads without their padding. -/
def heads : FVec Ideal S4096x512 .f32 :=
  shapeCast _ (extractStridedSlice S4096x8x64 ![0, 0, 0] (shapeCast _ (extf .f32 o bitsLt_bf16_f32) shapeCasts_S4096x1024_S4096x8x128)
    slices_S4096x8x128_S4096x8x64_0_0_0) shapeCasts_S4096x8x64_S4096x512
/-- The heads and the spatial gate side by side. -/
def both : FVec Ideal S4096x1024 .f32 :=
  concatenate S4096x1024 1 [⟨S4096x512, heads o⟩, ⟨S4096x512, extf .f32 s bitsLt_bf16_f32⟩] concatenates_S4096x512_S4096x512_S4096x1024_d1
/-- Result 0: their projection. -/
def out0 : FVec Ideal S4096x1024 .f32 := Host.dotGeneral dot_S4096x1024_S1024x1024_S4096x1024_1_0_0_1_n_n none (both o s) w
/-- Result 1: the stream after the mixer. -/
def out1 : FVec Ideal S4096x1024 .f32 := stream x (out0 o s w) ad ba gm
/-- The shift. -/
def shift : FVec Ideal S1x1024 .f32 := extractStridedSlice S1x1024 ![3, 0] (addf ad ba) slices_S6x1024_S1x1024_3_0
/-- A stream's weighted norm, modulated. -/
def modulated (y : FVec Ideal S4096x1024 .f32) : FVec Ideal S4096x1024 .bf16 :=
  truncf .bf16 (addf (mulf (mulf (scaled y) (rows gf))
    (rows (addf (broadcastInDim S1x1024 ![] bcast_S_S1x1024 (constant S_ .f32 0x3F800000#32)) (scale ad ba)))) (rows (shift ad ba))) bitsLt_bf16_f32
/-- Result 2: the modulated norm of the stream. -/
def out2 : FVec Ideal S4096x1024 .bf16 := modulated ad ba gf (out1 o s w x ad ba gm)

end Layers

section Run

variable (m : (ℓ : Loc nD τ sig) → Buf (Elt Ideal) ℓ) (c : Dev nD)

/-- Argument `0` of the reference on a device. -/
abbrev a0 : FVec Ideal S4096x1024 .bf16 := m ((c.tc : Thread nD τ).loc main_arg0)
/-- Argument `1` of the reference on a device. -/
abbrev a1 : FVec Ideal S4096x512 .bf16 := m ((c.tc : Thread nD τ).loc main_arg1)
/-- Argument `2` of the reference on a device. -/
abbrev a2 : FVec Ideal S1024x1024 .f32 := m ((c.tc : Thread nD τ).loc main_arg2)
/-- Argument `3` of the reference on a device. -/
abbrev a3 : FVec Ideal S4096x1024 .f32 := m ((c.tc : Thread nD τ).loc main_arg3)
/-- Argument `4` of the reference on a device. -/
abbrev a4 : FVec Ideal S6x1024 .f32 := m ((c.tc : Thread nD τ).loc main_arg4)
/-- Argument `5` of the reference on a device. -/
abbrev a5 : FVec Ideal S6x1024 .f32 := m ((c.tc : Thread nD τ).loc main_arg5)
/-- Argument `6` of the reference on a device. -/
abbrev a6 : FVec Ideal S1x1024 .f32 := m ((c.tc : Thread nD τ).loc main_arg6)
/-- Argument `7` of the reference on a device. -/
abbrev a7 : FVec Ideal S1x1024 .f32 := m ((c.tc : Thread nD τ).loc main_arg7)

set_option maxHeartbeats 2000000 in
/-- The reference's run, its results by their names here. -/
theorem run_outs (ρ : Dev nD → PrngReg) :
    θ_run defs (onTc (τ := τ) (main (F := Ideal))) ⟨m, fun _ => 0, ρ⟩ fun r => ∀ c : Dev nD,
      r.2.mem ((c.tc : Thread nD τ).loc main_v7) = out0 (a0 m c) (a1 m c) (a2 m c)
      ∧ r.2.mem ((c.tc : Thread nD τ).loc main_v23) = out1 (a0 m c) (a1 m c) (a2 m c) (a3 m c) (a4 m c) (a5 m c) (a6 m c)
      ∧ r.2.mem ((c.tc : Thread nD τ).loc main_v44) = out2 (a0 m c) (a1 m c) (a2 m c) (a3 m c) (a4 m c) (a5 m c) (a6 m c) (a7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun r h c => ⟨(h c).1, (h c).2.1, (h c).2.2.1, (h c).2.2.2⟩) (Value.run m ρ)

end Run

end Cert.Reference5Ideal.Terms

end
-- ==== Proof.MixSpec.lean ====
/-
  The mixer's output projection and the two norms after it, as formulas on coordinates. The attention leaves eight heads
  of 64 columns, each padded to 128; the spatial gate leaves 512 columns.
-/
module

public import proofs.«01_k».proof.Proof.NormSpec

@[expose] public section

set_option maxRecDepth 16384

noncomputable section

namespace Cert.Mix

open Idealize.ShloMosaic
open Cert.Norm (hat)

/-- Column `j` of head `h` among the padded columns. -/
def padCol (h : Fin 8) (j : Fin 64) : Fin 1024 := ⟨h.val * 128 + j.val, by omega⟩
/-- Column `j` of the padding behind head `h`. -/
def padRest (h : Fin 8) (j : Fin 64) : Fin 1024 := ⟨h.val * 128 + (64 + j.val), by omega⟩
/-- Column `j` of head `h` among the heads' columns. -/
def headCol (h : Fin 8) (j : Fin 64) : Fin 512 := ⟨h.val * 64 + j.val, by omega⟩
/-- Row `q` of the first 512 rows of the weights, those of the heads. -/
def lo (q : Fin 512) : Fin 1024 := ⟨q.val, by omega⟩
/-- Row `q` of the last 512 rows of the weights, those of the spatial gate. -/
def hi (q : Fin 512) : Fin 1024 := ⟨512 + q.val, by omega⟩

/-- A sum over the heads' columns, head by head. -/
theorem head_sum (f : Fin 512 → EReal) : ∑ C : Fin 512, f C = ∑ h : Fin 8, ∑ j : Fin 64, f (headCol h j) := by
  rw [← Fintype.sum_prod_type']
  refine (Fintype.sum_equiv (finProdFinEquiv (m := 8) (n := 64)) _ _ fun a => ?_).symm
  have hv : (finProdFinEquiv (m := 8) (n := 64) a).val = a.2.val + 64 * a.1.val := rfl
  exact congrArg f (Fin.ext (by show a.1.val * 64 + a.2.val = _; rw [hv]; omega))

/-- A sum over the padded columns, head by head, of a function that is zero on the padding. -/
theorem pad_sum (f : Fin 1024 → EReal) (h0 : ∀ h j, f (padRest h j) = 0) :
    ∑ C : Fin 1024, f C = ∑ h : Fin 8, ∑ j : Fin 64, f (padCol h j) := by
  have e : ∑ C : Fin 1024, f C = ∑ h : Fin 8, ∑ i : Fin 128, f ⟨h.val * 128 + i.val, by omega⟩ := by
    rw [← Fintype.sum_prod_type' (f := fun (h : Fin 8) (i : Fin 128) => f ⟨h.val * 128 + i.val, by omega⟩)]
    refine (Fintype.sum_equiv (finProdFinEquiv (m := 8) (n := 128)) _ _ fun a => ?_).symm
    have hv : (finProdFinEquiv (m := 8) (n := 128) a).val = a.2.val + 128 * a.1.val := rfl
    exact congrArg f (Fin.ext (by show a.1.val * 128 + a.2.val = _; rw [hv]; omega))
  rw [e]
  refine Finset.sum_congr rfl fun h _ => ?_
  refine (Fin.sum_univ_add (a := 64) (b := 64) fun i : Fin 128 => f ⟨h.val * 128 + i.val, by omega⟩).trans ?_
  have z : ∑ j : Fin 64, f ⟨h.val * 128 + (Fin.natAdd 64 j).val, by have := (Fin.natAdd 64 j).isLt; omega⟩ = 0 :=
    Finset.sum_eq_zero fun j _ => h0 h j
  rw [z, add_zero]
  rfl

/-- A sum over the weights' rows: the heads' and the gate's. -/
theorem two_sum (f : Fin 1024 → EReal) : ∑ C : Fin 1024, f C = ∑ q : Fin 512, f (lo q) + ∑ q : Fin 512, f (hi q) :=
  Fin.sum_univ_add (a := 512) (b := 512) f

/-- The arrays the call's three results are functions of: the projection `M`, the stream `X`, the gate, the shift, the
    scale and the two norms' weights. -/
structure Arrays where
  M : Fin 4096 → Fin 1024 → EReal
  X : Fin 4096 → Fin 1024 → EReal
  gt : Fin 1024 → EReal
  sh : Fin 1024 → EReal
  sc : Fin 1024 → EReal
  gm : Fin 1024 → EReal
  gf : Fin 1024 → EReal

namespace Arrays

variable (A : Arrays)

/-- The stream after the mixer. -/
def st (r : Fin 4096) (d : Fin 1024) : EReal := A.X r d + A.gt d * (hat (A.M r) d * A.gm d)
/-- Its modulated norm. -/
def mo (r : Fin 4096) (d : Fin 1024) : EReal := hat (A.st r) d * A.gf d * (1 + A.sc d) + A.sh d

end Arrays

end Cert.Mix

end
-- ==== Proof.MixRef.lean ====
/-
  The fifth reference's three results read at an index: they are the formulas of `Cert.Mix.Arrays`.
-/
module

public import proofs.«01_k».proof.Proof.MixTerms
public import proofs.«01_k».proof.Proof.MixSpec
public import proofs.«01_k».proof.Proof.NormRef

@[expose] public section

set_option maxRecDepth 16384

noncomputable section

namespace Cert.Reference5Ideal.Terms

open Idealize.ShloMosaic Idealize.ShloMosaic.TcCoe Idealize.SL.Sem
open Cert.Reference5Ideal Cert.Reference5Ideal.Gen
open Cert.Reference2Ideal.Terms (rows rows_at scaled_at scale_at stream_at)
open Cert.Mix (padCol headCol lo hi)
open Cert.Norm (hat)

variable (o : FVec Ideal S4096x1024 .bf16) (s : FVec Ideal S4096x512 .bf16) (w : FVec Ideal S1024x1024 .f32)
  (x : FVec Ideal S4096x1024 .f32) (ad ba : FVec Ideal S6x1024 .f32) (gm gf : FVec Ideal S1x1024 .f32)

/-- The projection as a sum over the heads' columns and the gate's. -/
def proj (r : Fin 4096) (d : Fin 1024) : EReal :=
  (∑ h : Fin 8, ∑ j : Fin 64, o (ix2 r (padCol h j)) * w (ix2 (lo (headCol h j)) d)) + ∑ q : Fin 512, s (ix2 r q) * w (ix2 (hi q) d)

/-- The arrays the results are functions of. -/
def arrays : Cert.Mix.Arrays where
  M := proj o s w
  X r d := x (ix2 r d)
  gt d := ad (ix2 2 d) + ba (ix2 2 d)
  sh d := ad (ix2 3 d) + ba (ix2 3 d)
  sc d := ad (ix2 4 d) + ba (ix2 4 d)
  gm d := gm (ix2 0 d)
  gf d := gf (ix2 0 d)

theorem heads_at (r : Fin 4096) (h : Fin 8) (j : Fin 64) : heads o (ix2 r (headCol h j)) = o (ix2 r (padCol h j)) := by
  unfold headCol padCol
  pointwise [heads]

theorem both_lo (r : Fin 4096) (q : Fin 512) : both o s (ix2 r (lo q)) = heads o (ix2 r q) := by
  unfold both lo
  generalize heads o = u
  pointwise

theorem both_hi (r : Fin 4096) (q : Fin 512) : both o s (ix2 r (hi q)) = s (ix2 r q) := by
  unfold both hi
  generalize heads o = u
  pointwise

theorem out0_at (r : Fin 4096) (d : Fin 1024) : out0 o s w (ix2 r d) = proj o s w r d := by
  have e : out0 o s w (ix2 r d) = ∑ C : Fin 1024, both o s (ix2 r C) * w (ix2 C d) := by
    unfold out0
    generalize both o s = u
    pointwise
  rw [e, Cert.Mix.two_sum, Cert.Mix.head_sum]
  unfold proj
  simp only [both_lo, both_hi, heads_at]

theorem out0_eq (r : Fin 4096) (d : Fin 1024) : out0 o s w (ix2 r d) = (arrays o s w x ad ba gm gf).M r d := out0_at o s w r d

theorem out1_eq (r : Fin 4096) (d : Fin 1024) : out1 o s w x ad ba gm (ix2 r d) = (arrays o s w x ad ba gm gf).st r d := by
  refine (stream_at _ _ _ _ _ r d).trans ?_
  simp only [out0_at]
  rfl

theorem shift_at (d : Fin 1024) : shift ad ba (ix2 0 d) = ad (ix2 3 d) + ba (ix2 3 d) := by pointwise [shift]

theorem out2_eq (r : Fin 4096) (d : Fin 1024) : out2 o s w x ad ba gm gf (ix2 r d) = (arrays o s w x ad ba gm gf).mo r d := by
  refine congrArg₂ (· + ·) (congrArg₂ (· * ·) (congrArg₂ (· * ·)
    ((scaled_at _ r d).trans (congrArg (fun f => hat f d) (funext (out1_eq o s w x ad ba gm gf r)))) (rows_at gf r d))
    ((rows_at _ r d).trans ?_)) ((rows_at _ r d).trans (shift_at ad ba d))
  refine congrArg₂ (· + ·) ?_ (scale_at ad ba d)
  pointwise

end Cert.Reference5Ideal.Terms

end
-- ==== Proof.MixBlocks.lean ====
/-
  The blocks the fifth kernel reads at a grid point, as the arrays of `Cert.Mix.Arrays`: point `t` works on the 512 rows
  from row `512 t`, with the whole padded weights.
-/
module

public import proofs.«01_k».proof.Proof.Gen.Kernel5Ideal.Value
public import proofs.«01_k».proof.Proof.MixRef
public import Idealize.ShloMosaic.Lib.Pointwise
public import Idealize.ShloMosaic.Lib.Claim
public import Idealize.ShloMosaic.Lib.StableHlo.RunRead
public import Idealize.ShloMosaic.Lib.Pipeline.ValueKit

@[expose] public section

set_option maxRecDepth 16384

noncomputable section

namespace Cert.Kernel5Ideal.Body

open Idealize.ShloMosaic Idealize.ShloMosaic.TcCoe Idealize.SL.Sem
open Cert.Kernel5Ideal Cert.Kernel5Ideal.Gen
open Cert.Mix (padCol padRest headCol lo hi)

variable (m : (ℓ : Loc nD τ sig) → Buf (Elt Ideal) ℓ) (c : Dev nD)

/-- Argument `0` of the kernel on a device. -/
abbrev b0 : FVec Ideal S4096x1024 .bf16 := m ((c.tc : Thread nD τ).loc main_arg0)
/-- Argument `1` of the kernel on a device. -/
abbrev b1 : FVec Ideal S4096x512 .bf16 := m ((c.tc : Thread nD τ).loc main_arg1)
/-- Argument `2` of the kernel on a device. -/
abbrev b2 : FVec Ideal S1024x1024 .f32 := m ((c.tc : Thread nD τ).loc main_arg2)
/-- Argument `3` of the kernel on a device. -/
abbrev b3 : FVec Ideal S4096x1024 .f32 := m ((c.tc : Thread nD τ).loc main_arg3)
/-- Argument `4` of the kernel on a device. -/
abbrev b4 : FVec Ideal S6x1024 .f32 := m ((c.tc : Thread nD τ).loc main_arg4)
/-- Argument `5` of the kernel on a device. -/
abbrev b5 : FVec Ideal S6x1024 .f32 := m ((c.tc : Thread nD τ).loc main_arg5)
/-- Argument `6` of the kernel on a device. -/
abbrev b6 : FVec Ideal S1x1024 .f32 := m ((c.tc : Thread nD τ).loc main_arg6)
/-- Argument `7` of the kernel on a device. -/
abbrev b7 : FVec Ideal S1x1024 .f32 := m ((c.tc : Thread nD τ).loc main_arg7)

/-- The arrays the call reads, of the kernel's arguments. -/
abbrev A : Cert.Mix.Arrays :=
  Cert.Reference5Ideal.Terms.arrays (b0 m c) (b1 m c) (b2 m c) (b3 m c) (b4 m c) (b5 m c) (b6 m c) (b7 m c)

/-! ## The padded weights -/

section Weights

variable (w : FVec Ideal S1024x1024 .f32)

/-- The first 512 rows of the weights, each head's 64 padded to 128 by zeros. -/
def padded : FVec Ideal S1024x1024 .bf16 :=
  shapeCast S1024x1024 (pad S8x128x1024 ![0, 0, 0] ![0, 64, 0] ![0, 0, 0]
    (shapeCast S8x64x1024 (extractStridedSlice S512x1024 ![0, 0] (truncf .bf16 w bitsLt_bf16_f32) slices_S1024x1024_S512x1024_0_0) shapeCasts_S512x1024_S8x64x1024)
    (sitofp .bf16 (constantI S_ 32 0#32)) pads_S8x64x1024_S8x128x1024_000_0640_000 h_S_) shapeCasts_S8x128x1024_S1024x1024
/-- Behind them the last 512 rows. -/
def weights : FVec Ideal S1536x1024 .bf16 :=
  concatenate S1536x1024 0 [⟨S1024x1024, padded w⟩, ⟨S512x1024, extractStridedSlice S512x1024 ![512, 0] (truncf .bf16 w bitsLt_bf16_f32) slices_S1024x1024_S512x1024_512_0⟩]
    concatenates_S1024x1024_S512x1024_S1536x1024_d0

theorem padded_col (h : Fin 8) (j : Fin 64) (d : Fin 1024) : padded w (ix2 (padCol h j) d) = w (ix2 (lo (headCol h j)) d) := by
  have e : (h.val * 128 + j.val) % 128 = j.val := by omega
  unfold padCol lo headCol
  pointwise [padded]
  simp [e]

theorem padded_rest (h : Fin 8) (j : Fin 64) (d : Fin 1024) : padded w (ix2 (padRest h j) d) = 0 := by
  have e : (h.val * 128 + (64 + j.val)) % 128 = 64 + j.val := by omega
  unfold padRest
  pointwise [padded]
  rw [dif_neg (by omega)]
  exact (by simp [FloatOps.sitofp] : (FloatOps.sitofp (F := Idealize.ShloMosaic.Ideal) FTy.bf16 0#32) = 0)

theorem weights_lo (k : Fin 1024) (d : Fin 1024) : weights w (ix2 ⟨k.val, by omega⟩ d) = padded w (ix2 k d) := by
  unfold weights
  generalize padded w = u
  pointwise

theorem weights_hi (q : Fin 512) (d : Fin 1024) : weights w (ix2 ⟨1024 + q.val, by omega⟩ d) = w (ix2 (hi q) d) := by
  unfold weights hi
  generalize padded w = u
  pointwise

end Weights

theorem V6 : V m c main_v6 = weights (b2 m c) := by
  unfold V hostOps0
  after_reads_simp
  rfl

/-! ## The blocks -/

/-- Where each window's block stands. -/
theorem idx : ∀ t : Fin cfg0.N,
    win0_0.index t = ![t.val, 0] ∧ win0_1.index t = ![t.val, 0] ∧ win0_2.index t = ![0, 0] ∧ win0_3.index t = ![t.val, 0] ∧
    win0_4.index t = ![0, 0] ∧ win0_5.index t = ![0, 0] ∧ win0_6.index t = ![0, 0] ∧ win0_7.index t = ![0, 0] ∧
    win0_8.index t = ![t.val, 0] ∧ win0_9.index t = ![t.val, 0] ∧ win0_10.index t = ![t.val, 0] :=
  (by decide +kernel : ∀ t : Fin grid0.N, _)

theorem lt8 (t : Fin cfg0.N) : t.val < 8 := lt_of_lt_of_eq t.isLt Gen.N_0

/-- Row `x` of a point's 512. -/
def row (t : Fin cfg0.N) (x : Fin 512) : Fin 4096 := ⟨512 * t.val + x.val, by have := lt8 t; omega⟩

theorem blk0 (t : Fin cfg0.N) (x : Fin 512) (d : Fin 1024) : iblk m c 0 t (ix2 x d) = b0 m c (ix2 (row t x) d) := by
  have ht := lt8 t
  unfold row
  blk_ext [iblk, V, idx t]

theorem blk1 (t : Fin cfg0.N) (x : Fin 512) (q : Fin 512) : iblk m c 1 t (ix2 x q) = b1 m c (ix2 (row t x) q) := by
  have ht := lt8 t
  unfold row
  blk_ext [iblk, V, idx t]

theorem blk2 (t : Fin cfg0.N) (k : Fin 1536) (d : Fin 1024) : iblk m c 2 t (ix2 k d) = weights (b2 m c) (ix2 k d) := by
  have ht := lt8 t
  rw [← V6]
  blk_ext [iblk, idx t]

theorem blk3 (t : Fin cfg0.N) (x : Fin 512) (d : Fin 1024) : iblk m c 3 t (ix2 x d) = b3 m c (ix2 (row t x) d) := by
  have ht := lt8 t
  unfold row
  blk_ext [iblk, V, idx t]

theorem blk4 (t : Fin cfg0.N) (k : Fin 6) (d : Fin 1024) : iblk m c 4 t (ix2 k d) = b4 m c (ix2 k d) := by
  have ht := lt8 t
  blk_ext [iblk, V, idx t]

theorem blk5 (t : Fin cfg0.N) (k : Fin 6) (d : Fin 1024) : iblk m c 5 t (ix2 k d) = b5 m c (ix2 k d) := by
  have ht := lt8 t
  blk_ext [iblk, V, idx t]

theorem blk6 (t : Fin cfg0.N) (d : Fin 1024) : iblk m c 6 t (ix2 0 d) = b6 m c (ix2 0 d) := by
  have ht := lt8 t
  blk_ext [iblk, V, idx t]

theorem blk7 (t : Fin cfg0.N) (d : Fin 1024) : iblk m c 7 t (ix2 0 d) = b7 m c (ix2 0 d) := by
  have ht := lt8 t
  blk_ext [iblk, V, idx t]

end Cert.Kernel5Ideal.Body

end
-- ==== Proof.MixPay.lean ====
/-
  What the fifth kernel computes from a block of 512 rows, at an index: the projection from two products, the stream and
  its modulated norm.
-/
module

public import proofs.«01_k».proof.Proof.Gen.Kernel5Ideal.Skeleton
public import proofs.«01_k».proof.Proof.MixSpec
public import Idealize.ShloMosaic.PureOps.Ideal
public import Idealize.ShloMosaic.Lib.Pointwise

@[expose] public section

set_option maxRecDepth 16384

noncomputable section

namespace Cert.Kernel5Ideal.Body

open Idealize.ShloMosaic Idealize.ShloMosaic.TcCoe Idealize.SL.Sem
open Cert.Kernel5Ideal Cert.Kernel5Ideal.Gen
open Cert.Norm (ms rs hat)

variable (a : Vec Ideal S512x1024 .bf16) (u : Vec Ideal S1024x1024 .bf16) (s : Vec Ideal S512x512 .bf16) (v : Vec Ideal S512x1024 .bf16)
  (gt sh sc : FVec Ideal S1x1024 .f32) (M R : FVec Ideal S512x1024 .f32) (X : Vec Ideal S512x1024 .f32) (gm gf : Vec Ideal S1x1024 .f32)

theorem pay6_at (x : Fin 512) (d : Fin 1024) : k0_pay6 a u s v (ix2 x d)
    = (∑ k : Fin 1024, a (ix2 x k) * u (ix2 k d)) + ∑ q : Fin 512, s (ix2 x q) * v (ix2 q d) := by
  pointwise [k0_pay6]

theorem pay7_at (x : Fin 512) (d : Fin 1024) : k0_pay7 a u s v (ix2 x d) = rs fun e => k0_pay6 a u s v (ix2 x e) := by
  unfold rs ms Cert.Norm.width Cert.Norm.eps
  unfold k0_pay7
  generalize k0_pay6 a u s v = f
  pointwise

theorem pay1_at (x : Fin 512) (d : Fin 1024) : k0_pay1 gt M X R gm (ix2 x d)
    = X (ix2 x d) + gt (ix2 0 d) * (M (ix2 x d) * R (ix2 x d) * gm (ix2 0 d)) := by
  pointwise [k0_pay1]

theorem pay2_at (x : Fin 512) (d : Fin 1024) : k0_pay2 gt sh sc M X R gm gf (ix2 x d)
    = hat (fun e => k0_pay1 gt M X R gm (ix2 x e)) d * gf (ix2 0 d) * (1 + sc (ix2 0 d)) + sh (ix2 0 d) := by
  unfold hat rs ms Cert.Norm.width Cert.Norm.eps
  unfold k0_pay2
  generalize k0_pay1 gt M X R gm = f
  pointwise

theorem pay3_at (p q : Vec Ideal S1x1024 .f32) (d : Fin 1024) : k0_pay3 p q (ix2 0 d) = p (ix2 0 d) + q (ix2 0 d) := by
  pointwise [k0_pay3]

theorem pay4_at (p q : Vec Ideal S1x1024 .f32) (d : Fin 1024) : k0_pay4 p q (ix2 0 d) = p (ix2 0 d) + q (ix2 0 d) := by
  pointwise [k0_pay4]

theorem pay5_at (p q : Vec Ideal S1x1024 .f32) (d : Fin 1024) : k0_pay5 p q (ix2 0 d) = p (ix2 0 d) + q (ix2 0 d) := by
  pointwise [k0_pay5]

end Cert.Kernel5Ideal.Body

end
-- ==== Proof.MixFinal.lean ====
/-
  The fifth kernel's three results as whole arrays: each point writes its 512 rows of them.
-/
module

public import proofs.«01_k».proof.Proof.MixBlocks
public import proofs.«01_k».proof.Proof.MixPay

@[expose] public section

set_option maxRecDepth 16384

noncomputable section

namespace Cert.Kernel5Ideal.Body

open Idealize.ShloMosaic Idealize.ShloMosaic.TcCoe Idealize.SL.Sem
open Cert.Kernel5Ideal Cert.Kernel5Ideal.Gen
open Cert.Mix (padCol padRest headCol lo hi)
open Cert.Norm (hat)
open Cert.Reference5Ideal.Terms (proj out0 out1 out2 out0_eq out1_eq out2_eq)

variable (m : (ℓ : Loc nD τ sig) → Buf (Elt Ideal) ℓ) (c : Dev nD)

/-! ## Loads of a block at an index -/

theorem ld_row (X : Vec Ideal S6x1024 .f32) (k : ℕ) (hk : k < 6) (inb) (d : Fin 1024) :
    View.ld X (Rect.unit ![k, 0] ![1, 1024] inb) (ix2 0 d) = X (ix2 ⟨k, hk⟩ d) :=
  View.ld_unit_apply_of X _ _ inb _ _ fun a => by
    match a with
    | ⟨0, _⟩ => rfl
    | ⟨1, _⟩ => exact (Nat.zero_add _).symm

theorem ld_wlo (X : Vec Ideal S1536x1024 .bf16) (k : Fin 1024) (d : Fin 1024) :
    View.ld X r0_4 (ix2 k d) = X (ix2 ⟨k.val, by omega⟩ d) :=
  View.ld_unit_apply_of X _ _ _ _ _ fun a => by
    match a with
    | ⟨0, _⟩ => exact (Nat.zero_add _).symm
    | ⟨1, _⟩ => exact (Nat.zero_add _).symm

theorem ld_whi (X : Vec Ideal S1536x1024 .bf16) (q : Fin 512) (d : Fin 1024) :
    View.ld X r0_6 (ix2 q d) = X (ix2 ⟨1024 + q.val, by omega⟩ d) :=
  View.ld_unit_apply_of X _ _ _ _ _ fun a => by
    match a with
    | ⟨0, _⟩ => rfl
    | ⟨1, _⟩ => exact (Nat.zero_add _).symm

theorem ld_o (X : Vec Ideal S512x1024 .bf16) : View.ld X r0_3 = X := View.ld_unit_lit _ X (by decide)
theorem ld_x (X : Vec Ideal S512x1024 .f32) : View.ld X r0_3 = X := View.ld_unit_lit _ X (by decide)
theorem ld_s (X : Vec Ideal S512x512 .bf16) : View.ld X r0_5 = X := View.ld_unit_lit _ X (by decide)
theorem ld_g (X : Vec Ideal S1x1024 .f32) : View.ld X r0_7 = X := View.ld_unit_lit _ X (by decide)

/-! ## What a point computes -/

/-- A point's two loads of the weights. -/
abbrev wLo (t : Fin cfg0.N) : Vec Ideal S1024x1024 .bf16 := View.ld (iblk m c 2 t) r0_4
abbrev wHi (t : Fin cfg0.N) : Vec Ideal S512x1024 .bf16 := View.ld (iblk m c 2 t) r0_6

theorem wLo_at (t : Fin cfg0.N) (k : Fin 1024) (d : Fin 1024) : wLo m c t (ix2 k d) = padded (b2 m c) (ix2 k d) :=
  (ld_wlo _ k d).trans ((blk2 m c t _ d).trans (weights_lo (b2 m c) k d))

theorem wHi_at (t : Fin cfg0.N) (q : Fin 512) (d : Fin 1024) : wHi m c t (ix2 q d) = b2 m c (ix2 (hi q) d) :=
  (ld_whi _ q d).trans ((blk2 m c t _ d).trans (weights_hi (b2 m c) q d))

/-- The projection of a point's rows: the padded columns meet zeros. -/
theorem proj_at (t : Fin cfg0.N) (x : Fin 512) (d : Fin 1024) :
    k0_pay6 (iblk m c 0 t) (wLo m c t) (iblk m c 1 t) (wHi m c t) (ix2 x d) = (A m c).M (row t x) d := by
  rw [pay6_at]
  refine congrArg₂ (· + ·) ?_ (Finset.sum_congr rfl fun q _ => congrArg₂ (fun p q : EReal => p * q) (blk1 m c t x q) (wHi_at m c t q d))
  refine (Finset.sum_congr rfl fun k _ => congrArg₂ (fun p q : EReal => p * q) (blk0 m c t x k) (wLo_at m c t k d)).trans ?_
  refine (Cert.Mix.pad_sum (fun k => b0 m c (ix2 (row t x) k) * padded (b2 m c) (ix2 k d)) fun h j => ?_).trans ?_
  · show _ * _ = (0 : EReal)
    rw [padded_rest]
    exact mul_zero _
  · exact Finset.sum_congr rfl fun h _ => Finset.sum_congr rfl fun j _ => congrArg (fun p : EReal => _ * p) (padded_col (b2 m c) h j d)

/-- A row of the modulation. -/
abbrev ada (t : Fin cfg0.N) (k : ℕ) (inb : ∀ a, (![k, 0] : Fin 2 → ℕ) a + S1x1024.size a ≤ S6x1024.size a) : Vec Ideal S1x1024 .f32 :=
  View.ld (iblk m c 4 t) (Rect.unit ![k, 0] ![1, 1024] inb)
abbrev adb (t : Fin cfg0.N) (k : ℕ) (inb : ∀ a, (![k, 0] : Fin 2 → ℕ) a + S1x1024.size a ≤ S6x1024.size a) : Vec Ideal S1x1024 .f32 :=
  View.ld (iblk m c 5 t) (Rect.unit ![k, 0] ![1, 1024] inb)

theorem ada_at (t : Fin cfg0.N) (k : ℕ) (hk : k < 6) (inb) (d : Fin 1024) : ada m c t k inb (ix2 0 d) + adb m c t k inb (ix2 0 d)
    = b4 m c (ix2 ⟨k, hk⟩ d) + b5 m c (ix2 ⟨k, hk⟩ d) :=
  congrArg₂ (· + ·) ((ld_row _ k hk inb d).trans (blk4 m c t _ d)) ((ld_row _ k hk inb d).trans (blk5 m c t _ d))

/-- The stream of a point's rows. -/
abbrev stream (t : Fin cfg0.N) (i2 : ∀ a, (![2, 0] : Fin 2 → ℕ) a + S1x1024.size a ≤ S6x1024.size a) : FVec Ideal S512x1024 .f32 :=
  k0_pay1 (k0_pay3 (ada m c t 2 i2) (adb m c t 2 i2)) (k0_pay6 (iblk m c 0 t) (wLo m c t) (iblk m c 1 t) (wHi m c t)) (iblk m c 3 t)
    (k0_pay7 (iblk m c 0 t) (wLo m c t) (iblk m c 1 t) (wHi m c t)) (iblk m c 6 t)

theorem stream_at (t : Fin cfg0.N) (i2) (x : Fin 512) (d : Fin 1024) : stream m c t i2 (ix2 x d) = (A m c).st (row t x) d := by
  refine (pay1_at _ _ _ _ _ x d).trans ?_
  refine congrArg₂ (· + ·) (blk3 m c t x d) (congrArg₂ (· * ·) ?_ (congrArg₂ (· * ·) ?_ (blk6 m c t d)))
  · exact (pay3_at _ _ d).trans (ada_at m c t 2 (by omega) i2 d)
  · refine congrArg₂ (· * ·) (proj_at m c t x d) ((pay7_at _ _ _ _ x d).trans ?_)
    exact congrArg Cert.Norm.rs (funext fun e => proj_at m c t x e)

theorem modulated_at (t : Fin cfg0.N) (i2 i3 i4) (x : Fin 512) (d : Fin 1024) :
    k0_pay2 (k0_pay3 (ada m c t 2 i2) (adb m c t 2 i2)) (k0_pay4 (ada m c t 3 i3) (adb m c t 3 i3)) (k0_pay5 (ada m c t 4 i4) (adb m c t 4 i4))
      (k0_pay6 (iblk m c 0 t) (wLo m c t) (iblk m c 1 t) (wHi m c t)) (iblk m c 3 t)
      (k0_pay7 (iblk m c 0 t) (wLo m c t) (iblk m c 1 t) (wHi m c t)) (iblk m c 6 t) (iblk m c 7 t) (ix2 x d) = (A m c).mo (row t x) d := by
  rw [pay2_at]
  refine congrArg₂ (· + ·) (congrArg₂ (· * ·) (congrArg₂ (· * ·) ?_ (blk7 m c t d)) (congrArg (fun p : EReal => 1 + p) ?_)) ?_
  · exact congrArg (fun f => hat f d) (funext fun e => stream_at m c t i2 x e)
  · exact (pay5_at _ _ d).trans (ada_at m c t 4 (by omega) i4 d)
  · exact (pay4_at _ _ d).trans (ada_at m c t 3 (by omega) i3 d)

/-! ## The results -/

theorem emb8 (t : Fin cfg0.N) (x : Fin 512) (d : Fin 1024) : (win0_8.blk t).view.emb (ix2 x d) = ix2 (row t x) d := by
  have ht := lt8 t
  unfold row
  blk_ext [idx t]

/-- Result 0: the mixer's projection. -/
theorem final0 : (dats m 0 c).arrAt 8 cfg0.N = out0 (b0 m c) (b1 m c) (b2 m c) := by
  refine (dats m 0 c).arrAt_eq_of_covers 8 _ (by decide +kernel) fun t hf y => ?_
  blk_simp
  rw [after0_8]
  obtain ⟨x, d, rfl⟩ : ∃ (x : Fin 512) (d : Fin 1024), y = ix2 x d := ⟨_, _, (ix2_eta y).symm⟩
  rw [emb8 t x d]
  refine Eq.trans ?_ (out0_eq (b0 m c) (b1 m c) (b2 m c) (b3 m c) (b4 m c) (b5 m c) (b6 m c) (b7 m c) (row t x) d).symm
  unfold_out out0_8
  rw [View.canon_cons_unit_lit _ _ _ (by decide)]
  simp only [ld_o, ld_x, ld_s, ld_g]
  exact proj_at m c t x d

theorem emb9 (t : Fin cfg0.N) (x : Fin 512) (d : Fin 1024) : (win0_9.blk t).view.emb (ix2 x d) = ix2 (row t x) d := by
  have ht := lt8 t
  unfold row
  blk_ext [idx t]

/-- Result 1: the stream after the mixer. -/
theorem final1 : (dats m 0 c).arrAt 9 cfg0.N = out1 (b0 m c) (b1 m c) (b2 m c) (b3 m c) (b4 m c) (b5 m c) (b6 m c) := by
  refine (dats m 0 c).arrAt_eq_of_covers 9 _ (by decide +kernel) fun t hf y => ?_
  blk_simp
  rw [after0_9]
  obtain ⟨x, d, rfl⟩ : ∃ (x : Fin 512) (d : Fin 1024), y = ix2 x d := ⟨_, _, (ix2_eta y).symm⟩
  rw [emb9 t x d]
  refine Eq.trans ?_ (out1_eq (b0 m c) (b1 m c) (b2 m c) (b3 m c) (b4 m c) (b5 m c) (b6 m c) (b7 m c) (row t x) d).symm
  unfold_out out0_9
  rw [View.canon_cons_unit_lit _ _ _ (by decide)]
  simp only [ld_o, ld_x, ld_s, ld_g]
  exact stream_at m c t _ x d

theorem emb10 (t : Fin cfg0.N) (x : Fin 512) (d : Fin 1024) : (win0_10.blk t).view.emb (ix2 x d) = ix2 (row t x) d := by
  have ht := lt8 t
  unfold row
  blk_ext [idx t]

/-- Result 2: its modulated norm. -/
theorem final2 : (dats m 0 c).arrAt 10 cfg0.N = out2 (b0 m c) (b1 m c) (b2 m c) (b3 m c) (b4 m c) (b5 m c) (b6 m c) (b7 m c) := by
  refine (dats m 0 c).arrAt_eq_of_covers 10 _ (by decide +kernel) fun t hf y => ?_
  blk_simp
  rw [after0_10]
  obtain ⟨x, d, rfl⟩ : ∃ (x : Fin 512) (d : Fin 1024), y = ix2 x d := ⟨_, _, (ix2_eta y).symm⟩
  rw [emb10 t x d]
  refine Eq.trans ?_ (out2_eq (b0 m c) (b1 m c) (b2 m c) (b3 m c) (b4 m c) (b5 m c) (b6 m c) (b7 m c) (row t x) d).symm
  unfold_out out0_10
  rw [View.canon_cons_unit_lit _ _ _ (by decide)]
  simp only [ld_o, ld_x, ld_s, ld_g]
  exact modulated_at m c t _ _ _ x d

end Cert.Kernel5Ideal.Body

end
-- ==== Proof.Twin5.lean ====
/-
The fifth kernel over bits and over ideal numbers are one text printed twice.  The two kernel bodies, the two
tables of bodies and the two programs are shown equal here, so that the run of the second, stated for every
interpretation of the floats, also gives the frame of the first.
-/
module

public import proofs.«01_k».proof.Defs
public import proofs.«01_k».proof.Proof.Gen.Kernel5
public import proofs.«01_k».proof.Proof.Gen.Kernel5Ideal.Frame

@[expose] public section

set_option maxRecDepth 16384
set_option maxHeartbeats 1500000

noncomputable section

namespace Cert.Twin5

open Idealize.ShloMosaic Idealize.ShloMosaic.TcCoe Idealize.SL.Sem

variable {F : FTy → Type} [FloatOps F]

/-- The two kernel bodies are the same program: with the names of shapes, buffers and parts written out on both sides
    they read the same. -/
theorem body : @Cert.Kernel5.cc0_out_proj_fwd F _ Cert.Kernel5.Gen.facts
    = @Cert.Kernel5Ideal.cc0_out_proj_fwd F _ Cert.Kernel5Ideal.Gen.facts := by
  delta
    Cert.Kernel5.S4096x1024 Cert.Kernel5.S4096x512 Cert.Kernel5.S1024x1024 Cert.Kernel5.S6x1024
    Cert.Kernel5.S1x1024 Cert.Kernel5.S512x1024 Cert.Kernel5.S8x64x1024 Cert.Kernel5.S_
    Cert.Kernel5.S8x128x1024 Cert.Kernel5.S1536x1024 Cert.Kernel5.S512x512 Cert.Kernel5.S512
    Cert.Kernel5.S512x1 Cert.Kernel5.nBuf Cert.Kernel5.bufTy Cert.Kernel5.bufScoped Cert.Kernel5.semScoped
    Cert.Kernel5.dmaSemScoped Cert.Kernel5.sig Cert.Kernel5.nD Cert.Kernel5.τ Cert.Kernel5.grid0
    Cert.Kernel5.cc0_transform_0 Cert.Kernel5.cc0_transform_1 Cert.Kernel5.cc0_transform_2
    Cert.Kernel5.cc0_transform_3 Cert.Kernel5.cc0_transform_4 Cert.Kernel5.cc0_transform_5
    Cert.Kernel5.cc0_transform_6 Cert.Kernel5.cc0_transform_7 Cert.Kernel5.cc0_transform_8
    Cert.Kernel5.cc0_transform_9 Cert.Kernel5.cc0_transform_10 Cert.Kernel5.stage0_0 Cert.Kernel5.sem0_0
    Cert.Kernel5.reads0_0 Cert.Kernel5.stage0_1 Cert.Kernel5.sem0_1 Cert.Kernel5.reads0_1
    Cert.Kernel5.stage0_2 Cert.Kernel5.sem0_2 Cert.Kernel5.reads0_2 Cert.Kernel5.stage0_3 Cert.Kernel5.sem0_3
    Cert.Kernel5.reads0_3 Cert.Kernel5.stage0_4 Cert.Kernel5.sem0_4 Cert.Kernel5.reads0_4
    Cert.Kernel5.stage0_5 Cert.Kernel5.sem0_5 Cert.Kernel5.reads0_5 Cert.Kernel5.stage0_6 Cert.Kernel5.sem0_6
    Cert.Kernel5.reads0_6 Cert.Kernel5.stage0_7 Cert.Kernel5.sem0_7 Cert.Kernel5.reads0_7
    Cert.Kernel5.stage0_8 Cert.Kernel5.sem0_8 Cert.Kernel5.reads0_8 Cert.Kernel5.stage0_9 Cert.Kernel5.sem0_9
    Cert.Kernel5.reads0_9 Cert.Kernel5.stage0_10 Cert.Kernel5.sem0_10 Cert.Kernel5.reads0_10
    Cert.Kernel5.dot_S512x1024_S1024x1024_S512x1024_1_0_0_1_n_n
    Cert.Kernel5.dot_S512x512_S512x1024_S512x1024_1_0_0_1_n_n Cert.Kernel5.Λ₀ Cert.Kernel5.k0_part1
    Cert.Kernel5.cc0_out_proj_fwd
  delta
    Cert.Kernel5Ideal.S4096x1024 Cert.Kernel5Ideal.S4096x512 Cert.Kernel5Ideal.S1024x1024
    Cert.Kernel5Ideal.S6x1024 Cert.Kernel5Ideal.S1x1024 Cert.Kernel5Ideal.S512x1024
    Cert.Kernel5Ideal.S8x64x1024 Cert.Kernel5Ideal.S_ Cert.Kernel5Ideal.S8x128x1024
    Cert.Kernel5Ideal.S1536x1024 Cert.Kernel5Ideal.S512x512 Cert.Kernel5Ideal.S512 Cert.Kernel5Ideal.S512x1
    Cert.Kernel5Ideal.nBuf Cert.Kernel5Ideal.bufTy Cert.Kernel5Ideal.bufScoped Cert.Kernel5Ideal.semScoped
    Cert.Kernel5Ideal.dmaSemScoped Cert.Kernel5Ideal.sig Cert.Kernel5Ideal.nD Cert.Kernel5Ideal.τ
    Cert.Kernel5Ideal.grid0 Cert.Kernel5Ideal.cc0_transform_0 Cert.Kernel5Ideal.cc0_transform_1
    Cert.Kernel5Ideal.cc0_transform_2 Cert.Kernel5Ideal.cc0_transform_3 Cert.Kernel5Ideal.cc0_transform_4
    Cert.Kernel5Ideal.cc0_transform_5 Cert.Kernel5Ideal.cc0_transform_6 Cert.Kernel5Ideal.cc0_transform_7
    Cert.Kernel5Ideal.cc0_transform_8 Cert.Kernel5Ideal.cc0_transform_9 Cert.Kernel5Ideal.cc0_transform_10
    Cert.Kernel5Ideal.stage0_0 Cert.Kernel5Ideal.sem0_0 Cert.Kernel5Ideal.reads0_0 Cert.Kernel5Ideal.stage0_1
    Cert.Kernel5Ideal.sem0_1 Cert.Kernel5Ideal.reads0_1 Cert.Kernel5Ideal.stage0_2 Cert.Kernel5Ideal.sem0_2
    Cert.Kernel5Ideal.reads0_2 Cert.Kernel5Ideal.stage0_3 Cert.Kernel5Ideal.sem0_3 Cert.Kernel5Ideal.reads0_3
    Cert.Kernel5Ideal.stage0_4 Cert.Kernel5Ideal.sem0_4 Cert.Kernel5Ideal.reads0_4 Cert.Kernel5Ideal.stage0_5
    Cert.Kernel5Ideal.sem0_5 Cert.Kernel5Ideal.reads0_5 Cert.Kernel5Ideal.stage0_6 Cert.Kernel5Ideal.sem0_6
    Cert.Kernel5Ideal.reads0_6 Cert.Kernel5Ideal.stage0_7 Cert.Kernel5Ideal.sem0_7 Cert.Kernel5Ideal.reads0_7
    Cert.Kernel5Ideal.stage0_8 Cert.Kernel5Ideal.sem0_8 Cert.Kernel5Ideal.reads0_8 Cert.Kernel5Ideal.stage0_9
    Cert.Kernel5Ideal.sem0_9 Cert.Kernel5Ideal.reads0_9 Cert.Kernel5Ideal.stage0_10 Cert.Kernel5Ideal.sem0_10
    Cert.Kernel5Ideal.reads0_10 Cert.Kernel5Ideal.dot_S512x1024_S1024x1024_S512x1024_1_0_0_1_n_n
    Cert.Kernel5Ideal.dot_S512x512_S512x1024_S512x1024_1_0_0_1_n_n Cert.Kernel5Ideal.Λ₀
    Cert.Kernel5Ideal.k0_part1 Cert.Kernel5Ideal.cc0_out_proj_fwd
  rfl

/-- So are the two tables that give the body of each label. -/
theorem table : @Cert.Kernel5.defs₀ F _ Cert.Kernel5.Gen.facts = @Cert.Kernel5Ideal.defs₀ F _ Cert.Kernel5Ideal.Gen.facts := by
  unfold Cert.Kernel5.defs₀ Cert.Kernel5Ideal.defs₀
  refine congrArg Defs.onTc ?_
  funext l a
  match l, a with
  | 0, (t, s) => dsimp only; rw [body]; rfl

/-- … and the tables with the pipeline's labels added. -/
theorem defs : @Cert.Kernel5.defs F _ Cert.Kernel5.Gen.facts = @Cert.Kernel5Ideal.defs F _ Cert.Kernel5Ideal.Gen.facts := by
  unfold Cert.Kernel5.defs Cert.Kernel5Ideal.defs
  rw [table]; rfl

set_option maxHeartbeats 2000000 in
/-- The two programs that call the kernel are the same. -/
theorem main : @Cert.Kernel5.main F _ Cert.Kernel5.Gen.facts = @Cert.Kernel5Ideal.main F _ Cert.Kernel5Ideal.Gen.facts := rfl

/-- The frame of the kernel over bits, from the run proved once for every interpretation of the floats. -/
theorem frame_kernel : quiescent_Kernel5 (hKernel5 := Cert.Kernel5.Gen.facts) := by
  intro m g _
  rw [defs, main]
  exact Cert.Kernel5Ideal.Gen.frame (F := Bits) m g

end Cert.Twin5

end
-- ==== Proof.OutGradTerms.lean ====
/-
  The sixth reference's results: gradients of weights, each a sum over the rows of products of two arguments' columns.
-/
module

public import proofs.«01_k».proof.Proof.Gen.Reference6Ideal.Run
public import proofs.«01_k».proof.Proof.Numbers
public import Idealize.ShloMosaic.PureOps.Ideal
public import Idealize.ShloMosaic.Lib.Pointwise

@[expose] public section

set_option maxRecDepth 16384

noncomputable section

namespace Cert.Reference6Ideal.Terms

open Idealize.ShloMosaic Idealize.ShloMosaic.TcCoe Idealize.SL.Sem
open Cert.Reference6Ideal Cert.Reference6Ideal.Gen
open Cert.Reference6Ideal.Facts

section Layers

/-- Result 0: the products of argument 0's columns with argument 2's, summed over the rows. -/
def out0 (a : FVec Ideal S4096x1024 .bf16) (g : FVec Ideal S4096x1024 .bf16) : FVec Ideal S1024x1024 .bf16 :=
  truncf .bf16 (transpose S1024x1024 [1, 0] (Host.dotGeneral dot_S4096x1024_S4096x1024_S1024x1024_0_0_1_1_n_n none (extf .f32 g bitsLt_bf16_f32) (extf .f32 a bitsLt_bf16_f32)) transposes_S1024x1024_S1024x1024_1_0) bitsLt_bf16_f32

theorem out0_at (a : FVec Ideal S4096x1024 .bf16) (g : FVec Ideal S4096x1024 .bf16) (i : Fin 1024) (j : Fin 1024) :
    out0 a g (ix2 i j) = ∑ r : Fin 4096, a (ix2 r i) * g (ix2 r j) := by
  have e : out0 a g (ix2 i j) = ∑ r : Fin 4096, g (ix2 r j) * a (ix2 r i) := by pointwise [out0]
  exact e.trans (Finset.sum_congr rfl fun r _ => mul_comm _ _)

/-- Result 1: the products of argument 1's columns with argument 2's, summed over the rows. -/
def out1 (a : FVec Ideal S4096x512 .bf16) (g : FVec Ideal S4096x1024 .bf16) : FVec Ideal S512x1024 .bf16 :=
  truncf .bf16 (transpose S512x1024 [1, 0] (Host.dotGeneral dot_S4096x1024_S4096x512_S1024x512_0_0_1_1_n_n none (extf .f32 g bitsLt_bf16_f32) (extf .f32 a bitsLt_bf16_f32)) transposes_S1024x512_S512x1024_1_0) bitsLt_bf16_f32

theorem out1_at (a : FVec Ideal S4096x512 .bf16) (g : FVec Ideal S4096x1024 .bf16) (i : Fin 512) (j : Fin 1024) :
    out1 a g (ix2 i j) = ∑ r : Fin 4096, a (ix2 r i) * g (ix2 r j) := by
  have e : out1 a g (ix2 i j) = ∑ r : Fin 4096, g (ix2 r j) * a (ix2 r i) := by pointwise [out1]
  exact e.trans (Finset.sum_congr rfl fun r _ => mul_comm _ _)

end Layers

section Run

variable (m : (ℓ : Loc nD τ sig) → Buf (Elt Ideal) ℓ) (c : Dev nD)

/-- Argument `0` of the reference on a device. -/
abbrev a0 : FVec Ideal S4096x1024 .bf16 := m ((c.tc : Thread nD τ).loc main_arg0)
/-- Argument `1` of the reference on a device. -/
abbrev a1 : FVec Ideal S4096x512 .bf16 := m ((c.tc : Thread nD τ).loc main_arg1)
/-- Argument `2` of the reference on a device. -/
abbrev a2 : FVec Ideal S4096x1024 .bf16 := m ((c.tc : Thread nD τ).loc main_arg2)

set_option maxHeartbeats 2000000 in
/-- The reference's run, its results by their names here. -/
theorem run_outs (ρ : Dev nD → PrngReg) :
    θ_run defs (onTc (τ := τ) (main (F := Ideal))) ⟨m, fun _ => 0, ρ⟩ fun r => ∀ c : Dev nD,
      r.2.mem ((c.tc : Thread nD τ).loc main_v7) = out0 (a0 m c) (a2 m c)
      ∧ r.2.mem ((c.tc : Thread nD τ).loc main_v8) = out1 (a1 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Run

end Cert.Reference6Ideal.Terms

end
-- ==== Proof.RowTotals.lean ====
/-
  A kernel that walks the 4096 rows in blocks and adds one block's products at each point ends with the sum over all the
  rows: here once for any number of blocks.
-/
module

public import proofs.«01_k».proof.Proof.Numbers

@[expose] public section

set_option maxRecDepth 16384

noncomputable section

namespace Cert.Rows

open Idealize.ShloMosaic

/-- An accumulator that starts at zero plus the first block of rows and adds the others one by one ends at the sum over
    all rows. -/
theorem total {N b : ℕ} (hb : N * b = 4096) (f : ∀ n, n < N → EReal) (F : Fin 4096 → EReal) (row : Fin N → Fin b → Fin 4096)
    (hrow : ∀ t x, (row t x).val = b * t.val + x.val)
    (hfirst : ∀ t : Fin N, t.val = 0 → f t.val t.isLt = 0 + ∑ x, F (row t x))
    (hnext : ∀ (t : Fin N) (hp : t.val - 1 < N), ¬t.val = 0 → f t.val t.isLt = f (t.val - 1) hp + ∑ x, F (row t x))
    (t : Fin N) (ht : t.val + 1 = N) : f t.val t.isLt = ∑ r, F r := by
  have key : ∀ (n : ℕ) (h : n < N), f n h = ∑ i : Fin (n + 1), ∑ x, F (row ⟨i.val, by omega⟩ x) := by
    intro n
    induction n with
    | zero =>
      intro h
      rw [Fin.sum_univ_one]
      exact (hfirst ⟨0, h⟩ rfl).trans (zero_add _)
    | succ n ih =>
      intro h
      rw [Fin.sum_univ_castSucc]
      exact (hnext ⟨n + 1, h⟩ (by show n + 1 - 1 < N; omega) (by show ¬n + 1 = 0; omega)).trans (congrArg (· + _) (ih (by omega)))
  obtain ⟨n, hn⟩ := t
  have ht' : n + 1 = N := ht
  subst ht'
  rw [key n hn, ← Fintype.sum_prod_type' (f := fun (i : Fin (n + 1)) (x : Fin b) => F (row ⟨i.val, _⟩ x))]
  refine Fintype.sum_equiv ((finProdFinEquiv (m := n + 1) (n := b)).trans (finCongr hb)) _ _ fun a => ?_
  refine congrArg F (Fin.ext ?_)
  rw [hrow]
  show b * a.1.val + a.2.val = a.2.val + b * a.1.val
  omega

end Cert.Rows

end
-- ==== Proof.OutGrad.lean ====
/-
  The sixth kernel: each point adds the products of its 2048 rows to the accumulators, the last one writes them out. Its
  results are those of the sixth reference.
-/
module

public import proofs.«01_k».proof.Proof.Gen.Kernel6Ideal.Value
public import proofs.«01_k».proof.Proof.OutGradTerms
public import proofs.«01_k».proof.Proof.RowTotals
public import Idealize.ShloMosaic.PureOps.Ideal
public import Idealize.ShloMosaic.Lib.Pointwise
public import Idealize.ShloMosaic.Lib.Claim
public import Idealize.ShloMosaic.Lib.StableHlo.RunRead
public import Idealize.ShloMosaic.Lib.Pipeline.ValueKit
public import Idealize.ShloMosaic.Lib.Pipeline.ReadBack

@[expose] public section

set_option maxRecDepth 16384

noncomputable section

namespace Cert.Kernel6Ideal.Body

open Idealize.ShloMosaic Idealize.ShloMosaic.TcCoe Idealize.SL.Sem
open Cert.Kernel6Ideal Cert.Kernel6Ideal.Gen
open Cert.Reference6Ideal.Terms (out0 out0_at out1 out1_at)

section Payloads

theorem acc0_pay (s : Vec Ideal S1024x1024 .f32) (a : Vec Ideal S2048x1024 .bf16) (g : Vec Ideal S2048x1024 .bf16) (i : Fin 1024) (j : Fin 1024) :
    k0_pay3 s a g (ix2 i j) = s (ix2 i j) + ∑ x : Fin 2048, a (ix2 x i) * g (ix2 x j) := by
  pointwise [k0_pay3]

theorem zero0_pay (i : Fin 1024) (j : Fin 1024) : (k0_pay1 : FVec Ideal S1024x1024 .f32) (ix2 i j) = 0 := by
  pointwise [k0_pay1]

theorem out0_pay (s : Vec Ideal S1024x1024 .f32) (i : Fin 1024) (j : Fin 1024) : k0_pay5 s (ix2 i j) = s (ix2 i j) := by
  pointwise [k0_pay5]

theorem acc1_pay (s : Vec Ideal S512x1024 .f32) (a : Vec Ideal S2048x512 .bf16) (g : Vec Ideal S2048x1024 .bf16) (i : Fin 512) (j : Fin 1024) :
    k0_pay4 s a g (ix2 i j) = s (ix2 i j) + ∑ x : Fin 2048, a (ix2 x i) * g (ix2 x j) := by
  pointwise [k0_pay4]

theorem zero1_pay (i : Fin 512) (j : Fin 1024) : (k0_pay2 : FVec Ideal S512x1024 .f32) (ix2 i j) = 0 := by
  pointwise [k0_pay2]

theorem out1_pay (s : Vec Ideal S512x1024 .f32) (i : Fin 512) (j : Fin 1024) : k0_pay6 s (ix2 i j) = s (ix2 i j) := by
  pointwise [k0_pay6]

end Payloads

variable (m : (ℓ : Loc nD τ sig) → Buf (Elt Ideal) ℓ) (c : Dev nD)

/-- Argument `0` of the kernel on a device. -/
abbrev b0 : FVec Ideal S4096x1024 .bf16 := m ((c.tc : Thread nD τ).loc main_arg0)
/-- Argument `1` of the kernel on a device. -/
abbrev b1 : FVec Ideal S4096x512 .bf16 := m ((c.tc : Thread nD τ).loc main_arg1)
/-- Argument `2` of the kernel on a device. -/
abbrev b2 : FVec Ideal S4096x1024 .bf16 := m ((c.tc : Thread nD τ).loc main_arg2)

/-! ## The blocks -/

/-- Where each window's block stands. -/
theorem idx : ∀ t : Fin cfg0.N,
    win0_0.index t = ![t.val, 0] ∧ win0_1.index t = ![t.val, 0] ∧ win0_2.index t = ![t.val, 0] ∧ win0_3.index t = ![0, 0] ∧ win0_4.index t = ![0, 0] :=
  (by decide +kernel : ∀ t : Fin grid0.N, _)

theorem lt_pts (t : Fin cfg0.N) : t.val < 2 := lt_of_lt_of_eq t.isLt Gen.N_0

theorem pts_rows : cfg0.N * 2048 = 4096 := by rw [show cfg0.N = 2 from Gen.N_0]

/-- Row `x` of a point's 2048. -/
def row (t : Fin cfg0.N) (x : Fin 2048) : Fin 4096 := ⟨2048 * t.val + x.val, by have := lt_pts t; omega⟩

theorem blk0 (t : Fin cfg0.N) (x : Fin 2048) (d : Fin 1024) : iblk m c 0 t (ix2 x d) = b0 m c (ix2 (row t x) d) := by
  have ht := lt_pts t
  unfold row
  blk_ext [iblk, V, idx t]

theorem blk1 (t : Fin cfg0.N) (x : Fin 2048) (d : Fin 512) : iblk m c 1 t (ix2 x d) = b1 m c (ix2 (row t x) d) := by
  have ht := lt_pts t
  unfold row
  blk_ext [iblk, V, idx t]

theorem blk2 (t : Fin cfg0.N) (x : Fin 2048) (d : Fin 1024) : iblk m c 2 t (ix2 x d) = b2 m c (ix2 (row t x) d) := by
  have ht := lt_pts t
  unfold row
  blk_ext [iblk, V, idx t]

/-! ## What a point adds, and what the last one leaves -/

theorem first0 (t : Fin cfg0.N) (h0 : t.val = 0) (i : Fin 1024) (j : Fin 1024) :
    (outsAt0 m c t.val t.isLt).2.2.1 (ix2 i j) = 0 + ∑ x : Fin 2048, b0 m c (ix2 (row t x) i) * b2 m c (ix2 (row t x) j) := by
  rw [outsAt0_A m c t (by omega) (by omega)]
  frame_out
  refine (acc0_pay _ _ _ i j).trans (congrArg₂ (· + ·) (zero0_pay i j) (Finset.sum_congr rfl fun x _ => ?_))
  exact congrArg₂ (fun p q : EReal => p * q) (blk0 m c t x i) (blk2 m c t x j)

theorem next0 (t : Fin cfg0.N) (hp : t.val - 1 < cfg0.N) (h0 : ¬t.val = 0) (i : Fin 1024) (j : Fin 1024) :
    (outsAt0 m c t.val t.isLt).2.2.1 (ix2 i j) = (outsAt0 m c (t.val - 1) hp).2.2.1 (ix2 i j) + ∑ x : Fin 2048, b0 m c (ix2 (row t x) i) * b2 m c (ix2 (row t x) j) := by
  have ht := lt_pts t
  rw [outsAt0_B m c t (by omega) (by omega)]
  frame_out
  simp only [read_unread_whole]
  refine (acc0_pay _ _ _ i j).trans (congrArg (_ + ·) (Finset.sum_congr rfl fun x _ => ?_))
  exact congrArg₂ (fun p q : EReal => p * q) (blk0 m c t x i) (blk2 m c t x j)

theorem last0 (t : Fin cfg0.N) (h1 : t.val % 2 = 1) (i : Fin 1024) (j : Fin 1024) :
    (outsAt0 m c t.val t.isLt).1 (ix2 i j) = (outsAt0 m c t.val t.isLt).2.2.1 (ix2 i j) := by
  rw [outsAt0_B m c t (by omega) h1]
  frame_out
  exact out0_pay _ i j

theorem sum0 (t : Fin cfg0.N) (h1 : t.val % 2 = 1) (i : Fin 1024) (j : Fin 1024) :
    (outsAt0 m c t.val t.isLt).1 (ix2 i j) = out0 (b0 m c) (b2 m c) (ix2 i j) := by
  have ht := lt_pts t
  have hN : cfg0.N = 2 := Gen.N_0
  refine (last0 m c t h1 i j).trans (Eq.trans ?_ (out0_at _ _ i j).symm)
  exact Cert.Rows.total pts_rows (fun n hn => (outsAt0 m c n hn).2.2.1 (ix2 i j))
    (fun r => b0 m c (ix2 r i) * b2 m c (ix2 r j)) row (fun _ _ => rfl)
    (fun s h0 => first0 m c s h0 i j) (fun s hp h0 => next0 m c s hp h0 i j) t (by omega)

theorem first1 (t : Fin cfg0.N) (h0 : t.val = 0) (i : Fin 512) (j : Fin 1024) :
    (outsAt0 m c t.val t.isLt).2.2.2 (ix2 i j) = 0 + ∑ x : Fin 2048, b1 m c (ix2 (row t x) i) * b2 m c (ix2 (row t x) j) := by
  rw [outsAt0_A m c t (by omega) (by omega)]
  frame_out
  refine (acc1_pay _ _ _ i j).trans (congrArg₂ (· + ·) (zero1_pay i j) (Finset.sum_congr rfl fun x _ => ?_))
  exact congrArg₂ (fun p q : EReal => p * q) (blk1 m c t x i) (blk2 m c t x j)

theorem next1 (t : Fin cfg0.N) (hp : t.val - 1 < cfg0.N) (h0 : ¬t.val = 0) (i : Fin 512) (j : Fin 1024) :
    (outsAt0 m c t.val t.isLt).2.2.2 (ix2 i j) = (outsAt0 m c (t.val - 1) hp).2.2.2 (ix2 i j) + ∑ x : Fin 2048, b1 m c (ix2 (row t x) i) * b2 m c (ix2 (row t x) j) := by
  have ht := lt_pts t
  rw [outsAt0_B m c t (by omega) (by omega)]
  frame_out
  simp only [read_unread_whole]
  refine (acc1_pay _ _ _ i j).trans (congrArg (_ + ·) (Finset.sum_congr rfl fun x _ => ?_))
  exact congrArg₂ (fun p q : EReal => p * q) (blk1 m c t x i) (blk2 m c t x j)

theorem last1 (t : Fin cfg0.N) (h1 : t.val % 2 = 1) (i : Fin 512) (j : Fin 1024) :
    (outsAt0 m c t.val t.isLt).2.1 (ix2 i j) = (outsAt0 m c t.val t.isLt).2.2.2 (ix2 i j) := by
  rw [outsAt0_B m c t (by omega) h1]
  frame_out
  exact out1_pay _ i j

theorem sum1 (t : Fin cfg0.N) (h1 : t.val % 2 = 1) (i : Fin 512) (j : Fin 1024) :
    (outsAt0 m c t.val t.isLt).2.1 (ix2 i j) = out1 (b1 m c) (b2 m c) (ix2 i j) := by
  have ht := lt_pts t
  have hN : cfg0.N = 2 := Gen.N_0
  refine (last1 m c t h1 i j).trans (Eq.trans ?_ (out1_at _ _ i j).symm)
  exact Cert.Rows.total pts_rows (fun n hn => (outsAt0 m c n hn).2.2.2 (ix2 i j))
    (fun r => b1 m c (ix2 r i) * b2 m c (ix2 r j)) row (fun _ _ => rfl)
    (fun s h0 => first1 m c s h0 i j) (fun s hp h0 => next1 m c s hp h0 i j) t (by omega)

/-! ## The results -/

theorem emb3 (t : Fin cfg0.N) (i : Fin 1024) (j : Fin 1024) : (win0_3.blk t).view.emb (ix2 i j) = ix2 i j := by
  have ht := lt_pts t
  blk_ext [idx t]

/-- Result 0. -/
theorem final0 : (dats m 0 c).arrAt 3 cfg0.N = out0 (b0 m c) (b2 m c) := by
  refine (dats m 0 c).arrAt_eq_of_covers 3 _ (by decide +kernel) fun t hf y => ?_
  blk_simp
  rw [after0_3]
  obtain ⟨i, j, rfl⟩ : ∃ (i : Fin 1024) (j : Fin 1024), y = ix2 i j := ⟨_, _, (ix2_eta y).symm⟩
  rw [emb3 t i j]
  exact sum0 m c t ((flush0_3 t).mp hf) i j

theorem emb4 (t : Fin cfg0.N) (i : Fin 512) (j : Fin 1024) : (win0_4.blk t).view.emb (ix2 i j) = ix2 i j := by
  have ht := lt_pts t
  blk_ext [idx t]

/-- Result 1. -/
theorem final1 : (dats m 0 c).arrAt 4 cfg0.N = out1 (b1 m c) (b2 m c) := by
  refine (dats m 0 c).arrAt_eq_of_covers 4 _ (by decide +kernel) fun t hf y => ?_
  blk_simp
  rw [after0_4]
  obtain ⟨i, j, rfl⟩ : ∃ (i : Fin 512) (j : Fin 1024), y = ix2 i j := ⟨_, _, (ix2_eta y).symm⟩
  rw [emb4 t i j]
  exact sum1 m c t ((flush0_4 t).mp hf) i j

end Cert.Kernel6Ideal.Body

end
-- ==== Proof.Twin6.lean ====
/-
The sixth kernel over bits and over ideal numbers are one text printed twice.  The two kernel bodies, the two
tables of bodies and the two programs are shown equal here, so that the run of the second, stated for every
interpretation of the floats, also gives the frame of the first.
-/
module

public import proofs.«01_k».proof.Defs
public import proofs.«01_k».proof.Proof.Gen.Kernel6
public import proofs.«01_k».proof.Proof.Gen.Kernel6Ideal.Frame

@[expose] public section

set_option maxRecDepth 16384
set_option maxHeartbeats 1500000

noncomputable section

namespace Cert.Twin6

open Idealize.ShloMosaic Idealize.ShloMosaic.TcCoe Idealize.SL.Sem

variable {F : FTy → Type} [FloatOps F]

/-- The two kernel bodies are the same program: with the names of shapes, buffers and parts written out on both sides
    they read the same. -/
theorem body : @Cert.Kernel6.cc0_dw_out F _ Cert.Kernel6.Gen.facts
    = @Cert.Kernel6Ideal.cc0_dw_out F _ Cert.Kernel6Ideal.Gen.facts := by
  delta
    Cert.Kernel6.S4096x1024 Cert.Kernel6.S4096x512 Cert.Kernel6.S1024x1024 Cert.Kernel6.S512x1024
    Cert.Kernel6.S2048x1024 Cert.Kernel6.S2048x512 Cert.Kernel6.nBuf Cert.Kernel6.bufTy Cert.Kernel6.bufScoped
    Cert.Kernel6.semScoped Cert.Kernel6.dmaSemScoped Cert.Kernel6.sig Cert.Kernel6.nD Cert.Kernel6.τ
    Cert.Kernel6.grid0 Cert.Kernel6.k0_cond2 Cert.Kernel6.cc0_transform_0 Cert.Kernel6.cc0_transform_1
    Cert.Kernel6.cc0_transform_2 Cert.Kernel6.cc0_transform_3 Cert.Kernel6.cc0_transform_4
    Cert.Kernel6.stage0_0 Cert.Kernel6.sem0_0 Cert.Kernel6.reads0_0 Cert.Kernel6.stage0_1 Cert.Kernel6.sem0_1
    Cert.Kernel6.reads0_1 Cert.Kernel6.stage0_2 Cert.Kernel6.sem0_2 Cert.Kernel6.reads0_2
    Cert.Kernel6.stage0_3 Cert.Kernel6.sem0_3 Cert.Kernel6.reads0_3 Cert.Kernel6.stage0_4 Cert.Kernel6.sem0_4
    Cert.Kernel6.reads0_4 Cert.Kernel6.dot_S2048x1024_S2048x1024_S1024x1024_0_0_1_1_n_n
    Cert.Kernel6.dot_S2048x512_S2048x1024_S512x1024_0_0_1_1_n_n Cert.Kernel6.Λ₀ Cert.Kernel6.cc0_dw_out
  delta
    Cert.Kernel6Ideal.S4096x1024 Cert.Kernel6Ideal.S4096x512 Cert.Kernel6Ideal.S1024x1024
    Cert.Kernel6Ideal.S512x1024 Cert.Kernel6Ideal.S2048x1024 Cert.Kernel6Ideal.S2048x512
    Cert.Kernel6Ideal.nBuf Cert.Kernel6Ideal.bufTy Cert.Kernel6Ideal.bufScoped Cert.Kernel6Ideal.semScoped
    Cert.Kernel6Ideal.dmaSemScoped Cert.Kernel6Ideal.sig Cert.Kernel6Ideal.nD Cert.Kernel6Ideal.τ
    Cert.Kernel6Ideal.grid0 Cert.Kernel6Ideal.k0_cond2 Cert.Kernel6Ideal.cc0_transform_0
    Cert.Kernel6Ideal.cc0_transform_1 Cert.Kernel6Ideal.cc0_transform_2 Cert.Kernel6Ideal.cc0_transform_3
    Cert.Kernel6Ideal.cc0_transform_4 Cert.Kernel6Ideal.stage0_0 Cert.Kernel6Ideal.sem0_0
    Cert.Kernel6Ideal.reads0_0 Cert.Kernel6Ideal.stage0_1 Cert.Kernel6Ideal.sem0_1 Cert.Kernel6Ideal.reads0_1
    Cert.Kernel6Ideal.stage0_2 Cert.Kernel6Ideal.sem0_2 Cert.Kernel6Ideal.reads0_2 Cert.Kernel6Ideal.stage0_3
    Cert.Kernel6Ideal.sem0_3 Cert.Kernel6Ideal.reads0_3 Cert.Kernel6Ideal.stage0_4 Cert.Kernel6Ideal.sem0_4
    Cert.Kernel6Ideal.reads0_4 Cert.Kernel6Ideal.dot_S2048x1024_S2048x1024_S1024x1024_0_0_1_1_n_n
    Cert.Kernel6Ideal.dot_S2048x512_S2048x1024_S512x1024_0_0_1_1_n_n Cert.Kernel6Ideal.Λ₀
    Cert.Kernel6Ideal.cc0_dw_out
  rfl

/-- So are the two tables that give the body of each label. -/
theorem table : @Cert.Kernel6.defs₀ F _ Cert.Kernel6.Gen.facts = @Cert.Kernel6Ideal.defs₀ F _ Cert.Kernel6Ideal.Gen.facts := by
  unfold Cert.Kernel6.defs₀ Cert.Kernel6Ideal.defs₀
  refine congrArg Defs.onTc ?_
  funext l a
  match l, a with
  | 0, (t, s) => dsimp only; rw [body]; rfl

/-- … and the tables with the pipeline's labels added. -/
theorem defs : @Cert.Kernel6.defs F _ Cert.Kernel6.Gen.facts = @Cert.Kernel6Ideal.defs F _ Cert.Kernel6Ideal.Gen.facts := by
  unfold Cert.Kernel6.defs Cert.Kernel6Ideal.defs
  rw [table]; rfl

set_option maxHeartbeats 2000000 in
/-- The two programs that call the kernel are the same. -/
theorem main : @Cert.Kernel6.main F _ = @Cert.Kernel6Ideal.main F _ := rfl

/-- The frame of the kernel over bits, from the run proved once for every interpretation of the floats. -/
theorem frame_kernel : quiescent_Kernel6 (hKernel6 := Cert.Kernel6.Gen.facts) := by
  intro m g _
  rw [defs, main]
  exact Cert.Kernel6Ideal.Gen.frame (F := Bits) m g

end Cert.Twin6

end
-- ==== Proof.HeadTerms.lean ====
/-
  The seventh reference's three results, as functions of its arguments and read at an index: the gradients at the heads
  and at the spatial gate, and per head the sums the softmax's gradient needs.
-/
module

public import proofs.«01_k».proof.Proof.Gen.Reference7Ideal.Run
public import proofs.«01_k».proof.Proof.MixSpec
public import Idealize.ShloMosaic.PureOps.Ideal
public import Idealize.ShloMosaic.Lib.Pointwise

@[expose] public section

set_option maxRecDepth 16384

noncomputable section

namespace Cert.Reference7Ideal.Terms

open Idealize.ShloMosaic Idealize.ShloMosaic.TcCoe Idealize.SL.Sem
open Cert.Reference7Ideal Cert.Reference7Ideal.Gen
open Cert.Reference7Ideal.Facts
open Cert.Mix (padCol padRest headCol lo hi)

section Layers

variable (d : FVec Ideal S4096x1024 .bf16) (w : FVec Ideal S1024x1024 .f32) (o : FVec Ideal S4096x1024 .bf16)

/-- The gradient at the heads and the spatial gate side by side. -/
def back : FVec Ideal S4096x1024 .f32 := Host.dotGeneral dot_S4096x1024_S1024x1024_S4096x1024_1_1_0_0_n_n none (extf .f32 d bitsLt_bf16_f32) w
/-- Its heads. -/
def dHeads : FVec Ideal S4096x8x64 .f32 := shapeCast _ (extractStridedSlice S4096x512 ![0, 0] (back d w) slices_S4096x1024_S4096x512_0_0) shapeCasts_S4096x512_S4096x8x64
/-- The heads without their padding. -/
def heads : FVec Ideal S4096x8x64 .f32 :=
  extractStridedSlice S4096x8x64 ![0, 0, 0] (shapeCast _ (extf .f32 o bitsLt_bf16_f32) shapeCasts_S4096x1024_S4096x8x128) slices_S4096x8x128_S4096x8x64_0_0_0
/-- Result 0: the gradient at the heads, padded. -/
def out0 : FVec Ideal S4096x1024 .bf16 :=
  truncf .bf16 (shapeCast _ (pad S4096x8x128 ![0, 0, 0] ![0, 0, 64] ![0, 0, 0] (dHeads d w) (sitofp .f32 (constantI S_ 32 0#32))
    pads_S4096x8x64_S4096x8x128_000_000_0640 h_S_) shapeCasts_S4096x8x128_S4096x1024) bitsLt_bf16_f32
/-- Result 1: the gradient at the spatial gate. -/
def out1 : FVec Ideal S4096x512 .f32 := extractStridedSlice S4096x512 ![0, 512] (back d w) slices_S4096x1024_S4096x512_0_512
/-- Result 2: per head and row, the sum of the gradient at the head times the head. -/
def out2 : FVec Ideal S8x4096x1 .f32 :=
  shapeCast _ (transpose S8x4096 [1, 0] (Host.reduceAdd (mulf (dHeads d w) (heads o)) (constant S_ .f32 0x00000000#32) reducesTo_S4096x8x64_S4096x8_d2 h_S_)
    transposes_S4096x8_S8x4096_1_0) shapeCasts_S8x4096_S8x4096x1

/-- The gradient at column `C` of row `r`. -/
def grad (r : Fin 4096) (C : Fin 1024) : EReal := ∑ e : Fin 1024, d (ix2 r e) * w (ix2 C e)

theorem back_at (r : Fin 4096) (C : Fin 1024) : back d w (ix2 r C) = grad d w r C := by
  unfold grad
  pointwise [back]

theorem dHeads_at (r : Fin 4096) (h : Fin 8) (j : Fin 64) : dHeads d w (ix3 r h j) = grad d w r (lo (headCol h j)) := by
  refine Eq.trans ?_ (back_at d w r _)
  unfold dHeads lo headCol
  generalize back d w = u
  pointwise

theorem heads_at (r : Fin 4096) (h : Fin 8) (j : Fin 64) : heads o (ix3 r h j) = o (ix2 r (padCol h j)) := by
  unfold padCol
  pointwise [heads]

theorem out0_col (r : Fin 4096) (h : Fin 8) (j : Fin 64) : out0 d w (ix2 r (padCol h j)) = grad d w r (lo (headCol h j)) := by
  refine Eq.trans ?_ (dHeads_at d w r h j)
  have e : (h.val * 128 + j.val) % 128 = j.val := by omega
  have e' : (h.val * 128 + j.val) / 128 = h.val := by omega
  unfold out0 padCol
  generalize dHeads d w = u
  pointwise
  simp [e, e']

theorem out0_rest (r : Fin 4096) (h : Fin 8) (j : Fin 64) : out0 d w (ix2 r (padRest h j)) = 0 := by
  have e : (h.val * 128 + (64 + j.val)) % 128 = 64 + j.val := by omega
  unfold out0 padRest
  generalize dHeads d w = u
  pointwise
  rw [dif_neg (by omega)]
  exact (by simp [FloatOps.sitofp] : (FloatOps.sitofp (F := Idealize.ShloMosaic.Ideal) FTy.f32 0#32) = 0)

theorem out1_at (r : Fin 4096) (q : Fin 512) : out1 d w (ix2 r q) = grad d w r (hi q) := by
  refine Eq.trans ?_ (back_at d w r _)
  unfold out1 hi
  generalize back d w = u
  pointwise

theorem out2_at (h : Fin 8) (r : Fin 4096) : out2 d w o (ix3 h r 0) = ∑ j : Fin 64, grad d w r (lo (headCol h j)) * o (ix2 r (padCol h j)) := by
  refine Eq.trans ?_ (Finset.sum_congr rfl fun j _ => congrArg₂ (fun p q : EReal => p * q) (dHeads_at d w r h j) (heads_at o r h j))
  unfold out2
  generalize dHeads d w = u
  generalize heads o = v
  pointwise

end Layers

section Run

variable (m : (ℓ : Loc nD τ sig) → Buf (Elt Ideal) ℓ) (c : Dev nD)

/-- Argument `0` of the reference on a device. -/
abbrev a0 : FVec Ideal S4096x1024 .bf16 := m ((c.tc : Thread nD τ).loc main_arg0)
/-- Argument `1` of the reference on a device. -/
abbrev a1 : FVec Ideal S1024x1024 .f32 := m ((c.tc : Thread nD τ).loc main_arg1)
/-- Argument `2` of the reference on a device. -/
abbrev a2 : FVec Ideal S4096x1024 .bf16 := m ((c.tc : Thread nD τ).loc main_arg2)

set_option maxHeartbeats 2000000 in
/-- The reference's run, its results by their names here. -/
theorem run_outs (ρ : Dev nD → PrngReg) :
    θ_run defs (onTc (τ := τ) (main (F := Ideal))) ⟨m, fun _ => 0, ρ⟩ fun r => ∀ c : Dev nD,
      r.2.mem ((c.tc : Thread nD τ).loc main_v12) = out0 (a0 m c) (a1 m c)
      ∧ r.2.mem ((c.tc : Thread nD τ).loc main_v3) = out1 (a0 m c) (a1 m c)
      ∧ r.2.mem ((c.tc : Thread nD τ).loc main_v14) = out2 (a0 m c) (a1 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Run

end Cert.Reference7Ideal.Terms

end
-- ==== Proof.HeadBody.lean ====
/-
  What a grid point of the seventh kernel computes: point `t` works on the 512 rows from row `512 t`, with the padded
  weights transposed once, at the first point, and kept.
-/
module

public import proofs.«01_k».proof.Proof.Gen.Kernel7Ideal.Value
public import proofs.«01_k».proof.Proof.HeadTerms
public import proofs.«01_k».proof.Proof.MixBlocks
public import Idealize.ShloMosaic.PureOps.Ideal
public import Idealize.ShloMosaic.Lib.Pointwise
public import Idealize.ShloMosaic.Lib.Claim
public import Idealize.ShloMosaic.Lib.StableHlo.RunRead
public import Idealize.ShloMosaic.Lib.Pipeline.ValueKit
public import Idealize.ShloMosaic.Lib.Pipeline.ReadBack

@[expose] public section

set_option maxRecDepth 16384

noncomputable section

namespace Cert.Kernel7Ideal.Body

open Idealize.ShloMosaic Idealize.ShloMosaic.TcCoe Idealize.SL.Sem
open Cert.Kernel7Ideal Cert.Kernel7Ideal.Gen
open Cert.Mix (padCol padRest headCol lo hi)
open Cert.Kernel5Ideal.Body (padded weights padded_col padded_rest weights_lo weights_hi)
open Cert.Reference7Ideal.Terms (grad)

/-! ## What a point computes from its blocks -/

section Payloads

variable (W : Vec Ideal S1536x1024 .bf16) (a : Vec Ideal S512x1024 .bf16) (T : Vec Ideal S1024x1536 .bf16) (o : Vec Ideal S512x1024 .bf16)
  (P : FVec Ideal S512x1024 .f32)

theorem pay1_at (e : Fin 1024) (k : Fin 1536) : k0_pay1 W (ix2 e k) = W (ix2 k e) := by pointwise [k0_pay1]

theorem pay2_at (x : Fin 512) (k : Fin 1536) : k0_pay2 a T (ix2 x k) = ∑ e : Fin 1024, a (ix2 x e) * T (ix2 e k) := by pointwise [k0_pay2]

theorem pay3_at (x : Fin 512) (C : Fin 1024) : k0_pay3 a T (ix2 x C) = k0_pay2 a T (ix2 x ⟨C.val, by omega⟩) := by
  unfold k0_pay3
  generalize k0_pay2 a T = u
  pointwise

theorem pay4_at (x : Fin 512) (C : Fin 1024) : k0_pay4 a T (ix2 x C) = k0_pay3 a T (ix2 x C) := by
  unfold k0_pay4
  generalize k0_pay3 a T = u
  pointwise

theorem pay5_at (x : Fin 512) (q : Fin 512) : k0_pay5 a T (ix2 x q) = k0_pay2 a T (ix2 x ⟨1024 + q.val, by omega⟩) := by
  unfold k0_pay5
  generalize k0_pay2 a T = u
  pointwise

theorem pay6_at (x : Fin 512) (C : Fin 1024) : k0_pay6 a T o (ix2 x C) = k0_pay3 a T (ix2 x C) * o (ix2 x C) := by
  unfold k0_pay6
  generalize k0_pay3 a T = u
  pointwise

theorem pay7_at (x : Fin 512) : k0_pay7 a T o (ix3 0 x 0) = ∑ i : Fin 128, k0_pay6 a T o (ix2 x ⟨0 + i.val, by omega⟩) := by
  unfold k0_pay7
  generalize k0_pay6 a T o = u
  pointwise

theorem pay8_at (x : Fin 512) : k0_pay8 a T o (ix3 0 x 0) = ∑ i : Fin 128, k0_pay6 a T o (ix2 x ⟨128 + i.val, by omega⟩) := by
  unfold k0_pay8
  generalize k0_pay6 a T o = u
  pointwise

theorem pay10_at (x : Fin 512) : k0_pay10 (k0_pay9 a T o) (ix3 0 x 0) = ∑ i : Fin 128, k0_pay6 a T o (ix2 x ⟨256 + i.val, by omega⟩) := by
  unfold k0_pay10 k0_pay9
  generalize k0_pay6 a T o = u
  pointwise

theorem pay11_at (x : Fin 512) : k0_pay11 P (ix3 0 x 0) = ∑ i : Fin 128, P (ix2 x ⟨384 + i.val, by omega⟩) := by
  pointwise [k0_pay11]

theorem pay12_at (x : Fin 512) : k0_pay12 P (ix3 0 x 0) = ∑ i : Fin 128, P (ix2 x ⟨512 + i.val, by omega⟩) := by
  pointwise [k0_pay12]

theorem pay13_at (x : Fin 512) : k0_pay13 P (ix3 0 x 0) = ∑ i : Fin 128, P (ix2 x ⟨640 + i.val, by omega⟩) := by
  pointwise [k0_pay13]

theorem pay14_at (x : Fin 512) : k0_pay14 P (ix3 0 x 0) = ∑ i : Fin 128, P (ix2 x ⟨768 + i.val, by omega⟩) := by
  pointwise [k0_pay14]

theorem pay15_at (x : Fin 512) : k0_pay15 P (ix3 0 x 0) = ∑ i : Fin 128, P (ix2 x ⟨896 + i.val, by omega⟩) := by
  pointwise [k0_pay15]

end Payloads

variable (m : (ℓ : Loc nD τ sig) → Buf (Elt Ideal) ℓ) (c : Dev nD)

/-- Argument `0` of the kernel on a device. -/
abbrev b0 : FVec Ideal S4096x1024 .bf16 := m ((c.tc : Thread nD τ).loc main_arg0)
/-- Argument `1` of the kernel on a device. -/
abbrev b1 : FVec Ideal S1024x1024 .f32 := m ((c.tc : Thread nD τ).loc main_arg1)
/-- Argument `2` of the kernel on a device. -/
abbrev b2 : FVec Ideal S4096x1024 .bf16 := m ((c.tc : Thread nD τ).loc main_arg2)

theorem V6 : V m c main_v6 = weights (b1 m c) := by
  unfold V hostOps0
  after_reads_simp
  rfl

/-! ## The blocks -/

/-- Where each window's block stands. -/
theorem idx : ∀ t : Fin cfg0.N,
    win0_0.index t = ![t.val, 0] ∧ win0_1.index t = ![0, 0] ∧ win0_2.index t = ![t.val, 0] ∧ win0_3.index t = ![t.val, 0] ∧
    win0_4.index t = ![t.val, 0] ∧ win0_5.index t = ![0, t.val, 0] :=
  (by decide +kernel : ∀ t : Fin grid0.N, _)

theorem lt8 (t : Fin cfg0.N) : t.val < 8 := lt_of_lt_of_eq t.isLt Gen.N_0

/-- Row `x` of a point's 512. -/
def row (t : Fin cfg0.N) (x : Fin 512) : Fin 4096 := ⟨512 * t.val + x.val, by have := lt8 t; omega⟩

theorem blk0 (t : Fin cfg0.N) (x : Fin 512) (d : Fin 1024) : iblk m c 0 t (ix2 x d) = b0 m c (ix2 (row t x) d) := by
  have ht := lt8 t
  unfold row
  blk_ext [iblk, V, idx t]

theorem blk1 (t : Fin cfg0.N) (k : Fin 1536) (d : Fin 1024) : iblk m c 1 t (ix2 k d) = weights (b1 m c) (ix2 k d) := by
  have ht := lt8 t
  rw [← V6]
  blk_ext [iblk, idx t]

theorem blk2 (t : Fin cfg0.N) (x : Fin 512) (d : Fin 1024) : iblk m c 2 t (ix2 x d) = b2 m c (ix2 (row t x) d) := by
  have ht := lt8 t
  unfold row
  blk_ext [iblk, V, idx t]

/-! ## The carried weights -/

/-- The padded weights transposed. -/
def IsWt (T : Vec Ideal S1024x1536 .bf16) : Prop := ∀ (e : Fin 1024) (k : Fin 1536), T (ix2 e k) = weights (b1 m c) (ix2 k e)

theorem wt_new (t : Fin cfg0.N) : IsWt m c (k0_pay1 (iblk m c 1 t)) := fun e k => (pay1_at _ e k).trans (blk1 m c t k e)

theorem wt_at : ∀ (n : ℕ) (hn : n < cfg0.N), IsWt m c (outsAt0 m c n hn).2.2.2 := by
  intro n
  induction n with
  | zero =>
    intro hn e k
    rw [outsAt0_A m c ⟨0, hn⟩ (by rfl)]
    frame_out
    exact wt_new m c ⟨0, hn⟩ e k
  | succ n ih =>
    intro hn e k
    have hi : (outsAt0 m c n (by omega)).2.2.2 (ix2 e k) = weights (b1 m c) (ix2 k e) := ih (by omega) e k
    by_cases h0 : (n + 1) % 8 = 0
    · rw [outsAt0_A m c ⟨n + 1, hn⟩ h0]
      frame_out
      exact wt_new m c ⟨n + 1, hn⟩ e k
    · rw [outsAt0_B m c ⟨n + 1, hn⟩ h0]
      exact hi

section Point

variable {m c} {T : Vec Ideal S1024x1536 .bf16} (hT : IsWt m c T) (t : Fin cfg0.N)
include hT

theorem heads_col (x : Fin 512) (h : Fin 8) (j : Fin 64) :
    k0_pay3 (iblk m c 0 t) T (ix2 x (padCol h j)) = grad (b0 m c) (b1 m c) (row t x) (lo (headCol h j)) := by
  refine (pay3_at _ _ x _).trans ((pay2_at _ _ x _).trans (Finset.sum_congr rfl fun e _ => ?_))
  exact congrArg₂ (fun p q : EReal => p * q) (blk0 m c t x e) ((hT e _).trans ((weights_lo (b1 m c) _ e).trans (padded_col (b1 m c) h j e)))

theorem heads_rest (x : Fin 512) (h : Fin 8) (j : Fin 64) : k0_pay3 (iblk m c 0 t) T (ix2 x (padRest h j)) = 0 := by
  refine (pay3_at _ _ x _).trans ((pay2_at _ _ x _).trans (Finset.sum_eq_zero fun e _ => ?_))
  refine (congrArg (fun p : EReal => _ * p) ((hT e _).trans ((weights_lo (b1 m c) _ e).trans (padded_rest (b1 m c) h j e)))).trans ?_
  exact mul_zero _

theorem gate_at (x : Fin 512) (q : Fin 512) : k0_pay5 (iblk m c 0 t) T (ix2 x q) = grad (b0 m c) (b1 m c) (row t x) (hi q) := by
  refine (pay5_at _ _ x q).trans ((pay2_at _ _ x _).trans (Finset.sum_congr rfl fun e _ => ?_))
  exact congrArg₂ (fun p q : EReal => p * q) (blk0 m c t x e) ((hT e _).trans (weights_hi (b1 m c) q e))

/-- A head's sum: the padding adds zeros. -/
theorem head_at (x : Fin 512) (h : Fin 8) (k : ℕ) (hk : k = h.val * 128) :
    ∑ i : Fin 128, k0_pay6 (iblk m c 0 t) T (iblk m c 2 t) (ix2 x ⟨k + i.val, by omega⟩)
    = ∑ j : Fin 64, grad (b0 m c) (b1 m c) (row t x) (lo (headCol h j)) * b2 m c (ix2 (row t x) (padCol h j)) := by
  subst hk
  refine (Fin.sum_univ_add (a := 64) (b := 64) fun i : Fin 128 => k0_pay6 (iblk m c 0 t) T (iblk m c 2 t) (ix2 x ⟨h.val * 128 + i.val, by omega⟩)).trans ?_
  have z : ∑ j : Fin 64, k0_pay6 (iblk m c 0 t) T (iblk m c 2 t) (ix2 x (padRest h j)) = 0 := Finset.sum_eq_zero fun j _ => by
    rw [pay6_at, heads_rest hT t x h j]
    exact zero_mul _
  refine (congrArg₂ (· + ·) (Finset.sum_congr rfl fun j _ => ?_) z).trans (add_zero _)
  exact (pay6_at _ _ _ x (padCol h j)).trans (congrArg₂ (fun p q : EReal => p * q) (heads_col hT t x h j) (blk2 m c t x (padCol h j)))

end Point

end Cert.Kernel7Ideal.Body

end
-- ==== Proof.HeadFinal.lean ====
/-
  The seventh kernel's three results as whole arrays: each point writes its 512 rows of them, the sums head by head.
-/
module

public import proofs.«01_k».proof.Proof.HeadBody
public import proofs.«01_k».proof.Proof.Body

@[expose] public section

set_option maxRecDepth 16384

noncomputable section

namespace Cert.Kernel7Ideal.Body

open Idealize.ShloMosaic Idealize.ShloMosaic.TcCoe Idealize.SL.Sem
open Cert.Kernel7Ideal Cert.Kernel7Ideal.Gen
open Cert.Mix (padCol padRest headCol lo hi)
open Cert.Reference7Ideal.Terms (grad out0 out1 out2 out0_col out0_rest out1_at out2_at)
open Cert.KernelIdeal.Body (canon_load)

variable (m : (ℓ : Loc nD τ sig) → Buf (Elt Ideal) ℓ) (c : Dev nD)

/-- A padded column is a head's or padding. -/
theorem col_cases (C : Fin 1024) : (∃ (h : Fin 8) (j : Fin 64), C = padCol h j) ∨ ∃ (h : Fin 8) (j : Fin 64), C = padRest h j := by
  by_cases hC : C.val % 128 < 64
  · exact .inl ⟨⟨C.val / 128, by omega⟩, ⟨C.val % 128, hC⟩, Fin.ext (by show C.val = C.val / 128 * 128 + C.val % 128; omega)⟩
  · exact .inr ⟨⟨C.val / 128, by omega⟩, ⟨C.val % 128 - 64, by omega⟩, Fin.ext (by show C.val = C.val / 128 * 128 + (64 + (C.val % 128 - 64)); omega)⟩

theorem heads_eq {T : Vec Ideal S1024x1536 .bf16} (hT : IsWt m c T) (t : Fin cfg0.N) (x : Fin 512) (C : Fin 1024) :
    k0_pay4 (iblk m c 0 t) T (ix2 x C) = out0 (b0 m c) (b1 m c) (ix2 (row t x) C) := by
  refine (pay4_at _ _ x C).trans ?_
  rcases col_cases C with ⟨h, j, rfl⟩ | ⟨h, j, rfl⟩
  · exact (heads_col hT t x h j).trans (out0_col _ _ (row t x) h j).symm
  · exact (heads_rest hT t x h j).trans (out0_rest _ _ (row t x) h j).symm

theorem heads_block (t : Fin cfg0.N) (x : Fin 512) (C : Fin 1024) :
    (outsAt0 m c t.val t.isLt).1 (ix2 x C) = out0 (b0 m c) (b1 m c) (ix2 (row t x) C) := by
  by_cases h0 : t.val % 8 = 0
  · rw [outsAt0_A m c t h0]
    frame_out
    exact heads_eq m c (wt_new m c t) t x C
  · rw [outsAt0_B m c t h0]
    frame_out
    simp only [read_unread_whole]
    exact heads_eq m c (wt_at m c _ _) t x C

theorem gate_block (t : Fin cfg0.N) (x : Fin 512) (q : Fin 512) :
    (outsAt0 m c t.val t.isLt).2.1 (ix2 x q) = out1 (b0 m c) (b1 m c) (ix2 (row t x) q) := by
  refine Eq.trans ?_ (out1_at _ _ (row t x) q).symm
  by_cases h0 : t.val % 8 = 0
  · rw [outsAt0_A m c t h0]
    frame_out
    exact gate_at (wt_new m c t) t x q
  · rw [outsAt0_B m c t h0]
    frame_out
    simp only [read_unread_whole]
    exact gate_at (wt_at m c _ _) t x q

theorem idx_head (h : ℕ) (hh : h < 8) (inb) (x : Fin 512) :
    (Rect.unit (s := S8x512x1) ![h, 0, 0] ![1, 512, 1] inb).idx (ix3 0 x 0) = ix3 ⟨h, hh⟩ x 0 :=
  funext fun a => Fin.ext (by
    rw [Rect.idx_unit_val]
    match a with
    | ⟨0, _⟩ => rfl
    | ⟨1, _⟩ => exact Nat.zero_add _
    | ⟨2, _⟩ => rfl)

theorem head0_block (t : Fin cfg0.N) (x : Fin 512) : (outsAt0 m c t.val t.isLt).2.2.1 (ix3 0 x 0)
    = ∑ j : Fin 64, grad (b0 m c) (b1 m c) (row t x) (lo (headCol 0 j)) * b2 m c (ix2 (row t x) (padCol 0 j)) := by
  by_cases h0 : t.val % 8 = 0
  · rw [outsAt0_A m c t h0]
    frame_out
    rw [canon_load (ms0_5 t).view _ (Rect.unit ![0, 0, 0] ![1, 512, 1] inb_S8x512x1_S1x512x1_0_0_0) (ix3 0 x 0) (ix3 0 x 0) (idx_head 0 (by omega) _ x)]
    simp (disch := decide) only [↓ View.readCov_skip, ↓ View.readCov_cons_toLoadRect, ↓ View.readCov_fill, read_unread_whole]
    exact (pay7_at _ _ _ x).trans (head_at (wt_new m c t) t x 0 0 rfl)
  · rw [outsAt0_B m c t h0]
    frame_out
    rw [canon_load (ms0_5 t).view _ (Rect.unit ![0, 0, 0] ![1, 512, 1] inb_S8x512x1_S1x512x1_0_0_0) (ix3 0 x 0) (ix3 0 x 0) (idx_head 0 (by omega) _ x)]
    simp (disch := decide) only [↓ View.readCov_skip, ↓ View.readCov_cons_toLoadRect, ↓ View.readCov_fill, read_unread_whole]
    exact (pay7_at _ _ _ x).trans (head_at (wt_at m c (t.val - 1) (Nat.lt_of_le_of_lt (Nat.sub_le t.val 1) t.isLt)) t x 0 0 rfl)

theorem head1_block (t : Fin cfg0.N) (x : Fin 512) : (outsAt0 m c t.val t.isLt).2.2.1 (ix3 1 x 0)
    = ∑ j : Fin 64, grad (b0 m c) (b1 m c) (row t x) (lo (headCol 1 j)) * b2 m c (ix2 (row t x) (padCol 1 j)) := by
  by_cases h0 : t.val % 8 = 0
  · rw [outsAt0_A m c t h0]
    frame_out
    rw [canon_load (ms0_5 t).view _ (Rect.unit ![1, 0, 0] ![1, 512, 1] inb_S8x512x1_S1x512x1_1_0_0) (ix3 1 x 0) (ix3 0 x 0) (idx_head 1 (by omega) _ x)]
    simp (disch := decide) only [↓ View.readCov_skip, ↓ View.readCov_cons_toLoadRect, ↓ View.readCov_fill, read_unread_whole]
    exact (pay8_at _ _ _ x).trans (head_at (wt_new m c t) t x 1 128 rfl)
  · rw [outsAt0_B m c t h0]
    frame_out
    rw [canon_load (ms0_5 t).view _ (Rect.unit ![1, 0, 0] ![1, 512, 1] inb_S8x512x1_S1x512x1_1_0_0) (ix3 1 x 0) (ix3 0 x 0) (idx_head 1 (by omega) _ x)]
    simp (disch := decide) only [↓ View.readCov_skip, ↓ View.readCov_cons_toLoadRect, ↓ View.readCov_fill, read_unread_whole]
    exact (pay8_at _ _ _ x).trans (head_at (wt_at m c (t.val - 1) (Nat.lt_of_le_of_lt (Nat.sub_le t.val 1) t.isLt)) t x 1 128 rfl)

theorem head2_block (t : Fin cfg0.N) (x : Fin 512) : (outsAt0 m c t.val t.isLt).2.2.1 (ix3 2 x 0)
    = ∑ j : Fin 64, grad (b0 m c) (b1 m c) (row t x) (lo (headCol 2 j)) * b2 m c (ix2 (row t x) (padCol 2 j)) := by
  by_cases h0 : t.val % 8 = 0
  · rw [outsAt0_A m c t h0]
    frame_out
    rw [canon_load (ms0_5 t).view _ (Rect.unit ![2, 0, 0] ![1, 512, 1] inb_S8x512x1_S1x512x1_2_0_0) (ix3 2 x 0) (ix3 0 x 0) (idx_head 2 (by omega) _ x)]
    simp (disch := decide) only [↓ View.readCov_skip, ↓ View.readCov_cons_toLoadRect, ↓ View.readCov_fill, read_unread_whole]
    exact (pay10_at _ _ _ x).trans (head_at (wt_new m c t) t x 2 256 rfl)
  · rw [outsAt0_B m c t h0]
    frame_out
    rw [canon_load (ms0_5 t).view _ (Rect.unit ![2, 0, 0] ![1, 512, 1] inb_S8x512x1_S1x512x1_2_0_0) (ix3 2 x 0) (ix3 0 x 0) (idx_head 2 (by omega) _ x)]
    simp (disch := decide) only [↓ View.readCov_skip, ↓ View.readCov_cons_toLoadRect, ↓ View.readCov_fill, read_unread_whole]
    exact (pay10_at _ _ _ x).trans (head_at (wt_at m c (t.val - 1) (Nat.lt_of_le_of_lt (Nat.sub_le t.val 1) t.isLt)) t x 2 256 rfl)

theorem head3_block (t : Fin cfg0.N) (x : Fin 512) : (outsAt0 m c t.val t.isLt).2.2.1 (ix3 3 x 0)
    = ∑ j : Fin 64, grad (b0 m c) (b1 m c) (row t x) (lo (headCol 3 j)) * b2 m c (ix2 (row t x) (padCol 3 j)) := by
  by_cases h0 : t.val % 8 = 0
  · rw [outsAt0_A m c t h0]
    frame_out
    rw [canon_load (ms0_5 t).view _ (Rect.unit ![3, 0, 0] ![1, 512, 1] inb_S8x512x1_S1x512x1_3_0_0) (ix3 3 x 0) (ix3 0 x 0) (idx_head 3 (by omega) _ x)]
    simp (disch := decide) only [↓ View.readCov_skip, ↓ View.readCov_cons_toLoadRect, ↓ View.readCov_fill, read_unread_whole]
    exact (pay11_at _ x).trans (head_at (wt_new m c t) t x 3 384 rfl)
  · rw [outsAt0_B m c t h0]
    frame_out
    rw [canon_load (ms0_5 t).view _ (Rect.unit ![3, 0, 0] ![1, 512, 1] inb_S8x512x1_S1x512x1_3_0_0) (ix3 3 x 0) (ix3 0 x 0) (idx_head 3 (by omega) _ x)]
    simp (disch := decide) only [↓ View.readCov_skip, ↓ View.readCov_cons_toLoadRect, ↓ View.readCov_fill, read_unread_whole]
    exact (pay11_at _ x).trans (head_at (wt_at m c (t.val - 1) (Nat.lt_of_le_of_lt (Nat.sub_le t.val 1) t.isLt)) t x 3 384 rfl)

theorem head4_block (t : Fin cfg0.N) (x : Fin 512) : (outsAt0 m c t.val t.isLt).2.2.1 (ix3 4 x 0)
    = ∑ j : Fin 64, grad (b0 m c) (b1 m c) (row t x) (lo (headCol 4 j)) * b2 m c (ix2 (row t x) (padCol 4 j)) := by
  by_cases h0 : t.val % 8 = 0
  · rw [outsAt0_A m c t h0]
    frame_out
    rw [canon_load (ms0_5 t).view _ (Rect.unit ![4, 0, 0] ![1, 512, 1] inb_S8x512x1_S1x512x1_4_0_0) (ix3 4 x 0) (ix3 0 x 0) (idx_head 4 (by omega) _ x)]
    simp (disch := decide) only [↓ View.readCov_skip, ↓ View.readCov_cons_toLoadRect, ↓ View.readCov_fill, read_unread_whole]
    exact (pay12_at _ x).trans (head_at (wt_new m c t) t x 4 512 rfl)
  · rw [outsAt0_B m c t h0]
    frame_out
    rw [canon_load (ms0_5 t).view _ (Rect.unit ![4, 0, 0] ![1, 512, 1] inb_S8x512x1_S1x512x1_4_0_0) (ix3 4 x 0) (ix3 0 x 0) (idx_head 4 (by omega) _ x)]
    simp (disch := decide) only [↓ View.readCov_skip, ↓ View.readCov_cons_toLoadRect, ↓ View.readCov_fill, read_unread_whole]
    exact (pay12_at _ x).trans (head_at (wt_at m c (t.val - 1) (Nat.lt_of_le_of_lt (Nat.sub_le t.val 1) t.isLt)) t x 4 512 rfl)

theorem head5_block (t : Fin cfg0.N) (x : Fin 512) : (outsAt0 m c t.val t.isLt).2.2.1 (ix3 5 x 0)
    = ∑ j : Fin 64, grad (b0 m c) (b1 m c) (row t x) (lo (headCol 5 j)) * b2 m c (ix2 (row t x) (padCol 5 j)) := by
  by_cases h0 : t.val % 8 = 0
  · rw [outsAt0_A m c t h0]
    frame_out
    rw [canon_load (ms0_5 t).view _ (Rect.unit ![5, 0, 0] ![1, 512, 1] inb_S8x512x1_S1x512x1_5_0_0) (ix3 5 x 0) (ix3 0 x 0) (idx_head 5 (by omega) _ x)]
    simp (disch := decide) only [↓ View.readCov_skip, ↓ View.readCov_cons_toLoadRect, ↓ View.readCov_fill, read_unread_whole]
    exact (pay13_at _ x).trans (head_at (wt_new m c t) t x 5 640 rfl)
  · rw [outsAt0_B m c t h0]
    frame_out
    rw [canon_load (ms0_5 t).view _ (Rect.unit ![5, 0, 0] ![1, 512, 1] inb_S8x512x1_S1x512x1_5_0_0) (ix3 5 x 0) (ix3 0 x 0) (idx_head 5 (by omega) _ x)]
    simp (disch := decide) only [↓ View.readCov_skip, ↓ View.readCov_cons_toLoadRect, ↓ View.readCov_fill, read_unread_whole]
    exact (pay13_at _ x).trans (head_at (wt_at m c (t.val - 1) (Nat.lt_of_le_of_lt (Nat.sub_le t.val 1) t.isLt)) t x 5 640 rfl)

theorem head6_block (t : Fin cfg0.N) (x : Fin 512) : (outsAt0 m c t.val t.isLt).2.2.1 (ix3 6 x 0)
    = ∑ j : Fin 64, grad (b0 m c) (b1 m c) (row t x) (lo (headCol 6 j)) * b2 m c (ix2 (row t x) (padCol 6 j)) := by
  by_cases h0 : t.val % 8 = 0
  · rw [outsAt0_A m c t h0]
    frame_out
    rw [canon_load (ms0_5 t).view _ (Rect.unit ![6, 0, 0] ![1, 512, 1] inb_S8x512x1_S1x512x1_6_0_0) (ix3 6 x 0) (ix3 0 x 0) (idx_head 6 (by omega) _ x)]
    simp (disch := decide) only [↓ View.readCov_skip, ↓ View.readCov_cons_toLoadRect, ↓ View.readCov_fill, read_unread_whole]
    exact (pay14_at _ x).trans (head_at (wt_new m c t) t x 6 768 rfl)
  · rw [outsAt0_B m c t h0]
    frame_out
    rw [canon_load (ms0_5 t).view _ (Rect.unit ![6, 0, 0] ![1, 512, 1] inb_S8x512x1_S1x512x1_6_0_0) (ix3 6 x 0) (ix3 0 x 0) (idx_head 6 (by omega) _ x)]
    simp (disch := decide) only [↓ View.readCov_skip, ↓ View.readCov_cons_toLoadRect, ↓ View.readCov_fill, read_unread_whole]
    exact (pay14_at _ x).trans (head_at (wt_at m c (t.val - 1) (Nat.lt_of_le_of_lt (Nat.sub_le t.val 1) t.isLt)) t x 6 768 rfl)

theorem head7_block (t : Fin cfg0.N) (x : Fin 512) : (outsAt0 m c t.val t.isLt).2.2.1 (ix3 7 x 0)
    = ∑ j : Fin 64, grad (b0 m c) (b1 m c) (row t x) (lo (headCol 7 j)) * b2 m c (ix2 (row t x) (padCol 7 j)) := by
  by_cases h0 : t.val % 8 = 0
  · rw [outsAt0_A m c t h0]
    frame_out
    rw [canon_load (ms0_5 t).view _ (Rect.unit ![7, 0, 0] ![1, 512, 1] inb_S8x512x1_S1x512x1_7_0_0) (ix3 7 x 0) (ix3 0 x 0) (idx_head 7 (by omega) _ x)]
    simp (disch := decide) only [↓ View.readCov_skip, ↓ View.readCov_cons_toLoadRect, ↓ View.readCov_fill, read_unread_whole]
    exact (pay15_at _ x).trans (head_at (wt_new m c t) t x 7 896 rfl)
  · rw [outsAt0_B m c t h0]
    frame_out
    rw [canon_load (ms0_5 t).view _ (Rect.unit ![7, 0, 0] ![1, 512, 1] inb_S8x512x1_S1x512x1_7_0_0) (ix3 7 x 0) (ix3 0 x 0) (idx_head 7 (by omega) _ x)]
    simp (disch := decide) only [↓ View.readCov_skip, ↓ View.readCov_cons_toLoadRect, ↓ View.readCov_fill, read_unread_whole]
    exact (pay15_at _ x).trans (head_at (wt_at m c (t.val - 1) (Nat.lt_of_le_of_lt (Nat.sub_le t.val 1) t.isLt)) t x 7 896 rfl)

theorem head_block (t : Fin cfg0.N) (h : Fin 8) (x : Fin 512) :
    (outsAt0 m c t.val t.isLt).2.2.1 (ix3 h x 0) = out2 (b0 m c) (b1 m c) (b2 m c) (ix3 h (row t x) 0) := by
  refine Eq.trans ?_ (out2_at _ _ _ h (row t x)).symm
  match h with
  | ⟨0, _⟩ => exact head0_block m c t x
  | ⟨1, _⟩ => exact head1_block m c t x
  | ⟨2, _⟩ => exact head2_block m c t x
  | ⟨3, _⟩ => exact head3_block m c t x
  | ⟨4, _⟩ => exact head4_block m c t x
  | ⟨5, _⟩ => exact head5_block m c t x
  | ⟨6, _⟩ => exact head6_block m c t x
  | ⟨7, _⟩ => exact head7_block m c t x

/-! ## The results -/

theorem emb3 (t : Fin cfg0.N) (x : Fin 512) (d : Fin 1024) : (win0_3.blk t).view.emb (ix2 x d) = ix2 (row t x) d := by
  have ht := lt8 t
  unfold row
  blk_ext [idx t]

/-- Result 0: the gradient at the padded heads. -/
theorem final0 : (dats m 0 c).arrAt 3 cfg0.N = out0 (b0 m c) (b1 m c) := by
  refine (dats m 0 c).arrAt_eq_of_covers 3 _ (by decide +kernel) fun t hf y => ?_
  blk_simp
  rw [after0_3]
  obtain ⟨x, d, rfl⟩ : ∃ (x : Fin 512) (d : Fin 1024), y = ix2 x d := ⟨_, _, (ix2_eta y).symm⟩
  rw [emb3 t x d]
  exact heads_block m c t x d

theorem emb4 (t : Fin cfg0.N) (x : Fin 512) (d : Fin 512) : (win0_4.blk t).view.emb (ix2 x d) = ix2 (row t x) d := by
  have ht := lt8 t
  unfold row
  blk_ext [idx t]

/-- Result 1: the gradient at the spatial gate. -/
theorem final1 : (dats m 0 c).arrAt 4 cfg0.N = out1 (b0 m c) (b1 m c) := by
  refine (dats m 0 c).arrAt_eq_of_covers 4 _ (by decide +kernel) fun t hf y => ?_
  blk_simp
  rw [after0_4]
  obtain ⟨x, d, rfl⟩ : ∃ (x : Fin 512) (d : Fin 512), y = ix2 x d := ⟨_, _, (ix2_eta y).symm⟩
  rw [emb4 t x d]
  exact gate_block m c t x d

theorem emb5 (t : Fin cfg0.N) (h : Fin 8) (x : Fin 512) : (win0_5.blk t).view.emb (ix3 h x 0) = ix3 h (row t x) 0 := by
  have ht := lt8 t
  unfold row
  blk_ext [idx t]

/-- Result 2: the sums per head and row. -/
theorem final2 : (dats m 0 c).arrAt 5 cfg0.N = out2 (b0 m c) (b1 m c) (b2 m c) := by
  refine (dats m 0 c).arrAt_eq_of_covers 5 _ (by decide +kernel) fun t hf y => ?_
  blk_simp
  rw [after0_5]
  obtain ⟨h, x, z, rfl⟩ : ∃ (h : Fin 8) (x : Fin 512) (z : Fin 1), y = ix3 h x z := ⟨_, _, _, (ix3_eta y).symm⟩
  obtain rfl : z = 0 := Subsingleton.elim _ _
  rw [emb5 t h x]
  exact head_block m c t h x

end Cert.Kernel7Ideal.Body

end
-- ==== Proof.Twin7.lean ====
/-
The seventh kernel over bits and over ideal numbers are one text printed twice.  The two kernel bodies, the two
tables of bodies and the two programs are shown equal here, so that the run of the second, stated for every
interpretation of the floats, also gives the frame of the first.
-/
module

public import proofs.«01_k».proof.Defs
public import proofs.«01_k».proof.Proof.Gen.Kernel7
public import proofs.«01_k».proof.Proof.Gen.Kernel7Ideal.Frame

@[expose] public section

set_option maxRecDepth 16384
set_option maxHeartbeats 1500000

noncomputable section

namespace Cert.Twin7

open Idealize.ShloMosaic Idealize.ShloMosaic.TcCoe Idealize.SL.Sem

variable {F : FTy → Type} [FloatOps F]

/-- The two kernel bodies are the same program: with the names of shapes, buffers and parts written out on both sides
    they read the same. -/
theorem body : @Cert.Kernel7.cc0_out_proj_bwd F _ Cert.Kernel7.Gen.facts
    = @Cert.Kernel7Ideal.cc0_out_proj_bwd F _ Cert.Kernel7Ideal.Gen.facts := by
  delta
    Cert.Kernel7.S4096x1024 Cert.Kernel7.S1024x1024 Cert.Kernel7.S512x1024 Cert.Kernel7.S8x64x1024
    Cert.Kernel7.S_ Cert.Kernel7.S8x128x1024 Cert.Kernel7.S1536x1024 Cert.Kernel7.S4096x512
    Cert.Kernel7.S8x4096x1 Cert.Kernel7.S512x512 Cert.Kernel7.S8x512x1 Cert.Kernel7.S1024x1536
    Cert.Kernel7.S512x1536 Cert.Kernel7.S512x128 Cert.Kernel7.S512 Cert.Kernel7.S512x1 Cert.Kernel7.S1x512x1
    Cert.Kernel7.nBuf Cert.Kernel7.bufTy Cert.Kernel7.bufScoped Cert.Kernel7.semScoped
    Cert.Kernel7.dmaSemScoped Cert.Kernel7.sig Cert.Kernel7.nD Cert.Kernel7.τ Cert.Kernel7.grid0
    Cert.Kernel7.cc0_transform_0 Cert.Kernel7.cc0_transform_1 Cert.Kernel7.cc0_transform_2
    Cert.Kernel7.cc0_transform_3 Cert.Kernel7.cc0_transform_4 Cert.Kernel7.cc0_transform_5
    Cert.Kernel7.stage0_0 Cert.Kernel7.sem0_0 Cert.Kernel7.reads0_0 Cert.Kernel7.stage0_1 Cert.Kernel7.sem0_1
    Cert.Kernel7.reads0_1 Cert.Kernel7.stage0_2 Cert.Kernel7.sem0_2 Cert.Kernel7.reads0_2
    Cert.Kernel7.stage0_3 Cert.Kernel7.sem0_3 Cert.Kernel7.reads0_3 Cert.Kernel7.stage0_4 Cert.Kernel7.sem0_4
    Cert.Kernel7.reads0_4 Cert.Kernel7.stage0_5 Cert.Kernel7.sem0_5 Cert.Kernel7.reads0_5
    Cert.Kernel7.dot_S512x1024_S1024x1536_S512x1536_1_0_0_1_n_n Cert.Kernel7.Λ₀ Cert.Kernel7.k0_part1
    Cert.Kernel7.k0_part2 Cert.Kernel7.cc0_out_proj_bwd
  delta
    Cert.Kernel7Ideal.S4096x1024 Cert.Kernel7Ideal.S1024x1024 Cert.Kernel7Ideal.S512x1024
    Cert.Kernel7Ideal.S8x64x1024 Cert.Kernel7Ideal.S_ Cert.Kernel7Ideal.S8x128x1024
    Cert.Kernel7Ideal.S1536x1024 Cert.Kernel7Ideal.S4096x512 Cert.Kernel7Ideal.S8x4096x1
    Cert.Kernel7Ideal.S512x512 Cert.Kernel7Ideal.S8x512x1 Cert.Kernel7Ideal.S1024x1536
    Cert.Kernel7Ideal.S512x1536 Cert.Kernel7Ideal.S512x128 Cert.Kernel7Ideal.S512 Cert.Kernel7Ideal.S512x1
    Cert.Kernel7Ideal.S1x512x1 Cert.Kernel7Ideal.nBuf Cert.Kernel7Ideal.bufTy Cert.Kernel7Ideal.bufScoped
    Cert.Kernel7Ideal.semScoped Cert.Kernel7Ideal.dmaSemScoped Cert.Kernel7Ideal.sig Cert.Kernel7Ideal.nD
    Cert.Kernel7Ideal.τ Cert.Kernel7Ideal.grid0 Cert.Kernel7Ideal.cc0_transform_0
    Cert.Kernel7Ideal.cc0_transform_1 Cert.Kernel7Ideal.cc0_transform_2 Cert.Kernel7Ideal.cc0_transform_3
    Cert.Kernel7Ideal.cc0_transform_4 Cert.Kernel7Ideal.cc0_transform_5 Cert.Kernel7Ideal.stage0_0
    Cert.Kernel7Ideal.sem0_0 Cert.Kernel7Ideal.reads0_0 Cert.Kernel7Ideal.stage0_1 Cert.Kernel7Ideal.sem0_1
    Cert.Kernel7Ideal.reads0_1 Cert.Kernel7Ideal.stage0_2 Cert.Kernel7Ideal.sem0_2 Cert.Kernel7Ideal.reads0_2
    Cert.Kernel7Ideal.stage0_3 Cert.Kernel7Ideal.sem0_3 Cert.Kernel7Ideal.reads0_3 Cert.Kernel7Ideal.stage0_4
    Cert.Kernel7Ideal.sem0_4 Cert.Kernel7Ideal.reads0_4 Cert.Kernel7Ideal.stage0_5 Cert.Kernel7Ideal.sem0_5
    Cert.Kernel7Ideal.reads0_5 Cert.Kernel7Ideal.dot_S512x1024_S1024x1536_S512x1536_1_0_0_1_n_n
    Cert.Kernel7Ideal.Λ₀ Cert.Kernel7Ideal.k0_part1 Cert.Kernel7Ideal.k0_part2
    Cert.Kernel7Ideal.cc0_out_proj_bwd
  rfl

/-- So are the two tables that give the body of each label. -/
theorem table : @Cert.Kernel7.defs₀ F _ Cert.Kernel7.Gen.facts = @Cert.Kernel7Ideal.defs₀ F _ Cert.Kernel7Ideal.Gen.facts := by
  unfold Cert.Kernel7.defs₀ Cert.Kernel7Ideal.defs₀
  refine congrArg Defs.onTc ?_
  funext l a
  match l, a with
  | 0, (t, s) => dsimp only; rw [body]; rfl

/-- … and the tables with the pipeline's labels added. -/
theorem defs : @Cert.Kernel7.defs F _ Cert.Kernel7.Gen.facts = @Cert.Kernel7Ideal.defs F _ Cert.Kernel7Ideal.Gen.facts := by
  unfold Cert.Kernel7.defs Cert.Kernel7Ideal.defs
  rw [table]; rfl

set_option maxHeartbeats 2000000 in
/-- The two programs that call the kernel are the same. -/
theorem main : @Cert.Kernel7.main F _ Cert.Kernel7.Gen.facts = @Cert.Kernel7Ideal.main F _ Cert.Kernel7Ideal.Gen.facts := rfl

/-- The frame of the kernel over bits, from the run proved once for every interpretation of the floats. -/
theorem frame_kernel : quiescent_Kernel7 (hKernel7 := Cert.Kernel7.Gen.facts) := by
  intro m g _
  rw [defs, main]
  exact Cert.Kernel7Ideal.Gen.frame (F := Bits) m g

end Cert.Twin7

end
-- ==== Proof.InGradTerms.lean ====
/-
  The eighth reference's results: gradients of weights, each a sum over the rows of products of two arguments' columns.
-/
module

public import proofs.«01_k».proof.Proof.Gen.Reference8Ideal.Run
public import proofs.«01_k».proof.Proof.Numbers
public import Idealize.ShloMosaic.PureOps.Ideal
public import Idealize.ShloMosaic.Lib.Pointwise

@[expose] public section

set_option maxRecDepth 16384

noncomputable section

namespace Cert.Reference8Ideal.Terms

open Idealize.ShloMosaic Idealize.ShloMosaic.TcCoe Idealize.SL.Sem
open Cert.Reference8Ideal Cert.Reference8Ideal.Gen
open Cert.Reference8Ideal.Facts

section Layers

/-- Result 0: the products of argument 0's columns with argument 2's, summed over the rows. -/
def out0 (a : FVec Ideal S4096x512 .bf16) (g : FVec Ideal S4096x1024 .bf16) : FVec Ideal S512x1024 .bf16 :=
  transpose S512x1024 [1, 0] (truncf .bf16 (transpose S1024x512 [1, 0] (Host.dotGeneral dot_S4096x512_S4096x1024_S512x1024_0_0_1_1_n_n none (extf .f32 a bitsLt_bf16_f32) (extf .f32 g bitsLt_bf16_f32)) transposes_S512x1024_S1024x512_1_0) bitsLt_bf16_f32) transposes_S1024x512_S512x1024_1_0

theorem out0_at (a : FVec Ideal S4096x512 .bf16) (g : FVec Ideal S4096x1024 .bf16) (i : Fin 512) (j : Fin 1024) :
    out0 a g (ix2 i j) = ∑ r : Fin 4096, a (ix2 r i) * g (ix2 r j) := by
  have e : out0 a g (ix2 i j) = ∑ r : Fin 4096, a (ix2 r i) * g (ix2 r j) := by pointwise [out0]
  exact e

/-- Result 1: the products of argument 1's columns with argument 2's, summed over the rows. -/
def out1 (a : FVec Ideal S4096x1024 .bf16) (g : FVec Ideal S4096x1024 .bf16) : FVec Ideal S1024x1024 .bf16 :=
  transpose S1024x1024 [1, 0] (truncf .bf16 (transpose S1024x1024 [1, 0] (Host.dotGeneral dot_S4096x1024_S4096x1024_S1024x1024_0_0_1_1_n_n none (extf .f32 a bitsLt_bf16_f32) (extf .f32 g bitsLt_bf16_f32)) transposes_S1024x1024_S1024x1024_1_0) bitsLt_bf16_f32) transposes_S1024x1024_S1024x1024_1_0

theorem out1_at (a : FVec Ideal S4096x1024 .bf16) (g : FVec Ideal S4096x1024 .bf16) (i : Fin 1024) (j : Fin 1024) :
    out1 a g (ix2 i j) = ∑ r : Fin 4096, a (ix2 r i) * g (ix2 r j) := by
  have e : out1 a g (ix2 i j) = ∑ r : Fin 4096, a (ix2 r i) * g (ix2 r j) := by pointwise [out1]
  exact e

/-- Result 2: the products of argument 3's columns with argument 4's, summed over the rows. -/
def out2 (a : FVec Ideal S4096x1024 .bf16) (g : FVec Ideal S4096x256 .bf16) : FVec Ideal S1024x256 .bf16 :=
  transpose S1024x256 [1, 0] (truncf .bf16 (transpose S256x1024 [1, 0] (Host.dotGeneral dot_S4096x1024_S4096x256_S1024x256_0_0_1_1_n_n none (extf .f32 a bitsLt_bf16_f32) (extf .f32 g bitsLt_bf16_f32)) transposes_S1024x256_S256x1024_1_0) bitsLt_bf16_f32) transposes_S256x1024_S1024x256_1_0

theorem out2_at (a : FVec Ideal S4096x1024 .bf16) (g : FVec Ideal S4096x256 .bf16) (i : Fin 1024) (j : Fin 256) :
    out2 a g (ix2 i j) = ∑ r : Fin 4096, a (ix2 r i) * g (ix2 r j) := by
  have e : out2 a g (ix2 i j) = ∑ r : Fin 4096, a (ix2 r i) * g (ix2 r j) := by pointwise [out2]
  exact e

/-- Result 3: the products of argument 5's columns with argument 6's, summed over the rows. -/
def out3 (a : FVec Ideal S4096x128 .bf16) (g : FVec Ideal S4096x2048 .bf16) : FVec Ideal S128x2048 .bf16 :=
  truncf .bf16 (transpose S128x2048 [1, 0] (Host.dotGeneral dot_S4096x2048_S4096x128_S2048x128_0_0_1_1_n_n none (extf .f32 g bitsLt_bf16_f32) (extf .f32 a bitsLt_bf16_f32)) transposes_S2048x128_S128x2048_1_0) bitsLt_bf16_f32

theorem out3_at (a : FVec Ideal S4096x128 .bf16) (g : FVec Ideal S4096x2048 .bf16) (i : Fin 128) (j : Fin 2048) :
    out3 a g (ix2 i j) = ∑ r : Fin 4096, a (ix2 r i) * g (ix2 r j) := by
  have e : out3 a g (ix2 i j) = ∑ r : Fin 4096, g (ix2 r j) * a (ix2 r i) := by pointwise [out3]
  exact e.trans (Finset.sum_congr rfl fun r _ => mul_comm _ _)

end Layers

section Run

variable (m : (ℓ : Loc nD τ sig) → Buf (Elt Ideal) ℓ) (c : Dev nD)

/-- Argument `0` of the reference on a device. -/
abbrev a0 : FVec Ideal S4096x512 .bf16 := m ((c.tc : Thread nD τ).loc main_arg0)
/-- Argument `1` of the reference on a device. -/
abbrev a1 : FVec Ideal S4096x1024 .bf16 := m ((c.tc : Thread nD τ).loc main_arg1)
/-- Argument `2` of the reference on a device. -/
abbrev a2 : FVec Ideal S4096x1024 .bf16 := m ((c.tc : Thread nD τ).loc main_arg2)
/-- Argument `3` of the reference on a device. -/
abbrev a3 : FVec Ideal S4096x1024 .bf16 := m ((c.tc : Thread nD τ).loc main_arg3)
/-- Argument `4` of the reference on a device. -/
abbrev a4 : FVec Ideal S4096x256 .bf16 := m ((c.tc : Thread nD τ).loc main_arg4)
/-- Argument `5` of the reference on a device. -/
abbrev a5 : FVec Ideal S4096x128 .bf16 := m ((c.tc : Thread nD τ).loc main_arg5)
/-- Argument `6` of the reference on a device. -/
abbrev a6 : FVec Ideal S4096x2048 .bf16 := m ((c.tc : Thread nD τ).loc main_arg6)

set_option maxHeartbeats 2000000 in
/-- The reference's run, its results by their names here. -/
theorem run_outs (ρ : Dev nD → PrngReg) :
    θ_run defs (onTc (τ := τ) (main (F := Ideal))) ⟨m, fun _ => 0, ρ⟩ fun r => ∀ c : Dev nD,
      r.2.mem ((c.tc : Thread nD τ).loc main_v5) = out0 (a0 m c) (a2 m c)
      ∧ r.2.mem ((c.tc : Thread nD τ).loc main_v11) = out1 (a1 m c) (a2 m c)
      ∧ r.2.mem ((c.tc : Thread nD τ).loc main_v17) = out2 (a3 m c) (a4 m c)
      ∧ r.2.mem ((c.tc : Thread nD τ).loc main_v22) = out3 (a5 m c) (a6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Value.run m ρ

end Run

end Cert.Reference8Ideal.Terms

end
-- ==== Proof.InGrad.lean ====
/-
  The eighth kernel: each point adds the products of its 1024 rows to the accumulators, the last one writes them out. Its
  results are those of the eighth reference.
-/
module

public import proofs.«01_k».proof.Proof.Gen.Kernel8Ideal.Value
public import proofs.«01_k».proof.Proof.InGradTerms
public import proofs.«01_k».proof.Proof.RowTotals
public import Idealize.ShloMosaic.PureOps.Ideal
public import Idealize.ShloMosaic.Lib.Pointwise
public import Idealize.ShloMosaic.Lib.Claim
public import Idealize.ShloMosaic.Lib.StableHlo.RunRead
public import Idealize.ShloMosaic.Lib.Pipeline.ValueKit
public import Idealize.ShloMosaic.Lib.Pipeline.ReadBack

@[expose] public section

set_option maxRecDepth 16384

noncomputable section

namespace Cert.Kernel8Ideal.Body

open Idealize.ShloMosaic Idealize.ShloMosaic.TcCoe Idealize.SL.Sem
open Cert.Kernel8Ideal Cert.Kernel8Ideal.Gen
open Cert.Reference8Ideal.Terms (out0 out0_at out1 out1_at out2 out2_at out3 out3_at)

section Payloads

theorem acc0_pay (s : Vec Ideal S512x1024 .f32) (a : Vec Ideal S1024x512 .bf16) (g : Vec Ideal S1024x1024 .bf16) (i : Fin 512) (j : Fin 1024) :
    k0_pay10 s a g (ix2 i j) = s (ix2 i j) + ∑ x : Fin 1024, a (ix2 x i) * g (ix2 x j) := by
  pointwise [k0_pay10]

theorem zero0_pay (i : Fin 512) (j : Fin 1024) : (k0_pay6 : FVec Ideal S512x1024 .f32) (ix2 i j) = 0 := by
  pointwise [k0_pay6]

theorem out0_pay (s : Vec Ideal S512x1024 .f32) (i : Fin 512) (j : Fin 1024) : k0_pay2 s (ix2 i j) = s (ix2 i j) := by
  pointwise [k0_pay2]

theorem acc1_pay (s : Vec Ideal S1024x1024 .f32) (a : Vec Ideal S1024x1024 .bf16) (g : Vec Ideal S1024x1024 .bf16) (i : Fin 1024) (j : Fin 1024) :
    k0_pay11 s a g (ix2 i j) = s (ix2 i j) + ∑ x : Fin 1024, a (ix2 x i) * g (ix2 x j) := by
  pointwise [k0_pay11]

theorem zero1_pay (i : Fin 1024) (j : Fin 1024) : (k0_pay7 : FVec Ideal S1024x1024 .f32) (ix2 i j) = 0 := by
  pointwise [k0_pay7]

theorem out1_pay (s : Vec Ideal S1024x1024 .f32) (i : Fin 1024) (j : Fin 1024) : k0_pay3 s (ix2 i j) = s (ix2 i j) := by
  pointwise [k0_pay3]

theorem acc2_pay (s : Vec Ideal S1024x256 .f32) (a : Vec Ideal S1024x1024 .bf16) (g : Vec Ideal S1024x256 .bf16) (i : Fin 1024) (j : Fin 256) :
    k0_pay12 s a g (ix2 i j) = s (ix2 i j) + ∑ x : Fin 1024, a (ix2 x i) * g (ix2 x j) := by
  pointwise [k0_pay12]

theorem zero2_pay (i : Fin 1024) (j : Fin 256) : (k0_pay8 : FVec Ideal S1024x256 .f32) (ix2 i j) = 0 := by
  pointwise [k0_pay8]

theorem out2_pay (s : Vec Ideal S1024x256 .f32) (i : Fin 1024) (j : Fin 256) : k0_pay4 s (ix2 i j) = s (ix2 i j) := by
  pointwise [k0_pay4]

theorem acc3_pay (s : Vec Ideal S128x2048 .f32) (a : Vec Ideal S1024x128 .bf16) (g : Vec Ideal S1024x2048 .bf16) (i : Fin 128) (j : Fin 2048) :
    k0_pay1 s a g (ix2 i j) = s (ix2 i j) + ∑ x : Fin 1024, a (ix2 x i) * g (ix2 x j) := by
  pointwise [k0_pay1]

theorem zero3_pay (i : Fin 128) (j : Fin 2048) : (k0_pay9 : FVec Ideal S128x2048 .f32) (ix2 i j) = 0 := by
  pointwise [k0_pay9]

theorem out3_pay (s : Vec Ideal S128x2048 .f32) (i : Fin 128) (j : Fin 2048) : k0_pay5 s (ix2 i j) = s (ix2 i j) := by
  pointwise [k0_pay5]

end Payloads

variable (m : (ℓ : Loc nD τ sig) → Buf (Elt Ideal) ℓ) (c : Dev nD)

/-- Argument `0` of the kernel on a device. -/
abbrev b0 : FVec Ideal S4096x512 .bf16 := m ((c.tc : Thread nD τ).loc main_arg0)
/-- Argument `1` of the kernel on a device. -/
abbrev b1 : FVec Ideal S4096x1024 .bf16 := m ((c.tc : Thread nD τ).loc main_arg1)
/-- Argument `2` of the kernel on a device. -/
abbrev b2 : FVec Ideal S4096x1024 .bf16 := m ((c.tc : Thread nD τ).loc main_arg2)
/-- Argument `3` of the kernel on a device. -/
abbrev b3 : FVec Ideal S4096x1024 .bf16 := m ((c.tc : Thread nD τ).loc main_arg3)
/-- Argument `4` of the kernel on a device. -/
abbrev b4 : FVec Ideal S4096x256 .bf16 := m ((c.tc : Thread nD τ).loc main_arg4)
/-- Argument `5` of the kernel on a device. -/
abbrev b5 : FVec Ideal S4096x128 .bf16 := m ((c.tc : Thread nD τ).loc main_arg5)
/-- Argument `6` of the kernel on a device. -/
abbrev b6 : FVec Ideal S4096x2048 .bf16 := m ((c.tc : Thread nD τ).loc main_arg6)

/-! ## The blocks -/

/-- Where each window's block stands. -/
theorem idx : ∀ t : Fin cfg0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![0, 0] ∧ win0_8.index t = ![0, 0] ∧ win0_9.index t = ![0, 0] ∧ win0_10.index t = ![0, 0] :=
  (by decide +kernel : ∀ t : Fin grid0.N, _)

theorem lt_pts (t : Fin cfg0.N) : t.val < 4 := lt_of_lt_of_eq t.isLt Gen.N_0

theorem pts_rows : cfg0.N * 1024 = 4096 := by rw [show cfg0.N = 4 from Gen.N_0]

/-- Row `x` of a point's 1024. -/
def row (t : Fin cfg0.N) (x : Fin 1024) : Fin 4096 := ⟨1024 * t.val + x.val, by have := lt_pts t; omega⟩

theorem blk0 (t : Fin cfg0.N) (x : Fin 1024) (d : Fin 512) : iblk m c 0 t (ix2 x d) = b0 m c (ix2 (row t x) d) := by
  have ht := lt_pts t
  unfold row
  blk_ext [iblk, V, idx t]

theorem blk1 (t : Fin cfg0.N) (x : Fin 1024) (d : Fin 1024) : iblk m c 1 t (ix2 x d) = b1 m c (ix2 (row t x) d) := by
  have ht := lt_pts t
  unfold row
  blk_ext [iblk, V, idx t]

theorem blk2 (t : Fin cfg0.N) (x : Fin 1024) (d : Fin 1024) : iblk m c 2 t (ix2 x d) = b2 m c (ix2 (row t x) d) := by
  have ht := lt_pts t
  unfold row
  blk_ext [iblk, V, idx t]

theorem blk3 (t : Fin cfg0.N) (x : Fin 1024) (d : Fin 1024) : iblk m c 3 t (ix2 x d) = b3 m c (ix2 (row t x) d) := by
  have ht := lt_pts t
  unfold row
  blk_ext [iblk, V, idx t]

theorem blk4 (t : Fin cfg0.N) (x : Fin 1024) (d : Fin 256) : iblk m c 4 t (ix2 x d) = b4 m c (ix2 (row t x) d) := by
  have ht := lt_pts t
  unfold row
  blk_ext [iblk, V, idx t]

theorem blk5 (t : Fin cfg0.N) (x : Fin 1024) (d : Fin 128) : iblk m c 5 t (ix2 x d) = b5 m c (ix2 (row t x) d) := by
  have ht := lt_pts t
  unfold row
  blk_ext [iblk, V, idx t]

theorem blk6 (t : Fin cfg0.N) (x : Fin 1024) (d : Fin 2048) : iblk m c 6 t (ix2 x d) = b6 m c (ix2 (row t x) d) := by
  have ht := lt_pts t
  unfold row
  blk_ext [iblk, V, idx t]

/-! ## What a point adds, and what the last one leaves -/

theorem first0 (t : Fin cfg0.N) (h0 : t.val = 0) (i : Fin 512) (j : Fin 1024) :
    (outsAt0 m c t.val t.isLt).2.2.2.2.1 (ix2 i j) = 0 + ∑ x : Fin 1024, b0 m c (ix2 (row t x) i) * b2 m c (ix2 (row t x) j) := by
  rw [outsAt0_A m c t (by omega) (by omega)]
  frame_out
  refine (acc0_pay _ _ _ i j).trans (congrArg₂ (· + ·) (zero0_pay i j) (Finset.sum_congr rfl fun x _ => ?_))
  exact congrArg₂ (fun p q : EReal => p * q) (blk0 m c t x i) (blk2 m c t x j)

theorem next0 (t : Fin cfg0.N) (hp : t.val - 1 < cfg0.N) (h0 : ¬t.val = 0) (i : Fin 512) (j : Fin 1024) :
    (outsAt0 m c t.val t.isLt).2.2.2.2.1 (ix2 i j) = (outsAt0 m c (t.val - 1) hp).2.2.2.2.1 (ix2 i j) + ∑ x : Fin 1024, b0 m c (ix2 (row t x) i) * b2 m c (ix2 (row t x) j) := by
  have ht := lt_pts t
  by_cases h1 : t.val % 4 = 3
  · rw [outsAt0_C m c t (by omega) h1]
    frame_out
    simp only [read_unread_whole]
    refine (acc0_pay _ _ _ i j).trans (congrArg (_ + ·) (Finset.sum_congr rfl fun x _ => ?_))
    exact congrArg₂ (fun p q : EReal => p * q) (blk0 m c t x i) (blk2 m c t x j)
  · rw [outsAt0_B m c t (by omega) h1]
    frame_out
    simp only [read_unread_whole]
    refine (acc0_pay _ _ _ i j).trans (congrArg (_ + ·) (Finset.sum_congr rfl fun x _ => ?_))
    exact congrArg₂ (fun p q : EReal => p * q) (blk0 m c t x i) (blk2 m c t x j)

theorem last0 (t : Fin cfg0.N) (h1 : t.val % 4 = 3) (i : Fin 512) (j : Fin 1024) :
    (outsAt0 m c t.val t.isLt).1 (ix2 i j) = (outsAt0 m c t.val t.isLt).2.2.2.2.1 (ix2 i j) := by
  rw [outsAt0_C m c t (by omega) h1]
  frame_out
  exact out0_pay _ i j

theorem sum0 (t : Fin cfg0.N) (h1 : t.val % 4 = 3) (i : Fin 512) (j : Fin 1024) :
    (outsAt0 m c t.val t.isLt).1 (ix2 i j) = out0 (b0 m c) (b2 m c) (ix2 i j) := by
  have ht := lt_pts t
  have hN : cfg0.N = 4 := Gen.N_0
  refine (last0 m c t h1 i j).trans (Eq.trans ?_ (out0_at _ _ i j).symm)
  exact Cert.Rows.total pts_rows (fun n hn => (outsAt0 m c n hn).2.2.2.2.1 (ix2 i j))
    (fun r => b0 m c (ix2 r i) * b2 m c (ix2 r j)) row (fun _ _ => rfl)
    (fun s h0 => first0 m c s h0 i j) (fun s hp h0 => next0 m c s hp h0 i j) t (by omega)

theorem first1 (t : Fin cfg0.N) (h0 : t.val = 0) (i : Fin 1024) (j : Fin 1024) :
    (outsAt0 m c t.val t.isLt).2.2.2.2.2.1 (ix2 i j) = 0 + ∑ x : Fin 1024, b1 m c (ix2 (row t x) i) * b2 m c (ix2 (row t x) j) := by
  rw [outsAt0_A m c t (by omega) (by omega)]
  frame_out
  refine (acc1_pay _ _ _ i j).trans (congrArg₂ (· + ·) (zero1_pay i j) (Finset.sum_congr rfl fun x _ => ?_))
  exact congrArg₂ (fun p q : EReal => p * q) (blk1 m c t x i) (blk2 m c t x j)

theorem next1 (t : Fin cfg0.N) (hp : t.val - 1 < cfg0.N) (h0 : ¬t.val = 0) (i : Fin 1024) (j : Fin 1024) :
    (outsAt0 m c t.val t.isLt).2.2.2.2.2.1 (ix2 i j) = (outsAt0 m c (t.val - 1) hp).2.2.2.2.2.1 (ix2 i j) + ∑ x : Fin 1024, b1 m c (ix2 (row t x) i) * b2 m c (ix2 (row t x) j) := by
  have ht := lt_pts t
  by_cases h1 : t.val % 4 = 3
  · rw [outsAt0_C m c t (by omega) h1]
    frame_out
    simp only [read_unread_whole]
    refine (acc1_pay _ _ _ i j).trans (congrArg (_ + ·) (Finset.sum_congr rfl fun x _ => ?_))
    exact congrArg₂ (fun p q : EReal => p * q) (blk1 m c t x i) (blk2 m c t x j)
  · rw [outsAt0_B m c t (by omega) h1]
    frame_out
    simp only [read_unread_whole]
    refine (acc1_pay _ _ _ i j).trans (congrArg (_ + ·) (Finset.sum_congr rfl fun x _ => ?_))
    exact congrArg₂ (fun p q : EReal => p * q) (blk1 m c t x i) (blk2 m c t x j)

theorem last1 (t : Fin cfg0.N) (h1 : t.val % 4 = 3) (i : Fin 1024) (j : Fin 1024) :
    (outsAt0 m c t.val t.isLt).2.1 (ix2 i j) = (outsAt0 m c t.val t.isLt).2.2.2.2.2.1 (ix2 i j) := by
  rw [outsAt0_C m c t (by omega) h1]
  frame_out
  exact out1_pay _ i j

theorem sum1 (t : Fin cfg0.N) (h1 : t.val % 4 = 3) (i : Fin 1024) (j : Fin 1024) :
    (outsAt0 m c t.val t.isLt).2.1 (ix2 i j) = out1 (b1 m c) (b2 m c) (ix2 i j) := by
  have ht := lt_pts t
  have hN : cfg0.N = 4 := Gen.N_0
  refine (last1 m c t h1 i j).trans (Eq.trans ?_ (out1_at _ _ i j).symm)
  exact Cert.Rows.total pts_rows (fun n hn => (outsAt0 m c n hn).2.2.2.2.2.1 (ix2 i j))
    (fun r => b1 m c (ix2 r i) * b2 m c (ix2 r j)) row (fun _ _ => rfl)
    (fun s h0 => first1 m c s h0 i j) (fun s hp h0 => next1 m c s hp h0 i j) t (by omega)

theorem first2 (t : Fin cfg0.N) (h0 : t.val = 0) (i : Fin 1024) (j : Fin 256) :
    (outsAt0 m c t.val t.isLt).2.2.2.2.2.2.1 (ix2 i j) = 0 + ∑ x : Fin 1024, b3 m c (ix2 (row t x) i) * b4 m c (ix2 (row t x) j) := by
  rw [outsAt0_A m c t (by omega) (by omega)]
  frame_out
  refine (acc2_pay _ _ _ i j).trans (congrArg₂ (· + ·) (zero2_pay i j) (Finset.sum_congr rfl fun x _ => ?_))
  exact congrArg₂ (fun p q : EReal => p * q) (blk3 m c t x i) (blk4 m c t x j)

theorem next2 (t : Fin cfg0.N) (hp : t.val - 1 < cfg0.N) (h0 : ¬t.val = 0) (i : Fin 1024) (j : Fin 256) :
    (outsAt0 m c t.val t.isLt).2.2.2.2.2.2.1 (ix2 i j) = (outsAt0 m c (t.val - 1) hp).2.2.2.2.2.2.1 (ix2 i j) + ∑ x : Fin 1024, b3 m c (ix2 (row t x) i) * b4 m c (ix2 (row t x) j) := by
  have ht := lt_pts t
  by_cases h1 : t.val % 4 = 3
  · rw [outsAt0_C m c t (by omega) h1]
    frame_out
    simp only [read_unread_whole]
    refine (acc2_pay _ _ _ i j).trans (congrArg (_ + ·) (Finset.sum_congr rfl fun x _ => ?_))
    exact congrArg₂ (fun p q : EReal => p * q) (blk3 m c t x i) (blk4 m c t x j)
  · rw [outsAt0_B m c t (by omega) h1]
    frame_out
    simp only [read_unread_whole]
    refine (acc2_pay _ _ _ i j).trans (congrArg (_ + ·) (Finset.sum_congr rfl fun x _ => ?_))
    exact congrArg₂ (fun p q : EReal => p * q) (blk3 m c t x i) (blk4 m c t x j)

theorem last2 (t : Fin cfg0.N) (h1 : t.val % 4 = 3) (i : Fin 1024) (j : Fin 256) :
    (outsAt0 m c t.val t.isLt).2.2.1 (ix2 i j) = (outsAt0 m c t.val t.isLt).2.2.2.2.2.2.1 (ix2 i j) := by
  rw [outsAt0_C m c t (by omega) h1]
  frame_out
  exact out2_pay _ i j

theorem sum2 (t : Fin cfg0.N) (h1 : t.val % 4 = 3) (i : Fin 1024) (j : Fin 256) :
    (outsAt0 m c t.val t.isLt).2.2.1 (ix2 i j) = out2 (b3 m c) (b4 m c) (ix2 i j) := by
  have ht := lt_pts t
  have hN : cfg0.N = 4 := Gen.N_0
  refine (last2 m c t h1 i j).trans (Eq.trans ?_ (out2_at _ _ i j).symm)
  exact Cert.Rows.total pts_rows (fun n hn => (outsAt0 m c n hn).2.2.2.2.2.2.1 (ix2 i j))
    (fun r => b3 m c (ix2 r i) * b4 m c (ix2 r j)) row (fun _ _ => rfl)
    (fun s h0 => first2 m c s h0 i j) (fun s hp h0 => next2 m c s hp h0 i j) t (by omega)

theorem first3 (t : Fin cfg0.N) (h0 : t.val = 0) (i : Fin 128) (j : Fin 2048) :
    (outsAt0 m c t.val t.isLt).2.2.2.2.2.2.2 (ix2 i j) = 0 + ∑ x : Fin 1024, b5 m c (ix2 (row t x) i) * b6 m c (ix2 (row t x) j) := by
  rw [outsAt0_A m c t (by omega) (by omega)]
  frame_out
  refine (acc3_pay _ _ _ i j).trans (congrArg₂ (· + ·) (zero3_pay i j) (Finset.sum_congr rfl fun x _ => ?_))
  exact congrArg₂ (fun p q : EReal => p * q) (blk5 m c t x i) (blk6 m c t x j)

theorem next3 (t : Fin cfg0.N) (hp : t.val - 1 < cfg0.N) (h0 : ¬t.val = 0) (i : Fin 128) (j : Fin 2048) :
    (outsAt0 m c t.val t.isLt).2.2.2.2.2.2.2 (ix2 i j) = (outsAt0 m c (t.val - 1) hp).2.2.2.2.2.2.2 (ix2 i j) + ∑ x : Fin 1024, b5 m c (ix2 (row t x) i) * b6 m c (ix2 (row t x) j) := by
  have ht := lt_pts t
  by_cases h1 : t.val % 4 = 3
  · rw [outsAt0_C m c t (by omega) h1]
    frame_out
    simp only [read_unread_whole]
    refine (acc3_pay _ _ _ i j).trans (congrArg (_ + ·) (Finset.sum_congr rfl fun x _ => ?_))
    exact congrArg₂ (fun p q : EReal => p * q) (blk5 m c t x i) (blk6 m c t x j)
  · rw [outsAt0_B m c t (by omega) h1]
    frame_out
    simp only [read_unread_whole]
    refine (acc3_pay _ _ _ i j).trans (congrArg (_ + ·) (Finset.sum_congr rfl fun x _ => ?_))
    exact congrArg₂ (fun p q : EReal => p * q) (blk5 m c t x i) (blk6 m c t x j)

theorem last3 (t : Fin cfg0.N) (h1 : t.val % 4 = 3) (i : Fin 128) (j : Fin 2048) :
    (outsAt0 m c t.val t.isLt).2.2.2.1 (ix2 i j) = (outsAt0 m c t.val t.isLt).2.2.2.2.2.2.2 (ix2 i j) := by
  rw [outsAt0_C m c t (by omega) h1]
  frame_out
  exact out3_pay _ i j

theorem sum3 (t : Fin cfg0.N) (h1 : t.val % 4 = 3) (i : Fin 128) (j : Fin 2048) :
    (outsAt0 m c t.val t.isLt).2.2.2.1 (ix2 i j) = out3 (b5 m c) (b6 m c) (ix2 i j) := by
  have ht := lt_pts t
  have hN : cfg0.N = 4 := Gen.N_0
  refine (last3 m c t h1 i j).trans (Eq.trans ?_ (out3_at _ _ i j).symm)
  exact Cert.Rows.total pts_rows (fun n hn => (outsAt0 m c n hn).2.2.2.2.2.2.2 (ix2 i j))
    (fun r => b5 m c (ix2 r i) * b6 m c (ix2 r j)) row (fun _ _ => rfl)
    (fun s h0 => first3 m c s h0 i j) (fun s hp h0 => next3 m c s hp h0 i j) t (by omega)

/-! ## The results -/

theorem emb7 (t : Fin cfg0.N) (i : Fin 512) (j : Fin 1024) : (win0_7.blk t).view.emb (ix2 i j) = ix2 i j := by
  have ht := lt_pts t
  blk_ext [idx t]

/-- Result 0. -/
theorem final0 : (dats m 0 c).arrAt 7 cfg0.N = out0 (b0 m c) (b2 m c) := by
  refine (dats m 0 c).arrAt_eq_of_covers 7 _ (by decide +kernel) fun t hf y => ?_
  blk_simp
  rw [after0_7]
  obtain ⟨i, j, rfl⟩ : ∃ (i : Fin 512) (j : Fin 1024), y = ix2 i j := ⟨_, _, (ix2_eta y).symm⟩
  rw [emb7 t i j]
  exact sum0 m c t ((flush0_7 t).mp hf) i j

theorem emb8 (t : Fin cfg0.N) (i : Fin 1024) (j : Fin 1024) : (win0_8.blk t).view.emb (ix2 i j) = ix2 i j := by
  have ht := lt_pts t
  blk_ext [idx t]

/-- Result 1. -/
theorem final1 : (dats m 0 c).arrAt 8 cfg0.N = out1 (b1 m c) (b2 m c) := by
  refine (dats m 0 c).arrAt_eq_of_covers 8 _ (by decide +kernel) fun t hf y => ?_
  blk_simp
  rw [after0_8]
  obtain ⟨i, j, rfl⟩ : ∃ (i : Fin 1024) (j : Fin 1024), y = ix2 i j := ⟨_, _, (ix2_eta y).symm⟩
  rw [emb8 t i j]
  exact sum1 m c t ((flush0_8 t).mp hf) i j

theorem emb9 (t : Fin cfg0.N) (i : Fin 1024) (j : Fin 256) : (win0_9.blk t).view.emb (ix2 i j) = ix2 i j := by
  have ht := lt_pts t
  blk_ext [idx t]

/-- Result 2. -/
theorem final2 : (dats m 0 c).arrAt 9 cfg0.N = out2 (b3 m c) (b4 m c) := by
  refine (dats m 0 c).arrAt_eq_of_covers 9 _ (by decide +kernel) fun t hf y => ?_
  blk_simp
  rw [after0_9]
  obtain ⟨i, j, rfl⟩ : ∃ (i : Fin 1024) (j : Fin 256), y = ix2 i j := ⟨_, _, (ix2_eta y).symm⟩
  rw [emb9 t i j]
  exact sum2 m c t ((flush0_9 t).mp hf) i j

theorem emb10 (t : Fin cfg0.N) (i : Fin 128) (j : Fin 2048) : (win0_10.blk t).view.emb (ix2 i j) = ix2 i j := by
  have ht := lt_pts t
  blk_ext [idx t]

/-- Result 3. -/
theorem final3 : (dats m 0 c).arrAt 10 cfg0.N = out3 (b5 m c) (b6 m c) := by
  refine (dats m 0 c).arrAt_eq_of_covers 10 _ (by decide +kernel) fun t hf y => ?_
  blk_simp
  rw [after0_10]
  obtain ⟨i, j, rfl⟩ : ∃ (i : Fin 128) (j : Fin 2048), y = ix2 i j := ⟨_, _, (ix2_eta y).symm⟩
  rw [emb10 t i j]
  exact sum3 m c t ((flush0_10 t).mp hf) i j

end Cert.Kernel8Ideal.Body

end
-- ==== Proof.Twin8.lean ====
/-
The eighth kernel over bits and over ideal numbers are one text printed twice.  The two kernel bodies, the two
tables of bodies and the two programs are shown equal here, so that the run of the second, stated for every
interpretation of the floats, also gives the frame of the first.
-/
module

public import proofs.«01_k».proof.Defs
public import proofs.«01_k».proof.Proof.Gen.Kernel8
public import proofs.«01_k».proof.Proof.Gen.Kernel8Ideal.Frame

@[expose] public section

set_option maxRecDepth 16384
set_option maxHeartbeats 1500000

noncomputable section

namespace Cert.Twin8

open Idealize.ShloMosaic Idealize.ShloMosaic.TcCoe Idealize.SL.Sem

variable {F : FTy → Type} [FloatOps F]

/-- The two kernel bodies are the same program: with the names of shapes, buffers and parts written out on both sides
    they read the same. -/
theorem body : @Cert.Kernel8.cc0_dw_mixer F _ Cert.Kernel8.Gen.facts
    = @Cert.Kernel8Ideal.cc0_dw_mixer F _ Cert.Kernel8Ideal.Gen.facts := by
  delta
    Cert.Kernel8.S4096x512 Cert.Kernel8.S4096x1024 Cert.Kernel8.S4096x256 Cert.Kernel8.S4096x128
    Cert.Kernel8.S4096x2048 Cert.Kernel8.S512x1024 Cert.Kernel8.S1024x1024 Cert.Kernel8.S1024x256
    Cert.Kernel8.S128x2048 Cert.Kernel8.S1024x512 Cert.Kernel8.S1024x128 Cert.Kernel8.S1024x2048
    Cert.Kernel8.nBuf Cert.Kernel8.bufTy Cert.Kernel8.bufScoped Cert.Kernel8.semScoped
    Cert.Kernel8.dmaSemScoped Cert.Kernel8.sig Cert.Kernel8.nD Cert.Kernel8.τ Cert.Kernel8.grid0
    Cert.Kernel8.k0_cond2 Cert.Kernel8.cc0_transform_0 Cert.Kernel8.cc0_transform_1
    Cert.Kernel8.cc0_transform_2 Cert.Kernel8.cc0_transform_3 Cert.Kernel8.cc0_transform_4
    Cert.Kernel8.cc0_transform_5 Cert.Kernel8.cc0_transform_6 Cert.Kernel8.cc0_transform_7
    Cert.Kernel8.cc0_transform_8 Cert.Kernel8.cc0_transform_9 Cert.Kernel8.cc0_transform_10
    Cert.Kernel8.stage0_0 Cert.Kernel8.sem0_0 Cert.Kernel8.reads0_0 Cert.Kernel8.stage0_1 Cert.Kernel8.sem0_1
    Cert.Kernel8.reads0_1 Cert.Kernel8.stage0_2 Cert.Kernel8.sem0_2 Cert.Kernel8.reads0_2
    Cert.Kernel8.stage0_3 Cert.Kernel8.sem0_3 Cert.Kernel8.reads0_3 Cert.Kernel8.stage0_4 Cert.Kernel8.sem0_4
    Cert.Kernel8.reads0_4 Cert.Kernel8.stage0_5 Cert.Kernel8.sem0_5 Cert.Kernel8.reads0_5
    Cert.Kernel8.stage0_6 Cert.Kernel8.sem0_6 Cert.Kernel8.reads0_6 Cert.Kernel8.stage0_7 Cert.Kernel8.sem0_7
    Cert.Kernel8.reads0_7 Cert.Kernel8.stage0_8 Cert.Kernel8.sem0_8 Cert.Kernel8.reads0_8
    Cert.Kernel8.stage0_9 Cert.Kernel8.sem0_9 Cert.Kernel8.reads0_9 Cert.Kernel8.stage0_10
    Cert.Kernel8.sem0_10 Cert.Kernel8.reads0_10 Cert.Kernel8.dot_S1024x512_S1024x1024_S512x1024_0_0_1_1_n_n
    Cert.Kernel8.dot_S1024x1024_S1024x1024_S1024x1024_0_0_1_1_n_n
    Cert.Kernel8.dot_S1024x1024_S1024x256_S1024x256_0_0_1_1_n_n
    Cert.Kernel8.dot_S1024x128_S1024x2048_S128x2048_0_0_1_1_n_n Cert.Kernel8.Λ₀ Cert.Kernel8.k0_part1
    Cert.Kernel8.cc0_dw_mixer
  delta
    Cert.Kernel8Ideal.S4096x512 Cert.Kernel8Ideal.S4096x1024 Cert.Kernel8Ideal.S4096x256
    Cert.Kernel8Ideal.S4096x128 Cert.Kernel8Ideal.S4096x2048 Cert.Kernel8Ideal.S512x1024
    Cert.Kernel8Ideal.S1024x1024 Cert.Kernel8Ideal.S1024x256 Cert.Kernel8Ideal.S128x2048
    Cert.Kernel8Ideal.S1024x512 Cert.Kernel8Ideal.S1024x128 Cert.Kernel8Ideal.S1024x2048
    Cert.Kernel8Ideal.nBuf Cert.Kernel8Ideal.bufTy Cert.Kernel8Ideal.bufScoped Cert.Kernel8Ideal.semScoped
    Cert.Kernel8Ideal.dmaSemScoped Cert.Kernel8Ideal.sig Cert.Kernel8Ideal.nD Cert.Kernel8Ideal.τ
    Cert.Kernel8Ideal.grid0 Cert.Kernel8Ideal.k0_cond2 Cert.Kernel8Ideal.cc0_transform_0
    Cert.Kernel8Ideal.cc0_transform_1 Cert.Kernel8Ideal.cc0_transform_2 Cert.Kernel8Ideal.cc0_transform_3
    Cert.Kernel8Ideal.cc0_transform_4 Cert.Kernel8Ideal.cc0_transform_5 Cert.Kernel8Ideal.cc0_transform_6
    Cert.Kernel8Ideal.cc0_transform_7 Cert.Kernel8Ideal.cc0_transform_8 Cert.Kernel8Ideal.cc0_transform_9
    Cert.Kernel8Ideal.cc0_transform_10 Cert.Kernel8Ideal.stage0_0 Cert.Kernel8Ideal.sem0_0
    Cert.Kernel8Ideal.reads0_0 Cert.Kernel8Ideal.stage0_1 Cert.Kernel8Ideal.sem0_1 Cert.Kernel8Ideal.reads0_1
    Cert.Kernel8Ideal.stage0_2 Cert.Kernel8Ideal.sem0_2 Cert.Kernel8Ideal.reads0_2 Cert.Kernel8Ideal.stage0_3
    Cert.Kernel8Ideal.sem0_3 Cert.Kernel8Ideal.reads0_3 Cert.Kernel8Ideal.stage0_4 Cert.Kernel8Ideal.sem0_4
    Cert.Kernel8Ideal.reads0_4 Cert.Kernel8Ideal.stage0_5 Cert.Kernel8Ideal.sem0_5 Cert.Kernel8Ideal.reads0_5
    Cert.Kernel8Ideal.stage0_6 Cert.Kernel8Ideal.sem0_6 Cert.Kernel8Ideal.reads0_6 Cert.Kernel8Ideal.stage0_7
    Cert.Kernel8Ideal.sem0_7 Cert.Kernel8Ideal.reads0_7 Cert.Kernel8Ideal.stage0_8 Cert.Kernel8Ideal.sem0_8
    Cert.Kernel8Ideal.reads0_8 Cert.Kernel8Ideal.stage0_9 Cert.Kernel8Ideal.sem0_9 Cert.Kernel8Ideal.reads0_9
    Cert.Kernel8Ideal.stage0_10 Cert.Kernel8Ideal.sem0_10 Cert.Kernel8Ideal.reads0_10
    Cert.Kernel8Ideal.dot_S1024x512_S1024x1024_S512x1024_0_0_1_1_n_n
    Cert.Kernel8Ideal.dot_S1024x1024_S1024x1024_S1024x1024_0_0_1_1_n_n
    Cert.Kernel8Ideal.dot_S1024x1024_S1024x256_S1024x256_0_0_1_1_n_n
    Cert.Kernel8Ideal.dot_S1024x128_S1024x2048_S128x2048_0_0_1_1_n_n Cert.Kernel8Ideal.Λ₀
    Cert.Kernel8Ideal.k0_part1 Cert.Kernel8Ideal.cc0_dw_mixer
  rfl

/-- So are the two tables that give the body of each label. -/
theorem table : @Cert.Kernel8.defs₀ F _ Cert.Kernel8.Gen.facts = @Cert.Kernel8Ideal.defs₀ F _ Cert.Kernel8Ideal.Gen.facts := by
  unfold Cert.Kernel8.defs₀ Cert.Kernel8Ideal.defs₀
  refine congrArg Defs.onTc ?_
  funext l a
  match l, a with
  | 0, (t, s) => dsimp only; rw [body]; rfl

/-- … and the tables with the pipeline's labels added. -/
theorem defs : @Cert.Kernel8.defs F _ Cert.Kernel8.Gen.facts = @Cert.Kernel8Ideal.defs F _ Cert.Kernel8Ideal.Gen.facts := by
  unfold Cert.Kernel8.defs Cert.Kernel8Ideal.defs
  rw [table]; rfl

set_option maxHeartbeats 2000000 in
/-- The two programs that call the kernel are the same. -/
theorem main : @Cert.Kernel8.main F _ = @Cert.Kernel8Ideal.main F _ := rfl

/-- The frame of the kernel over bits, from the run proved once for every interpretation of the floats. -/
theorem frame_kernel : quiescent_Kernel8 (hKernel8 := Cert.Kernel8.Gen.facts) := by
  intro m g _
  rw [defs, main]
  exact Cert.Kernel8Ideal.Gen.frame (F := Bits) m g

end Cert.Twin8

end
-- ==== Proof.lean ====
/-
  The certificate's claims, of the eight calls: the programs run and leave their arguments, each kernel meets the rules its
  idealized text is made by, and on numbers it computes the arrays its reference does.
-/
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Kernel6
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Kernel7
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Kernel8
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Final
public import proofs.«01_k».proof.Proof.Finite
public import proofs.«01_k».proof.Proof.Twin
public import proofs.«01_k».proof.Proof.NormRun
public import proofs.«01_k».proof.Proof.NormFinal
public import proofs.«01_k».proof.Proof.NormFinite
public import proofs.«01_k».proof.Proof.Twin2
public import proofs.«01_k».proof.Proof.Twin3
public import proofs.«01_k».proof.Proof.UpFinal
public import proofs.«01_k».proof.Proof.DownRun
public import proofs.«01_k».proof.Proof.DownFinal
public import proofs.«01_k».proof.Proof.DownFinite
public import proofs.«01_k».proof.Proof.Twin4
public import proofs.«01_k».proof.Proof.MixFinal
public import proofs.«01_k».proof.Proof.Twin5
public import proofs.«01_k».proof.Proof.OutGrad
public import proofs.«01_k».proof.Proof.Twin6
public import proofs.«01_k».proof.Proof.HeadFinal
public import proofs.«01_k».proof.Proof.Twin7
public import proofs.«01_k».proof.Proof.InGrad
public import proofs.«01_k».proof.Proof.Twin8
public import Idealize.ShloMosaic.Adequacy
public import Idealize.ShloMosaic.Init

@[expose] public section

noncomputable section

namespace Cert.Proof

open Idealize.ShloMosaic Idealize.SL.Sem

/-- The kernel's text and its idealized text are one text: one run shows both. -/
theorem frame_kernel : quiescent_Kernel (hKernel := Cert.Kernel.Gen.facts) := Cert.Twin.frame_kernel

/-- The reference's run leaves its arguments; it has no semaphores. -/
theorem frame_reference : quiescent_ReferenceIdeal (hReferenceIdeal := Cert.ReferenceIdeal.Gen.facts) :=
  fun m g _ => (θ_run _ _ _).mono (fun r h => ⟨fun c => (h c).2.2.2.2.2, sem_eq_zero_of_no_sems (by decide) r.2⟩)
    (Cert.ReferenceIdeal.Value.run m g)

open Cert.ReferenceIdeal.Terms in
/-- The five gradients. -/
theorem values : algebraic_KernelIdeal_ReferenceIdeal_pre_finite (hKernelIdeal := Cert.KernelIdeal.Gen.facts)
    (hReferenceIdeal := Cert.ReferenceIdeal.Gen.facts) (hPre_finite := Cert.Pre_finite.Gen.facts) := by
  letI := Cert.Pre_finite.Gen.facts
  intro m g m' g' hpre hag
  have hA : ∀ c, (Cert.KernelIdeal.Body.A m c).Num := fun c =>
    num_of_pre _ _ _ _ _ _ (hpre c).1 (hpre c).2.1 (hpre c).2.2.1 (hpre c).2.2.2.1 (hpre c).2.2.2.2.1 (hpre c).2.2.2.2.2
  refine ⟨fun c => (Cert.KernelIdeal.Gen.dats m 0 c).arrAt 10 Cert.KernelIdeal.cfg0.N, fun c => (Cert.KernelIdeal.Gen.dats m 0 c).arrAt 11 Cert.KernelIdeal.cfg0.N,
    fun c => (Cert.KernelIdeal.Gen.dats m 0 c).arrAt 12 Cert.KernelIdeal.cfg0.N, fun c => (Cert.KernelIdeal.Gen.dats m 0 c).arrAt 13 Cert.KernelIdeal.cfg0.N,
    fun c => (Cert.KernelIdeal.Gen.dats m 0 c).arrAt 14 Cert.KernelIdeal.cfg0.N, Cert.KernelIdeal.Value.run_blocks m g, ?_⟩
  refine (θ_run _ _ _).mono (fun r h c => ?_) (Cert.ReferenceIdeal.Value.run m' g')
  obtain ⟨e0, e1, e2, e3, e4, e5⟩ := hag c
  obtain ⟨r0, r1, r2, r3, r4, k⟩ := h c
  refine ⟨r0.trans ?_, r1.trans ?_, r2.trans ?_, r3.trans ?_, r4.trans ?_, k⟩
  · refine (res0 m' c).trans (Eq.trans ?_ (Cert.KernelIdeal.Body.final0 m c (hA c)).symm)
    rw [show a0 m' c = _ from e0, show a1 m' c = _ from e1, show a2 m' c = _ from e2, show a3 m' c = _ from e3, show a4 m' c = _ from e4, show a5 m' c = _ from e5]
  · refine (res1 m' c).trans (Eq.trans ?_ (Cert.KernelIdeal.Body.final1 m c (hA c)).symm)
    rw [show a0 m' c = _ from e0, show a1 m' c = _ from e1, show a2 m' c = _ from e2, show a3 m' c = _ from e3, show a4 m' c = _ from e4, show a5 m' c = _ from e5]
  · refine (res2 m' c).trans (Eq.trans ?_ (Cert.KernelIdeal.Body.final2 m c (hA c)).symm)
    rw [show a0 m' c = _ from e0, show a1 m' c = _ from e1, show a2 m' c = _ from e2, show a3 m' c = _ from e3, show a4 m' c = _ from e4, show a5 m' c = _ from e5]
  · refine (res3 m' c).trans (Eq.trans ?_ (Cert.KernelIdeal.Body.final3 m c).symm)
    rw [show a0 m' c = _ from e0, show a1 m' c = _ from e1, show a2 m' c = _ from e2, show a3 m' c = _ from e3, show a5 m' c = _ from e5]
  · refine (res4 m' c).trans (Eq.trans ?_ (Cert.KernelIdeal.Body.final4 m c (hA c)).symm)
    rw [show a0 m' c = _ from e0, show a1 m' c = _ from e1, show a2 m' c = _ from e2, show a3 m' c = _ from e3, show a4 m' c = _ from e4, show a5 m' c = _ from e5]

/-- The second kernel's text and its idealized text are one text too. -/
theorem frame_kernel2 : quiescent_Kernel2 (hKernel2 := Cert.Kernel2.Gen.facts) := Cert.Twin2.frame_kernel

/-- The second reference's run leaves its arguments; it has no semaphores. -/
theorem frame_reference2 : quiescent_Reference2Ideal (hReference2Ideal := Cert.Reference2Ideal.Gen.facts) :=
  fun m g _ => (θ_run _ _ _).mono (fun r h => ⟨fun c => (h c).2.2.2.2.2.2.2, sem_eq_zero_of_no_sems (by decide) r.2⟩)
    (Cert.Reference2Ideal.Terms.run_outs m g)

set_option maxHeartbeats 2000000 in
open Cert.Reference2Ideal.Terms in
/-- The second call's seven gradients. -/
theorem values2 : algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  letI := Cert.Pre_finite2.Gen.facts
  intro m g m' g' hpre hag
  have hA : ∀ c, (Cert.Kernel2Ideal.Body.A m c).Num := fun c => by
    obtain ⟨h0, h1, h2, h3, h4, h5, h6, h7, h8⟩ := hpre c
    exact num_of_pre _ _ _ _ _ _ _ _ _ h0 h1 h2 h3 h4 h5 h6 h7 h8
  refine ⟨fun c => (Cert.Kernel2Ideal.Gen.dats m 0 c).arrAt 9 Cert.Kernel2Ideal.cfg0.N,
    fun c => (Cert.Kernel2Ideal.Gen.dats m 0 c).arrAt 10 Cert.Kernel2Ideal.cfg0.N,
    fun c => (Cert.Kernel2Ideal.Gen.dats m 0 c).arrAt 11 Cert.Kernel2Ideal.cfg0.N,
    fun c => (Cert.Kernel2Ideal.Gen.dats m 0 c).arrAt 12 Cert.Kernel2Ideal.cfg0.N,
    fun c => (Cert.Kernel2Ideal.Gen.dats m 0 c).arrAt 13 Cert.Kernel2Ideal.cfg0.N,
    fun c => (Cert.Kernel2Ideal.Gen.dats m 0 c).arrAt 14 Cert.Kernel2Ideal.cfg0.N,
    fun c => (Cert.Kernel2Ideal.Gen.dats m 0 c).arrAt 15 Cert.Kernel2Ideal.cfg0.N,
    Cert.Kernel2Ideal.Value.run_blocks m g, ?_⟩
  refine (θ_run _ _ _).mono (fun r h c => ?_) (run_outs m' g')
  obtain ⟨e0, e1, e2, e3, e4, e5, e6, e7, e8⟩ := hag c
  obtain ⟨r0, r1, r2, r3, r4, r5, r6, k⟩ := h c
  refine ⟨r0.trans ?_, r1.trans ?_, r2.trans ?_, r3.trans ?_, r4.trans ?_, r5.trans ?_, r6.trans ?_, k⟩
  · refine Eq.trans ?_ (Cert.Kernel2Ideal.Body.final0 m c (hA c)).symm
    rw [show a0 m' c = _ from e0, show a1 m' c = _ from e1, show a2 m' c = _ from e2, show a3 m' c = _ from e3, show a4 m' c = _ from e4, show a5 m' c = _ from e5, show a6 m' c = _ from e6, show a7 m' c = _ from e7, show a8 m' c = _ from e8]
  · refine Eq.trans ?_ (Cert.Kernel2Ideal.Body.final1 m c (hA c)).symm
    rw [show a0 m' c = _ from e0, show a1 m' c = _ from e1, show a2 m' c = _ from e2, show a3 m' c = _ from e3, show a4 m' c = _ from e4, show a5 m' c = _ from e5, show a6 m' c = _ from e6, show a7 m' c = _ from e7, show a8 m' c = _ from e8]
  · refine Eq.trans ?_ (Cert.Kernel2Ideal.Body.final2 m c).symm
    rw [show a0 m' c = _ from e0, show a1 m' c = _ from e1]
  · refine Eq.trans ?_ (Cert.Kernel2Ideal.Body.final3 m c).symm
    rw [show a0 m' c = _ from e0, show a1 m' c = _ from e1, show a2 m' c = _ from e2, show a3 m' c = _ from e3, show a5 m' c = _ from e5, show a6 m' c = _ from e6, show a7 m' c = _ from e7, show a8 m' c = _ from e8]
  · refine Eq.trans ?_ (Cert.Kernel2Ideal.Body.final4 m c).symm
    rw [show a0 m' c = _ from e0, show a1 m' c = _ from e1, show a2 m' c = _ from e2, show a3 m' c = _ from e3, show a5 m' c = _ from e5, show a6 m' c = _ from e6, show a8 m' c = _ from e8]
  · refine Eq.trans ?_ (Cert.Kernel2Ideal.Body.final5 m c (hA c)).symm
    rw [show a0 m' c = _ from e0, show a1 m' c = _ from e1, show a2 m' c = _ from e2, show a3 m' c = _ from e3, show a4 m' c = _ from e4, show a5 m' c = _ from e5, show a6 m' c = _ from e6, show a7 m' c = _ from e7, show a8 m' c = _ from e8]
  · refine Eq.trans ?_ (Cert.Kernel2Ideal.Body.final6 m c (hA c)).symm
    rw [show a0 m' c = _ from e0, show a1 m' c = _ from e1, show a2 m' c = _ from e2, show a3 m' c = _ from e3, show a4 m' c = _ from e4, show a5 m' c = _ from e5, show a6 m' c = _ from e6, show a7 m' c = _ from e7, show a8 m' c = _ from e8]

/-- The third kernel's text and its idealized text are one text too. -/
theorem frame_kernel3 : quiescent_Kernel3 (hKernel3 := Cert.Kernel3.Gen.facts) := Cert.Twin3.frame_kernel

/-- The third reference's run leaves its arguments; it has no semaphores. -/
theorem frame_reference3 : quiescent_Reference3Ideal (hReference3Ideal := Cert.Reference3Ideal.Gen.facts) :=
  fun m g _ => (θ_run _ _ _).mono (fun r h => ⟨fun c => (h c).2.2.2.2.2, sem_eq_zero_of_no_sems (by decide) r.2⟩)
    (Cert.Reference3Ideal.Terms.run_outs m g)

open Cert.Reference3Ideal.Terms in
/-- The third call's five arrays. -/
theorem values3 : algebraic_Kernel3Ideal_Reference3Ideal (hKernel3Ideal := Cert.Kernel3Ideal.Gen.facts)
    (hReference3Ideal := Cert.Reference3Ideal.Gen.facts) := by
  intro m g m' g' hpre hag
  refine ⟨fun c => (Cert.Kernel3Ideal.Gen.dats m 0 c).arrAt 7 Cert.Kernel3Ideal.cfg0.N,
    fun c => (Cert.Kernel3Ideal.Gen.dats m 0 c).arrAt 8 Cert.Kernel3Ideal.cfg0.N,
    fun c => (Cert.Kernel3Ideal.Gen.dats m 0 c).arrAt 9 Cert.Kernel3Ideal.cfg0.N,
    fun c => (Cert.Kernel3Ideal.Gen.dats m 0 c).arrAt 10 Cert.Kernel3Ideal.cfg0.N,
    fun c => (Cert.Kernel3Ideal.Gen.dats m 0 c).arrAt 11 Cert.Kernel3Ideal.cfg0.N,
    Cert.Kernel3Ideal.Value.run_blocks m g, ?_⟩
  refine (θ_run _ _ _).mono (fun r h c => ?_) (run_outs m' g')
  obtain ⟨e0, e1, e2, e3⟩ := hag c
  obtain ⟨r0, r1, r2, r3, r4, k⟩ := h c
  refine ⟨r0.trans ?_, r1.trans ?_, r2.trans ?_, r3.trans ?_, r4.trans ?_, k⟩
  · refine Eq.trans ?_ (Cert.Kernel3Ideal.Body.final0 m c).symm
    rw [show a0 m' c = _ from e0, show a1 m' c = _ from e1]
  · refine Eq.trans ?_ (Cert.Kernel3Ideal.Body.final1 m c).symm
    rw [show a0 m' c = _ from e0, show a1 m' c = _ from e1]
  · refine Eq.trans ?_ (Cert.Kernel3Ideal.Body.final2 m c).symm
    rw [show a0 m' c = _ from e0, show a1 m' c = _ from e1, show a2 m' c = _ from e2, show a3 m' c = _ from e3]
  · refine Eq.trans ?_ (Cert.Kernel3Ideal.Body.final3 m c).symm
    rw [show a0 m' c = _ from e0, show a1 m' c = _ from e1, show a2 m' c = _ from e2, show a3 m' c = _ from e3]
  · refine Eq.trans ?_ (Cert.Kernel3Ideal.Body.final4 m c).symm
    rw [show a0 m' c = _ from e0, show a1 m' c = _ from e1, show a2 m' c = _ from e2, show a3 m' c = _ from e3]

/-- The fourth kernel's text and its idealized text are one text too. -/
theorem frame_kernel4 : quiescent_Kernel4 (hKernel4 := Cert.Kernel4.Gen.facts) := Cert.Twin4.frame_kernel

/-- The fourth reference's run leaves its arguments; it has no semaphores. -/
theorem frame_reference4 : quiescent_Reference4Ideal (hReference4Ideal := Cert.Reference4Ideal.Gen.facts) :=
  fun m g _ => (θ_run _ _ _).mono (fun r h => ⟨fun c => (h c).2.2.2.2.2, sem_eq_zero_of_no_sems (by decide) r.2⟩)
    (Cert.Reference4Ideal.Terms.run_outs m g)

set_option maxHeartbeats 2000000 in
open Cert.Reference4Ideal.Terms in
/-- The fourth call's loss and its gradients. -/
theorem values4 : algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := by
  letI := Cert.Pre_finite4.Gen.facts
  intro m g m' g' hpre hag
  have hA : ∀ c, (Cert.Kernel4Ideal.Body.A m c).Num := fun c => by
    obtain ⟨h0, h1, h2, h3, h4, h5, h6⟩ := hpre c
    exact num_of_pre _ _ _ _ _ _ _ h0 h1 h2 h3 h4 h5 h6
  refine ⟨fun c => (Cert.Kernel4Ideal.Gen.dats m 0 c).arrAt 7 Cert.Kernel4Ideal.cfg0.N,
    fun c => (Cert.Kernel4Ideal.Gen.dats m 0 c).arrAt 8 Cert.Kernel4Ideal.cfg0.N,
    fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    Cert.Kernel4Ideal.Value.run_blocks m g, ?_⟩
  refine (θ_run _ _ _).mono (fun r h c => ?_) (run_outs m' g')
  obtain ⟨e0, e1, e2, e3, e4, e5, e6⟩ := hag c
  obtain ⟨r0, r1, r2, r3, r4, k⟩ := h c
  rw [show a0 m' c = _ from e0, show a1 m' c = _ from e1, show a2 m' c = _ from e2, show a3 m' c = _ from e3, show a4 m' c = _ from e4, show a5 m' c = _ from e5, show a6 m' c = _ from e6] at r0 r1 r2 r3 r4
  exact ⟨r0.trans (Cert.Kernel4Ideal.Body.final0 m c).symm, r1.trans (Cert.Kernel4Ideal.Body.final1 m c (hA c)).symm,
    r2.trans (Cert.Kernel4Ideal.Body.final2 m c).symm, r3.trans (Cert.Kernel4Ideal.Body.final3 m c).symm,
    r4.trans (Cert.Kernel4Ideal.Body.final4 m c).symm, k⟩

/-- The fifth kernel's text and its idealized text are one text too. -/
theorem frame_kernel5 : quiescent_Kernel5 (hKernel5 := Cert.Kernel5.Gen.facts) := Cert.Twin5.frame_kernel

/-- The fifth reference's run leaves its arguments; it has no semaphores. -/
theorem frame_reference5 : quiescent_Reference5Ideal (hReference5Ideal := Cert.Reference5Ideal.Gen.facts) :=
  fun m g _ => (θ_run _ _ _).mono (fun r h => ⟨fun c => (h c).2.2.2, sem_eq_zero_of_no_sems (by decide) r.2⟩)
    (Cert.Reference5Ideal.Terms.run_outs m g)

open Cert.Reference5Ideal.Terms in
/-- The fifth call's three arrays. -/
theorem values5 : algebraic_Kernel5Ideal_Reference5Ideal (hKernel5Ideal := Cert.Kernel5Ideal.Gen.facts)
    (hReference5Ideal := Cert.Reference5Ideal.Gen.facts) := by
  intro m g m' g' hpre hag
  refine ⟨fun c => (Cert.Kernel5Ideal.Gen.dats m 0 c).arrAt 8 Cert.Kernel5Ideal.cfg0.N,
    fun c => (Cert.Kernel5Ideal.Gen.dats m 0 c).arrAt 9 Cert.Kernel5Ideal.cfg0.N,
    fun c => (Cert.Kernel5Ideal.Gen.dats m 0 c).arrAt 10 Cert.Kernel5Ideal.cfg0.N,
    Cert.Kernel5Ideal.Value.run_blocks m g, ?_⟩
  refine (θ_run _ _ _).mono (fun r h c => ?_) (run_outs m' g')
  obtain ⟨e0, e1, e2, e3, e4, e5, e6, e7⟩ := hag c
  obtain ⟨r0, r1, r2, k⟩ := h c
  rw [show a0 m' c = _ from e0, show a1 m' c = _ from e1, show a2 m' c = _ from e2] at r0
  rw [show a0 m' c = _ from e0, show a1 m' c = _ from e1, show a2 m' c = _ from e2, show a3 m' c = _ from e3, show a4 m' c = _ from e4, show a5 m' c = _ from e5, show a6 m' c = _ from e6] at r1
  rw [show a0 m' c = _ from e0, show a1 m' c = _ from e1, show a2 m' c = _ from e2, show a3 m' c = _ from e3, show a4 m' c = _ from e4, show a5 m' c = _ from e5, show a6 m' c = _ from e6, show a7 m' c = _ from e7] at r2
  exact ⟨r0.trans (Cert.Kernel5Ideal.Body.final0 m c).symm, r1.trans (Cert.Kernel5Ideal.Body.final1 m c).symm,
    r2.trans (Cert.Kernel5Ideal.Body.final2 m c).symm, k⟩

/-- The sixth kernel's text and its idealized text are one text too. -/
theorem frame_kernel6 : quiescent_Kernel6 (hKernel6 := Cert.Kernel6.Gen.facts) := Cert.Twin6.frame_kernel

/-- The sixth reference's run leaves its arguments; it has no semaphores. -/
theorem frame_reference6 : quiescent_Reference6Ideal (hReference6Ideal := Cert.Reference6Ideal.Gen.facts) :=
  fun m g _ => (θ_run _ _ _).mono (fun r h => ⟨fun c => (h c).2.2, sem_eq_zero_of_no_sems (by decide) r.2⟩)
    (Cert.Reference6Ideal.Terms.run_outs m g)

open Cert.Reference6Ideal.Terms in
/-- The sixth call's two gradients. -/
theorem values6 : algebraic_Kernel6Ideal_Reference6Ideal (hKernel6Ideal := Cert.Kernel6Ideal.Gen.facts)
    (hReference6Ideal := Cert.Reference6Ideal.Gen.facts) := by
  intro m g m' g' hpre hag
  refine ⟨fun c => (Cert.Kernel6Ideal.Gen.dats m 0 c).arrAt 3 Cert.Kernel6Ideal.cfg0.N,
    fun c => (Cert.Kernel6Ideal.Gen.dats m 0 c).arrAt 4 Cert.Kernel6Ideal.cfg0.N,
    Cert.Kernel6Ideal.Value.run_blocks m g, ?_⟩
  refine (θ_run _ _ _).mono (fun r h c => ?_) (run_outs m' g')
  obtain ⟨e0, e1, e2⟩ := hag c
  obtain ⟨r0, r1, k⟩ := h c
  rw [show a0 m' c = _ from e0, show a2 m' c = _ from e2] at r0
  rw [show a1 m' c = _ from e1, show a2 m' c = _ from e2] at r1
  exact ⟨r0.trans (Cert.Kernel6Ideal.Body.final0 m c).symm, r1.trans (Cert.Kernel6Ideal.Body.final1 m c).symm, k⟩

/-- The seventh kernel's text and its idealized text are one text too. -/
theorem frame_kernel7 : quiescent_Kernel7 (hKernel7 := Cert.Kernel7.Gen.facts) := Cert.Twin7.frame_kernel

/-- The seventh reference's run leaves its arguments; it has no semaphores. -/
theorem frame_reference7 : quiescent_Reference7Ideal (hReference7Ideal := Cert.Reference7Ideal.Gen.facts) :=
  fun m g _ => (θ_run _ _ _).mono (fun r h => ⟨fun c => (h c).2.2.2, sem_eq_zero_of_no_sems (by decide) r.2⟩)
    (Cert.Reference7Ideal.Terms.run_outs m g)

open Cert.Reference7Ideal.Terms in
/-- The seventh call's three gradients. -/
theorem values7 : algebraic_Kernel7Ideal_Reference7Ideal (hKernel7Ideal := Cert.Kernel7Ideal.Gen.facts)
    (hReference7Ideal := Cert.Reference7Ideal.Gen.facts) := by
  intro m g m' g' hpre hag
  refine ⟨fun c => (Cert.Kernel7Ideal.Gen.dats m 0 c).arrAt 3 Cert.Kernel7Ideal.cfg0.N,
    fun c => (Cert.Kernel7Ideal.Gen.dats m 0 c).arrAt 4 Cert.Kernel7Ideal.cfg0.N,
    fun c => (Cert.Kernel7Ideal.Gen.dats m 0 c).arrAt 5 Cert.Kernel7Ideal.cfg0.N,
    Cert.Kernel7Ideal.Value.run_blocks m g, ?_⟩
  refine (θ_run _ _ _).mono (fun r h c => ?_) (run_outs m' g')
  obtain ⟨e0, e1, e2⟩ := hag c
  obtain ⟨r0, r1, r2, k⟩ := h c
  rw [show a0 m' c = _ from e0, show a1 m' c = _ from e1] at r0
  rw [show a0 m' c = _ from e0, show a1 m' c = _ from e1] at r1
  rw [show a0 m' c = _ from e0, show a1 m' c = _ from e1, show a2 m' c = _ from e2] at r2
  exact ⟨r0.trans (Cert.Kernel7Ideal.Body.final0 m c).symm, r1.trans (Cert.Kernel7Ideal.Body.final1 m c).symm, r2.trans (Cert.Kernel7Ideal.Body.final2 m c).symm, k⟩

/-- The eighth kernel's text and its idealized text are one text too. -/
theorem frame_kernel8 : quiescent_Kernel8 (hKernel8 := Cert.Kernel8.Gen.facts) := Cert.Twin8.frame_kernel

/-- The eighth reference's run leaves its arguments; it has no semaphores. -/
theorem frame_reference8 : quiescent_Reference8Ideal (hReference8Ideal := Cert.Reference8Ideal.Gen.facts) :=
  fun m g _ => (θ_run _ _ _).mono (fun r h => ⟨fun c => (h c).2.2.2.2, sem_eq_zero_of_no_sems (by decide) r.2⟩)
    (Cert.Reference8Ideal.Terms.run_outs m g)

open Cert.Reference8Ideal.Terms in
/-- The eighth call's four gradients. -/
theorem values8 : algebraic_Kernel8Ideal_Reference8Ideal (hKernel8Ideal := Cert.Kernel8Ideal.Gen.facts)
    (hReference8Ideal := Cert.Reference8Ideal.Gen.facts) := by
  intro m g m' g' hpre hag
  refine ⟨fun c => (Cert.Kernel8Ideal.Gen.dats m 0 c).arrAt 7 Cert.Kernel8Ideal.cfg0.N,
    fun c => (Cert.Kernel8Ideal.Gen.dats m 0 c).arrAt 8 Cert.Kernel8Ideal.cfg0.N,
    fun c => (Cert.Kernel8Ideal.Gen.dats m 0 c).arrAt 9 Cert.Kernel8Ideal.cfg0.N,
    fun c => (Cert.Kernel8Ideal.Gen.dats m 0 c).arrAt 10 Cert.Kernel8Ideal.cfg0.N,
    Cert.Kernel8Ideal.Value.run_blocks m g, ?_⟩
  refine (θ_run _ _ _).mono (fun r h c => ?_) (run_outs m' g')
  obtain ⟨e0, e1, e2, e3, e4, e5, e6⟩ := hag c
  obtain ⟨r0, r1, r2, r3, k⟩ := h c
  rw [show a0 m' c = _ from e0, show a2 m' c = _ from e2] at r0
  rw [show a1 m' c = _ from e1, show a2 m' c = _ from e2] at r1
  rw [show a3 m' c = _ from e3, show a4 m' c = _ from e4] at r2
  rw [show a5 m' c = _ from e5, show a6 m' c = _ from e6] at r3
  exact ⟨r0.trans (Cert.Kernel8Ideal.Body.final0 m c).symm, r1.trans (Cert.Kernel8Ideal.Body.final1 m c).symm, r2.trans (Cert.Kernel8Ideal.Body.final2 m c).symm, r3.trans (Cert.Kernel8Ideal.Body.final3 m c).symm, k⟩

/-- The certificate's claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_finite.Gen.facts, Cert.Pre_finite2.Gen.facts, Cert.Pre_finite4.Gen.facts,
    frame_kernel, fun m g _ => Cert.KernelIdeal.Gen.frame m g, fun m g _ => Cert.KernelIdeal.Gen.frame m g,
    frame_reference, fun m g _ => frame_reference m g trivial,
    frame_kernel2, fun m g _ => Cert.Kernel2Ideal.Gen.frame m g, fun m g _ => Cert.Kernel2Ideal.Gen.frame m g,
    frame_reference2, fun m g _ => frame_reference2 m g trivial, frame_kernel3, fun m g _ => Cert.Kernel3Ideal.Gen.frame m g,
    frame_reference3, frame_kernel4, fun m g _ => Cert.Kernel4Ideal.Gen.frame m g, fun m g _ => Cert.Kernel4Ideal.Gen.frame m g,
    frame_reference4, fun m g _ => frame_reference4 m g trivial,
    frame_kernel5, fun m g _ => Cert.Kernel5Ideal.Gen.frame m g, frame_reference5,
    frame_kernel6, fun m g _ => Cert.Kernel6Ideal.Gen.frame m g, frame_reference6,
    frame_kernel7, fun m g _ => Cert.Kernel7Ideal.Gen.frame m g, frame_reference7,
    frame_kernel8, fun m g _ => Cert.Kernel8Ideal.Gen.frame m g, frame_reference8,
    trivial, values, trivial, values2, trivial, values3, trivial, values4, trivial, values5,
    trivial, values6, trivial, values7, trivial, values8⟩

end Cert.Proof

end
